-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdRefIdeal (m : (ℓ : Loc Cert.FfnBwdRefIdeal.nD Cert.FfnBwdRefIdeal.τ Cert.FfnBwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_WFf2 (m : (ℓ : Loc Cert.WFf2.nD Cert.WFf2.τ Cert.WFf2.sig) → Buf (Elt Bits) ℓ) : Prop :=
  True

def Pre_WFf2Ideal (m : (ℓ : Loc Cert.WFf2Ideal.nD Cert.WFf2Ideal.τ Cert.WFf2Ideal.sig) → Buf (Elt Ideal) ℓ) : Prop :=
  True

def Pre_WFf2RefIdeal (m : (ℓ : Loc Cert.WFf2RefIdeal.nD Cert.WFf2RefIdeal.τ Cert.WFf2RefIdeal.sig) → Buf (Elt Ideal) ℓ) : Prop :=
  True

def Pre_WFf1 (m : (ℓ : Loc Cert.WFf1.nD Cert.WFf1.τ Cert.WFf1.sig) → Buf (Elt Bits) ℓ) : Prop :=
  True

def Pre_WFf1Ideal (m : (ℓ : Loc Cert.WFf1Ideal.nD Cert.WFf1Ideal.τ Cert.WFf1Ideal.sig) → Buf (Elt Ideal) ℓ) : Prop :=
  True

def Pre_WFf1RefIdeal (m : (ℓ : Loc Cert.WFf1RefIdeal.nD Cert.WFf1RefIdeal.τ Cert.WFf1RefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_WBranch (m : (ℓ : Loc Cert.WBranch.nD Cert.WBranch.τ Cert.WBranch.sig) → Buf (Elt Bits) ℓ) : Prop :=
  True

def Pre_WBranchIdeal (m : (ℓ : Loc Cert.WBranchIdeal.nD Cert.WBranchIdeal.τ Cert.WBranchIdeal.sig) → Buf (Elt Ideal) ℓ) : Prop :=
  True

def Pre_WBranchRefIdeal (m : (ℓ : Loc Cert.WBranchRefIdeal.nD Cert.WBranchRefIdeal.τ Cert.WBranchRefIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_MixOutFwd (m : (ℓ : Loc Cert.MixOutFwd.nD Cert.MixOutFwd.τ Cert.MixOutFwd.sig) → Buf (Elt Bits) ℓ) : Prop :=
  True

def Pre_MixOutFwdIdeal (m : (ℓ : Loc Cert.MixOutFwdIdeal.nD Cert.MixOutFwdIdeal.τ Cert.MixOutFwdIdeal.sig) → Buf (Elt Ideal) ℓ) : Prop :=
  True

def Pre_MixOutFwdRefIdeal (m : (ℓ : Loc Cert.MixOutFwdRefIdeal.nD Cert.MixOutFwdRefIdeal.τ Cert.MixOutFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_WFf2 [hWFf2 : Cert.WFf2.Facts] : Prop :=
  ∀ (m : (ℓ : Loc Cert.WFf2.nD Cert.WFf2.τ Cert.WFf2.sig) → Buf (Elt Bits) ℓ) (g : Dev Cert.WFf2.nD → PrngReg), Pre_WFf2 m →
    θ_run (Cert.WFf2.defs (F := Bits)) (onTc (τ := Cert.WFf2.τ) (Cert.WFf2.main (F := Bits))) ⟨m, fun _ => 0, g⟩ (fun r => (∀ c : Dev Cert.WFf2.nD,
      r.2.mem ((c.tc : Thread Cert.WFf2.nD Cert.WFf2.τ).loc Cert.WFf2.main_arg0) = m ((c.tc : Thread Cert.WFf2.nD Cert.WFf2.τ).loc Cert.WFf2.main_arg0)
      ∧ r.2.mem ((c.tc : Thread Cert.WFf2.nD Cert.WFf2.τ).loc Cert.WFf2.main_arg1) = m ((c.tc : Thread Cert.WFf2.nD Cert.WFf2.τ).loc Cert.WFf2.main_arg1))
      ∧ r.2.sem = fun _ => 0)

def quiescent_WFf2Ideal [hWFf2Ideal : Cert.WFf2Ideal.Facts] : Prop :=
  ∀ (m : (ℓ : Loc Cert.WFf2Ideal.nD Cert.WFf2Ideal.τ Cert.WFf2Ideal.sig) → Buf (Elt Ideal) ℓ) (g : Dev Cert.WFf2Ideal.nD → PrngReg), Pre_WFf2Ideal m →
    θ_run (Cert.WFf2Ideal.defs (F := Ideal)) (onTc (τ := Cert.WFf2Ideal.τ) (Cert.WFf2Ideal.main (F := Ideal))) ⟨m, fun _ => 0, g⟩ (fun r => (∀ c : Dev Cert.WFf2Ideal.nD,
      r.2.mem ((c.tc : Thread Cert.WFf2Ideal.nD Cert.WFf2Ideal.τ).loc Cert.WFf2Ideal.main_arg0) = m ((c.tc : Thread Cert.WFf2Ideal.nD Cert.WFf2Ideal.τ).loc Cert.WFf2Ideal.main_arg0)
      ∧ r.2.mem ((c.tc : Thread Cert.WFf2Ideal.nD Cert.WFf2Ideal.τ).loc Cert.WFf2Ideal.main_arg1) = m ((c.tc : Thread Cert.WFf2Ideal.nD Cert.WFf2Ideal.τ).loc Cert.WFf2Ideal.main_arg1))
      ∧ r.2.sem = fun _ => 0)

def quiescent_WFf2RefIdeal [hWFf2RefIdeal : Cert.WFf2RefIdeal.Facts] : Prop :=
  ∀ (m : (ℓ : Loc Cert.WFf2RefIdeal.nD Cert.WFf2RefIdeal.τ Cert.WFf2RefIdeal.sig) → Buf (Elt Ideal) ℓ) (g : Dev Cert.WFf2RefIdeal.nD → PrngReg), Pre_WFf2RefIdeal m →
    θ_run (Cert.WFf2RefIdeal.defs (F := Ideal)) (onTc (τ := Cert.WFf2RefIdeal.τ) (Cert.WFf2RefIdeal.main (F := Ideal))) ⟨m, fun _ => 0, g⟩ (fun r => (∀ c : Dev Cert.WFf2RefIdeal.nD,
      r.2.mem ((c.tc : Thread Cert.WFf2RefIdeal.nD Cert.WFf2RefIdeal.τ).loc Cert.WFf2RefIdeal.main_arg0) = m ((c.tc : Thread Cert.WFf2RefIdeal.nD Cert.WFf2RefIdeal.τ).loc Cert.WFf2RefIdeal.main_arg0)
      ∧ r.2.mem ((c.tc : Thread Cert.WFf2RefIdeal.nD Cert.WFf2RefIdeal.τ).loc Cert.WFf2RefIdeal.main_arg1) = m ((c.tc : Thread Cert.WFf2RefIdeal.nD Cert.WFf2RefIdeal.τ).loc Cert.WFf2RefIdeal.main_arg1))
      ∧ r.2.sem = fun _ => 0)

def quiescent_WFf1 [hWFf1 : Cert.WFf1.Facts] : Prop :=
  ∀ (m : (ℓ : Loc Cert.WFf1.nD Cert.WFf1.τ Cert.WFf1.sig) → Buf (Elt Bits) ℓ) (g : Dev Cert.WFf1.nD → PrngReg), Pre_WFf1 m →
    θ_run (Cert.WFf1.defs (F := Bits)) (onTc (τ := Cert.WFf1.τ) (Cert.WFf1.main (F := Bits))) ⟨m, fun _ => 0, g⟩ (fun r => (∀ c : Dev Cert.WFf1.nD,
      r.2.mem ((c.tc : Thread Cert.WFf1.nD Cert.WFf1.τ).loc Cert.WFf1.main_arg0) = m ((c.tc : Thread Cert.WFf1.nD Cert.WFf1.τ).loc Cert.WFf1.main_arg0)
      ∧ r.2.mem ((c.tc : Thread Cert.WFf1.nD Cert.WFf1.τ).loc Cert.WFf1.main_arg1) = m ((c.tc : Thread Cert.WFf1.nD Cert.WFf1.τ).loc Cert.WFf1.main_arg1))
      ∧ r.2.sem = fun _ => 0)

def quiescent_WFf1Ideal [hWFf1Ideal : Cert.WFf1Ideal.Facts] : Prop :=
  ∀ (m : (ℓ : Loc Cert.WFf1Ideal.nD Cert.WFf1Ideal.τ Cert.WFf1Ideal.sig) → Buf (Elt Ideal) ℓ) (g : Dev Cert.WFf1Ideal.nD → PrngReg), Pre_WFf1Ideal m →
    θ_run (Cert.WFf1Ideal.defs (F := Ideal)) (onTc (τ := Cert.WFf1Ideal.τ) (Cert.WFf1Ideal.main (F := Ideal))) ⟨m, fun _ => 0, g⟩ (fun r => (∀ c : Dev Cert.WFf1Ideal.nD,
      r.2.mem ((c.tc : Thread Cert.WFf1Ideal.nD Cert.WFf1Ideal.τ).loc Cert.WFf1Ideal.main_arg0) = m ((c.tc : Thread Cert.WFf1Ideal.nD Cert.WFf1Ideal.τ).loc Cert.WFf1Ideal.main_arg0)
      ∧ r.2.mem ((c.tc : Thread Cert.WFf1Ideal.nD Cert.WFf1Ideal.τ).loc Cert.WFf1Ideal.main_arg1) = m ((c.tc : Thread Cert.WFf1Ideal.nD Cert.WFf1Ideal.τ).loc Cert.WFf1Ideal.main_arg1))
      ∧ r.2.sem = fun _ => 0)

def quiescent_WFf1RefIdeal [hWFf1RefIdeal : Cert.WFf1RefIdeal.Facts] : Prop :=
  ∀ (m : (ℓ : Loc Cert.WFf1RefIdeal.nD Cert.WFf1RefIdeal.τ Cert.WFf1RefIdeal.sig) → Buf (Elt Ideal) ℓ) (g : Dev Cert.WFf1RefIdeal.nD → PrngReg), Pre_WFf1RefIdeal m →
    θ_run (Cert.WFf1RefIdeal.defs (F := Ideal)) (onTc (τ := Cert.WFf1RefIdeal.τ) (Cert.WFf1RefIdeal.main (F := Ideal))) ⟨m, fun _ => 0, g⟩ (fun r => (∀ c : Dev Cert.WFf1RefIdeal.nD,
      r.2.mem ((c.tc : Thread Cert.WFf1RefIdeal.nD Cert.WFf1RefIdeal.τ).loc Cert.WFf1RefIdeal.main_arg0) = m ((c.tc : Thread Cert.WFf1RefIdeal.nD Cert.WFf1RefIdeal.τ).loc Cert.WFf1RefIdeal.main_arg0)
      ∧ r.2.mem ((c.tc : Thread Cert.WFf1RefIdeal.nD Cert.WFf1RefIdeal.τ).loc Cert.WFf1RefIdeal.main_arg1) = m ((c.tc : Thread Cert.WFf1RefIdeal.nD Cert.WFf1RefIdeal.τ).loc Cert.WFf1RefIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_WBranch [hWBranch : Cert.WBranch.Facts] : Prop :=
  ∀ (m : (ℓ : Loc Cert.WBranch.nD Cert.WBranch.τ Cert.WBranch.sig) → Buf (Elt Bits) ℓ) (g : Dev Cert.WBranch.nD → PrngReg), Pre_WBranch m →
    θ_run (Cert.WBranch.defs (F := Bits)) (onTc (τ := Cert.WBranch.τ) (Cert.WBranch.main (F := Bits))) ⟨m, fun _ => 0, g⟩ (fun r => (∀ c : Dev Cert.WBranch.nD,
      r.2.mem ((c.tc : Thread Cert.WBranch.nD Cert.WBranch.τ).loc Cert.WBranch.main_arg0) = m ((c.tc : Thread Cert.WBranch.nD Cert.WBranch.τ).loc Cert.WBranch.main_arg0)
      ∧ r.2.mem ((c.tc : Thread Cert.WBranch.nD Cert.WBranch.τ).loc Cert.WBranch.main_arg1) = m ((c.tc : Thread Cert.WBranch.nD Cert.WBranch.τ).loc Cert.WBranch.main_arg1))
      ∧ r.2.sem = fun _ => 0)

def quiescent_WBranchIdeal [hWBranchIdeal : Cert.WBranchIdeal.Facts] : Prop :=
  ∀ (m : (ℓ : Loc Cert.WBranchIdeal.nD Cert.WBranchIdeal.τ Cert.WBranchIdeal.sig) → Buf (Elt Ideal) ℓ) (g : Dev Cert.WBranchIdeal.nD → PrngReg), Pre_WBranchIdeal m →
    θ_run (Cert.WBranchIdeal.defs (F := Ideal)) (onTc (τ := Cert.WBranchIdeal.τ) (Cert.WBranchIdeal.main (F := Ideal))) ⟨m, fun _ => 0, g⟩ (fun r => (∀ c : Dev Cert.WBranchIdeal.nD,
      r.2.mem ((c.tc : Thread Cert.WBranchIdeal.nD Cert.WBranchIdeal.τ).loc Cert.WBranchIdeal.main_arg0) = m ((c.tc : Thread Cert.WBranchIdeal.nD Cert.WBranchIdeal.τ).loc Cert.WBranchIdeal.main_arg0)
      ∧ r.2.mem ((c.tc : Thread Cert.WBranchIdeal.nD Cert.WBranchIdeal.τ).loc Cert.WBranchIdeal.main_arg1) = m ((c.tc : Thread Cert.WBranchIdeal.nD Cert.WBranchIdeal.τ).loc Cert.WBranchIdeal.main_arg1))
      ∧ r.2.sem = fun _ => 0)

def quiescent_WBranchRefIdeal [hWBranchRefIdeal : Cert.WBranchRefIdeal.Facts] : Prop :=
  ∀ (m : (ℓ : Loc Cert.WBranchRefIdeal.nD Cert.WBranchRefIdeal.τ Cert.WBranchRefIdeal.sig) → Buf (Elt Ideal) ℓ) (g : Dev Cert.WBranchRefIdeal.nD → PrngReg), Pre_WBranchRefIdeal m →
    θ_run (Cert.WBranchRefIdeal.defs (F := Ideal)) (onTc (τ := Cert.WBranchRefIdeal.τ) (Cert.WBranchRefIdeal.main (F := Ideal))) ⟨m, fun _ => 0, g⟩ (fun r => (∀ c : Dev Cert.WBranchRefIdeal.nD,
      r.2.mem ((c.tc : Thread Cert.WBranchRefIdeal.nD Cert.WBranchRefIdeal.τ).loc Cert.WBranchRefIdeal.main_arg0) = m ((c.tc : Thread Cert.WBranchRefIdeal.nD Cert.WBranchRefIdeal.τ).loc Cert.WBranchRefIdeal.main_arg0)
      ∧ r.2.mem ((c.tc : Thread Cert.WBranchRefIdeal.nD Cert.WBranchRefIdeal.τ).loc Cert.WBranchRefIdeal.main_arg1) = m ((c.tc : Thread Cert.WBranchRefIdeal.nD Cert.WBranchRefIdeal.τ).loc Cert.WBranchRefIdeal.main_arg1))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_MixOutFwd [hMixOutFwd : Cert.MixOutFwd.Facts] : Prop :=
  ∀ (m : (ℓ : Loc Cert.MixOutFwd.nD Cert.MixOutFwd.τ Cert.MixOutFwd.sig) → Buf (Elt Bits) ℓ) (g : Dev Cert.MixOutFwd.nD → PrngReg), Pre_MixOutFwd m →
    θ_run (Cert.MixOutFwd.defs (F := Bits)) (onTc (τ := Cert.MixOutFwd.τ) (Cert.MixOutFwd.main (F := Bits))) ⟨m, fun _ => 0, g⟩ (fun r => (∀ c : Dev Cert.MixOutFwd.nD,
      r.2.mem ((c.tc : Thread Cert.MixOutFwd.nD Cert.MixOutFwd.τ).loc Cert.MixOutFwd.main_arg0) = m ((c.tc : Thread Cert.MixOutFwd.nD Cert.MixOutFwd.τ).loc Cert.MixOutFwd.main_arg0)
      ∧ r.2.mem ((c.tc : Thread Cert.MixOutFwd.nD Cert.MixOutFwd.τ).loc Cert.MixOutFwd.main_arg1) = m ((c.tc : Thread Cert.MixOutFwd.nD Cert.MixOutFwd.τ).loc Cert.MixOutFwd.main_arg1)
      ∧ r.2.mem ((c.tc : Thread Cert.MixOutFwd.nD Cert.MixOutFwd.τ).loc Cert.MixOutFwd.main_arg2) = m ((c.tc : Thread Cert.MixOutFwd.nD Cert.MixOutFwd.τ).loc Cert.MixOutFwd.main_arg2)
      ∧ r.2.mem ((c.tc : Thread Cert.MixOutFwd.nD Cert.MixOutFwd.τ).loc Cert.MixOutFwd.main_arg3) = m ((c.tc : Thread Cert.MixOutFwd.nD Cert.MixOutFwd.τ).loc Cert.MixOutFwd.main_arg3)
      ∧ r.2.mem ((c.tc : Thread Cert.MixOutFwd.nD Cert.MixOutFwd.τ).loc Cert.MixOutFwd.main_arg4) = m ((c.tc : Thread Cert.MixOutFwd.nD Cert.MixOutFwd.τ).loc Cert.MixOutFwd.main_arg4)
      ∧ r.2.mem ((c.tc : Thread Cert.MixOutFwd.nD Cert.MixOutFwd.τ).loc Cert.MixOutFwd.main_arg5) = m ((c.tc : Thread Cert.MixOutFwd.nD Cert.MixOutFwd.τ).loc Cert.MixOutFwd.main_arg5))
      ∧ r.2.sem = fun _ => 0)

def quiescent_MixOutFwdIdeal [hMixOutFwdIdeal : Cert.MixOutFwdIdeal.Facts] : Prop :=
  ∀ (m : (ℓ : Loc Cert.MixOutFwdIdeal.nD Cert.MixOutFwdIdeal.τ Cert.MixOutFwdIdeal.sig) → Buf (Elt Ideal) ℓ) (g : Dev Cert.MixOutFwdIdeal.nD → PrngReg), Pre_MixOutFwdIdeal m →
    θ_run (Cert.MixOutFwdIdeal.defs (F := Ideal)) (onTc (τ := Cert.MixOutFwdIdeal.τ) (Cert.MixOutFwdIdeal.main (F := Ideal))) ⟨m, fun _ => 0, g⟩ (fun r => (∀ c : Dev Cert.MixOutFwdIdeal.nD,
      r.2.mem ((c.tc : Thread Cert.MixOutFwdIdeal.nD Cert.MixOutFwdIdeal.τ).loc Cert.MixOutFwdIdeal.main_arg0) = m ((c.tc : Thread Cert.MixOutFwdIdeal.nD Cert.MixOutFwdIdeal.τ).loc Cert.MixOutFwdIdeal.main_arg0)
      ∧ r.2.mem ((c.tc : Thread Cert.MixOutFwdIdeal.nD Cert.MixOutFwdIdeal.τ).loc Cert.MixOutFwdIdeal.main_arg1) = m ((c.tc : Thread Cert.MixOutFwdIdeal.nD Cert.MixOutFwdIdeal.τ).loc Cert.MixOutFwdIdeal.main_arg1)
      ∧ r.2.mem ((c.tc : Thread Cert.MixOutFwdIdeal.nD Cert.MixOutFwdIdeal.τ).loc Cert.MixOutFwdIdeal.main_arg2) = m ((c.tc : Thread Cert.MixOutFwdIdeal.nD Cert.MixOutFwdIdeal.τ).loc Cert.MixOutFwdIdeal.main_arg2)
      ∧ r.2.mem ((c.tc : Thread Cert.MixOutFwdIdeal.nD Cert.MixOutFwdIdeal.τ).loc Cert.MixOutFwdIdeal.main_arg3) = m ((c.tc : Thread Cert.MixOutFwdIdeal.nD Cert.MixOutFwdIdeal.τ).loc Cert.MixOutFwdIdeal.main_arg3)
      ∧ r.2.mem ((c.tc : Thread Cert.MixOutFwdIdeal.nD Cert.MixOutFwdIdeal.τ).loc Cert.MixOutFwdIdeal.main_arg4) = m ((c.tc : Thread Cert.MixOutFwdIdeal.nD Cert.MixOutFwdIdeal.τ).loc Cert.MixOutFwdIdeal.main_arg4)
      ∧ r.2.mem ((c.tc : Thread Cert.MixOutFwdIdeal.nD Cert.MixOutFwdIdeal.τ).loc Cert.MixOutFwdIdeal.main_arg5) = m ((c.tc : Thread Cert.MixOutFwdIdeal.nD Cert.MixOutFwdIdeal.τ).loc Cert.MixOutFwdIdeal.main_arg5))
      ∧ r.2.sem = fun _ => 0)

def quiescent_MixOutFwdRefIdeal [hMixOutFwdRefIdeal : Cert.MixOutFwdRefIdeal.Facts] : Prop :=
  ∀ (m : (ℓ : Loc Cert.MixOutFwdRefIdeal.nD Cert.MixOutFwdRefIdeal.τ Cert.MixOutFwdRefIdeal.sig) → Buf (Elt Ideal) ℓ) (g : Dev Cert.MixOutFwdRefIdeal.nD → PrngReg), Pre_MixOutFwdRefIdeal m →
    θ_run (Cert.MixOutFwdRefIdeal.defs (F := Ideal)) (onTc (τ := Cert.MixOutFwdRefIdeal.τ) (Cert.MixOutFwdRefIdeal.main (F := Ideal))) ⟨m, fun _ => 0, g⟩ (fun r => (∀ c : Dev Cert.MixOutFwdRefIdeal.nD,
      r.2.mem ((c.tc : Thread Cert.MixOutFwdRefIdeal.nD Cert.MixOutFwdRefIdeal.τ).loc Cert.MixOutFwdRefIdeal.main_arg0) = m ((c.tc : Thread Cert.MixOutFwdRefIdeal.nD Cert.MixOutFwdRefIdeal.τ).loc Cert.MixOutFwdRefIdeal.main_arg0)
      ∧ r.2.mem ((c.tc : Thread Cert.MixOutFwdRefIdeal.nD Cert.MixOutFwdRefIdeal.τ).loc Cert.MixOutFwdRefIdeal.main_arg1) = m ((c.tc : Thread Cert.MixOutFwdRefIdeal.nD Cert.MixOutFwdRefIdeal.τ).loc Cert.MixOutFwdRefIdeal.main_arg1)
      ∧ r.2.mem ((c.tc : Thread Cert.MixOutFwdRefIdeal.nD Cert.MixOutFwdRefIdeal.τ).loc Cert.MixOutFwdRefIdeal.main_arg2) = m ((c.tc : Thread Cert.MixOutFwdRefIdeal.nD Cert.MixOutFwdRefIdeal.τ).loc Cert.MixOutFwdRefIdeal.main_arg2)
      ∧ r.2.mem ((c.tc : Thread Cert.MixOutFwdRefIdeal.nD Cert.MixOutFwdRefIdeal.τ).loc Cert.MixOutFwdRefIdeal.main_arg3) = m ((c.tc : Thread Cert.MixOutFwdRefIdeal.nD Cert.MixOutFwdRefIdeal.τ).loc Cert.MixOutFwdRefIdeal.main_arg3)
      ∧ r.2.mem ((c.tc : Thread Cert.MixOutFwdRefIdeal.nD Cert.MixOutFwdRefIdeal.τ).loc Cert.MixOutFwdRefIdeal.main_arg4) = m ((c.tc : Thread Cert.MixOutFwdRefIdeal.nD Cert.MixOutFwdRefIdeal.τ).loc Cert.MixOutFwdRefIdeal.main_arg4)
      ∧ r.2.mem ((c.tc : Thread Cert.MixOutFwdRefIdeal.nD Cert.MixOutFwdRefIdeal.τ).loc Cert.MixOutFwdRefIdeal.main_arg5) = m ((c.tc : Thread Cert.MixOutFwdRefIdeal.nD Cert.MixOutFwdRefIdeal.τ).loc Cert.MixOutFwdRefIdeal.main_arg5))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def preserves_Kernel_KernelIdeal : Prop :=
  True

def algebraic_KernelIdeal_ReferenceIdeal_on_gate_columns [hKernelIdeal : Cert.KernelIdeal.Facts] [hReferenceIdeal : Cert.ReferenceIdeal.Facts] [hOn_gate_columns : Cert.On_gate_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)) (v2 : (c : Dev Cert.KernelIdeal.nD) → Buf (Elt Ideal) ((c.tc : Thread Cert.KernelIdeal.nD Cert.KernelIdeal.τ).loc Cert.KernelIdeal.main_v60_2)) (v3 : (c : Dev Cert.KernelIdeal.nD) → Buf (Elt Ideal) ((c.tc : Thread Cert.KernelIdeal.nD Cert.KernelIdeal.τ).loc Cert.KernelIdeal.main_v60_3)) (v4 : (c : Dev Cert.KernelIdeal.nD) → Buf (Elt Ideal) ((c.tc : Thread Cert.KernelIdeal.nD Cert.KernelIdeal.τ).loc Cert.KernelIdeal.main_v60_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v60_0) i = v0 c i)
          ∧ (∀ i : (⟨3, ![3, 4096, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v60_1) i = v1 c i)
          ∧ (∀ i : (⟨3, ![3, 4096, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v60_2) i = v2 c i)
          ∧ (∀ i : (⟨2, ![4096, 10240]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.KernelIdeal.nD Cert.KernelIdeal.τ).loc Cert.KernelIdeal.main_v60_3) i = v3 c i)
          ∧ (∀ i : (⟨2, ![1, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 i = 1#1 → r.2.mem ((c.tc : Thread Cert.KernelIdeal.nD Cert.KernelIdeal.τ).loc Cert.KernelIdeal.main_v60_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v187) i = v0 c i)
          ∧ (∀ i : (⟨3, ![3, 4096, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v188) i = v1 c i)
          ∧ (∀ i : (⟨3, ![3, 4096, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v189) i = v2 c i)
          ∧ (∀ i : (⟨2, ![4096, 10240]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.ReferenceIdeal.nD Cert.ReferenceIdeal.τ).loc Cert.ReferenceIdeal.main_v190) i = v3 c i)
          ∧ (∀ i : (⟨2, ![1, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 i = 1#1 → r.2.mem ((c.tc : Thread Cert.ReferenceIdeal.nD Cert.ReferenceIdeal.τ).loc Cert.ReferenceIdeal.main_v69) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnBwd_FfnBwdIdeal : Prop :=
  True

def algebraic_FfnBwdIdeal_FfnBwdRefIdeal [hFfnBwdIdeal : Cert.FfnBwdIdeal.Facts] [hFfnBwdRefIdeal : Cert.FfnBwdRefIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v23_0)) (v1 : (c : Dev Cert.FfnBwdIdeal.nD) → Buf (Elt Ideal) ((c.tc : Thread Cert.FfnBwdIdeal.nD Cert.FfnBwdIdeal.τ).loc Cert.FfnBwdIdeal.main_v23_1)) (v2 : (c : Dev Cert.FfnBwdIdeal.nD) → Buf (Elt Ideal) ((c.tc : Thread Cert.FfnBwdIdeal.nD Cert.FfnBwdIdeal.τ).loc Cert.FfnBwdIdeal.main_v23_2)) (v3 : (c : Dev Cert.FfnBwdIdeal.nD) → Buf (Elt Ideal) ((c.tc : Thread Cert.FfnBwdIdeal.nD Cert.FfnBwdIdeal.τ).loc Cert.FfnBwdIdeal.main_v23_3)) (v4 : (c : Dev Cert.FfnBwdIdeal.nD) → Buf (Elt Ideal) ((c.tc : Thread Cert.FfnBwdIdeal.nD Cert.FfnBwdIdeal.τ).loc Cert.FfnBwdIdeal.main_v23_4)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v23_0) = v0 c
          ∧ r.2.mem ((c.tc : Thread Cert.FfnBwdIdeal.nD Cert.FfnBwdIdeal.τ).loc Cert.FfnBwdIdeal.main_v23_1) = v1 c
          ∧ r.2.mem ((c.tc : Thread Cert.FfnBwdIdeal.nD Cert.FfnBwdIdeal.τ).loc Cert.FfnBwdIdeal.main_v23_2) = v2 c
          ∧ r.2.mem ((c.tc : Thread Cert.FfnBwdIdeal.nD Cert.FfnBwdIdeal.τ).loc Cert.FfnBwdIdeal.main_v23_3) = v3 c
          ∧ r.2.mem ((c.tc : Thread Cert.FfnBwdIdeal.nD Cert.FfnBwdIdeal.τ).loc Cert.FfnBwdIdeal.main_v23_4) = v4 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v98) = v0 c
          ∧ r.2.mem ((c.tc : Thread Cert.FfnBwdRefIdeal.nD Cert.FfnBwdRefIdeal.τ).loc Cert.FfnBwdRefIdeal.main_v99) = v1 c
          ∧ r.2.mem ((c.tc : Thread Cert.FfnBwdRefIdeal.nD Cert.FfnBwdRefIdeal.τ).loc Cert.FfnBwdRefIdeal.main_v100) = v2 c
          ∧ r.2.mem ((c.tc : Thread Cert.FfnBwdRefIdeal.nD Cert.FfnBwdRefIdeal.τ).loc Cert.FfnBwdRefIdeal.main_v33) = v3 c
          ∧ r.2.mem ((c.tc : Thread Cert.FfnBwdRefIdeal.nD Cert.FfnBwdRefIdeal.τ).loc Cert.FfnBwdRefIdeal.main_v81) = v4 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v5_0)) (v1 : (c : Dev Cert.InBwdIdeal.nD) → Buf (Elt Ideal) ((c.tc : Thread Cert.InBwdIdeal.nD Cert.InBwdIdeal.τ).loc Cert.InBwdIdeal.main_v5_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v5_0) = v0 c
          ∧ r.2.mem ((c.tc : Thread Cert.InBwdIdeal.nD Cert.InBwdIdeal.τ).loc Cert.InBwdIdeal.main_v5_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v36) = v0 c
          ∧ r.2.mem ((c.tc : Thread Cert.InBwdRefIdeal.nD Cert.InBwdRefIdeal.τ).loc Cert.InBwdRefIdeal.main_v19) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def preserves_WFf2_WFf2Ideal : Prop :=
  True

def algebraic_WFf2Ideal_WFf2RefIdeal [hWFf2Ideal : Cert.WFf2Ideal.Facts] [hWFf2RefIdeal : Cert.WFf2RefIdeal.Facts] : Prop :=
  ∀ (m : (ℓ : Loc Cert.WFf2Ideal.nD Cert.WFf2Ideal.τ Cert.WFf2Ideal.sig) → Buf (Elt Ideal) ℓ) (g : Dev Cert.WFf2Ideal.nD → PrngReg)
    (m' : (ℓ : Loc Cert.WFf2RefIdeal.nD Cert.WFf2RefIdeal.τ Cert.WFf2RefIdeal.sig) → Buf (Elt Ideal) ℓ) (g' : Dev Cert.WFf2RefIdeal.nD → PrngReg), Pre_WFf2Ideal m →
    (∀ c : Dev Cert.WFf2Ideal.nD,
      m' ((c.tc : Thread Cert.WFf2RefIdeal.nD Cert.WFf2RefIdeal.τ).loc Cert.WFf2RefIdeal.main_arg0) = m ((c.tc : Thread Cert.WFf2Ideal.nD Cert.WFf2Ideal.τ).loc Cert.WFf2Ideal.main_arg0)
      ∧ m' ((c.tc : Thread Cert.WFf2RefIdeal.nD Cert.WFf2RefIdeal.τ).loc Cert.WFf2RefIdeal.main_arg1) = m ((c.tc : Thread Cert.WFf2Ideal.nD Cert.WFf2Ideal.τ).loc Cert.WFf2Ideal.main_arg1)) →
    ∃ (v0 : (c : Dev Cert.WFf2Ideal.nD) → Buf (Elt Ideal) ((c.tc : Thread Cert.WFf2Ideal.nD Cert.WFf2Ideal.τ).loc Cert.WFf2Ideal.main_v2)),
      θ_run (Cert.WFf2Ideal.defs (F := Ideal)) (onTc (τ := Cert.WFf2Ideal.τ) (Cert.WFf2Ideal.main (F := Ideal))) ⟨m, fun _ => 0, g⟩ (fun r => ∀ c : Dev Cert.WFf2Ideal.nD,
          r.2.mem ((c.tc : Thread Cert.WFf2Ideal.nD Cert.WFf2Ideal.τ).loc Cert.WFf2Ideal.main_v2) = v0 c
          ∧ r.2.mem ((c.tc : Thread Cert.WFf2Ideal.nD Cert.WFf2Ideal.τ).loc Cert.WFf2Ideal.main_arg0) = m ((c.tc : Thread Cert.WFf2Ideal.nD Cert.WFf2Ideal.τ).loc Cert.WFf2Ideal.main_arg0)
          ∧ r.2.mem ((c.tc : Thread Cert.WFf2Ideal.nD Cert.WFf2Ideal.τ).loc Cert.WFf2Ideal.main_arg1) = m ((c.tc : Thread Cert.WFf2Ideal.nD Cert.WFf2Ideal.τ).loc Cert.WFf2Ideal.main_arg1))
      ∧ θ_run (Cert.WFf2RefIdeal.defs (F := Ideal)) (onTc (τ := Cert.WFf2RefIdeal.τ) (Cert.WFf2RefIdeal.main (F := Ideal))) ⟨m', fun _ => 0, g'⟩ (fun r => ∀ c : Dev Cert.WFf2RefIdeal.nD,
          r.2.mem ((c.tc : Thread Cert.WFf2RefIdeal.nD Cert.WFf2RefIdeal.τ).loc Cert.WFf2RefIdeal.main_v7) = v0 c
          ∧ r.2.mem ((c.tc : Thread Cert.WFf2RefIdeal.nD Cert.WFf2RefIdeal.τ).loc Cert.WFf2RefIdeal.main_arg0) = m' ((c.tc : Thread Cert.WFf2RefIdeal.nD Cert.WFf2RefIdeal.τ).loc Cert.WFf2RefIdeal.main_arg0)
          ∧ r.2.mem ((c.tc : Thread Cert.WFf2RefIdeal.nD Cert.WFf2RefIdeal.τ).loc Cert.WFf2RefIdeal.main_arg1) = m' ((c.tc : Thread Cert.WFf2RefIdeal.nD Cert.WFf2RefIdeal.τ).loc Cert.WFf2RefIdeal.main_arg1))

def preserves_WFf1_WFf1Ideal : Prop :=
  True

def algebraic_WFf1Ideal_WFf1RefIdeal [hWFf1Ideal : Cert.WFf1Ideal.Facts] [hWFf1RefIdeal : Cert.WFf1RefIdeal.Facts] : Prop :=
  ∀ (m : (ℓ : Loc Cert.WFf1Ideal.nD Cert.WFf1Ideal.τ Cert.WFf1Ideal.sig) → Buf (Elt Ideal) ℓ) (g : Dev Cert.WFf1Ideal.nD → PrngReg)
    (m' : (ℓ : Loc Cert.WFf1RefIdeal.nD Cert.WFf1RefIdeal.τ Cert.WFf1RefIdeal.sig) → Buf (Elt Ideal) ℓ) (g' : Dev Cert.WFf1RefIdeal.nD → PrngReg), Pre_WFf1Ideal m →
    (∀ c : Dev Cert.WFf1Ideal.nD,
      m' ((c.tc : Thread Cert.WFf1RefIdeal.nD Cert.WFf1RefIdeal.τ).loc Cert.WFf1RefIdeal.main_arg0) = m ((c.tc : Thread Cert.WFf1Ideal.nD Cert.WFf1Ideal.τ).loc Cert.WFf1Ideal.main_arg0)
      ∧ m' ((c.tc : Thread Cert.WFf1RefIdeal.nD Cert.WFf1RefIdeal.τ).loc Cert.WFf1RefIdeal.main_arg1) = m ((c.tc : Thread Cert.WFf1Ideal.nD Cert.WFf1Ideal.τ).loc Cert.WFf1Ideal.main_arg1)) →
    ∃ (v0 : (c : Dev Cert.WFf1Ideal.nD) → Buf (Elt Ideal) ((c.tc : Thread Cert.WFf1Ideal.nD Cert.WFf1Ideal.τ).loc Cert.WFf1Ideal.main_v2)),
      θ_run (Cert.WFf1Ideal.defs (F := Ideal)) (onTc (τ := Cert.WFf1Ideal.τ) (Cert.WFf1Ideal.main (F := Ideal))) ⟨m, fun _ => 0, g⟩ (fun r => ∀ c : Dev Cert.WFf1Ideal.nD,
          r.2.mem ((c.tc : Thread Cert.WFf1Ideal.nD Cert.WFf1Ideal.τ).loc Cert.WFf1Ideal.main_v2) = v0 c
          ∧ r.2.mem ((c.tc : Thread Cert.WFf1Ideal.nD Cert.WFf1Ideal.τ).loc Cert.WFf1Ideal.main_arg0) = m ((c.tc : Thread Cert.WFf1Ideal.nD Cert.WFf1Ideal.τ).loc Cert.WFf1Ideal.main_arg0)
          ∧ r.2.mem ((c.tc : Thread Cert.WFf1Ideal.nD Cert.WFf1Ideal.τ).loc Cert.WFf1Ideal.main_arg1) = m ((c.tc : Thread Cert.WFf1Ideal.nD Cert.WFf1Ideal.τ).loc Cert.WFf1Ideal.main_arg1))
      ∧ θ_run (Cert.WFf1RefIdeal.defs (F := Ideal)) (onTc (τ := Cert.WFf1RefIdeal.τ) (Cert.WFf1RefIdeal.main (F := Ideal))) ⟨m', fun _ => 0, g'⟩ (fun r => ∀ c : Dev Cert.WFf1RefIdeal.nD,
          r.2.mem ((c.tc : Thread Cert.WFf1RefIdeal.nD Cert.WFf1RefIdeal.τ).loc Cert.WFf1RefIdeal.main_v6) = v0 c
          ∧ r.2.mem ((c.tc : Thread Cert.WFf1RefIdeal.nD Cert.WFf1RefIdeal.τ).loc Cert.WFf1RefIdeal.main_arg0) = m' ((c.tc : Thread Cert.WFf1RefIdeal.nD Cert.WFf1RefIdeal.τ).loc Cert.WFf1RefIdeal.main_arg0)
          ∧ r.2.mem ((c.tc : Thread Cert.WFf1RefIdeal.nD Cert.WFf1RefIdeal.τ).loc Cert.WFf1RefIdeal.main_arg1) = m' ((c.tc : Thread Cert.WFf1RefIdeal.nD Cert.WFf1RefIdeal.τ).loc Cert.WFf1RefIdeal.main_arg1))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v2)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v2) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v4) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_WBranch_WBranchIdeal : Prop :=
  True

def algebraic_WBranchIdeal_WBranchRefIdeal [hWBranchIdeal : Cert.WBranchIdeal.Facts] [hWBranchRefIdeal : Cert.WBranchRefIdeal.Facts] : Prop :=
  ∀ (m : (ℓ : Loc Cert.WBranchIdeal.nD Cert.WBranchIdeal.τ Cert.WBranchIdeal.sig) → Buf (Elt Ideal) ℓ) (g : Dev Cert.WBranchIdeal.nD → PrngReg)
    (m' : (ℓ : Loc Cert.WBranchRefIdeal.nD Cert.WBranchRefIdeal.τ Cert.WBranchRefIdeal.sig) → Buf (Elt Ideal) ℓ) (g' : Dev Cert.WBranchRefIdeal.nD → PrngReg), Pre_WBranchIdeal m →
    (∀ c : Dev Cert.WBranchIdeal.nD,
      m' ((c.tc : Thread Cert.WBranchRefIdeal.nD Cert.WBranchRefIdeal.τ).loc Cert.WBranchRefIdeal.main_arg0) = m ((c.tc : Thread Cert.WBranchIdeal.nD Cert.WBranchIdeal.τ).loc Cert.WBranchIdeal.main_arg0)
      ∧ m' ((c.tc : Thread Cert.WBranchRefIdeal.nD Cert.WBranchRefIdeal.τ).loc Cert.WBranchRefIdeal.main_arg1) = m ((c.tc : Thread Cert.WBranchIdeal.nD Cert.WBranchIdeal.τ).loc Cert.WBranchIdeal.main_arg1)) →
    ∃ (v0 : (c : Dev Cert.WBranchIdeal.nD) → Buf (Elt Ideal) ((c.tc : Thread Cert.WBranchIdeal.nD Cert.WBranchIdeal.τ).loc Cert.WBranchIdeal.main_v8)),
      θ_run (Cert.WBranchIdeal.defs (F := Ideal)) (onTc (τ := Cert.WBranchIdeal.τ) (Cert.WBranchIdeal.main (F := Ideal))) ⟨m, fun _ => 0, g⟩ (fun r => ∀ c : Dev Cert.WBranchIdeal.nD,
          r.2.mem ((c.tc : Thread Cert.WBranchIdeal.nD Cert.WBranchIdeal.τ).loc Cert.WBranchIdeal.main_v8) = v0 c
          ∧ r.2.mem ((c.tc : Thread Cert.WBranchIdeal.nD Cert.WBranchIdeal.τ).loc Cert.WBranchIdeal.main_arg0) = m ((c.tc : Thread Cert.WBranchIdeal.nD Cert.WBranchIdeal.τ).loc Cert.WBranchIdeal.main_arg0)
          ∧ r.2.mem ((c.tc : Thread Cert.WBranchIdeal.nD Cert.WBranchIdeal.τ).loc Cert.WBranchIdeal.main_arg1) = m ((c.tc : Thread Cert.WBranchIdeal.nD Cert.WBranchIdeal.τ).loc Cert.WBranchIdeal.main_arg1))
      ∧ θ_run (Cert.WBranchRefIdeal.defs (F := Ideal)) (onTc (τ := Cert.WBranchRefIdeal.τ) (Cert.WBranchRefIdeal.main (F := Ideal))) ⟨m', fun _ => 0, g'⟩ (fun r => ∀ c : Dev Cert.WBranchRefIdeal.nD,
          r.2.mem ((c.tc : Thread Cert.WBranchRefIdeal.nD Cert.WBranchRefIdeal.τ).loc Cert.WBranchRefIdeal.main_v42) = v0 c
          ∧ r.2.mem ((c.tc : Thread Cert.WBranchRefIdeal.nD Cert.WBranchRefIdeal.τ).loc Cert.WBranchRefIdeal.main_arg0) = m' ((c.tc : Thread Cert.WBranchRefIdeal.nD Cert.WBranchRefIdeal.τ).loc Cert.WBranchRefIdeal.main_arg0)
          ∧ r.2.mem ((c.tc : Thread Cert.WBranchRefIdeal.nD Cert.WBranchRefIdeal.τ).loc Cert.WBranchRefIdeal.main_arg1) = m' ((c.tc : Thread Cert.WBranchRefIdeal.nD Cert.WBranchRefIdeal.τ).loc Cert.WBranchRefIdeal.main_arg1))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v2)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v2) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v6) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v4_0)) (v1 : (c : Dev Cert.InFwdIdeal.nD) → Buf (Elt Ideal) ((c.tc : Thread Cert.InFwdIdeal.nD Cert.InFwdIdeal.τ).loc Cert.InFwdIdeal.main_v4_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v4_0) = v0 c
          ∧ r.2.mem ((c.tc : Thread Cert.InFwdIdeal.nD Cert.InFwdIdeal.τ).loc Cert.InFwdIdeal.main_v4_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v12) = v0 c
          ∧ r.2.mem ((c.tc : Thread Cert.InFwdRefIdeal.nD Cert.InFwdRefIdeal.τ).loc Cert.InFwdRefIdeal.main_v14) = v1 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v4_0)) (v1 : (c : Dev Cert.FfnFwdIdeal.nD) → Buf (Elt Ideal) ((c.tc : Thread Cert.FfnFwdIdeal.nD Cert.FfnFwdIdeal.τ).loc Cert.FfnFwdIdeal.main_v4_1)) (v2 : (c : Dev Cert.FfnFwdIdeal.nD) → Buf (Elt Ideal) ((c.tc : Thread Cert.FfnFwdIdeal.nD Cert.FfnFwdIdeal.τ).loc Cert.FfnFwdIdeal.main_v4_2)) (v3 : (c : Dev Cert.FfnFwdIdeal.nD) → Buf (Elt Ideal) ((c.tc : Thread Cert.FfnFwdIdeal.nD Cert.FfnFwdIdeal.τ).loc Cert.FfnFwdIdeal.main_v4_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v4_0) = v0 c
          ∧ r.2.mem ((c.tc : Thread Cert.FfnFwdIdeal.nD Cert.FfnFwdIdeal.τ).loc Cert.FfnFwdIdeal.main_v4_1) = v1 c
          ∧ r.2.mem ((c.tc : Thread Cert.FfnFwdIdeal.nD Cert.FfnFwdIdeal.τ).loc Cert.FfnFwdIdeal.main_v4_2) = v2 c
          ∧ r.2.mem ((c.tc : Thread Cert.FfnFwdIdeal.nD Cert.FfnFwdIdeal.τ).loc Cert.FfnFwdIdeal.main_v4_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v16) = v0 c
          ∧ r.2.mem ((c.tc : Thread Cert.FfnFwdRefIdeal.nD Cert.FfnFwdRefIdeal.τ).loc Cert.FfnFwdRefIdeal.main_v17) = v1 c
          ∧ r.2.mem ((c.tc : Thread Cert.FfnFwdRefIdeal.nD Cert.FfnFwdRefIdeal.τ).loc Cert.FfnFwdRefIdeal.main_v18) = v2 c
          ∧ r.2.mem ((c.tc : Thread Cert.FfnFwdRefIdeal.nD Cert.FfnFwdRefIdeal.τ).loc Cert.FfnFwdRefIdeal.main_v31) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_MixOutFwd_MixOutFwdIdeal : Prop :=
  True

def algebraic_MixOutFwdIdeal_MixOutFwdRefIdeal [hMixOutFwdIdeal : Cert.MixOutFwdIdeal.Facts] [hMixOutFwdRefIdeal : Cert.MixOutFwdRefIdeal.Facts] : Prop :=
  ∀ (m : (ℓ : Loc Cert.MixOutFwdIdeal.nD Cert.MixOutFwdIdeal.τ Cert.MixOutFwdIdeal.sig) → Buf (Elt Ideal) ℓ) (g : Dev Cert.MixOutFwdIdeal.nD → PrngReg)
    (m' : (ℓ : Loc Cert.MixOutFwdRefIdeal.nD Cert.MixOutFwdRefIdeal.τ Cert.MixOutFwdRefIdeal.sig) → Buf (Elt Ideal) ℓ) (g' : Dev Cert.MixOutFwdRefIdeal.nD → PrngReg), Pre_MixOutFwdIdeal m →
    (∀ c : Dev Cert.MixOutFwdIdeal.nD,
      m' ((c.tc : Thread Cert.MixOutFwdRefIdeal.nD Cert.MixOutFwdRefIdeal.τ).loc Cert.MixOutFwdRefIdeal.main_arg0) = m ((c.tc : Thread Cert.MixOutFwdIdeal.nD Cert.MixOutFwdIdeal.τ).loc Cert.MixOutFwdIdeal.main_arg0)
      ∧ m' ((c.tc : Thread Cert.MixOutFwdRefIdeal.nD Cert.MixOutFwdRefIdeal.τ).loc Cert.MixOutFwdRefIdeal.main_arg1) = m ((c.tc : Thread Cert.MixOutFwdIdeal.nD Cert.MixOutFwdIdeal.τ).loc Cert.MixOutFwdIdeal.main_arg1)
      ∧ m' ((c.tc : Thread Cert.MixOutFwdRefIdeal.nD Cert.MixOutFwdRefIdeal.τ).loc Cert.MixOutFwdRefIdeal.main_arg2) = m ((c.tc : Thread Cert.MixOutFwdIdeal.nD Cert.MixOutFwdIdeal.τ).loc Cert.MixOutFwdIdeal.main_arg2)
      ∧ m' ((c.tc : Thread Cert.MixOutFwdRefIdeal.nD Cert.MixOutFwdRefIdeal.τ).loc Cert.MixOutFwdRefIdeal.main_arg3) = m ((c.tc : Thread Cert.MixOutFwdIdeal.nD Cert.MixOutFwdIdeal.τ).loc Cert.MixOutFwdIdeal.main_arg3)
      ∧ m' ((c.tc : Thread Cert.MixOutFwdRefIdeal.nD Cert.MixOutFwdRefIdeal.τ).loc Cert.MixOutFwdRefIdeal.main_arg4) = m ((c.tc : Thread Cert.MixOutFwdIdeal.nD Cert.MixOutFwdIdeal.τ).loc Cert.MixOutFwdIdeal.main_arg4)
      ∧ m' ((c.tc : Thread Cert.MixOutFwdRefIdeal.nD Cert.MixOutFwdRefIdeal.τ).loc Cert.MixOutFwdRefIdeal.main_arg5) = m ((c.tc : Thread Cert.MixOutFwdIdeal.nD Cert.MixOutFwdIdeal.τ).loc Cert.MixOutFwdIdeal.main_arg5)) →
    ∃ (v0 : (c : Dev Cert.MixOutFwdIdeal.nD) → Buf (Elt Ideal) ((c.tc : Thread Cert.MixOutFwdIdeal.nD Cert.MixOutFwdIdeal.τ).loc Cert.MixOutFwdIdeal.main_v13_0)) (v1 : (c : Dev Cert.MixOutFwdIdeal.nD) → Buf (Elt Ideal) ((c.tc : Thread Cert.MixOutFwdIdeal.nD Cert.MixOutFwdIdeal.τ).loc Cert.MixOutFwdIdeal.main_v13_1)) (v2 : (c : Dev Cert.MixOutFwdIdeal.nD) → Buf (Elt Ideal) ((c.tc : Thread Cert.MixOutFwdIdeal.nD Cert.MixOutFwdIdeal.τ).loc Cert.MixOutFwdIdeal.main_v13_2)) (v3 : (c : Dev Cert.MixOutFwdIdeal.nD) → Buf (Elt Ideal) ((c.tc : Thread Cert.MixOutFwdIdeal.nD Cert.MixOutFwdIdeal.τ).loc Cert.MixOutFwdIdeal.main_v13_3)),
      θ_run (Cert.MixOutFwdIdeal.defs (F := Ideal)) (onTc (τ := Cert.MixOutFwdIdeal.τ) (Cert.MixOutFwdIdeal.main (F := Ideal))) ⟨m, fun _ => 0, g⟩ (fun r => ∀ c : Dev Cert.MixOutFwdIdeal.nD,
          r.2.mem ((c.tc : Thread Cert.MixOutFwdIdeal.nD Cert.MixOutFwdIdeal.τ).loc Cert.MixOutFwdIdeal.main_v13_0) = v0 c
          ∧ r.2.mem ((c.tc : Thread Cert.MixOutFwdIdeal.nD Cert.MixOutFwdIdeal.τ).loc Cert.MixOutFwdIdeal.main_v13_1) = v1 c
          ∧ r.2.mem ((c.tc : Thread Cert.MixOutFwdIdeal.nD Cert.MixOutFwdIdeal.τ).loc Cert.MixOutFwdIdeal.main_v13_2) = v2 c
          ∧ r.2.mem ((c.tc : Thread Cert.MixOutFwdIdeal.nD Cert.MixOutFwdIdeal.τ).loc Cert.MixOutFwdIdeal.main_v13_3) = v3 c
          ∧ r.2.mem ((c.tc : Thread Cert.MixOutFwdIdeal.nD Cert.MixOutFwdIdeal.τ).loc Cert.MixOutFwdIdeal.main_arg0) = m ((c.tc : Thread Cert.MixOutFwdIdeal.nD Cert.MixOutFwdIdeal.τ).loc Cert.MixOutFwdIdeal.main_arg0)
          ∧ r.2.mem ((c.tc : Thread Cert.MixOutFwdIdeal.nD Cert.MixOutFwdIdeal.τ).loc Cert.MixOutFwdIdeal.main_arg1) = m ((c.tc : Thread Cert.MixOutFwdIdeal.nD Cert.MixOutFwdIdeal.τ).loc Cert.MixOutFwdIdeal.main_arg1)
          ∧ r.2.mem ((c.tc : Thread Cert.MixOutFwdIdeal.nD Cert.MixOutFwdIdeal.τ).loc Cert.MixOutFwdIdeal.main_arg2) = m ((c.tc : Thread Cert.MixOutFwdIdeal.nD Cert.MixOutFwdIdeal.τ).loc Cert.MixOutFwdIdeal.main_arg2)
          ∧ r.2.mem ((c.tc : Thread Cert.MixOutFwdIdeal.nD Cert.MixOutFwdIdeal.τ).loc Cert.MixOutFwdIdeal.main_arg3) = m ((c.tc : Thread Cert.MixOutFwdIdeal.nD Cert.MixOutFwdIdeal.τ).loc Cert.MixOutFwdIdeal.main_arg3)
          ∧ r.2.mem ((c.tc : Thread Cert.MixOutFwdIdeal.nD Cert.MixOutFwdIdeal.τ).loc Cert.MixOutFwdIdeal.main_arg4) = m ((c.tc : Thread Cert.MixOutFwdIdeal.nD Cert.MixOutFwdIdeal.τ).loc Cert.MixOutFwdIdeal.main_arg4)
          ∧ r.2.mem ((c.tc : Thread Cert.MixOutFwdIdeal.nD Cert.MixOutFwdIdeal.τ).loc Cert.MixOutFwdIdeal.main_arg5) = m ((c.tc : Thread Cert.MixOutFwdIdeal.nD Cert.MixOutFwdIdeal.τ).loc Cert.MixOutFwdIdeal.main_arg5))
      ∧ θ_run (Cert.MixOutFwdRefIdeal.defs (F := Ideal)) (onTc (τ := Cert.MixOutFwdRefIdeal.τ) (Cert.MixOutFwdRefIdeal.main (F := Ideal))) ⟨m', fun _ => 0, g'⟩ (fun r => ∀ c : Dev Cert.MixOutFwdRefIdeal.nD,
          r.2.mem ((c.tc : Thread Cert.MixOutFwdRefIdeal.nD Cert.MixOutFwdRefIdeal.τ).loc Cert.MixOutFwdRefIdeal.main_v52) = v0 c
          ∧ r.2.mem ((c.tc : Thread Cert.MixOutFwdRefIdeal.nD Cert.MixOutFwdRefIdeal.τ).loc Cert.MixOutFwdRefIdeal.main_v53) = v1 c
          ∧ r.2.mem ((c.tc : Thread Cert.MixOutFwdRefIdeal.nD Cert.MixOutFwdRefIdeal.τ).loc Cert.MixOutFwdRefIdeal.main_v54) = v2 c
          ∧ r.2.mem ((c.tc : Thread Cert.MixOutFwdRefIdeal.nD Cert.MixOutFwdRefIdeal.τ).loc Cert.MixOutFwdRefIdeal.main_v67) = v3 c
          ∧ r.2.mem ((c.tc : Thread Cert.MixOutFwdRefIdeal.nD Cert.MixOutFwdRefIdeal.τ).loc Cert.MixOutFwdRefIdeal.main_arg0) = m' ((c.tc : Thread Cert.MixOutFwdRefIdeal.nD Cert.MixOutFwdRefIdeal.τ).loc Cert.MixOutFwdRefIdeal.main_arg0)
          ∧ r.2.mem ((c.tc : Thread Cert.MixOutFwdRefIdeal.nD Cert.MixOutFwdRefIdeal.τ).loc Cert.MixOutFwdRefIdeal.main_arg1) = m' ((c.tc : Thread Cert.MixOutFwdRefIdeal.nD Cert.MixOutFwdRefIdeal.τ).loc Cert.MixOutFwdRefIdeal.main_arg1)
          ∧ r.2.mem ((c.tc : Thread Cert.MixOutFwdRefIdeal.nD Cert.MixOutFwdRefIdeal.τ).loc Cert.MixOutFwdRefIdeal.main_arg2) = m' ((c.tc : Thread Cert.MixOutFwdRefIdeal.nD Cert.MixOutFwdRefIdeal.τ).loc Cert.MixOutFwdRefIdeal.main_arg2)
          ∧ r.2.mem ((c.tc : Thread Cert.MixOutFwdRefIdeal.nD Cert.MixOutFwdRefIdeal.τ).loc Cert.MixOutFwdRefIdeal.main_arg3) = m' ((c.tc : Thread Cert.MixOutFwdRefIdeal.nD Cert.MixOutFwdRefIdeal.τ).loc Cert.MixOutFwdRefIdeal.main_arg3)
          ∧ r.2.mem ((c.tc : Thread Cert.MixOutFwdRefIdeal.nD Cert.MixOutFwdRefIdeal.τ).loc Cert.MixOutFwdRefIdeal.main_arg4) = m' ((c.tc : Thread Cert.MixOutFwdRefIdeal.nD Cert.MixOutFwdRefIdeal.τ).loc Cert.MixOutFwdRefIdeal.main_arg4)
          ∧ r.2.mem ((c.tc : Thread Cert.MixOutFwdRefIdeal.nD Cert.MixOutFwdRefIdeal.τ).loc Cert.MixOutFwdRefIdeal.main_arg5) = m' ((c.tc : Thread Cert.MixOutFwdRefIdeal.nD Cert.MixOutFwdRefIdeal.τ).loc Cert.MixOutFwdRefIdeal.main_arg5))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v14) = v0 c
          ∧ r.2.mem ((c.tc : Thread Cert.LossHeadRefIdeal.nD Cert.LossHeadRefIdeal.τ).loc Cert.LossHeadRefIdeal.main_v15) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def Claim : Prop :=
  ∃ (hKernel : Cert.Kernel.Facts) (hKernelIdeal : Cert.KernelIdeal.Facts) (hReferenceIdeal : Cert.ReferenceIdeal.Facts) (hFfnBwd : Cert.FfnBwd.Facts) (hFfnBwdIdeal : Cert.FfnBwdIdeal.Facts) (hFfnBwdRefIdeal : Cert.FfnBwdRefIdeal.Facts) (hInBwd : Cert.InBwd.Facts) (hInBwdIdeal : Cert.InBwdIdeal.Facts) (hInBwdRefIdeal : Cert.InBwdRefIdeal.Facts) (hWFf2 : Cert.WFf2.Facts) (hWFf2Ideal : Cert.WFf2Ideal.Facts) (hWFf2RefIdeal : Cert.WFf2RefIdeal.Facts) (hWFf1 : Cert.WFf1.Facts) (hWFf1Ideal : Cert.WFf1Ideal.Facts) (hWFf1RefIdeal : Cert.WFf1RefIdeal.Facts) (hWOut : Cert.WOut.Facts) (hWOutIdeal : Cert.WOutIdeal.Facts) (hWOutRefIdeal : Cert.WOutRefIdeal.Facts) (hWBranch : Cert.WBranch.Facts) (hWBranchIdeal : Cert.WBranchIdeal.Facts) (hWBranchRefIdeal : Cert.WBranchRefIdeal.Facts) (hWIn : Cert.WIn.Facts) (hWInIdeal : Cert.WInIdeal.Facts) (hWInRefIdeal : Cert.WInRefIdeal.Facts) (hInFwd : Cert.InFwd.Facts) (hInFwdIdeal : Cert.InFwdIdeal.Facts) (hInFwdRefIdeal : Cert.InFwdRefIdeal.Facts) (hFfnFwd : Cert.FfnFwd.Facts) (hFfnFwdIdeal : Cert.FfnFwdIdeal.Facts) (hFfnFwdRefIdeal : Cert.FfnFwdRefIdeal.Facts) (hMixOutFwd : Cert.MixOutFwd.Facts) (hMixOutFwdIdeal : Cert.MixOutFwdIdeal.Facts) (hMixOutFwdRefIdeal : Cert.MixOutFwdRefIdeal.Facts) (hLossHead : Cert.LossHead.Facts) (hLossHeadIdeal : Cert.LossHeadIdeal.Facts) (hLossHeadRefIdeal : Cert.LossHeadRefIdeal.Facts) (hOn_gate_columns : Cert.On_gate_columns.Facts),
    quiescent_Kernel (hKernel := hKernel)
    ∧ quiescent_KernelIdeal (hKernelIdeal := hKernelIdeal)
    ∧ quiescent_ReferenceIdeal (hReferenceIdeal := hReferenceIdeal)
    ∧ quiescent_FfnBwd (hFfnBwd := hFfnBwd)
    ∧ quiescent_FfnBwdIdeal (hFfnBwdIdeal := hFfnBwdIdeal)
    ∧ quiescent_FfnBwdRefIdeal (hFfnBwdRefIdeal := hFfnBwdRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_WFf2 (hWFf2 := hWFf2)
    ∧ quiescent_WFf2Ideal (hWFf2Ideal := hWFf2Ideal)
    ∧ quiescent_WFf2RefIdeal (hWFf2RefIdeal := hWFf2RefIdeal)
    ∧ quiescent_WFf1 (hWFf1 := hWFf1)
    ∧ quiescent_WFf1Ideal (hWFf1Ideal := hWFf1Ideal)
    ∧ quiescent_WFf1RefIdeal (hWFf1RefIdeal := hWFf1RefIdeal)
    ∧ quiescent_WOut (hWOut := hWOut)
    ∧ quiescent_WOutIdeal (hWOutIdeal := hWOutIdeal)
    ∧ quiescent_WOutRefIdeal (hWOutRefIdeal := hWOutRefIdeal)
    ∧ quiescent_WBranch (hWBranch := hWBranch)
    ∧ quiescent_WBranchIdeal (hWBranchIdeal := hWBranchIdeal)
    ∧ quiescent_WBranchRefIdeal (hWBranchRefIdeal := hWBranchRefIdeal)
    ∧ quiescent_WIn (hWIn := hWIn)
    ∧ quiescent_WInIdeal (hWInIdeal := hWInIdeal)
    ∧ quiescent_WInRefIdeal (hWInRefIdeal := hWInRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_MixOutFwd (hMixOutFwd := hMixOutFwd)
    ∧ quiescent_MixOutFwdIdeal (hMixOutFwdIdeal := hMixOutFwdIdeal)
    ∧ quiescent_MixOutFwdRefIdeal (hMixOutFwdRefIdeal := hMixOutFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ preserves_Kernel_KernelIdeal
    ∧ algebraic_KernelIdeal_ReferenceIdeal_on_gate_columns (hKernelIdeal := hKernelIdeal) (hReferenceIdeal := hReferenceIdeal) (hOn_gate_columns := hOn_gate_columns)
    ∧ preserves_FfnBwd_FfnBwdIdeal
    ∧ algebraic_FfnBwdIdeal_FfnBwdRefIdeal (hFfnBwdIdeal := hFfnBwdIdeal) (hFfnBwdRefIdeal := hFfnBwdRefIdeal)
    ∧ preserves_InBwd_InBwdIdeal
    ∧ algebraic_InBwdIdeal_InBwdRefIdeal (hInBwdIdeal := hInBwdIdeal) (hInBwdRefIdeal := hInBwdRefIdeal)
    ∧ preserves_WFf2_WFf2Ideal
    ∧ algebraic_WFf2Ideal_WFf2RefIdeal (hWFf2Ideal := hWFf2Ideal) (hWFf2RefIdeal := hWFf2RefIdeal)
    ∧ preserves_WFf1_WFf1Ideal
    ∧ algebraic_WFf1Ideal_WFf1RefIdeal (hWFf1Ideal := hWFf1Ideal) (hWFf1RefIdeal := hWFf1RefIdeal)
    ∧ preserves_WOut_WOutIdeal
    ∧ algebraic_WOutIdeal_WOutRefIdeal (hWOutIdeal := hWOutIdeal) (hWOutRefIdeal := hWOutRefIdeal)
    ∧ preserves_WBranch_WBranchIdeal
    ∧ algebraic_WBranchIdeal_WBranchRefIdeal (hWBranchIdeal := hWBranchIdeal) (hWBranchRefIdeal := hWBranchRefIdeal)
    ∧ preserves_WIn_WInIdeal
    ∧ algebraic_WInIdeal_WInRefIdeal (hWInIdeal := hWInIdeal) (hWInRefIdeal := hWInRefIdeal)
    ∧ preserves_InFwd_InFwdIdeal
    ∧ algebraic_InFwdIdeal_InFwdRefIdeal (hInFwdIdeal := hInFwdIdeal) (hInFwdRefIdeal := hInFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_MixOutFwd_MixOutFwdIdeal
    ∧ algebraic_MixOutFwdIdeal_MixOutFwdRefIdeal (hMixOutFwdIdeal := hMixOutFwdIdeal) (hMixOutFwdRefIdeal := hMixOutFwdRefIdeal)
    ∧ preserves_LossHead_LossHeadIdeal
    ∧ algebraic_LossHeadIdeal_LossHeadRefIdeal (hLossHeadIdeal := hLossHeadIdeal) (hLossHeadRefIdeal := hLossHeadRefIdeal)
-- ==== On_gate_columns.lean ====
abbrev S4096x1024 : Shape := ⟨2, ![4096, 1024]⟩
abbrev S3x4096x1024 : Shape := ⟨3, ![3, 4096, 1024]⟩
abbrev S4096x10240 : Shape := ⟨2, ![4096, 10240]⟩
abbrev S3x1024x1024 : Shape := ⟨3, ![3, 1024, 1024]⟩
abbrev S1024x1024 : Shape := ⟨2, ![1024, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S3x4096x1024 : S_.BroadcastsInDim S3x4096x1024 (![] : Fin 0 → Fin S3x4096x1024.rank)
  bcast_S_S4096x10240 : S_.BroadcastsInDim S4096x10240 (![] : Fin 0 → Fin S4096x10240.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S3x4096x1024 .f32) (main_arg2 : FVec F S4096x10240 .f32) (main_arg3 : FVec F S3x1024x1024 .f32) (main_arg4 : FVec F S1024x1024 .f32) (main_arg5 : FVec F S1x1024 .f32) : IVec S4096x1024 1 × IVec S3x4096x1024 1 × IVec S3x4096x1024 1 × IVec S4096x10240 1 × IVec S1x1024 1 :=
  let main_c : IVec S_ 1 := constantI S_ 1 1#1
  let main_v0 : IVec S4096x1024 1 := broadcastInDim S4096x1024 ![] bcast_S_S4096x1024 main_c
  let main_c_0 : IVec S_ 1 := constantI S_ 1 1#1
  let main_v1 : IVec S3x4096x1024 1 := broadcastInDim S3x4096x1024 ![] bcast_S_S3x4096x1024 main_c_0
  let main_c_1 : IVec S_ 1 := constantI S_ 1 1#1
  let main_v2 : IVec S3x4096x1024 1 := broadcastInDim S3x4096x1024 ![] bcast_S_S3x4096x1024 main_c_1
  let main_v3 : IVec S4096x10240 32 := iotaInDim S4096x10240 32 1
  let main_c_2 : IVec S_ 32 := constantI S_ 32 7168#32
  let main_v4 : IVec S4096x10240 32 := broadcastInDim S4096x10240 ![] bcast_S_S4096x10240 main_c_2
  let main_v5 : IVec S4096x10240 1 := cmpi .sge main_v3 main_v4
  let main_c_3 : IVec S_ 1 := constantI S_ 1 1#1
  let main_v6 : IVec S1x1024 1 := broadcastInDim S1x1024 ![] bcast_S_S1x1024 main_c_3
  (main_v0, main_v1, main_v2, main_v5, main_v6)
-- ==== Kernel.lean ====
abbrev S4096x1024 : Shape := ⟨2, ![4096, 1024]⟩
abbrev S3x4096x1024 : Shape := ⟨3, ![3, 4096, 1024]⟩
abbrev S4096x10240 : Shape := ⟨2, ![4096, 10240]⟩
abbrev S3x1024x1024 : Shape := ⟨3, ![3, 1024, 1024]⟩
abbrev S1024x1024 : Shape := ⟨2, ![1024, 1024]⟩
abbrev S1x1024 : Shape := ⟨2, ![1, 1024]⟩
abbrev S1x4096x1024 : Shape := ⟨3, ![1, 4096, 1024]⟩
abbrev S1x1024x1024 : Shape := ⟨3, ![1, 1024, 1024]⟩
abbrev S_ : Shape := ⟨0, ![]⟩
abbrev S3x4x256x1024 : Shape := ⟨4, ![3, 4, 256, 1024]⟩
abbrev S4x3x256x1024 : Shape := ⟨4, ![4, 3, 256, 1024]⟩
abbrev S8x128 : Shape := ⟨2, ![8, 128]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩
abbrev S1024 : Shape := ⟨1, ![1024]⟩
abbrev S1x1x256x1024 : Shape := ⟨4, ![1, 1, 256, 1024]⟩
abbrev S256x1024 : Shape := ⟨2, ![256, 1024]⟩
abbrev S512x256 : Shape := ⟨2, ![512, 256]⟩
abbrev S1x512x256 : Shape := ⟨3, ![1, 512, 256]⟩

abbrev nBuf : Space → Nat
  | .hbm => 78
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S3x4096x1024, .f32⟩
  | .hbm, ⟨2, _⟩ => ⟨S4096x10240, .f32⟩
  | .hbm, ⟨3, _⟩ => ⟨S3x1024x1024, .f32⟩
  | .hbm, ⟨4, _⟩ => ⟨S1024x1024, .f32⟩
  | .hbm, ⟨5, _⟩ => ⟨S1x1024, .f32⟩
  | .hbm, ⟨6, _⟩ => ⟨S1x4096x1024, .f32⟩
  | .hbm, ⟨7, _⟩ => ⟨S4096x1024, .f32⟩
  | .hbm, ⟨8, _⟩ => ⟨S1x1024x1024, .f32⟩
  | .hbm, ⟨9, _⟩ => ⟨S1024x1024, .f32⟩
  | .hbm, ⟨10, _⟩ => ⟨S4096x1024, .f32⟩
  | .hbm, ⟨11, _⟩ => ⟨S1x4096x1024, .f32⟩
  | .hbm, ⟨12, _⟩ => ⟨S4096x1024, .f32⟩
  | .hbm, ⟨13, _⟩ => ⟨S1x1024x1024, .f32⟩
  | .hbm, ⟨14, _⟩ => ⟨S1024x1024, .f32⟩
  | .hbm, ⟨15, _⟩ => ⟨S4096x1024, .f32⟩
  | .hbm, ⟨16, _⟩ => ⟨S1x4096x1024, .f32⟩
  | .hbm, ⟨17, _⟩ => ⟨S4096x1024, .f32⟩
  | .hbm, ⟨18, _⟩ => ⟨S1x1024x1024, .f32⟩
  | .hbm, ⟨19, _⟩ => ⟨S1024x1024, .f32⟩
  | .hbm, ⟨20, _⟩ => ⟨S4096x1024, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S3x4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S1x4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S1x4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S1x4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S3x4x256x1024, .f32⟩
  | .hbm, ⟨65, _⟩ => ⟨S4x3x256x1024, .f32⟩
  | .hbm, ⟨66, _⟩ => ⟨S4096x1024, .bf16⟩
  | .hbm, ⟨67, _⟩ => ⟨S1024x1024, .bf16⟩
  | .hbm, ⟨68, _⟩ => ⟨S3x4096x1024, .bf16⟩
  | .hbm, ⟨69, _⟩ => ⟨S4096x10240, .bf16⟩
  | .hbm, ⟨70, _⟩ => ⟨S4x3x256x1024, .bf16⟩
  | .hbm, ⟨71, _⟩ => ⟨S_, .f32⟩
  | .hbm, ⟨72, _⟩ => ⟨S8x128, .f32⟩
  | .hbm, ⟨73, _⟩ => ⟨S4096x1024, .bf16⟩
  | .hbm, ⟨74, _⟩ => ⟨S3x4096x1024, .bf16⟩
  | .hbm, ⟨75, _⟩ => ⟨S3x4096x1024, .bf16⟩
  | .hbm, ⟨76, _⟩ => ⟨S4096x10240, .bf16⟩
  | .hbm, ⟨77, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1024x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .bf16⟩
  | .local _ .vmem, ⟨9, _⟩ => ⟨S512x1024, .bf16⟩
  | .local _ .vmem, ⟨10, _⟩ => ⟨S4x3x256x1024, .bf16⟩
  | .local _ .vmem, ⟨11, _⟩ => ⟨S512x1024, .bf16⟩
  | .local _ .vmem, ⟨12, _⟩ => ⟨S512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_5 : Ref sig .tc := ⟨.hbm, 71, rfl⟩
abbrev main_v59 : Ref sig .tc := ⟨.hbm, 72, rfl⟩
abbrev main_v60_0 : Ref sig .tc := ⟨.hbm, 73, rfl⟩
abbrev main_v60_1 : Ref sig .tc := ⟨.hbm, 74, rfl⟩
abbrev main_v60_2 : Ref sig .tc := ⟨.hbm, 75, rfl⟩
abbrev main_v60_3 : Ref sig .tc := ⟨.hbm, 76, rfl⟩
abbrev main_v60_4 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨2, ![8, 3], ![false, false]⟩

def k0_off1 (i : grid0.Coords) : Fin 4 → Nat :=
  let c0_18 : Index := 0#32
  let arg1 : BitVec 32 := BitVec.ofNat 32 (i 1).val
  let v34 : Index := Scalar.indexCast arg1
  let c0_19 : Index := 0#32
  let c0_20 : Index := 0#32
  ![0, v34.toNat, 0, 0]
def k0_off2 (i : grid0.Coords) : Fin 4 → Nat :=
  let c1 : Index := 1#32
  let arg1 : BitVec 32 := BitVec.ofNat 32 (i 1).val
  let v42 : Index := Scalar.indexCast arg1
  let c0_25 : Index := 0#32
  let c0_26 : Index := 0#32
  ![1, v42.toNat, 0, 0]
def k0_off3 (i : grid0.Coords) : Fin 4 → Nat :=
  let c2 : Index := 2#32
  let arg1 : BitVec 32 := BitVec.ofNat 32 (i 1).val
  let v50 : Index := Scalar.indexCast arg1
  let c0_30 : Index := 0#32
  let c0_31 : Index := 0#32
  ![2, v50.toNat, 0, 0]
def k0_off4 (i : grid0.Coords) : Fin 4 → Nat :=
  let c3 : Index := 3#32
  let arg1 : BitVec 32 := BitVec.ofNat 32 (i 1).val
  let v58 : Index := Scalar.indexCast arg1
  let c0_35 : Index := 0#32
  let c0_36 : Index := 0#32
  ![3, v58.toNat, 0, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x3x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S4096x1024 : Shape := ⟨2, ![4096, 1024]⟩
abbrev S3x4096x1024 : Shape := ⟨3, ![3, 4096, 1024]⟩
abbrev S4096x10240 : Shape := ⟨2, ![4096, 10240]⟩
abbrev S3x1024x1024 : Shape := ⟨3, ![3, 1024, 1024]⟩
abbrev S1024x1024 : Shape := ⟨2, ![1024, 1024]⟩
abbrev S1x1024 : Shape := ⟨2, ![1, 1024]⟩
abbrev S1x4096x1024 : Shape := ⟨3, ![1, 4096, 1024]⟩
abbrev S1x1024x1024 : Shape := ⟨3, ![1, 1024, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 229
  | .vmem => 0
  | .smem => 0
  | _ => 0

abbrev hbmTy0_0 (i : Nat) : BufTy := match i % 128 with
  | 0 => ⟨S4096x1024, .f32⟩
  | 1 => ⟨S3x4096x1024, .f32⟩
  | 2 => ⟨S4096x10240, .f32⟩
  | 3 => ⟨S3x1024x1024, .f32⟩
  | 4 => ⟨S1024x1024, .f32⟩
  | 5 => ⟨S1x1024, .f32⟩
  | 6 => ⟨S1x4096x1024, .f32⟩
  | 7 => ⟨S4096x1024, .f32⟩
  | 8 => ⟨S1x1024x1024, .f32⟩
  | 9 => ⟨S1024x1024, .f32⟩
  | 10 => ⟨S4096x1024, .f32⟩
  | 11 => ⟨S1x4096x1024, .f32⟩
  | 12 => ⟨S4096x1024, .f32⟩
  | 13 => ⟨S1x1024x1024, .f32⟩
  | 14 => ⟨S1024x1024, .f32⟩
  | 15 => ⟨S4096x1024, .f32⟩
  | 16 => ⟨S1x4096x1024, .f32⟩
  | 17 => ⟨S4096x1024, .f32⟩
  | 18 => ⟨S1x1024x1024, .f32⟩
  | 19 => ⟨S1024x1024, .f32⟩
  | 20 => ⟨S4096x1024, .f32⟩
  | 21 => ⟨S1x4096x1024, .f32⟩
  | 22 => ⟨S1x4096x1024, .f32⟩
  | 23 => ⟨S1x4096x1024, .f32⟩
  | 24 => ⟨S3x4096x1024, .f32⟩
  | 25 => ⟨S4096x1024, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S1x4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S1x4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S1x4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S_, .f32⟩
  | 66 => ⟨S4096, .f32⟩
  | 67 => ⟨S4096x1, .f32⟩
  | 68 => ⟨S_, .f32⟩
  | 69 => ⟨S4096x1, .f32⟩
  | 70 => ⟨S4096x1, .f32⟩
  | 71 => ⟨S_, .f32⟩
  | 72 => ⟨S4096x1, .f32⟩
  | 73 => ⟨S4096x1, .f32⟩
  | 74 => ⟨S4096x1, .f32⟩
  | 75 => ⟨S4096x1, .f32⟩
  | 76 => ⟨S_, .f32⟩
  | 77 => ⟨S4096x1, .f32⟩
  | 78 => ⟨S4096x1, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S_, .f32⟩
  | 85 => ⟨S1024, .f32⟩
  | 86 => ⟨S1x1024, .f32⟩
  | 87 => ⟨S4096x1024, .f32⟩
  | 88 => ⟨S4096x1024, .f32⟩
  | 89 => ⟨S4096x1024, .f32⟩
  | 90 => ⟨S_, .f32⟩
  | 91 => ⟨S4096, .f32⟩
  | 92 => ⟨S4096x1, .f32⟩
  | 93 => ⟨S4096x1024, .f32⟩
  | 94 => ⟨S4096x1024, .f32⟩
  | 95 => ⟨S4096x1, .f32⟩
  | 96 => ⟨S_, .f32⟩
  | 97 => ⟨S4096x1, .f32⟩
  | 98 => ⟨S4096x1, .f32⟩
  | 99 => ⟨S_, .f32⟩
  | 100 => ⟨S4096, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S_, .f32⟩
  | 112 => ⟨S4096x1024, .f32⟩
  | 113 => ⟨S4096x1024, .f32⟩
  | 114 => ⟨S_, .f32⟩
  | 115 => ⟨S4096x1024, .f32⟩
  | 116 => ⟨S4096x1024, .f32⟩
  | 117 => ⟨S_, .f32⟩
  | 118 => ⟨S4096x1024, .f32⟩
  | 119 => ⟨S4096x1024, .f32⟩
  | 120 => ⟨S4096x1024, .f32⟩
  | 121 => ⟨S1x4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S4096x1024, .f32⟩
  | 1 => ⟨S4096x1024, .f32⟩
  | 2 => ⟨S_, .f32⟩
  | 3 => ⟨S4096x1024, .f32⟩
  | 4 => ⟨S4096x1024, .f32⟩
  | 5 => ⟨S_, .f32⟩
  | 6 => ⟨S4096x1024, .f32⟩
  | 7 => ⟨S4096x1024, .f32⟩
  | 8 => ⟨S4096x1024, .f32⟩
  | 9 => ⟨S1x4096x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S4096x1024, .f32⟩
  | 26 => ⟨S1x4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S1x4096x1024, .f32⟩
  | 33 => ⟨S_, .f32⟩
  | 34 => ⟨S3x4096x1024, .f32⟩
  | 35 => ⟨S4096x1024, .f32⟩
  | 36 => ⟨S_, .f32⟩
  | 37 => ⟨S4096x10240, .f32⟩
  | 38 => ⟨S4096x1024, .f32⟩
  | 39 => ⟨S4096x1024, .f32⟩
  | 40 => ⟨S1x4096x1024, .f32⟩
  | 41 => ⟨S_, .f32⟩
  | 42 => ⟨S3x4096x1024, .f32⟩
  | 43 => ⟨S3x4096x1024, .f32⟩
  | 44 => ⟨S4096x1024, .f32⟩
  | 45 => ⟨S_, .f32⟩
  | 46 => ⟨S4096x10240, .f32⟩
  | 47 => ⟨S4096x10240, .f32⟩
  | 48 => ⟨S4096x1024, .f32⟩
  | 49 => ⟨S4096x1024, .f32⟩
  | 50 => ⟨S1x4096x1024, .f32⟩
  | 51 => ⟨S_, .f32⟩
  | 52 => ⟨S3x4096x1024, .f32⟩
  | 53 => ⟨S3x4096x1024, .f32⟩
  | 54 => ⟨S4096x1024, .f32⟩
  | 55 => ⟨S_, .f32⟩
  | 56 => ⟨S4096x10240, .f32⟩
  | 57 => ⟨S4096x10240, .f32⟩
  | 58 => ⟨S1x4096x1024, .f32⟩
  | 59 => ⟨S4096x1024, .f32⟩
  | 60 => ⟨S1x1024x1024, .f32⟩
  | 61 => ⟨S1024x1024, .f32⟩
  | 62 => ⟨S4096x1024, .f32⟩
  | 63 => ⟨S1x4096x1024, .f32⟩
  | 64 => ⟨S4096x1024, .f32⟩
  | 65 => ⟨S1x1024x1024, .f32⟩
  | 66 => ⟨S1024x1024, .f32⟩
  | 67 => ⟨S4096x1024, .f32⟩
  | 68 => ⟨S1x4096x1024, .f32⟩
  | 69 => ⟨S4096x1024, .f32⟩
  | 70 => ⟨S1x1024x1024, .f32⟩
  | 71 => ⟨S1024x1024, .f32⟩
  | 72 => ⟨S4096x1024, .f32⟩
  | 73 => ⟨S1x4096x1024, .f32⟩
  | 74 => ⟨S1x4096x1024, .f32⟩
  | 75 => ⟨S1x4096x1024, .f32⟩
  | 76 => ⟨S3x4096x1024, .f32⟩
  | 77 => ⟨S1x4096x1024, .f32⟩
  | 78 => ⟨S4096x1024, .f32⟩
  | 79 => ⟨S1x4096x1024, .f32⟩
  | 80 => ⟨S4096x1024, .f32⟩
  | 81 => ⟨S1x4096x1024, .f32⟩
  | 82 => ⟨S4096x1024, .f32⟩
  | 83 => ⟨S4096x1024, .f32⟩
  | 84 => ⟨S1x4096x1024, .f32⟩
  | 85 => ⟨S_, .f32⟩
  | 86 => ⟨S3x4096x1024, .f32⟩
  | 87 => ⟨S4096x1024, .f32⟩
  | 88 => ⟨S1x4096x1024, .f32⟩
  | 89 => ⟨S_, .f32⟩
  | 90 => ⟨S3x4096x1024, .f32⟩
  | 91 => ⟨S3x4096x1024, .f32⟩
  | 92 => ⟨S4096x1024, .f32⟩
  | 93 => ⟨S1x4096x1024, .f32⟩
  | 94 => ⟨S_, .f32⟩
  | 95 => ⟨S3x4096x1024, .f32⟩
  | 96 => ⟨S3x4096x1024, .f32⟩
  | 97 => ⟨S4096x1024, .bf16⟩
  | 98 => ⟨S3x4096x1024, .bf16⟩
  | 99 => ⟨S3x4096x1024, .bf16⟩
  | 100 => ⟨S4096x10240, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_9 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_10 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_11 : Ref sig .tc := ⟨.hbm, 96, rfl⟩
abbrev main_v78 : Ref sig .tc := ⟨.hbm, 97, rfl⟩
abbrev main_v79 : Ref sig .tc := ⟨.hbm, 98, rfl⟩
abbrev main_cst_12 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_13 : Ref sig .tc := ⟨.hbm, 111, rfl⟩
abbrev main_v91 : Ref sig .tc := ⟨.hbm, 112, rfl⟩
abbrev main_v92 : Ref sig .tc := ⟨.hbm, 113, rfl⟩
abbrev main_cst_14 : Ref sig .tc := ⟨.hbm, 114, rfl⟩
abbrev main_v93 : Ref sig .tc := ⟨.hbm, 115, rfl⟩
abbrev main_v94 : Ref sig .tc := ⟨.hbm, 116, rfl⟩
abbrev main_cst_15 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_cst_16 : Ref sig .tc := ⟨.hbm, 127, rfl⟩
abbrev main_v104 : Ref sig .tc := ⟨.hbm, 128, rfl⟩
abbrev main_v105 : Ref sig .tc := ⟨.hbm, 129, rfl⟩
abbrev main_cst_17 : Ref sig .tc := ⟨.hbm, 130, rfl⟩
abbrev main_v106 : Ref sig .tc := ⟨.hbm, 131, rfl⟩
abbrev main_v107 : Ref sig .tc := ⟨.hbm, 132, rfl⟩
abbrev main_cst_18 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_cst_19 : Ref sig .tc := ⟨.hbm, 144, rfl⟩
abbrev main_v118 : Ref sig .tc := ⟨.hbm, 145, rfl⟩
abbrev main_v119 : Ref sig .tc := ⟨.hbm, 146, rfl⟩
abbrev main_cst_20 : Ref sig .tc := ⟨.hbm, 147, rfl⟩
abbrev main_v120 : Ref sig .tc := ⟨.hbm, 148, rfl⟩
abbrev main_v121 : Ref sig .tc := ⟨.hbm, 149, rfl⟩
abbrev main_cst_21 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_22 : Ref sig .tc := ⟨.hbm, 161, rfl⟩
abbrev main_v132 : Ref sig .tc := ⟨.hbm, 162, rfl⟩
abbrev main_v133 : Ref sig .tc := ⟨.hbm, 163, rfl⟩
abbrev main_cst_23 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_cst_24 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_cst_25 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_cst_26 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_cst_27 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_cst_28 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_cst_29 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_cst_30 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩

abbrev nD : Nat := 1
abbrev τ : Topo := Topo.v7x

variable {F : FTy → Type} [FloatOps F]
-- ==== FfnBwd.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S8x128 : Shape := ⟨2, ![8, 128]⟩
abbrev S1024x1024 : Shape := ⟨2, ![1024, 1024]⟩
abbrev S1024x512 : Shape := ⟨2, ![1024, 512]⟩
abbrev S512x1024 : Shape := ⟨2, ![512, 1024]⟩
abbrev S1x1024x512 : Shape := ⟨3, ![1, 1024, 512]⟩
abbrev S1024 : Shape := ⟨1, ![1024]⟩
abbrev S1024x1 : Shape := ⟨2, ![1024, 1]⟩

abbrev nBuf : Space → Nat
  | .hbm => 40
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S1024x4x1024, .f32⟩
  | .hbm, ⟨28, _⟩ => ⟨S4x1024x1024, .f32⟩
  | .hbm, ⟨29, _⟩ => ⟨S4096x1024, .bf16⟩
  | .hbm, ⟨30, _⟩ => ⟨S4096x4096, .bf16⟩
  | .hbm, ⟨31, _⟩ => ⟨S4096x1024, .bf16⟩
  | .hbm, ⟨32, _⟩ => ⟨S4x1024x1024, .bf16⟩
  | .hbm, ⟨33, _⟩ => ⟨S_, .f32⟩
  | .hbm, ⟨34, _⟩ => ⟨S8x128, .f32⟩
  | .hbm, ⟨35, _⟩ => ⟨S4096x1024, .bf16⟩
  | .hbm, ⟨36, _⟩ => ⟨S4096x4096, .bf16⟩
  | .hbm, ⟨37, _⟩ => ⟨S4096x1024, .f32⟩
  | .hbm, ⟨38, _⟩ => ⟨S1x1024, .f32⟩
  | .hbm, ⟨39, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S1x1024x512, .bf16⟩
  | .local _ .vmem, ⟨10, _⟩ => ⟨S1x1024x512, .bf16⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x512, .bf16⟩
  | .local _ .vmem, ⟨17, _⟩ => ⟨S1024x512, .bf16⟩
  | .local _ .vmem, ⟨18, _⟩ => ⟨S1024x1024, .f32⟩
  | .local _ .vmem, ⟨19, _⟩ => ⟨S1024x1024, .f32⟩
  | .local _ .vmem, ⟨20, _⟩ => ⟨S1x1024, .f32⟩
  | .local _ .vmem, ⟨21, _⟩ => ⟨S1x1024, .f32⟩
  | .local _ .vmem, ⟨22, _⟩ => ⟨S1024x1024, .bf16⟩
  | .local _ .vmem, ⟨23, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev main_v23_3 : Ref sig .tc := ⟨.hbm, 38, rfl⟩
abbrev main_v23_4 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_21 : BitVec 32 := 0#32
  let v32 : BitVec 1 := Scalar.cmpi .ne v31 c0_i32_21
  v32

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== FfnBwdRefIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩

abbrev nBuf : Space → Nat
  | .hbm => 134
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1024x4096, .f32⟩
  | 4 => ⟨S4096x1024, .f32⟩
  | 5 => ⟨S1x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1024, .f32⟩
  | 18 => ⟨S4096x1024, .f32⟩
  | 19 => ⟨S4096x1024, .f32⟩
  | 20 => ⟨S4096x1024, .f32⟩
  | 21 => ⟨S4096x4096, .f32⟩
  | 22 => ⟨S_, .f32⟩
  | 23 => ⟨S4096x4096, .f32⟩
  | 24 => ⟨S4096x4096, .f32⟩
  | 25 => ⟨S4096x4096, .f32⟩
  | 26 => ⟨S4096x1024, .f32⟩
  | 27 => ⟨S4096x1024, .f32⟩
  | 28 => ⟨S_, .f32⟩
  | 29 => ⟨S4096, .f32⟩
  | 30 => ⟨S4096x1, .f32⟩
  | 31 => ⟨S_, .f32⟩
  | 32 => ⟨S4096x1, .f32⟩
  | 33 => ⟨S4096x1, .f32⟩
  | 34 => ⟨S_, .f32⟩
  | 35 => ⟨S4096x1, .f32⟩
  | 36 => ⟨S4096x1, .f32⟩
  | 37 => ⟨S4096x1, .f32⟩
  | 38 => ⟨S4096x1, .f32⟩
  | 39 => ⟨S_, .f32⟩
  | 40 => ⟨S4096x1, .f32⟩
  | 41 => ⟨S4096x1, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S1024, .f32⟩
  | 49 => ⟨S1x1024, .f32⟩
  | 50 => ⟨S4096x1024, .f32⟩
  | 51 => ⟨S4096x1024, .f32⟩
  | 52 => ⟨S4096x1024, .f32⟩
  | 53 => ⟨S_, .f32⟩
  | 54 => ⟨S4096, .f32⟩
  | 55 => ⟨S4096x1, .f32⟩
  | 56 => ⟨S4096x1024, .f32⟩
  | 57 => ⟨S4096x1024, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S_, .f32⟩
  | 70 => ⟨S4096x4096, .f32⟩
  | 71 => ⟨S4096x4096, .f32⟩
  | 72 => ⟨S_, .f32⟩
  | 73 => ⟨S4096x4096, .f32⟩
  | 74 => ⟨S4096x4096, .i1⟩
  | 75 => ⟨S_, .f32⟩
  | 76 => ⟨S4096x4096, .f32⟩
  | 77 => ⟨S4096x4096, .f32⟩
  | 78 => ⟨S_, .f32⟩
  | 79 => ⟨S4096x4096, .f32⟩
  | 80 => ⟨S4096x4096, .f32⟩
  | 81 => ⟨S4096x1024, .f32⟩
  | 82 => ⟨S4096x4096, .f32⟩
  | 83 => ⟨S4096x4096, .f32⟩
  | 84 => ⟨S_, .f32⟩
  | 85 => ⟨S4096x4096, .f32⟩
  | 86 => ⟨S4096x4096, .f32⟩
  | 87 => ⟨S4096x1024, .f32⟩
  | 88 => ⟨S_, .f32⟩
  | 89 => ⟨S4096, .f32⟩
  | 90 => ⟨S4096x1, .f32⟩
  | 91 => ⟨S_, .f32⟩
  | 92 => ⟨S4096x1, .f32⟩
  | 93 => ⟨S4096x1, .f32⟩
  | 94 => ⟨S_, .f32⟩
  | 95 => ⟨S4096x1, .f32⟩
  | 96 => ⟨S4096x1, .f32⟩
  | 97 => ⟨S4096x1, .f32⟩
  | 98 => ⟨S4096x1, .f32⟩
  | 99 => ⟨S_, .f32⟩
  | 100 => ⟨S4096x1, .f32⟩
  | 101 => ⟨S4096x1, .f32⟩
  | 102 => ⟨S4096x1024, .f32⟩
  | 103 => ⟨S4096x1024, .f32⟩
  | 104 => ⟨S4096x1024, .f32⟩
  | 105 => ⟨S4096x1024, .f32⟩
  | 106 => ⟨S4096x4096, .f32⟩
  | 107 => ⟨S4096x1024, .f32⟩
  | 108 => ⟨S4096x1024, .f32⟩
  | 109 => ⟨S_, .f32⟩
  | 110 => ⟨S1024, .f32⟩
  | 111 => ⟨S1x1024, .f32⟩
  | 112 => ⟨S4096x1024, .f32⟩
  | 113 => ⟨S4096x1024, .f32⟩
  | 114 => ⟨S4096x1024, .f32⟩
  | 115 => ⟨S_, .f32⟩
  | 116 => ⟨S4096, .f32⟩
  | 117 => ⟨S4096x1, .f32⟩
  | 118 => ⟨S4096x1024, .f32⟩
  | 119 => ⟨S4096x1024, .f32⟩
  | 120 => ⟨S4096x1, .f32⟩
  | 121 => ⟨S_, .f32⟩
  | 122 => ⟨S4096x1, .f32⟩
  | 123 => ⟨S4096x1, .f32⟩
  | 124 => ⟨S_, .f32⟩
  | 125 => ⟨S4096, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .bf16⟩
  | 4 => ⟨S4096x4096, .bf16⟩
  | 5 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_cst : Ref sig .tc := ⟨.hbm, 69, rfl⟩
abbrev main_call1_v0 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_cst_16 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_18 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_19 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_20 : Ref sig .tc := ⟨.hbm, 121, rfl⟩
abbrev main_v90 : Ref sig .tc := ⟨.hbm, 122, rfl⟩
abbrev main_v91 : Ref sig .tc := ⟨.hbm, 123, rfl⟩
abbrev main_cst_21 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩

abbrev nD : Nat := 1
abbrev τ : Topo := Topo.v7x

variable {F : FTy → Type} [FloatOps F]
-- ==== InBwd.lean ====
abbrev S4096x10240 : Shape := ⟨2, ![4096, 10240]⟩
abbrev S4096x1024 : Shape := ⟨2, ![4096, 1024]⟩
abbrev S1x1024 : Shape := ⟨2, ![1, 1024]⟩
abbrev S1024x10240 : Shape := ⟨2, ![1024, 10240]⟩
abbrev S1024x4x2560 : Shape := ⟨3, ![1024, 4, 2560]⟩
abbrev S4x1024x2560 : Shape := ⟨3, ![4, 1024, 2560]⟩
abbrev S_ : Shape := ⟨0, ![]⟩
abbrev S8x128 : Shape := ⟨2, ![8, 128]⟩
abbrev S1024x2560 : Shape := ⟨2, ![1024, 2560]⟩
abbrev S1x1024x2560 : Shape := ⟨3, ![1, 1024, 2560]⟩
abbrev S1024x1024 : Shape := ⟨2, ![1024, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 13
  | .vmem => 13
  | .smem => 0
  | _ => 0

abbrev bufTy : (tb : Table) → Fin (tcTables nBuf tb) → BufTy
  | .hbm, ⟨0, _⟩ => ⟨S4096x10240, .f32⟩
  | .hbm, ⟨1, _⟩ => ⟨S4096x1024, .f32⟩
  | .hbm, ⟨2, _⟩ => ⟨S1x1024, .f32⟩
  | .hbm, ⟨3, _⟩ => ⟨S1024x10240, .f32⟩
  | .hbm, ⟨4, _⟩ => ⟨S4096x1024, .f32⟩
  | .hbm, ⟨5, _⟩ => ⟨S1024x4x2560, .f32⟩
  | .hbm, ⟨6, _⟩ => ⟨S4x1024x2560, .f32⟩
  | .hbm, ⟨7, _⟩ => ⟨S4096x10240, .bf16⟩
  | .hbm, ⟨8, _⟩ => ⟨S4x1024x2560, .bf16⟩
  | .hbm, ⟨9, _⟩ => ⟨S_, .f32⟩
  | .hbm, ⟨10, _⟩ => ⟨S8x128, .f32⟩
  | .hbm, ⟨11, _⟩ => ⟨S4096x1024, .f32⟩
  | .hbm, ⟨12, _⟩ => ⟨S1x1024, .f32⟩
  | .local _ .vmem, ⟨0, _⟩ => ⟨S1024x2560, .bf16⟩
  | .local _ .vmem, ⟨1, _⟩ => ⟨S1024x2560, .bf16⟩
  | .local _ .vmem, ⟨2, _⟩ => ⟨S1x1024x2560, .bf16⟩
  | .local _ .vmem, ⟨3, _⟩ => ⟨S1x1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg1 : BitVec 32 := BitVec.ofNat 32 (i 1).val
  let c3_i32 : BitVec 32 := 3#32
  let v22 : BitVec 1 := Scalar.cmpi .eq arg1 c3_i32
  let arg2 : BitVec 32 := BitVec.ofNat 32 (i 2).val
  let c0_i32_14 : BitVec 32 := 0#32
  let v23 : BitVec 1 := Scalar.cmpi .eq arg2 c0_i32_14
  let v24 : BitVec 1 := Scalar.andi v22 v23
  let v25 : BitVec 32 := Scalar.extui v24
  let c0_i32_15 : BitVec 32 := 0#32
  let v26 : BitVec 1 := Scalar.cmpi .ne v25 c0_i32_15
  v26

@[reducible] def k0_t1_loop : Scf.Loop 32 :=
  let c0_i32_19 : BitVec 32 := 0#32
  let c8_i32 : BitVec 32 := 8#32
  let v30 : BitVec 32 := Scalar.addi c0_i32_19 c8_i32
  let c1_i32 : BitVec 32 := 1#32
  ⟨c0_i32_19, v30, c1_i32⟩
def k0_mult1 (k0_t1 : Fin k0_t1_loop.trips) : BitVec 32 :=
  let c0_i32_19 : BitVec 32 := 0#32
  let c1_i32 : BitVec 32 := 1#32
  let arg12 : BitVec 32 := Scf.iv c0_i32_19 c1_i32 k0_t1
  let c128_i32 : BitVec 32 := 128#32
  let v34 : BitVec 32 := Scalar.muli arg12 c128_i32
  v34
def k0_off1 (k0_t1 : Fin k0_t1_loop.trips) : Fin 2 → Nat :=
  let c0_i32_19 : BitVec 32 := 0#32
  let c1_i32 : BitVec 32 := 1#32
  let arg12 : BitVec 32 := Scf.iv c0_i32_19 c1_i32 k0_t1
  let c128_i32 : BitVec 32 := 128#32
  let v34 : BitVec 32 := Scalar.muli arg12 c128_i32
  let v35 : BitVec 32 := v34
  let v36 : Index := Scalar.indexCast v35
  let c0_23 : Index := 0#32
  ![v36.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== InBwdRefIdeal.lean ====
abbrev S4096x10240 : Shape := ⟨2, ![4096, 10240]⟩
abbrev S4096x1024 : Shape := ⟨2, ![4096, 1024]⟩
abbrev S1x1024 : Shape := ⟨2, ![1, 1024]⟩
abbrev S1024x10240 : Shape := ⟨2, ![1024, 10240]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x10240, .f32⟩
  | .hbm, ⟨1, _⟩ => ⟨S4096x1024, .f32⟩
  | .hbm, ⟨2, _⟩ => ⟨S1x1024, .f32⟩
  | .hbm, ⟨3, _⟩ => ⟨S1024x10240, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x10240, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== WFf2.lean ====
abbrev S4096x4096 : Shape := ⟨2, ![4096, 4096]⟩
abbrev S4096x1024 : Shape := ⟨2, ![4096, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S4x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WFf2RefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4x1024x1024, .f32⟩
  | .hbm, ⟨12, _⟩ => ⟨S4x1024x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== WFf1.lean ====
abbrev S4096x1024 : Shape := ⟨2, ![4096, 1024]⟩
abbrev S4096x4096 : Shape := ⟨2, ![4096, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S4x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WFf1RefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WOut.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== WOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WBranch.lean ====
abbrev S3x4096x1024 : Shape := ⟨3, ![3, 4096, 1024]⟩
abbrev S1x4096x1024 : Shape := ⟨3, ![1, 4096, 1024]⟩
abbrev S4096x1024 : Shape := ⟨2, ![4096, 1024]⟩
abbrev S4x3x256x1024 : Shape := ⟨4, ![4, 3, 256, 1024]⟩
abbrev S1024x1024 : Shape := ⟨2, ![1024, 1024]⟩
abbrev S1x1024x1024 : Shape := ⟨3, ![1, 1024, 1024]⟩
abbrev S4x1x256x1024 : Shape := ⟨4, ![4, 1, 256, 1024]⟩
abbrev S256x1024 : Shape := ⟨2, ![256, 1024]⟩
abbrev S1x1x256x1024 : Shape := ⟨4, ![1, 1, 256, 1024]⟩

abbrev nBuf : Space → Nat
  | .hbm => 11
  | .vmem => 11
  | .smem => 0
  | _ => 0

abbrev bufTy : (tb : Table) → Fin (tcTables nBuf tb) → BufTy
  | .hbm, ⟨0, _⟩ => ⟨S3x4096x1024, .f32⟩
  | .hbm, ⟨1, _⟩ => ⟨S3x4096x1024, .f32⟩
  | .hbm, ⟨2, _⟩ => ⟨S3x4096x1024, .bf16⟩
  | .hbm, ⟨3, _⟩ => ⟨S1x4096x1024, .bf16⟩
  | .hbm, ⟨4, _⟩ => ⟨S4096x1024, .bf16⟩
  | .hbm, ⟨5, _⟩ => ⟨S1x4096x1024, .bf16⟩
  | .hbm, ⟨6, _⟩ => ⟨S4096x1024, .bf16⟩
  | .hbm, ⟨7, _⟩ => ⟨S1x4096x1024, .bf16⟩
  | .hbm, ⟨8, _⟩ => ⟨S4096x1024, .bf16⟩
  | .hbm, ⟨9, _⟩ => ⟨S3x4096x1024, .bf16⟩
  | .hbm, ⟨10, _⟩ => ⟨S4x3x256x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S4x1x256x1024, .bf16⟩
  | .local _ .vmem, ⟨9, _⟩ => ⟨S4x1x256x1024, .bf16⟩
  | .local _ .vmem, ⟨10, _⟩ => ⟨S1024x1024, .f32⟩
  | _, _ => ⟨S3x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 4], ![false, false]⟩

def k0_cond5 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== WBranchRefIdeal.lean ====
abbrev S3x4096x1024 : Shape := ⟨3, ![3, 4096, 1024]⟩
abbrev S_ : Shape := ⟨0, ![]⟩
abbrev S3x1024x1024 : Shape := ⟨3, ![3, 1024, 1024]⟩
abbrev S1x4096x1024 : Shape := ⟨3, ![1, 4096, 1024]⟩
abbrev S4096x1024 : Shape := ⟨2, ![4096, 1024]⟩
abbrev S1x1024x1024 : Shape := ⟨3, ![1, 1024, 1024]⟩
abbrev S1024x1024 : Shape := ⟨2, ![1024, 1024]⟩
abbrev S3x4x256x1024 : Shape := ⟨4, ![3, 4, 256, 1024]⟩
abbrev S4x3x256x1024 : Shape := ⟨4, ![4, 3, 256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S3x4096x1024, .f32⟩
  | .hbm, ⟨1, _⟩ => ⟨S3x4096x1024, .f32⟩
  | .hbm, ⟨2, _⟩ => ⟨S_, .f32⟩
  | .hbm, ⟨3, _⟩ => ⟨S3x1024x1024, .f32⟩
  | .hbm, ⟨4, _⟩ => ⟨S1x4096x1024, .f32⟩
  | .hbm, ⟨5, _⟩ => ⟨S4096x1024, .f32⟩
  | .hbm, ⟨6, _⟩ => ⟨S1x1024x1024, .f32⟩
  | .hbm, ⟨7, _⟩ => ⟨S1024x1024, .f32⟩
  | .hbm, ⟨8, _⟩ => ⟨S4096x1024, .f32⟩
  | .hbm, ⟨9, _⟩ => ⟨S1x4096x1024, .f32⟩
  | .hbm, ⟨10, _⟩ => ⟨S4096x1024, .f32⟩
  | .hbm, ⟨11, _⟩ => ⟨S1x1024x1024, .f32⟩
  | .hbm, ⟨12, _⟩ => ⟨S1024x1024, .f32⟩
  | .hbm, ⟨13, _⟩ => ⟨S4096x1024, .f32⟩
  | .hbm, ⟨14, _⟩ => ⟨S1x4096x1024, .f32⟩
  | .hbm, ⟨15, _⟩ => ⟨S4096x1024, .f32⟩
  | .hbm, ⟨16, _⟩ => ⟨S1x1024x1024, .f32⟩
  | .hbm, ⟨17, _⟩ => ⟨S1024x1024, .f32⟩
  | .hbm, ⟨18, _⟩ => ⟨S4096x1024, .f32⟩
  | .hbm, ⟨19, _⟩ => ⟨S1x4096x1024, .f32⟩
  | .hbm, ⟨20, _⟩ => ⟨S1x4096x1024, .f32⟩
  | .hbm, ⟨21, _⟩ => ⟨S1x4096x1024, .f32⟩
  | .hbm, ⟨22, _⟩ => ⟨S3x4096x1024, .f32⟩
  | .hbm, ⟨23, _⟩ => ⟨S1x4096x1024, .f32⟩
  | .hbm, ⟨24, _⟩ => ⟨S4096x1024, .f32⟩
  | .hbm, ⟨25, _⟩ => ⟨S1x4096x1024, .f32⟩
  | .hbm, ⟨26, _⟩ => ⟨S4096x1024, .f32⟩
  | .hbm, ⟨27, _⟩ => ⟨S1x4096x1024, .f32⟩
  | .hbm, ⟨28, _⟩ => ⟨S4096x1024, .f32⟩
  | .hbm, ⟨29, _⟩ => ⟨S1024x1024, .f32⟩
  | .hbm, ⟨30, _⟩ => ⟨S1024x1024, .f32⟩
  | .hbm, ⟨31, _⟩ => ⟨S1x1024x1024, .f32⟩
  | .hbm, ⟨32, _⟩ => ⟨S_, .f32⟩
  | .hbm, ⟨33, _⟩ => ⟨S3x1024x1024, .f32⟩
  | .hbm, ⟨34, _⟩ => ⟨S1024x1024, .f32⟩
  | .hbm, ⟨35, _⟩ => ⟨S1024x1024, .f32⟩
  | .hbm, ⟨36, _⟩ => ⟨S1x1024x1024, .f32⟩
  | .hbm, ⟨37, _⟩ => ⟨S_, .f32⟩
  | .hbm, ⟨38, _⟩ => ⟨S3x1024x1024, .f32⟩
  | .hbm, ⟨39, _⟩ => ⟨S3x1024x1024, .f32⟩
  | .hbm, ⟨40, _⟩ => ⟨S1024x1024, .f32⟩
  | .hbm, ⟨41, _⟩ => ⟨S1024x1024, .f32⟩
  | .hbm, ⟨42, _⟩ => ⟨S1x1024x1024, .f32⟩
  | .hbm, ⟨43, _⟩ => ⟨S_, .f32⟩
  | .hbm, ⟨44, _⟩ => ⟨S3x1024x1024, .f32⟩
  | .hbm, ⟨45, _⟩ => ⟨S3x1024x1024, .f32⟩
  | .hbm, ⟨46, _⟩ => ⟨S3x4x256x1024, .f32⟩
  | .hbm, ⟨47, _⟩ => ⟨S4x3x256x1024, .f32⟩
  | .hbm, ⟨48, _⟩ => ⟨S4x3x256x1024, .bf16⟩
  | _, _ => ⟨S3x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst_0 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_2 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩

abbrev nD : Nat := 1
abbrev τ : Topo := Topo.v7x

variable {F : FTy → Type} [FloatOps F]
-- ==== WIn.lean ====
abbrev S4096x1024 : Shape := ⟨2, ![4096, 1024]⟩
abbrev S4096x10240 : Shape := ⟨2, ![4096, 10240]⟩
abbrev S4x1024x2560 : Shape := ⟨3, ![4, 1024, 2560]⟩
abbrev S1024x1024 : Shape := ⟨2, ![1024, 1024]⟩
abbrev S1024x2560 : Shape := ⟨2, ![1024, 2560]⟩
abbrev S1x1024x2560 : Shape := ⟨3, ![1, 1024, 2560]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x10240, .f32⟩
  | .hbm, ⟨2, _⟩ => ⟨S4096x1024, .bf16⟩
  | .hbm, ⟨3, _⟩ => ⟨S4096x10240, .bf16⟩
  | .hbm, ⟨4, _⟩ => ⟨S4x1024x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2560, .bf16⟩
  | .local _ .vmem, ⟨3, _⟩ => ⟨S1024x2560, .bf16⟩
  | .local _ .vmem, ⟨4, _⟩ => ⟨S1x1024x2560, .bf16⟩
  | .local _ .vmem, ⟨5, _⟩ => ⟨S1x1024x2560, .bf16⟩
  | .local _ .vmem, ⟨6, _⟩ => ⟨S1024x2560, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInRefIdeal.lean ====
abbrev S4096x1024 : Shape := ⟨2, ![4096, 1024]⟩
abbrev S4096x10240 : Shape := ⟨2, ![4096, 10240]⟩
abbrev S_ : Shape := ⟨0, ![]⟩
abbrev S1024x10240 : Shape := ⟨2, ![1024, 10240]⟩
abbrev S10240x1024 : Shape := ⟨2, ![10240, 1024]⟩
abbrev S1024x4x2560 : Shape := ⟨3, ![1024, 4, 2560]⟩
abbrev S4x1024x2560 : Shape := ⟨3, ![4, 1024, 2560]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x10240, .f32⟩
  | .hbm, ⟨2, _⟩ => ⟨S_, .f32⟩
  | .hbm, ⟨3, _⟩ => ⟨S1024x10240, .f32⟩
  | .hbm, ⟨4, _⟩ => ⟨S4096x10240, .f32⟩
  | .hbm, ⟨5, _⟩ => ⟨S10240x1024, .f32⟩
  | .hbm, ⟨6, _⟩ => ⟨S1024x10240, .f32⟩
  | .hbm, ⟨7, _⟩ => ⟨S1024x4x2560, .f32⟩
  | .hbm, ⟨8, _⟩ => ⟨S4x1024x2560, .f32⟩
  | .hbm, ⟨9, _⟩ => ⟨S4x1024x2560, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InFwd.lean ====
abbrev S4096x1024 : Shape := ⟨2, ![4096, 1024]⟩
abbrev S1x1024 : Shape := ⟨2, ![1, 1024]⟩
abbrev S1024x10240 : Shape := ⟨2, ![1024, 10240]⟩
abbrev S1024x4x2560 : Shape := ⟨3, ![1024, 4, 2560]⟩
abbrev S4x1024x2560 : Shape := ⟨3, ![4, 1024, 2560]⟩
abbrev S_ : Shape := ⟨0, ![]⟩
abbrev S8x128 : Shape := ⟨2, ![8, 128]⟩
abbrev S4096x10240 : Shape := ⟨2, ![4096, 10240]⟩
abbrev S1024x1024 : Shape := ⟨2, ![1024, 1024]⟩
abbrev S1x1024x2560 : Shape := ⟨3, ![1, 1024, 2560]⟩
abbrev S1024x2560 : Shape := ⟨2, ![1024, 2560]⟩
abbrev S1024 : Shape := ⟨1, ![1024]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x10240, .f32⟩
  | .hbm, ⟨3, _⟩ => ⟨S1024x4x2560, .f32⟩
  | .hbm, ⟨4, _⟩ => ⟨S4x1024x2560, .f32⟩
  | .hbm, ⟨5, _⟩ => ⟨S4x1024x2560, .bf16⟩
  | .hbm, ⟨6, _⟩ => ⟨S_, .f32⟩
  | .hbm, ⟨7, _⟩ => ⟨S8x128, .f32⟩
  | .hbm, ⟨8, _⟩ => ⟨S4096x1024, .bf16⟩
  | .hbm, ⟨9, _⟩ => ⟨S4096x10240, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2560, .bf16⟩
  | .local _ .vmem, ⟨4, _⟩ => ⟨S1x1024x2560, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2560, .bf16⟩
  | .local _ .vmem, ⟨8, _⟩ => ⟨S1024x2560, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== InFwdRefIdeal.lean ====
abbrev S4096x1024 : Shape := ⟨2, ![4096, 1024]⟩
abbrev S1x1024 : Shape := ⟨2, ![1, 1024]⟩
abbrev S1024x10240 : Shape := ⟨2, ![1024, 10240]⟩
abbrev S_ : Shape := ⟨0, ![]⟩
abbrev S4096 : Shape := ⟨1, ![4096]⟩
abbrev S4096x1 : Shape := ⟨2, ![4096, 1]⟩
abbrev S4096x10240 : Shape := ⟨2, ![4096, 10240]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x10240, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x10240, .f32⟩
  | .hbm, ⟨20, _⟩ => ⟨S4096x10240, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== FfnFwd.lean ====
abbrev S4096x1024 : Shape := ⟨2, ![4096, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 13
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S4096x1024, .bf16⟩
  | .hbm, ⟨9, _⟩ => ⟨S4096x1024, .bf16⟩
  | .hbm, ⟨10, _⟩ => ⟨S4096x4096, .bf16⟩
  | .hbm, ⟨11, _⟩ => ⟨S4096x1024, .bf16⟩
  | .hbm, ⟨12, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnFwdRefIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x1024, .f32⟩
  | .hbm, ⟨26, _⟩ => ⟨S4096x1024, .bf16⟩
  | .hbm, ⟨27, _⟩ => ⟨S4096x4096, .bf16⟩
  | .hbm, ⟨28, _⟩ => ⟨S4096x1024, .bf16⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== MixOutFwd.lean ====
abbrev S3x4096x1024 : Shape := ⟨3, ![3, 4096, 1024]⟩
abbrev S4096x10240 : Shape := ⟨2, ![4096, 10240]⟩
abbrev S4096x1024 : Shape := ⟨2, ![4096, 1024]⟩
abbrev S3x1024x1024 : Shape := ⟨3, ![3, 1024, 1024]⟩
abbrev S1024x1024 : Shape := ⟨2, ![1024, 1024]⟩
abbrev S1x1024 : Shape := ⟨2, ![1, 1024]⟩
abbrev S3x4x256x1024 : Shape := ⟨4, ![3, 4, 256, 1024]⟩
abbrev S4x3x256x1024 : Shape := ⟨4, ![4, 3, 256, 1024]⟩
abbrev S1x4096x1024 : Shape := ⟨3, ![1, 4096, 1024]⟩
abbrev S_ : Shape := ⟨0, ![]⟩
abbrev S8x128 : Shape := ⟨2, ![8, 128]⟩
abbrev S512x1024 : Shape := ⟨2, ![512, 1024]⟩
abbrev S3x512x1024 : Shape := ⟨3, ![3, 512, 1024]⟩
abbrev S512x256 : Shape := ⟨2, ![512, 256]⟩
abbrev S1x1x256x1024 : Shape := ⟨4, ![1, 1, 256, 1024]⟩
abbrev S256x1024 : Shape := ⟨2, ![256, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 24
  | .vmem => 25
  | .smem => 0
  | _ => 0

abbrev bufTy : (tb : Table) → Fin (tcTables nBuf tb) → BufTy
  | .hbm, ⟨0, _⟩ => ⟨S3x4096x1024, .f32⟩
  | .hbm, ⟨1, _⟩ => ⟨S4096x10240, .f32⟩
  | .hbm, ⟨2, _⟩ => ⟨S4096x1024, .f32⟩
  | .hbm, ⟨3, _⟩ => ⟨S3x1024x1024, .f32⟩
  | .hbm, ⟨4, _⟩ => ⟨S1024x1024, .f32⟩
  | .hbm, ⟨5, _⟩ => ⟨S1x1024, .f32⟩
  | .hbm, ⟨6, _⟩ => ⟨S3x4096x1024, .bf16⟩
  | .hbm, ⟨7, _⟩ => ⟨S3x4x256x1024, .f32⟩
  | .hbm, ⟨8, _⟩ => ⟨S4x3x256x1024, .f32⟩
  | .hbm, ⟨9, _⟩ => ⟨S1x4096x1024, .bf16⟩
  | .hbm, ⟨10, _⟩ => ⟨S4096x1024, .bf16⟩
  | .hbm, ⟨11, _⟩ => ⟨S1x4096x1024, .bf16⟩
  | .hbm, ⟨12, _⟩ => ⟨S4096x1024, .bf16⟩
  | .hbm, ⟨13, _⟩ => ⟨S1x4096x1024, .bf16⟩
  | .hbm, ⟨14, _⟩ => ⟨S4096x1024, .bf16⟩
  | .hbm, ⟨15, _⟩ => ⟨S4096x10240, .bf16⟩
  | .hbm, ⟨16, _⟩ => ⟨S4x3x256x1024, .bf16⟩
  | .hbm, ⟨17, _⟩ => ⟨S1024x1024, .bf16⟩
  | .hbm, ⟨18, _⟩ => ⟨S_, .f32⟩
  | .hbm, ⟨19, _⟩ => ⟨S8x128, .f32⟩
  | .hbm, ⟨20, _⟩ => ⟨S3x4096x1024, .bf16⟩
  | .hbm, ⟨21, _⟩ => ⟨S4096x1024, .bf16⟩
  | .hbm, ⟨22, _⟩ => ⟨S4096x1024, .bf16⟩
  | .hbm, ⟨23, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S4x3x256x1024, .bf16⟩
  | .local _ .vmem, ⟨15, _⟩ => ⟨S1024x1024, .bf16⟩
  | .local _ .vmem, ⟨16, _⟩ => ⟨S1x1024, .f32⟩
  | .local _ .vmem, ⟨17, _⟩ => ⟨S3x512x1024, .bf16⟩
  | .local _ .vmem, ⟨18, _⟩ => ⟨S3x512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | _, _ => ⟨S3x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x3x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixOutFwdRefIdeal.lean ====
abbrev S3x4096x1024 : Shape := ⟨3, ![3, 4096, 1024]⟩
abbrev S4096x10240 : Shape := ⟨2, ![4096, 10240]⟩
abbrev S4096x1024 : Shape := ⟨2, ![4096, 1024]⟩
abbrev S3x1024x1024 : Shape := ⟨3, ![3, 1024, 1024]⟩
abbrev S1024x1024 : Shape := ⟨2, ![1024, 1024]⟩
abbrev S1x1024 : Shape := ⟨2, ![1, 1024]⟩
abbrev S1x4096x1024 : Shape := ⟨3, ![1, 4096, 1024]⟩
abbrev S1x1024x1024 : Shape := ⟨3, ![1, 1024, 1024]⟩
abbrev S_ : Shape := ⟨0, ![]⟩
abbrev S4096 : Shape := ⟨1, ![4096]⟩
abbrev S4096x1 : Shape := ⟨2, ![4096, 1]⟩

abbrev nBuf : Space → Nat
  | .hbm => 83
  | .vmem => 0
  | .smem => 0
  | _ => 0

abbrev bufTy : (tb : Table) → Fin (tcTables nBuf tb) → BufTy
  | .hbm, ⟨0, _⟩ => ⟨S3x4096x1024, .f32⟩
  | .hbm, ⟨1, _⟩ => ⟨S4096x10240, .f32⟩
  | .hbm, ⟨2, _⟩ => ⟨S4096x1024, .f32⟩
  | .hbm, ⟨3, _⟩ => ⟨S3x1024x1024, .f32⟩
  | .hbm, ⟨4, _⟩ => ⟨S1024x1024, .f32⟩
  | .hbm, ⟨5, _⟩ => ⟨S1x1024, .f32⟩
  | .hbm, ⟨6, _⟩ => ⟨S1x4096x1024, .f32⟩
  | .hbm, ⟨7, _⟩ => ⟨S4096x1024, .f32⟩
  | .hbm, ⟨8, _⟩ => ⟨S1x1024x1024, .f32⟩
  | .hbm, ⟨9, _⟩ => ⟨S1024x1024, .f32⟩
  | .hbm, ⟨10, _⟩ => ⟨S4096x1024, .f32⟩
  | .hbm, ⟨11, _⟩ => ⟨S1x4096x1024, .f32⟩
  | .hbm, ⟨12, _⟩ => ⟨S4096x1024, .f32⟩
  | .hbm, ⟨13, _⟩ => ⟨S1x1024x1024, .f32⟩
  | .hbm, ⟨14, _⟩ => ⟨S1024x1024, .f32⟩
  | .hbm, ⟨15, _⟩ => ⟨S4096x1024, .f32⟩
  | .hbm, ⟨16, _⟩ => ⟨S1x4096x1024, .f32⟩
  | .hbm, ⟨17, _⟩ => ⟨S4096x1024, .f32⟩
  | .hbm, ⟨18, _⟩ => ⟨S1x1024x1024, .f32⟩
  | .hbm, ⟨19, _⟩ => ⟨S1024x1024, .f32⟩
  | .hbm, ⟨20, _⟩ => ⟨S4096x1024, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S3x4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S1x4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S1x4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S1x4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S3x4096x1024, .bf16⟩
  | .hbm, ⟨65, _⟩ => ⟨S4096x1024, .bf16⟩
  | .hbm, ⟨66, _⟩ => ⟨S4096x1024, .bf16⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | _, _ => ⟨S3x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_5 : Ref sig .tc := ⟨.hbm, 68, rfl⟩
abbrev main_v56 : Ref sig .tc := ⟨.hbm, 69, rfl⟩
abbrev main_v57 : Ref sig .tc := ⟨.hbm, 70, rfl⟩
abbrev main_cst_6 : Ref sig .tc := ⟨.hbm, 71, rfl⟩
abbrev main_v58 : Ref sig .tc := ⟨.hbm, 72, rfl⟩
abbrev main_v59 : Ref sig .tc := ⟨.hbm, 73, rfl⟩
abbrev main_cst_7 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩

abbrev nD : Nat := 1
abbrev τ : Topo := Topo.v7x

variable {F : FTy → Type} [FloatOps F]
-- ==== LossHead.lean ====
abbrev S4096x1024 : Shape := ⟨2, ![4096, 1024]⟩
abbrev S1x128 : Shape := ⟨2, ![1, 128]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRefIdeal.lean ====
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.MixOut.Points.lean ====
/- The schedule of the gradient of the merge (`mix_out_bwd`): its points, the conditions its body branches on, the
   points at which an output window is written or left alone, and the buffers the body is called on. -/
module

public import proofs.«01_k».proof.Proof.Gen.KernelIdeal.Frame
public import proofs.«01_k».proof.Proof.Gen.KernelIdeal.Skeleton
public import Idealize.ShloMosaic.Lib.Pipeline.Value
public import Idealize.ShloMosaic.Lib.Pipeline.TableIdle
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- There are 24 points: eight blocks of tokens, three branches each. -/
theorem pt_lt (t : Fin cfg0.N) : t.val < 24 := Nat.lt_of_lt_of_eq t.isLt N_0

/-- The block of tokens of a point. -/
theorem row_of (t : Fin cfg0.N) : (grid0.coords t 0).val = t.val / 3 := by
  have e : (grid0.coords t 0).val = t.val / 3 % 8 := Pipeline.Grid.coords_val t 0 (by decide) rfl
  have := pt_lt t
  omega

/-- The branch of a point. -/
theorem branch_of (t : Fin cfg0.N) : (grid0.coords t 1).val = t.val % 3 := by
  have e : (grid0.coords t 1).val = t.val / 1 % 3 := Pipeline.Grid.coords_val t 1 (by decide) rfl
  omega

/-- The body's first condition holds at the first point only. -/
theorem first_iff (t : Fin cfg0.N) : k0_cond1 (grid0.coords t) = 1#1 ↔ t.val = 0 := by
  have ht := pt_lt t
  have e0 := row_of t
  have e1 := branch_of t
  rw [show t.val = 0 ↔ t.val / 3 = 0 ∧ t.val % 3 = 0 by omega]
  have h3 : t.val / 3 < 8 := by omega
  have h4 : t.val % 3 < 3 := by omega
  simp only [k0_cond1, e0, e1]
  generalize t.val / 3 = a at *
  generalize t.val % 3 = b at *
  word_cmp

/-- The body's second condition holds at the first branch of each block of tokens. -/
theorem fresh_iff (t : Fin cfg0.N) : k0_cond2 (grid0.coords t) = 1#1 ↔ t.val % 3 = 0 := by
  have e1 := branch_of t
  have h4 : t.val % 3 < 3 := by omega
  simp only [k0_cond2, e1]
  generalize t.val % 3 = b at *
  word_cmp

end Cert.KernelIdeal.Gen

end
-- ==== Proof.MixOut.RunRest.lean ====
module

public import proofs.«01_k».proof.Proof.MixOut.Points
public import Idealize.ShloMosaic.Lib.WritesUnit
public import Idealize.ShloMosaic.Lib.WholeRead
public import Idealize.ShloMosaic.Lib.ValueIdxCore

@[expose] public section

set_option maxRecDepth 16384

noncomputable section

namespace Cert.KernelIdeal.Gen

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The rows of a block of the branch weights that one chunk of columns reads: chunk `k`, branch `b`. -/
def chunkRows (x6 : Vec F S4x3x256x1024 .bf16) (b : Fin 3) (k : Fin 4) : Vec F S1x1x256x1024 .bf16 :=
  fun y => x6 (ix4 k b (y 2) (y 3))

/-- A column of a chunk. -/
def inChunk (y : S1x512x1024.Idx) : S1x512x256.Idx :=
  ix3 0 (y 1) ⟨(y 2).val % 256, Nat.mod_lt _ (by decide)⟩

/-- The gradient of a branch's input, over one block of tokens: four chunks of 256 columns side by side. -/
def dyOf (x5 : Vec F S512x1024 .bf16) (x6 : Vec F S4x3x256x1024 .bf16) (b : Fin 3) (s : Vec F S512x1024 .f32) :
    Vec F S1x512x1024 .bf16 :=
  fun y => k0_pay14 (k0_pay11 x5 s) (chunkRows x6 b ⟨(y 2).val / 256, Nat.div_lt_of_lt_mul (y 2).isLt⟩) (inChunk y)

/-- At column `x` of chunk `k` the gradient of the branch's input is the chunk's product there. -/
theorem dyOf_at (x5 : Vec F S512x1024 .bf16) (x6 : Vec F S4x3x256x1024 .bf16) (b : Fin 3) (s : Vec F S512x1024 .f32)
    (k : Fin 4) (x : S1x512x256.Idx) (y : S1x512x1024.Idx) (h1 : (y 1).val = (x 1).val) (h2 : (y 2).val = 256 * k.val + (x 2).val) :
    dyOf x5 x6 b s y = k0_pay14 (k0_pay11 x5 s) (chunkRows x6 b k) x := by
  have hx2 : (x 2).val < 256 := (x 2).isLt
  have ek : (⟨(y 2).val / 256, Nat.div_lt_of_lt_mul (y 2).isLt⟩ : Fin 4) = k := Fin.ext (by simp only; omega)
  have ex : inChunk y = x := by
    rw [eq_ix3 x]
    have e0 : x 0 = (0 : Fin 1) := Subsingleton.elim (α := Fin 1) _ _
    have e1 : y 1 = x 1 := Fin.ext h1
    have e2 : (⟨(y 2).val % 256, Nat.mod_lt _ (by decide)⟩ : Fin 256) = x 2 := Fin.ext (by simp only; omega)
    unfold inChunk
    rw [e0, e1, e2]
    rfl
  unfold dyOf
  rw [ek, ex]

/-- A block filled by four stores of 256 columns each reads, whatever it held before, as the one function the four
    stores agree with. -/
theorem read_four {κ : Kind} {sp : Space} (v : View sig κ sp S1x512x1024 .bf16) (f : v.ty.Contents (Elt F)) (G : Vec F S1x512x1024 .bf16)
    (w0 w1 w2 w3 : Vec F S1x512x256 .bf16)
    (h0 : ∀ x y, (y 1).val = (x 1).val → (y 2).val = 256 * 0 + (x 2).val → G y = w0 x)
    (h1 : ∀ x y, (y 1).val = (x 1).val → (y 2).val = 256 * 1 + (x 2).val → G y = w1 x)
    (h2 : ∀ x y, (y 1).val = (x 1).val → (y 2).val = 256 * 2 + (x 2).val → G y = w2 x)
    (h3 : ∀ x y, (y 1).val = (x 1).val → (y 2).val = 256 * 3 + (x 2).val → G y = w3 x) :
    v.read (Elt F) (v.writes (Elt F) f
      [⟨Rect.unit ![0, 0, 768] ![1, 512, 256] inb_S1x512x1024_S1x512x256_0_0_768, w3⟩,
       ⟨Rect.unit ![0, 0, 512] S1x512x256.size inb_S1x512x1024_S1x512x256_0_0_512, w2⟩,
       ⟨Rect.unit ![0, 0, 256] S1x512x256.size inb_S1x512x1024_S1x512x256_0_0_256, w1⟩,
       ⟨Rect.unit ![0, 0, 0] S1x512x256.size inb_S1x512x1024_S1x512x256_0_0_0, w0⟩]) = G := by
  funext y
  have hy1 : (y 1).val < 512 := (y 1).isLt
  have hy2 : (y 2).val < 1024 := (y 2).isLt
  refine View.read_writes_apply_of_pieces v f G _ ?_ y ?_
  · intro p hp
    simp only [List.mem_cons, List.not_mem_nil, or_false] at hp
    rcases hp with rfl | rfl | rfl | rfl <;> intro x
    · exact (h3 x _ (by show 0 + 1 * _ = _; omega) (by show 768 + 1 * _ = _; omega)).symm
    · exact (h2 x _ (by show 0 + 1 * _ = _; omega) (by show 512 + 1 * _ = _; omega)).symm
    · exact (h1 x _ (by show 0 + 1 * _ = _; omega) (by show 256 + 1 * _ = _; omega)).symm
    · exact (h0 x _ (by show 0 + 1 * _ = _; omega) (by show 0 + 1 * _ = _; omega)).symm
  · have mem (o : ℕ) (inb) (ho : o ≤ (y 2).val) (ho' : (y 2).val < o + 256) :
        y ∈ (Rect.unit (s := S1x512x1024) ![0, 0, o] S1x512x256.size inb).set := by
      refine Rect.mem_set_unit.mpr fun a => ?_
      match a with
      | ⟨0, _⟩ => have : (y 0).val < 1 := (y 0).isLt; exact ⟨Nat.zero_le _, by show (y 0).val < 0 + 1; omega⟩
      | ⟨1, _⟩ => exact ⟨Nat.zero_le _, by show (y 1).val < 0 + 512; omega⟩
      | ⟨2, _⟩ => exact ⟨ho, ho'⟩
    rcases Nat.lt_or_ge (y 2).val 256 with h | h
    · exact ⟨_, List.mem_cons_of_mem _ (List.mem_cons_of_mem _ (List.mem_cons_of_mem _ (List.mem_cons_self ..))), mem 0 inb_S1x512x1024_S1x512x256_0_0_0 (by omega) (by omega)⟩
    rcases Nat.lt_or_ge (y 2).val 512 with h' | h'
    · exact ⟨_, List.mem_cons_of_mem _ (List.mem_cons_of_mem _ (List.mem_cons_self ..)), mem 256 inb_S1x512x1024_S1x512x256_0_0_256 (by omega) (by omega)⟩
    rcases Nat.lt_or_ge (y 2).val 768 with h'' | h''
    · exact ⟨_, List.mem_cons_of_mem _ (List.mem_cons_self ..), mem 512 inb_S1x512x1024_S1x512x256_0_0_512 (by omega) (by omega)⟩
    · exact ⟨_, List.mem_cons_self .., mem 768 inb_S1x512x1024_S1x512x256_0_0_768 (by omega) (by omega)⟩

/-- A load of the rows of chunk `k` and branch `b` from the block of the branch weights. -/
theorem readAt_chunk {κ : Kind} {sp : Space} {arg8 : Memref sig κ sp S4x3x256x1024 .bf16} (harg8 : arg8.IsWhole) (x6 : Vec F S4x3x256x1024 .bf16)
    (b : Fin 3) (k : Fin 4) (off : Fin 4 → ℕ) (inb : ∀ a, off a + S1x1x256x1024.size a ≤ S4x3x256x1024.size a)
    (ho : off = ![k.val, b.val, 0, 0]) :
    View.readAt (Elt F) arg8.view (Rect.unit (s := S4x3x256x1024) off S1x1x256x1024.size inb).toLoadRect (harg8.unread x6) = chunkRows x6 b k := by
  subst ho
  funext y
  rw [harg8.readAt_unread]
  refine congrArg x6 (funext fun a => Fin.ext ?_)
  match a with
  | ⟨0, _⟩ => have : (y 0).val < 1 := (y 0).isLt; show k.val + 1 * (y 0).val = k.val; omega
  | ⟨1, _⟩ => have : (y 1).val < 1 := (y 1).isLt; show b.val + 1 * (y 1).val = b.val; omega
  | ⟨2, _⟩ => show 0 + 1 * (y 2).val = (y 2).val; omega
  | ⟨3, _⟩ => show 0 + 1 * (y 3).val = (y 3).val; omega

/-- A load of a whole buffer reads the values it was given. -/
theorem readAt_all {κ : Kind} {sp : Space} {s : Shape} {e : EltTy} {arg : Memref sig κ sp s e} (h : arg.IsWhole) (x : s.Idx → Elt F e)
    {off : Fin s.rank → ℕ} (inb : ∀ a, off a + s.size a ≤ s.size a) :
    View.readAt (Elt F) arg.view (Rect.unit (s := s) off s.size inb).toLoadRect (h.unread x) = x := by
  rw [View.readAt_full, h.read_unread]

set_option maxHeartbeats 1000000 in
/-- At a point that is not the first of its block of tokens: from the gradient `s` of the merged activations held in
    the scratch buffer the body leaves the gradients of the gated branch, of the branch's input and of the gate. -/
theorem run_rest (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S512x1024 .bf16) (harg7 : arg7.IsWhole) (arg8 : Memref sig .tc .vmem S4x3x256x1024 .bf16) (harg8 : arg8.IsWhole) (arg10 : Memref sig .tc .vmem S512x1024 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S512x1024 .f32) (harg15 : arg15.IsWhole)
    (hc0 : ¬ k0_cond1 i = 1#1) (hc1 : ¬ k0_cond2 i = 1#1)
    (x4 : Vec F S1x512x1024 .bf16) (x5 : Vec F S512x1024 .bf16) (x6 : Vec F S4x3x256x1024 .bf16) (s : Vec F S512x1024 .f32) :
    ∀ (E : Set ℕ) (K : PUnit → sProp 𝕄),
      iprop(owns (c : Thread nD τ) arg6 fullShare x4 ∗ owns (c : Thread nD τ) arg7 fullShare x5 ∗ owns (c : Thread nD τ) arg8 fullShare x6
          ∗ (∃ d, owns (c : Thread nD τ) arg11 fullShare d) ∗ (∃ d, owns (c : Thread nD τ) arg12 fullShare d) ∗ (∃ d, owns (c : Thread nD τ) arg13 fullShare d)
          ∗ owns (c : Thread nD τ) arg15 fullShare s
          ∗ (iprop(owns (c : Thread nD τ) arg6 fullShare x4 ∗ owns (c : Thread nD τ) arg7 fullShare x5 ∗ owns (c : Thread nD τ) arg8 fullShare x6
              ∗ owns (c : Thread nD τ) arg11 fullShare (k0_pay12 x5 s) ∗ owns (c : Thread nD τ) arg12 fullShare (dyOf x5 x6 (i 1) s)
              ∗ owns (c : Thread nD τ) arg13 fullShare (k0_pay13 x5 s x4) ∗ owns (c : Thread nD τ) arg15 fullShare s) -∗ K ⟨⟩))
        ⊢ wp frame (wpE (defs₀ (F := F)) Variants.none c none) E (cc0_mix_out_bwd i arg2 harg2 arg3 harg3 arg4 harg4 arg5 harg5 arg6 harg6 arg7 harg7 arg8 harg8 (Memref.whole main_v59) (Memref.isWhole_whole _) arg10 harg10 arg11 harg11 arg12 harg12 arg13 harg13 arg14 harg14 arg15 harg15) K := by
  intro E K
  simp only [cc0_mix_out_bwd_eq_skeleton]; unfold cc0_mix_out_bwd_skel
  simp only [k0_part2_eq_skeleton, k0_part3_eq_skeleton]
  unfold owns
  iintro ⟨⟨%f4, %hf4, H4⟩, ⟨%f5, %hf5, H5⟩, ⟨%f6, %hf6, H6⟩, ⟨%d8, %f8, -, H8⟩, ⟨%d9, %f9, -, H9⟩, ⟨%d10, %f10, -, H10⟩, ⟨%fs0, %hs, HS0⟩, Hk⟩
  obtain rfl := harg6.eq_unread hf4; obtain rfl := harg7.eq_unread hf5; obtain rfl := harg8.eq_unread hf6; obtain rfl := harg15.eq_unread hs
  sl_exec (disch := first | sl_exact hc0 | sl_exact hc1)
  sl_step
  iapply Hk
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H8]
  · iexists _; isplitr; swap; · iexact H8
    ipureintro
    rw [View.read_writes_full, readAt_all, readAt_all]
  isplitl [H9]
  · iexists _; isplitr; swap; · iexact H9
    ipureintro
    refine read_four _ _ _ _ _ _ _ ?_ ?_ ?_ ?_ <;> intro x y h1 h2
    · rw [dyOf_at x5 x6 (i 1) s 0 x y h1 h2]; delta run_rest.sl.r; rw [readAt_all, readAt_all, readAt_chunk harg8 x6 (i 1) 0 _ _ (k0_off1_eq i)]
    · rw [dyOf_at x5 x6 (i 1) s 1 x y h1 h2]; delta run_rest.sl.r; rw [readAt_all, readAt_all, readAt_chunk harg8 x6 (i 1) 1 _ _ (k0_off2_eq i)]
      rfl
    · rw [dyOf_at x5 x6 (i 1) s 2 x y h1 h2]; delta run_rest.sl.r; rw [readAt_all, readAt_all, readAt_chunk harg8 x6 (i 1) 2 _ _ (k0_off3_eq i)]
      rfl
    · rw [dyOf_at x5 x6 (i 1) s 3 x y h1 h2]; delta run_rest.sl.r_2 run_rest.sl.r; rw [readAt_all, readAt_all, readAt_chunk harg8 x6 (i 1) 3 _ _ (k0_off4_eq i)]
      rfl
  isplitl [H10]
  · iexists _; isplitr; swap; · iexact H10
    ipureintro
    rw [View.read_writes_full]; delta run_rest.sl.r_1; rw [readAt_all, readAt_all, readAt_all]
  iexists _; isplitr; · ipureintro; exact harg15.read_unread _
  iexact HS0

end Cert.KernelIdeal.Gen

end
-- ==== Proof.MixOut.RunFresh.lean ====
module

public import proofs.«01_k».proof.Proof.MixOut.RunRest

@[expose] public section

set_option maxRecDepth 16384

noncomputable section

namespace Cert.KernelIdeal.Gen

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The gradient of the merged activations over one block of tokens, from the block's rows: the gradient through the
    normalisation, times the transpose of the output projection. -/
def mergedGrad (x0 : Vec F S512x1024 .f32) (x1 : Vec F S512x1024 .bf16) (x2 : Vec F S1x1024 .f32) (x3 : Vec F S1024x1024 .bf16) :
    Vec F S512x1024 .f32 :=
  k0_pay9 (k0_pay6 x0 x1 x2) (k0_pay7 x3)

set_option maxHeartbeats 1600000 in
/-- At the first branch of a block of tokens other than the first: the body works out the gradient through the
    normalisation and the gradient of the merged activations, adds the block's part of the gradient of the gain to
    what the earlier blocks gave (`acc`), and goes on as at the other branches. -/
theorem run_fresh (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S512x1024 .bf16) (harg7 : arg7.IsWhole) (arg8 : Memref sig .tc .vmem S4x3x256x1024 .bf16) (harg8 : arg8.IsWhole) (arg10 : Memref sig .tc .vmem S512x1024 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S512x1024 .f32) (harg15 : arg15.IsWhole)
    (hc0 : ¬ k0_cond1 i = 1#1) (hc1 : k0_cond2 i = 1#1)
    (x0 : Vec F S512x1024 .f32) (x1 : Vec F S512x1024 .bf16) (x2 : Vec F S1x1024 .f32) (x3 : Vec F S1024x1024 .bf16)
    (x4 : Vec F S1x512x1024 .bf16) (x5 : Vec F S512x1024 .bf16) (x6 : Vec F S4x3x256x1024 .bf16) (acc : Vec F S1x1024 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare acc ∗ (∃ d, owns (c : Thread nD τ) arg15 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ owns (c : Thread nD τ) arg10 fullShare (k0_pay6 x0 x1 x2) ∗ owns (c : Thread nD τ) arg11 fullShare (k0_pay12 x5 (mergedGrad x0 x1 x2 x3))
              ∗ owns (c : Thread nD τ) arg12 fullShare (dyOf x5 x6 (i 1) (mergedGrad x0 x1 x2 x3)) ∗ owns (c : Thread nD τ) arg13 fullShare (k0_pay13 x5 (mergedGrad x0 x1 x2 x3) x4)
              ∗ owns (c : Thread nD τ) arg14 fullShare (k0_pay5 x0 x1 acc) ∗ owns (c : Thread nD τ) arg15 fullShare (mergedGrad x0 x1 x2 x3)) -∗ K ⟨⟩))
        ⊢ wp frame (wpE (defs₀ (F := F)) Variants.none c none) E (cc0_mix_out_bwd i arg2 harg2 arg3 harg3 arg4 harg4 arg5 harg5 arg6 harg6 arg7 harg7 arg8 harg8 (Memref.whole main_v59) (Memref.isWhole_whole _) arg10 harg10 arg11 harg11 arg12 harg12 arg13 harg13 arg14 harg14 arg15 harg15) K := by
  intro E K
  simp only [cc0_mix_out_bwd_eq_skeleton]; unfold cc0_mix_out_bwd_skel
  simp only [k0_part2_eq_skeleton, k0_part1_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg14.eq_unread hf11
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    rw [View.read_writes_full, readAt_all, readAt_all, readAt_all]
  isplitl [H8]
  · iexists _; isplitr; swap; · iexact H8
    ipureintro
    delta run_fresh.sl.v18; delta run_fresh.sl.HS0_1; delta run_fresh.sl.r run_fresh.sl.r_1; rw [View.readCov_full, View.read_writes_full, readAt_all, readAt_all, readAt_all, readAt_all, readAt_all]; rfl
  isplitl [H9]
  · iexists _; isplitr; swap; · iexact H9
    ipureintro
    refine read_four _ _ _ _ _ _ _ ?_ ?_ ?_ ?_ <;> intro x y h1 h2
    · rw [dyOf_at x5 x6 (i 1) _ 0 x y h1 h2]; delta run_fresh.sl.r_2; delta run_fresh.sl.v18; delta run_fresh.sl.HS0_1; delta run_fresh.sl.r run_fresh.sl.r_1; rw [View.readCov_full, readAt_all, readAt_all, readAt_all, readAt_all, readAt_all, readAt_chunk harg8 x6 (i 1) 0 _ _ (k0_off1_eq i)]; rfl
    · rw [dyOf_at x5 x6 (i 1) _ 1 x y h1 h2]; delta run_fresh.sl.r_2; delta run_fresh.sl.v18; delta run_fresh.sl.HS0_1; delta run_fresh.sl.r run_fresh.sl.r_1; rw [View.readCov_full, readAt_all, readAt_all, readAt_all, readAt_all, readAt_all, readAt_chunk harg8 x6 (i 1) 1 _ _ (k0_off2_eq i)]; rfl
    · rw [dyOf_at x5 x6 (i 1) _ 2 x y h1 h2]; delta run_fresh.sl.r_2; delta run_fresh.sl.v18; delta run_fresh.sl.HS0_1; delta run_fresh.sl.r run_fresh.sl.r_1; rw [View.readCov_full, readAt_all, readAt_all, readAt_all, readAt_all, readAt_all, readAt_chunk harg8 x6 (i 1) 2 _ _ (k0_off3_eq i)]; rfl
    · rw [dyOf_at x5 x6 (i 1) _ 3 x y h1 h2]; delta run_fresh.sl.r_4; delta run_fresh.sl.r_2; delta run_fresh.sl.v18; delta run_fresh.sl.HS0_1; delta run_fresh.sl.r run_fresh.sl.r_1; rw [View.readCov_full, readAt_all, readAt_all, readAt_all, readAt_all, readAt_all, readAt_chunk harg8 x6 (i 1) 3 _ _ (k0_off4_eq i)]; rfl
  isplitl [H10]
  · iexists _; isplitr; swap; · iexact H10
    ipureintro
    delta run_fresh.sl.r_3; delta run_fresh.sl.v18; delta run_fresh.sl.HS0_1; delta run_fresh.sl.r run_fresh.sl.r_1; rw [View.readCov_full, View.read_writes_full, readAt_all, readAt_all, readAt_all, readAt_all, readAt_all, readAt_all]; rfl
  isplitl [H11]
  · iexists _; isplitr; swap; · iexact H11
    ipureintro
    rw [View.read_writes_full, readAt_all, readAt_all, readAt_all]
  iexists _; isplitr; swap; · iexact HS0
  ipureintro
  delta run_fresh.sl.HS0_1; delta run_fresh.sl.r run_fresh.sl.r_1; rw [View.read_writes_full, readAt_all, readAt_all, readAt_all, readAt_all]; rfl

end Cert.KernelIdeal.Gen

end
-- ==== Proof.MixOut.RunFirst.lean ====
module

public import proofs.«01_k».proof.Proof.MixOut.RunFresh

@[expose] public section

set_option maxRecDepth 16384

noncomputable section

namespace Cert.KernelIdeal.Gen

open Idealize.ShloMosaic Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- At the first point: as at the first branch of any block of tokens, the gradient of the gain starting from zero. -/
theorem run_first (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x512x1024 .bf16) (harg6 : arg6.IsWhole) (arg7 : Memref sig .tc .vmem S512x1024 .bf16) (harg7 : arg7.IsWhole) (arg8 : Memref sig .tc .vmem S4x3x256x1024 .bf16) (harg8 : arg8.IsWhole) (arg10 : Memref sig .tc .vmem S512x1024 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S512x1024 .bf16) (harg13 : arg13.IsWhole) (arg14 : Memref sig .tc .vmem S1x1024 .f32) (harg14 : arg14.IsWhole) (arg15 : Memref sig .tc .vmem S512x1024 .f32) (harg15 : arg15.IsWhole)
    (hc0 : k0_cond1 i = 1#1) (hc1 : k0_cond2 i = 1#1)
    (x0 : Vec F S512x1024 .f32) (x1 : Vec F S512x1024 .bf16) (x2 : Vec F S1x1024 .f32) (x3 : Vec F S1024x1024 .bf16)
    (x4 : Vec F S1x512x1024 .bf16) (x5 : Vec F S512x1024 .bf16) (x6 : Vec F S4x3x256x1024 .bf16) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ owns (c : Thread nD τ) arg10 fullShare (k0_pay6 x0 x1 x2) ∗ owns (c : Thread nD τ) arg11 fullShare (k0_pay12 x5 (mergedGrad x0 x1 x2 x3))
              ∗ owns (c : Thread nD τ) arg12 fullShare (dyOf x5 x6 (i 1) (mergedGrad x0 x1 x2 x3)) ∗ owns (c : Thread nD τ) arg13 fullShare (k0_pay13 x5 (mergedGrad x0 x1 x2 x3) x4)
              ∗ owns (c : Thread nD τ) arg14 fullShare (k0_pay5 x0 x1 k0_pay8) ∗ owns (c : Thread nD τ) arg15 fullShare (mergedGrad x0 x1 x2 x3)) -∗ K ⟨⟩))
        ⊢ wp frame (wpE (defs₀ (F := F)) Variants.none c none) E (cc0_mix_out_bwd i arg2 harg2 arg3 harg3 arg4 harg4 arg5 harg5 arg6 harg6 arg7 harg7 arg8 harg8 (Memref.whole main_v59) (Memref.isWhole_whole _) arg10 harg10 arg11 harg11 arg12 harg12 arg13 harg13 arg14 harg14 arg15 harg15) K := by
  intro E K
  simp only [cc0_mix_out_bwd_eq_skeleton]; unfold cc0_mix_out_bwd_skel
  simp only [k0_part2_eq_skeleton, k0_part1_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    rw [View.read_writes_full, readAt_all, readAt_all, readAt_all]
  isplitl [H8]
  · iexists _; isplitr; swap; · iexact H8
    ipureintro
    delta run_first.sl.v18; delta run_first.sl.HS0_1; delta run_first.sl.r run_first.sl.r_1; rw [View.readCov_full, View.read_writes_full, readAt_all, readAt_all, readAt_all, readAt_all, readAt_all]; rfl
  isplitl [H9]
  · iexists _; isplitr; swap; · iexact H9
    ipureintro
    refine read_four _ _ _ _ _ _ _ ?_ ?_ ?_ ?_ <;> intro x y h1 h2
    · rw [dyOf_at x5 x6 (i 1) _ 0 x y h1 h2]; delta run_first.sl.r_2; delta run_first.sl.v18; delta run_first.sl.HS0_1; delta run_first.sl.r run_first.sl.r_1; rw [View.readCov_full, readAt_all, readAt_all, readAt_all, readAt_all, readAt_all, readAt_chunk harg8 x6 (i 1) 0 _ _ (k0_off1_eq i)]; rfl
    · rw [dyOf_at x5 x6 (i 1) _ 1 x y h1 h2]; delta run_first.sl.r_2; delta run_first.sl.v18; delta run_first.sl.HS0_1; delta run_first.sl.r run_first.sl.r_1; rw [View.readCov_full, readAt_all, readAt_all, readAt_all, readAt_all, readAt_all, readAt_chunk harg8 x6 (i 1) 1 _ _ (k0_off2_eq i)]; rfl
    · rw [dyOf_at x5 x6 (i 1) _ 2 x y h1 h2]; delta run_first.sl.r_2; delta run_first.sl.v18; delta run_first.sl.HS0_1; delta run_first.sl.r run_first.sl.r_1; rw [View.readCov_full, readAt_all, readAt_all, readAt_all, readAt_all, readAt_all, readAt_chunk harg8 x6 (i 1) 2 _ _ (k0_off3_eq i)]; rfl
    · rw [dyOf_at x5 x6 (i 1) _ 3 x y h1 h2]; delta run_first.sl.r_4; delta run_first.sl.r_2; delta run_first.sl.v18; delta run_first.sl.HS0_1; delta run_first.sl.r run_first.sl.r_1; rw [View.readCov_full, readAt_all, readAt_all, readAt_all, readAt_all, readAt_all, readAt_chunk harg8 x6 (i 1) 3 _ _ (k0_off4_eq i)]; rfl
  isplitl [H10]
  · iexists _; isplitr; swap; · iexact H10
    ipureintro
    delta run_first.sl.r_3; delta run_first.sl.v18; delta run_first.sl.HS0_1; delta run_first.sl.r run_first.sl.r_1; rw [View.readCov_full, View.read_writes_full, readAt_all, readAt_all, readAt_all, readAt_all, readAt_all, readAt_all]; rfl
  isplitl [H11]
  · iexists _; isplitr; swap; · iexact H11
    ipureintro
    delta run_first.sl.v96; delta run_first.sl.H11_1; rw [View.readCov_full, View.read_writes_full, readAt_all, readAt_all]
  iexists _; isplitr; swap; · iexact HS0
  ipureintro
  delta run_first.sl.HS0_1; delta run_first.sl.r run_first.sl.r_1; rw [View.read_writes_full, readAt_all, readAt_all, readAt_all, readAt_all]; rfl

end Cert.KernelIdeal.Gen

end
-- ==== Proof.MixOut.Data.lean ====
module

public import proofs.«01_k».proof.Proof.MixOut.RunFirst

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the block of tokens that point `t` belongs to. -/
def rowPt (t : Fin cfg0.N) : Fin cfg0.N := ⟨t.val - t.val % 3, by have := t.isLt; omega⟩

theorem rowPt_fresh (t : Fin cfg0.N) (h : t.val % 3 = 0) : rowPt t = t := Fin.ext (by simp only [rowPt]; omega)

theorem rowPt_pred (t : Fin cfg0.N) (h : t.val % 3 ≠ 0) : rowPt ⟨t.val - 1, by omega⟩ = rowPt t :=
  Fin.ext (by simp only [rowPt]; omega)

/-- The gradient through the normalisation, over the block of tokens of point `t`. -/
def normAt (c : Dev nD) (t : Fin cfg0.N) : Vec F S512x1024 .bf16 :=
  k0_pay6 (iblk m c 0 (rowPt t)) (iblk m c 1 (rowPt t)) (iblk m c 2 (rowPt t))

/-- The gradient of the merged activations, over the block of tokens of point `t`. -/
def mergedAt (c : Dev nD) (t : Fin cfg0.N) : Vec F S512x1024 .f32 :=
  mergedGrad (iblk m c 0 (rowPt t)) (iblk m c 1 (rowPt t)) (iblk m c 2 (rowPt t)) (iblk m c 3 (rowPt t))

/-- The gradient of the gain, summed over the blocks of tokens up to point `n`. -/
def gainAt (c : Dev nD) : (n : ℕ) → n < cfg0.N → Vec F S1x1024 .f32
  | 0, h => k0_pay5 (iblk m c 0 ⟨0, h⟩) (iblk m c 1 ⟨0, h⟩) k0_pay8
  | n + 1, h =>
    if (n + 1) % 3 = 0 then k0_pay5 (iblk m c 0 ⟨n + 1, h⟩) (iblk m c 1 ⟨n + 1, h⟩) (gainAt c n (Nat.lt_of_succ_lt h))
    else gainAt c n (Nat.lt_of_succ_lt h)

theorem gainAt_zero (c : Dev nD) (t : Fin cfg0.N) (h : t.val = 0) :
    gainAt m c t.val t.isLt = k0_pay5 (iblk m c 0 t) (iblk m c 1 t) k0_pay8 := by
  obtain ⟨_, ht⟩ := t; simp only at h; subst h; rfl

theorem gainAt_fresh (c : Dev nD) (t : Fin cfg0.N) (h0 : t.val ≠ 0) (h : t.val % 3 = 0) :
    gainAt m c t.val t.isLt = k0_pay5 (iblk m c 0 t) (iblk m c 1 t) (gainAt m c (t.val - 1) (by omega)) := by
  obtain ⟨_ | n, ht⟩ := t
  · exact absurd rfl h0
  · exact if_pos h

theorem gainAt_rest (c : Dev nD) (t : Fin cfg0.N) (h : t.val % 3 ≠ 0) :
    gainAt m c t.val t.isLt = gainAt m c (t.val - 1) (by omega) := by
  obtain ⟨_ | n, ht⟩ := t
  · exact absurd rfl h
  · exact if_neg h

/-- What the region holds beside the windows before point `n`: the scratch buffer at the gradient of the merged
    activations that the point before left there, and the generator's register. -/
def held (c : Dev nD) : (n : ℕ) → n ≤ cfg0.N → sProp 𝕄
  | 0, _ => Pipeline.ΦA spec0 c
  | n + 1, hn => iprop(iprop(owns (c : Thread nD τ) (Memref.whole cc0_scratch0) fullShare (mergedAt m c ⟨n, hn⟩)) ∗ (∃ r, prngReg c r))

theorem held_pos (c : Dev nD) (n : ℕ) (h : n ≤ cfg0.N) (hz : n ≠ 0) :
    held m c n h = iprop(iprop(owns (c : Thread nD τ) (Memref.whole cc0_scratch0) fullShare (mergedAt m c ⟨n - 1, by omega⟩)) ∗ (∃ r, prngReg c r)) := by
  cases n with
  | zero => exact absurd rfl hz
  | succ n => rfl

/-- The scratch buffer at anything, as the region is entered and left. -/
theorem loose_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- The proof data: what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => normAt m c t
    | ⟨8, _⟩ => k0_pay12 (iblk m c 5 t) (mergedAt m c t)
    | ⟨9, _⟩ => dyOf (iblk m c 5 t) (iblk m c 6 t) (grid0.coords t 1) (mergedAt m c t)
    | ⟨10, _⟩ => k0_pay13 (iblk m c 5 t) (mergedAt m c t) (iblk m c 4 t)
    | ⟨11, _⟩ => gainAt m c t.val t.isLt
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) : (dats m 0 c).Φ t.castSucc = held m c t.val (Nat.le_of_lt t.isLt) := by
  dsimp only [dats]; exact Pipeline.Dat.Φ_castSucc (held m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = normAt m c t := by dsimp only [dats]
theorem after_8 (c : Dev nD) (t : Fin cfg0.N) : (dats m 0 c).after 8 t = k0_pay12 (iblk m c 5 t) (mergedAt m c t) := by dsimp only [dats]
theorem after_9 (c : Dev nD) (t : Fin cfg0.N) : (dats m 0 c).after 9 t = dyOf (iblk m c 5 t) (iblk m c 6 t) (grid0.coords t 1) (mergedAt m c t) := by dsimp only [dats]
theorem after_10 (c : Dev nD) (t : Fin cfg0.N) : (dats m 0 c).after 10 t = k0_pay13 (iblk m c 5 t) (mergedAt m c t) (iblk m c 4 t) := by dsimp only [dats]
theorem after_11 (c : Dev nD) (t : Fin cfg0.N) : (dats m 0 c).after 11 t = gainAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The points at which the normalisation's gradient is not stored are those after the first of a block of tokens. -/
theorem idle_7 : ∀ t : Fin cfg0.N, cfg0.idle 7 (grid0.coords t) = true ↔ t.val % 3 ≠ 0 :=
  (by decide +kernel : ∀ t : Fin grid0.N, cfg0.idle 7 (grid0.coords t) = true ↔ t.val % 3 ≠ 0)
/-- The same for the gain's gradient. -/
theorem idle_11 : ∀ t : Fin cfg0.N, cfg0.idle 11 (grid0.coords t) = true ↔ t.val % 3 ≠ 0 :=
  (by decide +kernel : ∀ t : Fin grid0.N, cfg0.idle 11 (grid0.coords t) = true ↔ t.val % 3 ≠ 0)

/-- Before a point after the first of its block of tokens the buffer holds the block's gradient already. -/
theorem notFresh_7 : ∀ t : Fin cfg0.N, t.val % 3 ≠ 0 → cfg0.fresh 7 t.val = false :=
  (by decide +kernel : ∀ t : Fin grid0.N, t.val % 3 ≠ 0 → cfg0.fresh 7 t.val = false)
/-- The gain's buffer is stored at the first point and never emptied. -/
theorem notFresh_11 : ∀ t : Fin cfg0.N, t.val ≠ 0 → cfg0.fresh 11 t.val = false :=
  (by decide +kernel : ∀ t : Fin grid0.N, t.val ≠ 0 → cfg0.fresh 11 t.val = false)

theorem normAt_pred (c : Dev nD) (t : Fin cfg0.N) (h : t.val % 3 ≠ 0) : normAt m c ⟨t.val - 1, by omega⟩ = normAt m c t := by
  unfold normAt; rw [rowPt_pred t h]
theorem mergedAt_pred (c : Dev nD) (t : Fin cfg0.N) (h : t.val % 3 ≠ 0) : mergedAt m c ⟨t.val - 1, by omega⟩ = mergedAt m c t := by
  unfold mergedAt; rw [rowPt_pred t h]

theorem before_7 (c : Dev nD) (t : Fin cfg0.N) (h : t.val % 3 ≠ 0) (d) : (dats m 0 c).before 7 t d = (dats m 0 c).after 7 t := by
  rw [(dats m 0 c).before_out_traj 7 rfl (fun _ _ => rfl) (fun t _ hi _ => by
      rw [after_7, after_7, normAt_pred m c t ((idle_7 t).mp hi)]) t.val t rfl d,
    notFresh_7 t h, if_neg Bool.false_ne_true, after_7, after_7, normAt_pred m c t h]

theorem before_11 (c : Dev nD) (t : Fin cfg0.N) (h : t.val ≠ 0) (d) :
    (dats m 0 c).before 11 t d = gainAt m c (t.val - 1) (by omega) := by
  rw [(dats m 0 c).before_out_traj 11 rfl (fun _ _ => rfl) (fun t _ hi _ => by
      rw [after_11, after_11]; exact gainAt_rest m c t ((idle_11 t).mp hi)) t.val t rfl d,
    notFresh_11 t h, if_neg Bool.false_ne_true, after_11]

/-- A buffer left alone at a point, holding what the proof data state after it, is handed back as they ask. -/
theorem leaves_of_idle {c : Dev nD} (dat : Dat τ (Elt F) Unit ℕ (UR sig nD τ) ℕ cfg0 c) (w : Fin cfg0.W) (t : Fin cfg0.N)
    (hi : cfg0.idle w (grid0.coords t) = true) (d) (h : dat.before w t d = dat.after w t) :
    owns (c : Thread nD τ) ((cfg0.win w).stage (cfg0.slots t w)) fullShare (dat.before w t d) ⊢ dat.leavesExact w t := by
  cases hf : (cfg0.win w).flush t
  · rw [dat.leavesExact_idle w t hi hf]
    iintro H
    iexists d
    iexact H
  · have e : dat.leavesExact w t = owns (c : Thread nD τ) ((cfg0.win w).stage (cfg0.slots t w)) fullShare (dat.after w t) := by
      unfold Dat.leavesExact; rw [hi, hf]
    rw [e, h]

/-- A buffer stored at a point is handed back at what the proof data state after it. -/
theorem leaves_of_live {c : Dev nD} (dat : Dat τ (Elt F) Unit ℕ (UR sig nD τ) ℕ cfg0 c) (w : Fin cfg0.W) (t : Fin cfg0.N)
    (hi : cfg0.idle w (grid0.coords t) = false) :
    dat.leavesExact w t = owns (c : Thread nD τ) ((cfg0.win w).stage (cfg0.slots t w)) fullShare (dat.after w t) := by
  unfold Dat.leavesExact; rw [hi]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 3600000 in
/-- The body at a point that is not the first of its block of tokens. -/
theorem body_rest (c : Dev nD) (t : Fin cfg0.N) (h : t.val % 3 ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = iprop(iprop(owns (c : Thread nD τ) (Memref.whole cc0_scratch0) fullShare (mergedAt m c t)) ∗ (∃ r, prngReg c r)) from rfl,
    held_castSucc]
  rw [held_pos m c _ _ (by omega), mergedAt_pred m c t h]
  rw [leaves_of_live (dats m 0 c) 0 t rfl, after_0]
  rw [leaves_of_live (dats m 0 c) 1 t rfl, after_1]
  rw [leaves_of_live (dats m 0 c) 2 t rfl, after_2]
  rw [leaves_of_live (dats m 0 c) 3 t rfl, after_3]
  rw [leaves_of_live (dats m 0 c) 4 t rfl, after_4]
  rw [leaves_of_live (dats m 0 c) 5 t rfl, after_5]
  rw [leaves_of_live (dats m 0 c) 6 t rfl, after_6]
  rw [leaves_of_live (dats m 0 c) 8 t rfl, after_8]
  rw [leaves_of_live (dats m 0 c) 9 t rfl, after_9]
  rw [leaves_of_live (dats m 0 c) 10 t rfl, after_10]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_rest c (grid0.coords t) _ _ _ _ _ _ _ _ _ _ _ _ _ _ _ _ _ _ _ _ _ _ _ _ _ _ (fun hc => h (by have := (first_iff t).mp hc; omega)) (fun hc => h ((fresh_iff t).mp hc)) (iblk m c 4 t) (iblk m c 5 t) (iblk m c 6 t) (mergedAt m c t) Set.univ _)
  isplitl [H4]; · iexact H4
  isplitl [H5]; · iexact H5
  isplitl [H6]; · iexact H6
  isplitl [H8]; · iexists _; iexact H8
  isplitl [H9]; · iexists _; iexact H9
  isplitl [H10]; · iexists _; iexact H10
  isplitl [HS0]; · iexact HS0
  iintro ⟨H4, H5, H6, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves_of_idle (dats m 0 c) 7 t ((idle_7 t).mpr h) d7 (before_7 m c t h d7)); iexact H7
  isplitl [H8]; · iexact H8
  isplitl [H9]; · iexact H9
  isplitl [H10]; · iexact H10
  iapply (leaves_of_idle (dats m 0 c) 11 t ((idle_11 t).mpr h) d11 ((before_11 m c t (by omega) d11).trans ((after_11 m c t).trans (gainAt_rest m c t h)).symm))
  iexact H11

set_option maxHeartbeats 3600000 in
/-- The body at the first point of a later block of tokens. -/
theorem body_fresh (c : Dev nD) (t : Fin cfg0.N) (h0 : t.val ≠ 0) (h : t.val % 3 = 0) :
    bodyPre m c t ⊢ wp frame (wpE (defs₀ (F := F)) Variants.none c none) Set.univ (bodyAt0 t) (fun _ => bodyPost m c t) := by
  have hr := rowPt_fresh t h
  have e7 : normAt m c t = k0_pay6 (iblk m c 0 t) (iblk m c 1 t) (iblk m c 2 t) := by unfold normAt; rw [hr]
  have es : mergedAt m c t = mergedGrad (iblk m c 0 t) (iblk m c 1 t) (iblk m c 2 t) (iblk m c 3 t) := by unfold mergedAt; rw [hr]
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = iprop(iprop(owns (c : Thread nD τ) (Memref.whole cc0_scratch0) fullShare (mergedAt m c t)) ∗ (∃ r, prngReg c r)) from rfl,
    held_castSucc]
  rw [held_pos m c _ _ h0]
  simp only [before_11 m c t h0]
  rw [leaves_of_live (dats m 0 c) 0 t rfl, after_0]
  rw [leaves_of_live (dats m 0 c) 1 t rfl, after_1]
  rw [leaves_of_live (dats m 0 c) 2 t rfl, after_2]
  rw [leaves_of_live (dats m 0 c) 3 t rfl, after_3]
  rw [leaves_of_live (dats m 0 c) 4 t rfl, after_4]
  rw [leaves_of_live (dats m 0 c) 5 t rfl, after_5]
  rw [leaves_of_live (dats m 0 c) 6 t rfl, after_6]
  rw [leaves_of_live (dats m 0 c) 8 t rfl, after_8]
  rw [leaves_of_live (dats m 0 c) 9 t rfl, after_9]
  rw [leaves_of_live (dats m 0 c) 10 t rfl, after_10]
  rw [leaves_of_live (dats m 0 c) 7 t (Bool.eq_false_iff.mpr fun hi => (idle_7 t).mp hi h), after_7]
  rw [leaves_of_live (dats m 0 c) 11 t (Bool.eq_false_iff.mpr fun hi => (idle_11 t).mp hi h), after_11]
  rw [e7, es, gainAt_fresh m c t h0 h]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_fresh c (grid0.coords t) _ _ _ _ _ _ _ _ _ _ _ _ _ _ _ _ _ _ _ _ _ _ _ _ _ _ (fun hc => h0 ((first_iff t).mp hc)) ((fresh_iff t).mpr h) (iblk m c 0 t) (iblk m c 1 t) (iblk m c 2 t) (iblk m c 3 t) (iblk m c 4 t) (iblk m c 5 t) (iblk m c 6 t) (gainAt m c (t.val - 1) (by omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexact H11
  isplitl [HS0]; · iexists _; iexact HS0
  iintro ⟨H0, H1, H2, H3, H4, H5, H6, H7, H8, H9, H10, H11, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 3600000 in
/-- The body at the first point. -/
theorem body_first (c : Dev nD) (t : Fin cfg0.N) (h0 : t.val = 0) :
    bodyPre m c t ⊢ wp frame (wpE (defs₀ (F := F)) Variants.none c none) Set.univ (bodyAt0 t) (fun _ => bodyPost m c t) := by
  have h : t.val % 3 = 0 := by omega
  have hr := rowPt_fresh t h
  have e7 : normAt m c t = k0_pay6 (iblk m c 0 t) (iblk m c 1 t) (iblk m c 2 t) := by unfold normAt; rw [hr]
  have es : mergedAt m c t = mergedGrad (iblk m c 0 t) (iblk m c 1 t) (iblk m c 2 t) (iblk m c 3 t) := by unfold mergedAt; rw [hr]
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = iprop(iprop(owns (c : Thread nD τ) (Memref.whole cc0_scratch0) fullShare (mergedAt m c t)) ∗ (∃ r, prngReg c r)) from rfl,
    held_castSucc]
  rw [show held m c t.val (Nat.le_of_lt t.isLt) = Pipeline.ΦA spec0 c by unfold held; split <;> [rfl; exact absurd h0 (by omega)], loose_eq]
  rw [leaves_of_live (dats m 0 c) 0 t rfl, after_0]
  rw [leaves_of_live (dats m 0 c) 1 t rfl, after_1]
  rw [leaves_of_live (dats m 0 c) 2 t rfl, after_2]
  rw [leaves_of_live (dats m 0 c) 3 t rfl, after_3]
  rw [leaves_of_live (dats m 0 c) 4 t rfl, after_4]
  rw [leaves_of_live (dats m 0 c) 5 t rfl, after_5]
  rw [leaves_of_live (dats m 0 c) 6 t rfl, after_6]
  rw [leaves_of_live (dats m 0 c) 8 t rfl, after_8]
  rw [leaves_of_live (dats m 0 c) 9 t rfl, after_9]
  rw [leaves_of_live (dats m 0 c) 10 t rfl, after_10]
  rw [leaves_of_live (dats m 0 c) 7 t (Bool.eq_false_iff.mpr fun hi => (idle_7 t).mp hi h), after_7]
  rw [leaves_of_live (dats m 0 c) 11 t (Bool.eq_false_iff.mpr fun hi => (idle_11 t).mp hi h), after_11]
  rw [e7, es, gainAt_zero m c t h0]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run_first c (grid0.coords t) _ _ _ _ _ _ _ _ _ _ _ _ _ _ _ _ _ _ _ _ _ _ _ _ _ _ ((first_iff t).mpr h0) ((fresh_iff t).mpr h) (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  iintro ⟨H0, H1, H2, H3, H4, H5, H6, H7, H8, H9, H10, H11, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_any (c : Dev nD) (t : Fin cfg0.N) :
    bodyPre m c t ⊢ wp frame (wpE (defs₀ (F := F)) Variants.none c none) Set.univ (bodyAt0 t) (fun _ => bodyPost m c t) := by
  by_cases h : t.val % 3 = 0
  · by_cases h0 : t.val = 0
    · exact body_first m c t h0
    · exact body_fresh m c t h0 h
  · exact body_rest m c t h

/-- The body keeps to the proof data at every point. -/
theorem body_keeps (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body_any m c t) rfl .rfl fun _ => .rfl

theorem held_in (c : Dev nD) : Pipeline.ΦA spec0 c ⊢ (dats m 0 c).Φ 0 := by
  rw [show (dats m 0 c).Φ 0 = Pipeline.ΦA spec0 c from rfl]

theorem held_out (c : Dev nD) : (dats m 0 c).Φ (Fin.last cfg0.N) ⊢ Pipeline.ΦA spec0 c := by
  rw [show (dats m 0 c).Φ (Fin.last cfg0.N) = held m c cfg0.N (Nat.le_refl _) from rfl,
    held_pos m c _ _ (by have : cfg0.N = 24 := N_0; omega), loose_eq]
  iintro ⟨HS0, Hg⟩
  isplitl [HS0]
  · iexists _; iexact HS0
  iexact Hg

set_option backward.isDefEq.respectTransparency.types false in
/-- Every execution of the program ends, every array of the call at what the proof data compute, every other buffer
    as the call found it, every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_keeps m c).loose) (hshare := fun c => (dats m 0 c).share_full fun _ => rfl)
    (howed := fun _ _ => rfl) (V := V m) (hmain := hmain m Variants.none) (hA := A_eq m) (hin := held_in m) (hout := held_out m)

end Cert.KernelIdeal.Gen

end
-- ==== Proof.MixOut.Host.lean ====
/- What the call's operands hold: the activations and weights that the host prepares, as the reference's stages compute them. -/
module

public import proofs.«01_k».proof.Proof.Gen.KernelIdeal.Frame
public import proofs.«01_k».proof.Proof.Gen.ReferenceIdeal.Read

@[expose] public section

set_option maxRecDepth 16384

noncomputable section

namespace Cert.KernelIdeal.Gen

open Idealize.ShloMosaic Idealize.ShloMosaic.TcCoe Idealize.SL.Sem Idealize.ShloMosaic.StableHlo

/-- The three branches, one above the other. -/
def stacked (a b c : (⟨S1x4096x1024, .f32⟩ : BufTy).Contents (Elt Ideal)) : (⟨S3x4096x1024, .f32⟩ : BufTy).Contents (Elt Ideal) :=
  concatenate S3x4096x1024 0 [⟨S1x4096x1024, a⟩, ⟨S1x4096x1024, b⟩, ⟨S1x4096x1024, c⟩]
    concatenates_S1x4096x1024_S1x4096x1024_S1x4096x1024_S3x4096x1024_d0

theorem stack_op (h₁ h₂) :
    (StableHlo.nary ![main_v15, main_v16, main_v17] main_v18 (fun u => (concatenate S3x4096x1024 0 [⟨S1x4096x1024, (u 0 : (⟨S1x4096x1024, .f32⟩ : BufTy).Contents (Elt Ideal))⟩, ⟨S1x4096x1024, (u 1 : (⟨S1x4096x1024, .f32⟩ : BufTy).Contents (Elt Ideal))⟩, ⟨S1x4096x1024, (u 2 : (⟨S1x4096x1024, .f32⟩ : BufTy).Contents (Elt Ideal))⟩] concatenates_S1x4096x1024_S1x4096x1024_S1x4096x1024_S3x4096x1024_d0 : (⟨S3x4096x1024, .f32⟩ : BufTy).Contents (Elt Ideal))) h₁ h₂ : HloOp τ sig (Elt Ideal))
      = StableHlo.nary ![main_v15, main_v16, main_v17] main_v18 (fun u => stacked (u 0) (u 1) (u 2)) h₁ h₂ := rfl

variable (m : (ℓ : Loc nD τ sig) → Buf (Elt Ideal) ℓ)

set_option maxHeartbeats 4000000 in
theorem V_z (c : Dev nD) : V m c main_v57 = (truncf .bf16 (m ((c : Thread nD τ).loc main_arg2) : FVec Ideal S4096x10240 .f32) bitsLt_bf16_f32 : FVec Ideal S4096x10240 .bf16) := by
  show after hostOps0 _ (Proc.devRef .tc main_v57) = _
  after_results_simp

set_option maxHeartbeats 4000000 in
theorem V_wo (c : Dev nD) : V m c main_v55 = (truncf .bf16 (m ((c : Thread nD τ).loc main_arg4) : FVec Ideal S1024x1024 .f32) bitsLt_bf16_f32 : FVec Ideal S1024x1024 .bf16) := by
  show after hostOps0 _ (Proc.devRef .tc main_v55) = _
  after_results_simp

set_option maxHeartbeats 4000000 in
theorem V_wb (c : Dev nD) : V m c main_v58
    = (truncf .bf16 (transpose S4x3x256x1024 [1, 0, 2, 3]
        (shapeCast S3x4x256x1024 (m ((c : Thread nD τ).loc main_arg3) : FVec Ideal S3x1024x1024 .f32) shapeCasts_S3x1024x1024_S3x4x256x1024)
        transposes_S3x4x256x1024_S4x3x256x1024_1_0_2_3 : FVec Ideal S4x3x256x1024 .f32) bitsLt_bf16_f32 : FVec Ideal S4x3x256x1024 .bf16) := by
  show after hostOps0 _ (Proc.devRef .tc main_v58) = _
  after_results_simp
  rfl

set_option maxHeartbeats 4000000 in
theorem V_p (c : Dev nD) : V m c main_v56
    = truncf .bf16 (Cert.ReferenceIdeal.Read.val_main_v18 (m ((c : Thread nD τ).loc main_arg1)) (m ((c : Thread nD τ).loc main_arg3))) bitsLt_bf16_f32 := by
  show after hostOps0 _ (Proc.devRef .tc main_v56) = _
  simp only [hostOps0, stack_op]
  after_results_simp
  rfl

set_option maxHeartbeats 4000000 in
theorem V_m (c : Dev nD) : V m c main_v54
    = truncf .bf16 (Cert.ReferenceIdeal.Read.val_main_v51 (m ((c : Thread nD τ).loc main_arg1)) (m ((c : Thread nD τ).loc main_arg2))
        (m ((c : Thread nD τ).loc main_arg3)) (m ((c : Thread nD τ).loc main_arg4))) bitsLt_bf16_f32 := by
  show after hostOps0 _ (Proc.devRef .tc main_v54) = _
  simp only [hostOps0, stack_op]
  after_results_simp
  rfl

end Cert.KernelIdeal.Gen

end
-- ==== Proof.RowNorm.lean ====
/- The gradient of a root-mean-square norm along a row, in the extended reals: the textbook form and the form that
   differentiation writes give the same value whatever the row holds, infinite entries included. -/
module

public import Idealize.ShloMosaic.Lib.Pointwise

@[expose] public section

noncomputable section

namespace Cert.RowNorm

open Idealize.ShloMosaic

/-- The length of a row, 1024. -/
theorem bits_1024 : Ideal.ofBits .f32 1149239296#32 = ((1024 : ℝ) : EReal) := by
  simp [Ideal.ofBits, Ideal.ieee, -EReal.coe_mul]; norm_num

/-- The factor minus one half of the derivative of a reciprocal square root. -/
theorem bits_neg_half : Ideal.ofBits .f32 3204448256#32 = ((-(1 / 2) : ℝ) : EReal) := by
  simp [Ideal.ofBits, Ideal.ieee, -EReal.coe_mul, -EReal.coe_neg]; norm_num

/-- The guard added to the mean square is a positive real. -/
theorem bits_eps : ∃ e : ℝ, 0 < e ∧ Ideal.ofBits .f32 897988541#32 = (e : EReal) := by
  refine ⟨_, ?_, by simp [Ideal.ofBits, Ideal.ieee, -EReal.coe_mul]; rfl⟩
  norm_num

theorem bits_one : Ideal.ofBits .f32 1065353216#32 = 1 := Ideal.ofBits_one_f32

/-- The guarded mean of a row's squares. -/
def guarded (x : Fin 1024 → EReal) : EReal :=
  Ideal.div (∑ k, x k * x k) (Ideal.ofBits .f32 1149239296#32) + Ideal.ofBits .f32 897988541#32

/-- The reciprocal root of the guarded mean square. -/
def rowScale (x : Fin 1024 → EReal) : EReal := Ideal.rsqrt (guarded x)

/-- The gradient of the norm at one entry, `u` the incoming gradient times the gain. -/
def normGrad (x u : Fin 1024 → EReal) (l : Fin 1024) : EReal :=
  rowScale x * (u l - x l * rowScale x * Ideal.div (∑ k, u k * (x k * rowScale x)) (Ideal.ofBits .f32 1149239296#32))

/-- A nonnegative finite factor comes out of a sum. -/
theorem sum_mul_of_nonneg {n : ℕ} (f : Fin n → EReal) {a : EReal} (h0 : 0 ≤ a) (h1 : a ≠ ⊤) :
    ∑ k, f k * a = (∑ k, f k) * a := by
  classical
  refine Finset.induction_on (Finset.univ : Finset (Fin n)) (by simp) ?_
  intro i s hi ih
  rw [Finset.sum_insert hi, Finset.sum_insert hi, ih, EReal.right_distrib_of_nonneg_of_ne_top h0 h1]

theorem sq_nonneg' (x : EReal) : 0 ≤ x * x := by
  induction x with
  | bot => simp
  | top => simp
  | coe a => rw [← EReal.coe_mul]; exact_mod_cast mul_self_nonneg a

theorem sq_ne_top {x : EReal} (h : x * x ≠ ⊤) : ∃ a : ℝ, x = a := by
  induction x with
  | bot => simp at h
  | top => simp at h
  | coe a => exact ⟨a, rfl⟩

/-- A row with a finite sum of squares is a row of reals. -/
theorem real_row {x : Fin 1024 → EReal} (h : ∑ k, x k * x k ≠ ⊤) : ∃ a : Fin 1024 → ℝ, x = fun k => (a k : EReal) := by
  have hk : ∀ k, ∃ a : ℝ, x k = a := fun k => by
    refine sq_ne_top fun ht => h ?_
    have := Finset.single_le_sum (f := fun k => x k * x k) (fun i _ => sq_nonneg' (x i)) (Finset.mem_univ k)
    exact top_le_iff.mp (ht ▸ this)
  choose a ha using hk
  exact ⟨a, funext ha⟩

theorem guarded_top {x : Fin 1024 → EReal} (h : ∑ k, x k * x k = ⊤) : guarded x = ⊤ := by
  obtain ⟨e, he, hb⟩ := bits_eps
  rw [guarded, h, bits_1024, hb, Ideal.div_coe (by norm_num), EReal.top_mul_coe_of_pos (by norm_num), EReal.top_add_coe]

theorem sum_coe (f : Fin 1024 → ℝ) : ∑ k, ((f k : ℝ) : EReal) = ((∑ k, f k : ℝ) : EReal) := by
  classical
  refine Finset.induction_on (Finset.univ : Finset (Fin 1024)) (by simp) ?_
  intro i s hi ih
  rw [Finset.sum_insert hi, Finset.sum_insert hi, ih, EReal.coe_add]

theorem guarded_real (a : Fin 1024 → ℝ) : ∃ v : ℝ, 0 < v ∧ guarded (fun k => (a k : EReal)) = v := by
  obtain ⟨e, he, hb⟩ := bits_eps
  refine ⟨(∑ k, a k * a k) * (1 / 1024) + e, ?_, ?_⟩
  · have : 0 ≤ ∑ k, a k * a k := Finset.sum_nonneg fun k _ => mul_self_nonneg _
    positivity
  · simp only [guarded, ← EReal.coe_mul]
    rw [sum_coe, bits_1024, hb, Ideal.div_coe (by norm_num), ← EReal.coe_mul, ← EReal.coe_add]

/-- The scale of a row is zero or a positive real. -/
theorem rowScale_bounds (x : Fin 1024 → EReal) : 0 ≤ rowScale x ∧ rowScale x ≠ ⊤ := by
  by_cases h : ∑ k, x k * x k = ⊤
  · rw [rowScale, guarded_top h, Ideal.rsqrt_top]; simp
  · obtain ⟨a, rfl⟩ := real_row h
    obtain ⟨v, hv, hg⟩ := guarded_real a
    rw [rowScale, hg, Ideal.rsqrt_coe, if_neg (not_lt.mpr hv.le), if_neg hv.ne']
    refine ⟨?_, EReal.coe_ne_top _⟩
    exact_mod_cast inv_nonneg.mpr (Real.sqrt_nonneg v)

theorem double (y : EReal) : y + y = ((2 : ℝ) : EReal) * y := by
  have h := EReal.right_distrib_of_nonneg (a := 1) (b := 1) (c := y) zero_le_one zero_le_one
  rw [one_mul] at h
  rw [← h]
  congr 1
  rw [← EReal.coe_one, ← EReal.coe_add]; norm_num

/-- What differentiation writes for the norm's gradient is the textbook form. -/
theorem normGrad_eq (x u : Fin 1024 → EReal) (l : Fin 1024) :
    u l * rowScale x
        + x l * Ideal.div ((∑ k, x k * u k) * (Ideal.ofBits .f32 3204448256#32 * Ideal.div (rowScale x) (guarded x))) (Ideal.ofBits .f32 1149239296#32)
        + Ideal.div ((∑ k, x k * u k) * (Ideal.ofBits .f32 3204448256#32 * Ideal.div (rowScale x) (guarded x))) (Ideal.ofBits .f32 1149239296#32) * x l
      = normGrad x u l := by
  by_cases h : ∑ k, x k * x k = ⊤
  · have hr : rowScale x = 0 := by rw [rowScale, guarded_top h, Ideal.rsqrt_top]
    have hd : Ideal.div (0 : EReal) ⊤ = 0 := by simp [Ideal.div]
    rw [normGrad, hr, guarded_top h, hd, bits_1024, Ideal.div_coe (by norm_num)]
    simp
  · obtain ⟨a, rfl⟩ := real_row h
    obtain ⟨v, hv, hg⟩ := guarded_real a
    have hs : 0 < Real.sqrt v := Real.sqrt_pos.mpr hv
    have hvs : v = Real.sqrt v * Real.sqrt v := (Real.mul_self_sqrt hv.le).symm
    have hr : rowScale (fun k => (a k : EReal)) = (((Real.sqrt v)⁻¹ : ℝ) : EReal) := by
      rw [rowScale, hg, Ideal.rsqrt_coe, if_neg (not_lt.mpr hv.le), if_neg hv.ne']
    have hp : (0 : EReal) ≤ (((Real.sqrt v)⁻¹ : ℝ) : EReal) := by exact_mod_cast (inv_nonneg.mpr hs.le)
    have hsum : ∑ k, u k * ((a k : EReal) * (((Real.sqrt v)⁻¹ : ℝ) : EReal)) = (∑ k, (a k : EReal) * u k) * (((Real.sqrt v)⁻¹ : ℝ) : EReal) := by
      rw [← sum_mul_of_nonneg _ hp (EReal.coe_ne_top _)]
      exact Finset.sum_congr rfl fun k _ => by rw [← mul_assoc, mul_comm (u k)]
    have h1024 : (1024 : ℝ) ≠ 0 := by norm_num
    rw [normGrad, hr, hg, hsum, bits_1024, bits_neg_half, Ideal.div_coe hv.ne', Ideal.div_coe h1024, Ideal.div_coe h1024,
      EReal.mul_sub_of_nonneg_of_ne_top hp (EReal.coe_ne_top _)]
    dsimp only
    generalize (∑ k, (a k : EReal) * u k) = S
    set ρ : ℝ := (Real.sqrt v)⁻¹ with hρ
    have h1 : (a l : EReal) * (S * (((-(1 / 2) : ℝ) : EReal) * ((ρ : EReal) * ((1 / v : ℝ) : EReal))) * ((1 / 1024 : ℝ) : EReal))
        = ((a l * (-(1 / 2) * (ρ * (1 / v))) * (1 / 1024) : ℝ) : EReal) * S := by
      simp only [EReal.coe_mul]; ac_rfl
    have h2 : (ρ : EReal) * ((a l : EReal) * (ρ : EReal) * (S * (ρ : EReal) * ((1 / 1024 : ℝ) : EReal)))
        = ((ρ * a l * ρ * ρ * (1 / 1024) : ℝ) : EReal) * S := by
      simp only [EReal.coe_mul]; ac_rfl
    rw [mul_comm (_ * ((1 / 1024 : ℝ) : EReal)) (a l : EReal), h1, h2, add_assoc, double, ← mul_assoc, ← EReal.coe_mul, sub_eq_add_neg, ← EReal.neg_mul,
      ← EReal.coe_neg, mul_comm (u l)]
    congr 3
    rw [hρ]
    have hv' : 1 / v = (Real.sqrt v)⁻¹ * (Real.sqrt v)⁻¹ := by
      rw [← mul_inv, ← hvs, one_div]
    rw [hv']
    ring

/-- The logistic function as differentiation and as the hand-written gate spell it. -/
theorem zero_sub_eq (x : EReal) : (0 : EReal) - x = -x := by rw [sub_eq_add_neg, zero_add]

end Cert.RowNorm

end
-- ==== Proof.MixOut.Reference.lean ====
/- The reference's results, read one entry at a time: the gradient of the norm, of the projection, of the gates and of
   the three branch products. -/
module

public import proofs.«01_k».proof.Proof.Gen.ReferenceIdeal.Read
public import proofs.«01_k».proof.Proof.RowNorm

@[expose] public section

set_option maxRecDepth 16384

noncomputable section

namespace Cert.MixOut

open Idealize.ShloMosaic Idealize.ShloMosaic.TcCoe Idealize.SL.Sem Idealize.ShloMosaic.StableHlo
open Cert.ReferenceIdeal Cert.ReferenceIdeal.Read

/-- The column of the wide activations that holds entry `l` of branch `b`'s gate. -/
def gateCol (b : Fin 3) (l : Fin 1024) : Fin 10240 := ⟨7168 + b.val * 1024 + l.val, by omega⟩

/-- The gate of one activation. -/
def gate (z : EReal) : EReal := Ideal.div 1 (1 + Ideal.exp (-z))

variable (x0 : (⟨S4096x1024, .f32⟩ : BufTy).Contents (Elt Ideal)) (x1 : (⟨S3x4096x1024, .f32⟩ : BufTy).Contents (Elt Ideal))
  (x2 : (⟨S4096x10240, .f32⟩ : BufTy).Contents (Elt Ideal)) (x3 : (⟨S3x1024x1024, .f32⟩ : BufTy).Contents (Elt Ideal))
  (x4 : (⟨S1024x1024, .f32⟩ : BufTy).Contents (Elt Ideal)) (x5 : (⟨S1x1024, .f32⟩ : BufTy).Contents (Elt Ideal))

/-- Row `r` of the projected sum that the norm takes in. -/
def proj (r : Fin 4096) : Fin 1024 → EReal := fun k => val_main_v51 x1 x2 x3 x4 (ix2 r k)

/-- The gradient at the norm's input. -/
def gradNorm (r : Fin 4096) (l : Fin 1024) : EReal :=
  RowNorm.normGrad (proj x1 x2 x3 x4 r) (fun k => x0 (ix2 r k) * x5 (ix2 0 k)) l

/-- The gradient at the merged branches. -/
def gradMerged (r : Fin 4096) (l : Fin 1024) : EReal := ∑ k, gradNorm x0 x1 x2 x3 x4 x5 r k * x4 (ix2 l k)

/-- The gradient at branch `b`'s product. -/
def gradBranch (b : Fin 3) (r : Fin 4096) (l : Fin 1024) : EReal := gradMerged x0 x1 x2 x3 x4 x5 r l * gate (x2 (ix2 r (gateCol b l)))

/-- The gradient at branch `b`'s gate. -/
def gradGate (b : Fin 3) (r : Fin 4096) (l : Fin 1024) : EReal :=
  gradMerged x0 x1 x2 x3 x4 x5 r l * val_main_v18 x1 x3 (ix3 b r l) * gate (x2 (ix2 r (gateCol b l))) * (1 - gate (x2 (ix2 r (gateCol b l))))

/-- The gradient at branch `b`'s input. -/
def gradInput (b : Fin 3) (r : Fin 4096) (l : Fin 1024) : EReal := ∑ k, gradBranch x0 x1 x2 x3 x4 x5 b r k * x3 (ix3 b l k)

/-- The gradient at the norm's gain. -/
def gradGain (l : Fin 1024) : EReal := ∑ r : Fin 4096, x0 (ix2 r l) * (proj x1 x2 x3 x4 r l * RowNorm.rowScale (proj x1 x2 x3 x4 r))

theorem ref_norm (r : Fin 4096) (l : Fin 1024) : val_main_v85 x0 x1 x2 x3 x4 x5 (ix2 r l) = gradNorm x0 x1 x2 x3 x4 x5 r l := by
  rw [gradNorm, ← RowNorm.normGrad_eq]
  pointwise [val_main_v70, val_main_v71, val_main_v72, val_main_v73, val_main_v74, val_main_v75, val_main_v76, val_main_v77, val_main_v78, val_main_v79, val_main_v80, val_main_v81, val_main_v82, val_main_v83, val_main_v84, val_main_v85, val_main_v52, val_main_v53, val_main_v54, val_main_v55, val_main_v56, val_main_v57, val_main_v58, val_main_v59, val_main_v60, val_main_v61, val_main_v62, val_main_v63, val_main_cst_5, val_main_cst_6, val_main_cst_7, val_main_cst_8, val_main_cst_10, val_main_cst_11, val_main_cst_12,
    proj, RowNorm.rowScale, RowNorm.guarded]
  simp

theorem ref_merged (r : Fin 4096) (l : Fin 1024) : val_main_v87 x0 x1 x2 x3 x4 x5 (ix2 r l) = gradMerged x0 x1 x2 x3 x4 x5 r l := by
  pointwise [val_main_v87, gradMerged]
  exact Finset.sum_congr rfl fun k _ => by rw [ref_norm]

theorem ref_gate (r : Fin 4096) (l : Fin 1024) :
    val_main_v94 x2 (ix2 r l) = gate (x2 (ix2 r (gateCol 0 l))) ∧ val_main_v107 x2 (ix2 r l) = gate (x2 (ix2 r (gateCol 1 l)))
      ∧ val_main_v121 x2 (ix2 r l) = gate (x2 (ix2 r (gateCol 2 l))) := by
  refine ⟨?_, ?_, ?_⟩
  · have e : gateCol 0 l = ⟨7168 + l.val, by omega⟩ := Fin.ext (by simp [gateCol])
    rw [e]
    pointwise [val_main_v88, val_main_v89, val_main_v90, val_main_v91, val_main_v92, val_main_v93, val_main_v94, val_main_cst_13, val_main_cst_14, gate]
  · have e : gateCol 1 l = ⟨8192 + l.val, by omega⟩ := Fin.ext (by simp [gateCol])
    rw [e]
    pointwise [val_main_v101, val_main_v102, val_main_v103, val_main_v104, val_main_v105, val_main_v106, val_main_v107, val_main_cst_16, val_main_cst_17, gate]
  · have e : gateCol 2 l = ⟨9216 + l.val, by omega⟩ := Fin.ext (by simp [gateCol])
    rw [e]
    pointwise [val_main_v115, val_main_v116, val_main_v117, val_main_v118, val_main_v119, val_main_v120, val_main_v121, val_main_cst_19, val_main_cst_20, gate]

theorem ref_branch (b : Fin 3) (r : Fin 4096) (l : Fin 1024) : val_main_v147 x0 x1 x2 x3 x4 x5 (ix3 b r l) = gradBranch x0 x1 x2 x3 x4 x5 b r l := by
  obtain ⟨g0, g1, g2⟩ := ref_gate x2 r l
  have hb : b = 0 ∨ b = 1 ∨ b = 2 := by omega
  rcases hb with rfl | rfl | rfl
  all_goals
    pointwise [val_main_v129, val_main_v131, val_main_v132, val_main_v135, val_main_v137, val_main_v138, val_main_v139, val_main_v143, val_main_v145, val_main_v146, val_main_v147, val_main_cst_22, val_main_cst_24, val_main_cst_26, gradBranch]
    rw [ref_merged]
    simp [g0, g1, g2, mul_comm]

theorem ref_gradGate (b : Fin 3) (r : Fin 4096) (l : Fin 1024) : val_main_v150 x0 x1 x2 x3 x4 x5 (ix2 r (gateCol b l)) = gradGate x0 x1 x2 x3 x4 x5 b r l := by
  obtain ⟨g0, g1, g2⟩ := ref_gate x2 r l
  have hb : b = 0 ∨ b = 1 ∨ b = 2 := by omega
  rcases hb with rfl | rfl | rfl
  · have e : gateCol 0 l = ⟨7168 + l.val, by omega⟩ := Fin.ext (by simp [gateCol])
    rw [gradGate, ← g0, ← ref_merged, e]
    pointwise [val_main_v134, val_main_v133, val_main_v140, val_main_v141, val_main_v142, val_main_v148, val_main_v149, val_main_v150, val_main_v144, val_main_v97, val_main_v96, val_main_v95, val_main_v98, val_main_v99, val_main_v100, val_main_cst_23, val_main_cst_25, val_main_cst_27, val_main_cst_15]
    rw [dif_neg (by omega), dif_neg (by omega)]
    simp [mul_assoc]
  · have e : gateCol 1 l = ⟨8192 + l.val, by omega⟩ := Fin.ext (by simp [gateCol])
    rw [gradGate, ← g1, ← ref_merged, e]
    pointwise [val_main_v134, val_main_v133, val_main_v140, val_main_v141, val_main_v142, val_main_v148, val_main_v149, val_main_v150, val_main_v136, val_main_v108, val_main_v109, val_main_v110, val_main_v111, val_main_v112, val_main_cst_23, val_main_cst_25, val_main_cst_27, val_main_cst_18]
    rw [dif_neg (by omega), dif_neg (by omega)]
    simp [mul_assoc]
  · have e : gateCol 2 l = ⟨9216 + l.val, by omega⟩ := Fin.ext (by simp [gateCol])
    rw [gradGate, ← g2, ← ref_merged, e]
    pointwise [val_main_v134, val_main_v133, val_main_v140, val_main_v141, val_main_v142, val_main_v148, val_main_v149, val_main_v150, val_main_v130, val_main_v122, val_main_v123, val_main_v124, val_main_v125, val_main_v126, val_main_cst_23, val_main_cst_25, val_main_cst_27, val_main_cst_21]
    rw [dif_neg (by omega), dif_neg (by omega)]
    simp [mul_assoc]

theorem ref_input (b : Fin 3) (r : Fin 4096) (l : Fin 1024) : val_main_v186 x0 x1 x2 x3 x4 x5 (ix3 b r l) = gradInput x0 x1 x2 x3 x4 x5 b r l := by
  have hb : b = 0 ∨ b = 1 ∨ b = 2 := by omega
  rcases hb with rfl | rfl | rfl
  all_goals
    pointwise [val_main_v153, val_main_v154, val_main_v158, val_main_v159, val_main_v163, val_main_v164, val_main_v170, val_main_v171, val_main_v172, val_main_v173, val_main_v174, val_main_v175, val_main_v176, val_main_v177, val_main_v178, val_main_v179, val_main_v180, val_main_v181, val_main_v182, val_main_v183, val_main_v184, val_main_v185, val_main_v186, val_main_cst_28, val_main_cst_29, val_main_cst_30, gradInput]
    simp [ref_branch]

theorem ref_gain (l : Fin 1024) : val_main_v69 x0 x1 x2 x3 x4 (ix2 0 l) = gradGain x0 x1 x2 x3 x4 l := by
  pointwise [val_main_v69, val_main_v68, val_main_v67, val_main_v64, val_main_v63, val_main_v59, val_main_v58, val_main_v57, val_main_v56, val_main_v55, val_main_v54, val_main_v53, val_main_v52, val_main_cst_5, val_main_cst_6, val_main_cst_7, val_main_cst_9, gradGain,
    proj, RowNorm.rowScale, RowNorm.guarded]
  simp [mul_comm]

end Cert.MixOut

end
-- ==== Proof.MixOut.Payloads.lean ====
/- What the body's stores hold, read one entry at a time in the extended reals. -/
module

public import proofs.«01_k».proof.Proof.MixOut.RunFresh
public import proofs.«01_k».proof.Proof.MixOut.Reference

@[expose] public section

set_option maxRecDepth 16384

noncomputable section

namespace Cert.MixOut

open Idealize.ShloMosaic Idealize.ShloMosaic.TcCoe
open Cert.KernelIdeal Cert.KernelIdeal.Gen

theorem pay_norm (d : Vec Ideal S512x1024 .f32) (x : Vec Ideal S512x1024 .bf16) (g : Vec Ideal S1x1024 .f32) (r : Fin 512) (l : Fin 1024) :
    k0_pay6 d x g (ix2 r l) = RowNorm.normGrad (fun k => x (ix2 r k)) (fun k => d (ix2 r k) * g (ix2 0 k)) l := by
  pointwise [k0_pay6, k0_pay4, k0_pay3, k0_pay2, RowNorm.normGrad, RowNorm.rowScale, RowNorm.guarded]

theorem pay_merged (d : Vec Ideal S512x1024 .f32) (x : Vec Ideal S512x1024 .bf16) (g : Vec Ideal S1x1024 .f32) (w : Vec Ideal S1024x1024 .bf16)
    (r : Fin 512) (l : Fin 1024) :
    mergedGrad d x g w (ix2 r l) = ∑ k, RowNorm.normGrad (fun k => x (ix2 r k)) (fun k => d (ix2 r k) * g (ix2 0 k)) k * w (ix2 l k) := by
  have e : mergedGrad d x g w (ix2 r l) = ∑ k, k0_pay6 d x g (ix2 r k) * w (ix2 l k) := by
    unfold mergedGrad
    generalize k0_pay6 d x g = u
    pointwise [k0_pay9, k0_pay7]
  rw [e]
  exact Finset.sum_congr rfl fun k _ => by rw [pay_norm]

theorem pay_gain (d : Vec Ideal S512x1024 .f32) (x : Vec Ideal S512x1024 .bf16) (s : Vec Ideal S1x1024 .f32) (l : Fin 1024) :
    k0_pay5 d x s (ix2 0 l) = s (ix2 0 l) + ∑ r : Fin 512, d (ix2 r l) * (x (ix2 r l) * RowNorm.rowScale (fun k => x (ix2 r k))) := by
  pointwise [k0_pay5, k0_pay4, k0_pay3, k0_pay2, RowNorm.rowScale, RowNorm.guarded]

theorem pay_zero (l : Fin 1024) : k0_pay8 (F := Ideal) (ix2 0 l) = 0 := by
  pointwise [k0_pay8]

theorem pay_branch (z : Vec Ideal S512x1024 .bf16) (s : Vec Ideal S512x1024 .f32) (r : Fin 512) (l : Fin 1024) :
    k0_pay12 z s (ix3 0 r l) = s (ix2 r l) * gate (z (ix2 r l)) := by
  pointwise [k0_pay12, k0_pay11, k0_pay10, gate]
  simp

theorem pay_gate (z : Vec Ideal S512x1024 .bf16) (s : Vec Ideal S512x1024 .f32) (p : Vec Ideal S1x512x1024 .bf16) (r : Fin 512) (l : Fin 1024) :
    k0_pay13 z s p (ix2 r l) = s (ix2 r l) * p (ix3 0 r l) * gate (z (ix2 r l)) * (1 - gate (z (ix2 r l))) := by
  pointwise [k0_pay13, k0_pay10, gate]
  simp

theorem pay_input (z : Vec Ideal S512x1024 .bf16) (w : Vec Ideal S4x3x256x1024 .bf16) (b : Fin 3) (s : Vec Ideal S512x1024 .f32)
    (r : Fin 512) (l : Fin 1024) :
    dyOf z w b s (ix3 0 r l) = ∑ k, s (ix2 r k) * gate (z (ix2 r k))
      * w (ix4 ⟨l.val / 256, by omega⟩ b ⟨l.val % 256, Nat.mod_lt _ (by decide)⟩ k) := by
  have e (u : FVec Ideal S512x1024 .bf16) (v : Vec Ideal S1x1x256x1024 .bf16) (q : Fin 256) :
      k0_pay14 u v (ix3 0 r q) = ∑ k, u (ix2 r k) * v (ix4 0 0 q k) := by
    pointwise [k0_pay14]
  have e2 (k : Fin 1024) : k0_pay11 z s (ix2 r k) = s (ix2 r k) * gate (z (ix2 r k)) := by
    pointwise [k0_pay11, k0_pay10, gate]
    simp
  refine (e _ _ ⟨l.val % 256, Nat.mod_lt _ (by decide)⟩).trans (Finset.sum_congr rfl fun k _ => ?_)
  rw [e2]
  rfl

end Cert.MixOut

end
-- ==== Proof.MixOut.Blocks.lean ====
/- The blocks the call reads, one entry at a time, in terms of the arguments. -/
module

public import proofs.«01_k».proof.Proof.MixOut.Data
public import proofs.«01_k».proof.Proof.MixOut.Host
public import proofs.«01_k».proof.Proof.MixOut.Payloads

@[expose] public section

set_option maxRecDepth 16384

noncomputable section

namespace Cert.MixOut

open Idealize.ShloMosaic Idealize.ShloMosaic.TcCoe Idealize.SL.Sem
open Cert.KernelIdeal Cert.KernelIdeal.Gen
open Idealize.ShloMosaic.Pipeline (Dat Cfg Window)

variable (m : (ℓ : Loc nD τ sig) → Buf (Elt Ideal) ℓ) (c : Dev nD)

/-- The arguments as launched. -/
abbrev a0 : (⟨S4096x1024, .f32⟩ : BufTy).Contents (Elt Ideal) := m ((c : Thread nD τ).loc main_arg0)
abbrev a1 : (⟨S3x4096x1024, .f32⟩ : BufTy).Contents (Elt Ideal) := m ((c : Thread nD τ).loc main_arg1)
abbrev a2 : (⟨S4096x10240, .f32⟩ : BufTy).Contents (Elt Ideal) := m ((c : Thread nD τ).loc main_arg2)
abbrev a3 : (⟨S3x1024x1024, .f32⟩ : BufTy).Contents (Elt Ideal) := m ((c : Thread nD τ).loc main_arg3)
abbrev a4 : (⟨S1024x1024, .f32⟩ : BufTy).Contents (Elt Ideal) := m ((c : Thread nD τ).loc main_arg4)
abbrev a5 : (⟨S1x1024, .f32⟩ : BufTy).Contents (Elt Ideal) := m ((c : Thread nD τ).loc main_arg5)

/-- The token that row `r` of point `t`'s block holds. -/
def row (t : Fin cfg0.N) (r : Fin 512) : Fin 4096 :=
  ⟨t.val / 3 * 512 + r.val, by have := lt_of_lt_of_eq t.isLt N_0; omega⟩

/-- The branch of point `t`. -/
def br (t : Fin cfg0.N) : Fin 3 := ⟨t.val % 3, Nat.mod_lt _ (by decide)⟩

theorem row_rowPt (t : Fin cfg0.N) (r : Fin 512) : row (rowPt t) r = row t r := by
  refine Fin.ext ?_
  have e : (t.val - t.val % 3) / 3 = t.val / 3 := by omega
  simp only [row, rowPt, e]

theorem coords_1_val : ∀ t : Fin grid0.N, (grid0.coords t 1).val = t.val % 3 := by
  decide +kernel

theorem coords_1 (t : Fin grid0.N) : (grid0.coords t 1 : Fin 3) = br t := Fin.ext (coords_1_val t)

/-- The weights as the call takes them, cut into blocks of 256 rows. -/
theorem cut_weights (x : FVec Ideal S3x1024x1024 .f32) (q : Fin 4) (b : Fin 3) (s : Fin 256) (k : Fin 1024) :
    (truncf .bf16 (transpose S4x3x256x1024 [1, 0, 2, 3] (shapeCast S3x4x256x1024 x shapeCasts_S3x1024x1024_S3x4x256x1024)
        transposes_S3x4x256x1024_S4x3x256x1024_1_0_2_3 : FVec Ideal S4x3x256x1024 .f32) bitsLt_bf16_f32 : FVec Ideal S4x3x256x1024 .bf16)
      (ix4 q b s k) = x (ix3 b ⟨q.val * 256 + s.val, by omega⟩ k) := by
  pointwise []

theorem index_0 : ∀ t : Fin grid0.N, win0_0.index t (0 : Fin 2) = t.val / 3 ∧ win0_0.index t (1 : Fin 2) = 0 := by
  decide +kernel

theorem index_1 : ∀ t : Fin grid0.N, win0_1.index t (0 : Fin 2) = t.val / 3 ∧ win0_1.index t (1 : Fin 2) = 0 := by
  decide +kernel

theorem index_2 : ∀ t : Fin grid0.N, win0_2.index t (0 : Fin 2) = 0 ∧ win0_2.index t (1 : Fin 2) = 0 := by
  decide +kernel

theorem index_3 : ∀ t : Fin grid0.N, win0_3.index t (0 : Fin 2) = 0 ∧ win0_3.index t (1 : Fin 2) = 0 := by
  decide +kernel

theorem index_4 : ∀ t : Fin grid0.N, win0_4.index t (0 : Fin 3) = t.val % 3 ∧ win0_4.index t (1 : Fin 3) = t.val / 3 ∧ win0_4.index t (2 : Fin 3) = 0 := by
  decide +kernel

theorem index_5 : ∀ t : Fin grid0.N, win0_5.index t (0 : Fin 2) = t.val / 3 ∧ win0_5.index t (1 : Fin 2) = 7 + t.val % 3 := by
  decide +kernel

theorem index_6 : ∀ t : Fin grid0.N, win0_6.index t (0 : Fin 4) = 0 ∧ win0_6.index t (1 : Fin 4) = 0 ∧ win0_6.index t (2 : Fin 4) = 0 ∧ win0_6.index t (3 : Fin 4) = 0 := by
  decide +kernel

theorem index_7 : ∀ t : Fin grid0.N, win0_7.index t (0 : Fin 2) = t.val / 3 ∧ win0_7.index t (1 : Fin 2) = 0 := by
  decide +kernel

theorem index_8 : ∀ t : Fin grid0.N, win0_8.index t (0 : Fin 3) = t.val % 3 ∧ win0_8.index t (1 : Fin 3) = t.val / 3 ∧ win0_8.index t (2 : Fin 3) = 0 := by
  decide +kernel

theorem index_9 : ∀ t : Fin grid0.N, win0_9.index t (0 : Fin 3) = t.val % 3 ∧ win0_9.index t (1 : Fin 3) = t.val / 3 ∧ win0_9.index t (2 : Fin 3) = 0 := by
  decide +kernel

theorem index_10 : ∀ t : Fin grid0.N, win0_10.index t (0 : Fin 2) = t.val / 3 ∧ win0_10.index t (1 : Fin 2) = 7 + t.val % 3 := by
  decide +kernel

theorem index_11 : ∀ t : Fin grid0.N, win0_11.index t (0 : Fin 2) = 0 ∧ win0_11.index t (1 : Fin 2) = 0 := by
  decide +kernel

theorem blk_0 (t : Fin cfg0.N) (r : Fin 512) (k : Fin 1024) : iblk m c 0 t (ix2 r k) = a0 m c (ix2 (row t r) k) := by
  obtain ⟨h0, h1⟩ := index_0 t
  have e : ((cfg0.win 0).blk t).view.emb (ix2 r k) = ix2 (row t r) (k) := by
    funext d
    match d with
    | ⟨0, _⟩ => exact Fin.ext (show win0_0.index t (0 : Fin 2) * 512 + 1 * ((ix2 r k) (0 : Fin 2)).val = _ by rw [h0]; simp [row, br, gateCol]; try omega)
    | ⟨1, _⟩ => exact Fin.ext (show win0_0.index t (1 : Fin 2) * 1024 + 1 * ((ix2 r k) (1 : Fin 2)).val = _ by rw [h1]; simp [row, br, gateCol]; try omega)
  show V m c main_arg0 (((cfg0.win 0).blk t).view.emb (ix2 r k)) = _
  rw [e, V_main_arg0]

theorem blk_1 (t : Fin cfg0.N) (r : Fin 512) (k : Fin 1024) : iblk m c 1 t (ix2 r k) = proj (a1 m c) (a2 m c) (a3 m c) (a4 m c) (row t r) k := by
  obtain ⟨h0, h1⟩ := index_1 t
  have e : ((cfg0.win 1).blk t).view.emb (ix2 r k) = ix2 (row t r) (k) := by
    funext d
    match d with
    | ⟨0, _⟩ => exact Fin.ext (show win0_1.index t (0 : Fin 2) * 512 + 1 * ((ix2 r k) (0 : Fin 2)).val = _ by rw [h0]; simp [row, br, gateCol]; try omega)
    | ⟨1, _⟩ => exact Fin.ext (show win0_1.index t (1 : Fin 2) * 1024 + 1 * ((ix2 r k) (1 : Fin 2)).val = _ by rw [h1]; simp [row, br, gateCol]; try omega)
  show V m c main_v54 (((cfg0.win 1).blk t).view.emb (ix2 r k)) = _
  rw [e, V_m]
  rfl

theorem blk_2 (t : Fin cfg0.N) (k : Fin 1024) : iblk m c 2 t (ix2 0 k) = a5 m c (ix2 0 k) := by
  obtain ⟨h0, h1⟩ := index_2 t
  have e : ((cfg0.win 2).blk t).view.emb (ix2 0 k) = ix2 (0) (k) := by
    funext d
    match d with
    | ⟨0, _⟩ => exact Fin.ext (show win0_2.index t (0 : Fin 2) * 1 + 1 * ((ix2 0 k) (0 : Fin 2)).val = _ by rw [h0]; simp [row, br, gateCol]; try omega)
    | ⟨1, _⟩ => exact Fin.ext (show win0_2.index t (1 : Fin 2) * 1024 + 1 * ((ix2 0 k) (1 : Fin 2)).val = _ by rw [h1]; simp [row, br, gateCol]; try omega)
  show V m c main_arg5 (((cfg0.win 2).blk t).view.emb (ix2 0 k)) = _
  rw [e, V_main_arg5]

theorem blk_3 (t : Fin cfg0.N) (l k : Fin 1024) : iblk m c 3 t (ix2 l k) = a4 m c (ix2 l k) := by
  obtain ⟨h0, h1⟩ := index_3 t
  have e : ((cfg0.win 3).blk t).view.emb (ix2 l k) = ix2 (l) (k) := by
    funext d
    match d with
    | ⟨0, _⟩ => exact Fin.ext (show win0_3.index t (0 : Fin 2) * 1024 + 1 * ((ix2 l k) (0 : Fin 2)).val = _ by rw [h0]; simp [row, br, gateCol]; try omega)
    | ⟨1, _⟩ => exact Fin.ext (show win0_3.index t (1 : Fin 2) * 1024 + 1 * ((ix2 l k) (1 : Fin 2)).val = _ by rw [h1]; simp [row, br, gateCol]; try omega)
  show V m c main_v55 (((cfg0.win 3).blk t).view.emb (ix2 l k)) = _
  rw [e, V_wo]
  rfl

theorem blk_4 (t : Fin cfg0.N) (r : Fin 512) (k : Fin 1024) : iblk m c 4 t (ix3 0 r k) = Cert.ReferenceIdeal.Read.val_main_v18 (a1 m c) (a3 m c) (ix3 (br t) (row t r) k) := by
  obtain ⟨h0, h1, h2⟩ := index_4 t
  have e : ((cfg0.win 4).blk t).view.emb (ix3 0 r k) = ix3 (br t) (row t r) (k) := by
    funext d
    match d with
    | ⟨0, _⟩ => exact Fin.ext (show win0_4.index t (0 : Fin 3) * 1 + 1 * ((ix3 0 r k) (0 : Fin 3)).val = _ by rw [h0]; simp [row, br, gateCol]; try omega)
    | ⟨1, _⟩ => exact Fin.ext (show win0_4.index t (1 : Fin 3) * 512 + 1 * ((ix3 0 r k) (1 : Fin 3)).val = _ by rw [h1]; simp [row, br, gateCol]; try omega)
    | ⟨2, _⟩ => exact Fin.ext (show win0_4.index t (2 : Fin 3) * 1024 + 1 * ((ix3 0 r k) (2 : Fin 3)).val = _ by rw [h2]; simp [row, br, gateCol]; try omega)
  show V m c main_v56 (((cfg0.win 4).blk t).view.emb (ix3 0 r k)) = _
  rw [e, V_p]
  rfl

theorem blk_5 (t : Fin cfg0.N) (r : Fin 512) (k : Fin 1024) : iblk m c 5 t (ix2 r k) = a2 m c (ix2 (row t r) (gateCol (br t) k)) := by
  obtain ⟨h0, h1⟩ := index_5 t
  have e : ((cfg0.win 5).blk t).view.emb (ix2 r k) = ix2 (row t r) (gateCol (br t) k) := by
    funext d
    match d with
    | ⟨0, _⟩ => exact Fin.ext (show win0_5.index t (0 : Fin 2) * 512 + 1 * ((ix2 r k) (0 : Fin 2)).val = _ by rw [h0]; simp [row, br, gateCol]; try omega)
    | ⟨1, _⟩ => exact Fin.ext (show win0_5.index t (1 : Fin 2) * 1024 + 1 * ((ix2 r k) (1 : Fin 2)).val = _ by rw [h1]; simp [row, br, gateCol]; try omega)
  show V m c main_v57 (((cfg0.win 5).blk t).view.emb (ix2 r k)) = _
  rw [e, V_z]
  rfl

theorem blk_6 (t : Fin cfg0.N) (q : Fin 4) (b : Fin 3) (s : Fin 256) (k : Fin 1024) : iblk m c 6 t (ix4 q b s k) = a3 m c (ix3 b ⟨q.val * 256 + s.val, by omega⟩ k) := by
  obtain ⟨h0, h1, h2, h3⟩ := index_6 t
  have e : ((cfg0.win 6).blk t).view.emb (ix4 q b s k) = ix4 (q) (b) (s) (k) := by
    funext d
    match d with
    | ⟨0, _⟩ => exact Fin.ext (show win0_6.index t (0 : Fin 4) * 4 + 1 * ((ix4 q b s k) (0 : Fin 4)).val = _ by rw [h0]; simp [row, br, gateCol]; try omega)
    | ⟨1, _⟩ => exact Fin.ext (show win0_6.index t (1 : Fin 4) * 3 + 1 * ((ix4 q b s k) (1 : Fin 4)).val = _ by rw [h1]; simp [row, br, gateCol]; try omega)
    | ⟨2, _⟩ => exact Fin.ext (show win0_6.index t (2 : Fin 4) * 256 + 1 * ((ix4 q b s k) (2 : Fin 4)).val = _ by rw [h2]; simp [row, br, gateCol]; try omega)
    | ⟨3, _⟩ => exact Fin.ext (show win0_6.index t (3 : Fin 4) * 1024 + 1 * ((ix4 q b s k) (3 : Fin 4)).val = _ by rw [h3]; simp [row, br, gateCol]; try omega)
  show V m c main_v58 (((cfg0.win 6).blk t).view.emb (ix4 q b s k)) = _
  rw [e, V_wb]
  exact cut_weights (a3 m c) q b s k

end Cert.MixOut

end
-- ==== Proof.MixOut.Values.lean ====
/- What the call leaves in its five results, one entry at a time. -/
module

public import proofs.«01_k».proof.Proof.MixOut.Blocks
public import Idealize.ShloMosaic.Lib.Pipeline.ValueKit.Geometry

@[expose] public section

set_option maxRecDepth 16384

noncomputable section

namespace Cert.MixOut

open Idealize.ShloMosaic Idealize.ShloMosaic.TcCoe Idealize.SL.Sem
open Cert.KernelIdeal Cert.KernelIdeal.Gen
open Idealize.ShloMosaic.Pipeline (Dat Cfg Window)

variable (m : (ℓ : Loc nD τ sig) → Buf (Elt Ideal) ℓ) (c : Dev nD)

theorem place_7 (t : Fin cfg0.N) (r : Fin 512) (k : Fin 1024) : ((cfg0.win 7).blk t).view.emb (ix2 r k) = ix2 (row t r) (k) := by
  obtain ⟨h0, h1⟩ := index_7 t
  funext d
  match d with
  | ⟨0, _⟩ => exact Fin.ext (show win0_7.index t (0 : Fin 2) * 512 + 1 * ((ix2 r k) (0 : Fin 2)).val = _ by rw [h0]; simp [row, br, gateCol]; try omega)
  | ⟨1, _⟩ => exact Fin.ext (show win0_7.index t (1 : Fin 2) * 1024 + 1 * ((ix2 r k) (1 : Fin 2)).val = _ by rw [h1]; simp [row, br, gateCol]; try omega)

theorem place_8 (t : Fin cfg0.N) (r : Fin 512) (k : Fin 1024) : ((cfg0.win 8).blk t).view.emb (ix3 0 r k) = ix3 (br t) (row t r) (k) := by
  obtain ⟨h0, h1, h2⟩ := index_8 t
  funext d
  match d with
  | ⟨0, _⟩ => exact Fin.ext (show win0_8.index t (0 : Fin 3) * 1 + 1 * ((ix3 0 r k) (0 : Fin 3)).val = _ by rw [h0]; simp [row, br, gateCol]; try omega)
  | ⟨1, _⟩ => exact Fin.ext (show win0_8.index t (1 : Fin 3) * 512 + 1 * ((ix3 0 r k) (1 : Fin 3)).val = _ by rw [h1]; simp [row, br, gateCol]; try omega)
  | ⟨2, _⟩ => exact Fin.ext (show win0_8.index t (2 : Fin 3) * 1024 + 1 * ((ix3 0 r k) (2 : Fin 3)).val = _ by rw [h2]; simp [row, br, gateCol]; try omega)

theorem place_9 (t : Fin cfg0.N) (r : Fin 512) (k : Fin 1024) : ((cfg0.win 9).blk t).view.emb (ix3 0 r k) = ix3 (br t) (row t r) (k) := by
  obtain ⟨h0, h1, h2⟩ := index_9 t
  funext d
  match d with
  | ⟨0, _⟩ => exact Fin.ext (show win0_9.index t (0 : Fin 3) * 1 + 1 * ((ix3 0 r k) (0 : Fin 3)).val = _ by rw [h0]; simp [row, br, gateCol]; try omega)
  | ⟨1, _⟩ => exact Fin.ext (show win0_9.index t (1 : Fin 3) * 512 + 1 * ((ix3 0 r k) (1 : Fin 3)).val = _ by rw [h1]; simp [row, br, gateCol]; try omega)
  | ⟨2, _⟩ => exact Fin.ext (show win0_9.index t (2 : Fin 3) * 1024 + 1 * ((ix3 0 r k) (2 : Fin 3)).val = _ by rw [h2]; simp [row, br, gateCol]; try omega)

theorem place_10 (t : Fin cfg0.N) (r : Fin 512) (k : Fin 1024) : ((cfg0.win 10).blk t).view.emb (ix2 r k) = ix2 (row t r) (gateCol (br t) k) := by
  obtain ⟨h0, h1⟩ := index_10 t
  funext d
  match d with
  | ⟨0, _⟩ => exact Fin.ext (show win0_10.index t (0 : Fin 2) * 512 + 1 * ((ix2 r k) (0 : Fin 2)).val = _ by rw [h0]; simp [row, br, gateCol]; try omega)
  | ⟨1, _⟩ => exact Fin.ext (show win0_10.index t (1 : Fin 2) * 1024 + 1 * ((ix2 r k) (1 : Fin 2)).val = _ by rw [h1]; simp [row, br, gateCol]; try omega)

theorem norm_at (t : Fin cfg0.N) (r : Fin 512) (l : Fin 1024) : normAt m c t (ix2 r l) = gradNorm (a0 m c) (a1 m c) (a2 m c) (a3 m c) (a4 m c) (a5 m c) (row t r) l := by
  unfold normAt
  rw [pay_norm]
  simp only [blk_0, blk_1, blk_2, row_rowPt]
  rfl

theorem merged_at (t : Fin cfg0.N) (r : Fin 512) (l : Fin 1024) : mergedAt m c t (ix2 r l) = gradMerged (a0 m c) (a1 m c) (a2 m c) (a3 m c) (a4 m c) (a5 m c) (row t r) l := by
  unfold mergedAt
  rw [pay_merged]
  simp only [blk_0, blk_1, blk_2, blk_3, row_rowPt]
  rfl

theorem branch_at (t : Fin cfg0.N) (r : Fin 512) (l : Fin 1024) :
    (dats m 0 c).after 8 t (ix3 0 r l) = gradBranch (a0 m c) (a1 m c) (a2 m c) (a3 m c) (a4 m c) (a5 m c) (br t) (row t r) l := by
  rw [after_8, pay_branch, merged_at, blk_5]
  rfl

theorem gate_at (t : Fin cfg0.N) (r : Fin 512) (l : Fin 1024) :
    (dats m 0 c).after 10 t (ix2 r l) = gradGate (a0 m c) (a1 m c) (a2 m c) (a3 m c) (a4 m c) (a5 m c) (br t) (row t r) l := by
  rw [after_10, pay_gate, merged_at, blk_5, blk_4]
  rfl

theorem input_at (t : Fin cfg0.N) (r : Fin 512) (l : Fin 1024) :
    (dats m 0 c).after 9 t (ix3 0 r l) = gradInput (a0 m c) (a1 m c) (a2 m c) (a3 m c) (a4 m c) (a5 m c) (br t) (row t r) l := by
  rw [after_9]
  refine (pay_input _ _ _ _ r l).trans (Finset.sum_congr rfl fun k _ => ?_)
  have e : (⟨l.val / 256 * 256 + l.val % 256, by omega⟩ : Fin 1024) = l := Fin.ext (by simp only; omega)
  have h6 := blk_6 m c t ⟨l.val / 256, by omega⟩ (br t) ⟨l.val % 256, Nat.mod_lt _ (by decide)⟩ k
  rw [e] at h6
  rw [merged_at, blk_5]
  exact congrArg _ ((congrArg (fun b : Fin 3 => iblk m c 6 t (ix4 ⟨l.val / 256, by omega⟩ b ⟨l.val % 256, Nat.mod_lt _ (by decide)⟩ k))
    (coords_1 t)).trans h6)

/-- One block of tokens' share of the gain's gradient. -/
def gainPart (n : ℕ) (l : Fin 1024) : EReal :=
  if h : n < 8 then ∑ r : Fin 512, a0 m c (ix2 ⟨n * 512 + r.val, by omega⟩ l)
    * (proj (a1 m c) (a2 m c) (a3 m c) (a4 m c) ⟨n * 512 + r.val, by omega⟩ l
      * RowNorm.rowScale (proj (a1 m c) (a2 m c) (a3 m c) (a4 m c) ⟨n * 512 + r.val, by omega⟩)) else 0

theorem gain_step (t : Fin cfg0.N) (s : Vec Ideal S1x1024 .f32) (l : Fin 1024) :
    k0_pay5 (iblk m c 0 t) (iblk m c 1 t) s (ix2 0 l) = s (ix2 0 l) + gainPart m c (t.val / 3) l := by
  have ht : t.val / 3 < 8 := by have := lt_of_lt_of_eq t.isLt N_0; omega
  have hp (r : Fin 512) : (fun k => iblk m c 1 t (ix2 r k)) = proj (a1 m c) (a2 m c) (a3 m c) (a4 m c) (row t r) :=
    funext fun k => blk_1 m c t r k
  have hs : gainPart m c (t.val / 3) l = ∑ r : Fin 512, a0 m c (ix2 (row t r) l) * (proj (a1 m c) (a2 m c) (a3 m c) (a4 m c) (row t r) l
      * RowNorm.rowScale (proj (a1 m c) (a2 m c) (a3 m c) (a4 m c) (row t r))) := dif_pos ht
  rw [hs]
  refine (pay_gain _ _ s l).trans (congrArg (s (ix2 0 l) + ·) (Finset.sum_congr rfl fun r _ => ?_))
  rw [blk_0, hp, blk_1]

theorem gain_at (l : Fin 1024) : ∀ (n : ℕ) (h : n < cfg0.N), gainAt m c n h (ix2 0 l) = ∑ i ∈ Finset.range (n / 3 + 1), gainPart m c i l
  | 0, h => by
    rw [gainAt_zero m c ⟨0, h⟩ rfl, gain_step, pay_zero, zero_add]
    simp
  | n + 1, h => by
    by_cases h3 : (n + 1) % 3 = 0
    · have e : (n + 1) / 3 = n / 3 + 1 := by omega
      rw [gainAt_fresh m c ⟨n + 1, h⟩ (Nat.succ_ne_zero n) h3, gain_step, e, Finset.sum_range_succ]
      exact congrArg (· + _) (gain_at l n (Nat.lt_of_succ_lt h))
    · have e : (n + 1) / 3 = n / 3 := by omega
      rw [gainAt_rest m c ⟨n + 1, h⟩ h3, e]
      exact gain_at l n (Nat.lt_of_succ_lt h)

theorem gain_all (l : Fin 1024) : ∑ i ∈ Finset.range 8, gainPart m c i l = gradGain (a0 m c) (a1 m c) (a2 m c) (a3 m c) (a4 m c) l := by
  rw [gradGain, Fin.sum_univ_tiles 8 512 rfl, ← Fin.sum_univ_eq_sum_range (fun i => gainPart m c i l)]
  refine Finset.sum_congr rfl fun i _ => ?_
  rw [gainPart, dif_pos i.isLt]

set_option backward.isDefEq.respectTransparency.types false in
theorem final_norm : (dats m 0 c).arrAt 7 cfg0.N = (fun i => gradNorm (a0 m c) (a1 m c) (a2 m c) (a3 m c) (a4 m c) (a5 m c) (i 0) (i 1) : (⟨S4096x1024, .bf16⟩ : BufTy).Contents (Elt Ideal)) := by
  refine (dats m 0 c).arrAt_eq_of_covers 7 _ (by decide +kernel) fun t hf y => ?_
  obtain ⟨r, k, rfl⟩ : ∃ (r : Fin 512) (k : Fin 1024), y = ix2 r k := ⟨y 0, y 1, eq_ix2 y⟩
  rw [place_7]
  show (dats m 0 c).after 7 t (ix2 r k) = _
  rw [after_7, norm_at]
  rfl

set_option backward.isDefEq.respectTransparency.types false in
theorem final_branch : (dats m 0 c).arrAt 8 cfg0.N = (fun i => gradBranch (a0 m c) (a1 m c) (a2 m c) (a3 m c) (a4 m c) (a5 m c) (i 0) (i 1) (i 2) : (⟨S3x4096x1024, .bf16⟩ : BufTy).Contents (Elt Ideal)) := by
  refine (dats m 0 c).arrAt_eq_of_covers 8 _ (by decide +kernel) fun t hf y => ?_
  obtain ⟨u, r, k, rfl⟩ : ∃ (u : Fin 1) (r : Fin 512) (k : Fin 1024), y = ix3 u r k := ⟨y 0, y 1, y 2, eq_ix3 y⟩
  obtain rfl := Subsingleton.elim u 0
  rw [place_8]
  show (dats m 0 c).after 8 t (ix3 0 r k) = _
  rw [branch_at]
  rfl

set_option backward.isDefEq.respectTransparency.types false in
theorem final_input : (dats m 0 c).arrAt 9 cfg0.N = (fun i => gradInput (a0 m c) (a1 m c) (a2 m c) (a3 m c) (a4 m c) (a5 m c) (i 0) (i 1) (i 2) : (⟨S3x4096x1024, .bf16⟩ : BufTy).Contents (Elt Ideal)) := by
  refine (dats m 0 c).arrAt_eq_of_covers 9 _ (by decide +kernel) fun t hf y => ?_
  obtain ⟨u, r, k, rfl⟩ : ∃ (u : Fin 1) (r : Fin 512) (k : Fin 1024), y = ix3 u r k := ⟨y 0, y 1, y 2, eq_ix3 y⟩
  obtain rfl := Subsingleton.elim u 0
  rw [place_9]
  show (dats m 0 c).after 9 t (ix3 0 r k) = _
  rw [input_at]
  rfl

/-- The point that writes token `r` of branch `b`. -/
def pointOf (b : Fin 3) (r : Fin 4096) : Fin cfg0.N := ⟨3 * (r.val / 512) + b.val, by have := N_0; show _ < grid0.N; omega⟩

theorem flush_10 : ∀ t : Fin cfg0.N, (cfg0.win 10).flush t = true := by decide +kernel

theorem apart_10 : ∀ t t' : Fin cfg0.N, (cfg0.win 10).index t = (cfg0.win 10).index t' → t = t' := by decide +kernel

set_option backward.isDefEq.respectTransparency.types false in
theorem final_gate (b : Fin 3) (r : Fin 4096) (l : Fin 1024) :
    ((dats m 0 c).arrAt 10 cfg0.N : (⟨S4096x10240, .bf16⟩ : BufTy).Contents (Elt Ideal)) (ix2 r (gateCol b l)) = gradGate (a0 m c) (a1 m c) (a2 m c) (a3 m c) (a4 m c) (a5 m c) b r l := by
  have hb : br (pointOf b r) = b := Fin.ext (by simp only [br, pointOf]; omega)
  have hr : row (pointOf b r) ⟨r.val % 512, Nat.mod_lt _ (by decide)⟩ = r := Fin.ext (by simp only [row, pointOf]; omega)
  have h := (dats m 0 c).arrAt_emb_eq_flushed 10
    (Window.hdisj_of_index_inj _ fun t t' _ _ => apart_10 t t') (pointOf b r) (flush_10 _) (ix2 ⟨r.val % 512, Nat.mod_lt _ (by decide)⟩ l)
  rw [place_10, hb, hr] at h
  refine h.trans ?_
  refine Eq.trans ?_ ((gate_at m c (pointOf b r) ⟨r.val % 512, Nat.mod_lt _ (by decide)⟩ l).trans (by rw [hb, hr]))
  rfl

set_option backward.isDefEq.respectTransparency.types false in
theorem final_gain (l : Fin 1024) :
    ((dats m 0 c).arrAt 11 cfg0.N : (⟨S1x1024, .f32⟩ : BufTy).Contents (Elt Ideal)) (ix2 0 l) = gradGain (a0 m c) (a1 m c) (a2 m c) (a3 m c) (a4 m c) l := by
  have h := (dats m 0 c).arrAt_emb_eq_after_last 11 ⟨23, by decide⟩ (by decide +kernel) (ix2 0 l)
  refine (h.trans ?_)
  show (dats m 0 c).after 11 ⟨23, by decide⟩ (ix2 0 l) = _
  rw [after_11, gain_at]
  exact gain_all m c l

end Cert.MixOut

end
-- ==== Proof.MixOut.Printed.lean ====
/- The call before idealization. Its program has the same text as the idealized one, so the two bodies are equal and the
   run of the one, which holds over any float values, is a run of the other. -/
module

public import proofs.«01_k».proof.Defs
public import proofs.«01_k».proof.Proof.Gen.Kernel
public import proofs.«01_k».proof.Proof.MixOut.Data
public import Idealize.ShloMosaic.Lib.Claim

@[expose] public section

set_option maxRecDepth 16384

noncomputable section

namespace Cert.MixOut

open Idealize.ShloMosaic Idealize.ShloMosaic.TcCoe Idealize.SL.Sem
open Cert.KernelIdeal Cert.KernelIdeal.Gen

/-- The call's run over any float values keeps the arguments and leaves every semaphore at zero. -/
theorem run_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) ((θ_run defs _ _).mono (fun _ h => h.1) (run_all m ρ)))
    ((θ_run defs _ _).mono (fun _ h => h.2) (run_all m ρ))

theorem kernel_frame : Cert.quiescent_KernelIdeal := fun m ρ _ => run_frame m ρ

set_option maxHeartbeats 1000000 in
theorem same_body : @Cert.Kernel.cc0_mix_out_bwd Bits _ _ = @Cert.KernelIdeal.cc0_mix_out_bwd Bits _ _ := rfl

set_option maxHeartbeats 1000000 in
theorem same_table : Cert.Kernel.defs₀ (F := Bits) = Cert.KernelIdeal.defs₀ (F := Bits) := by
  unfold Cert.Kernel.defs₀ Cert.KernelIdeal.defs₀
  refine congrArg Defs.onTc (funext fun p => ?_)
  match p with
  | ⟨0, _⟩ => funext a; rfl

set_option maxHeartbeats 1000000 in
theorem same_defs : Cert.Kernel.defs (F := Bits) = Cert.KernelIdeal.defs (F := Bits) :=
  congrArg (Pipeline.defs Cert.KernelIdeal.pcfgs) same_table

set_option maxHeartbeats 1000000 in
theorem same_main : Cert.Kernel.main (F := Bits) = Cert.KernelIdeal.main (F := Bits) := rfl

/-- Equal programs have equal runs. -/
theorem run_of_eq {nD : Nat} {τ : Topo} {sig : RefSig} {Λ : Labels} {Val : EltTy → Type} {D D' : Defs nD τ sig Val Λ}
    {p p' : (c : Thread nD τ) → Prog (TpuEff nD τ sig Val Λ c.2) PUnit} {s : MemSt nD τ sig Val}
    {Q : PUnit × MemSt nD τ sig Val → Prop} (hD : D = D') (hp : p = p') (h : θ_run D' p' s Q) : θ_run D p s Q := by
  subst hD hp
  exact h

set_option maxHeartbeats 1000000 in
theorem printed_frame : Cert.quiescent_Kernel := fun m ρ _ =>
  run_of_eq same_defs (congrArg (onTc (τ := τ)) same_main) (run_frame (F := Bits) m ρ)

end Cert.MixOut

end
-- ==== Proof.MixOut.Claim.lean ====
/- The claims about the call at the end of the token mixing: its run over the extended reals, the reference's run, and the
   equality of their five results. -/
module

public import proofs.«01_k».proof.Defs
public import proofs.«01_k».proof.Proof.MixOut.Values
public import proofs.«01_k».proof.Proof.Gen.ReferenceIdeal.Run
public import proofs.«01_k».proof.Proof.Gen.ReferenceIdeal.Read
public import proofs.«01_k».proof.Proof.MixOut.Printed
public import proofs.«01_k».proof.Proof.Gen.On_gate_columns
public import Idealize.ShloMosaic.Lib.Quiescent
public import Idealize.ShloMosaic.Lib.Claim

@[expose] public section

set_option maxRecDepth 16384

noncomputable section

namespace Cert.MixOut

open Idealize.ShloMosaic Idealize.ShloMosaic.TcCoe Idealize.SL.Sem
open Cert.KernelIdeal Cert.KernelIdeal.Gen
open Cert.ReferenceIdeal.Read

/-- The reference's run keeps the arguments; it has no semaphores. -/
theorem reference_frame : Cert.quiescent_ReferenceIdeal := fun m ρ _ =>
  (θ_run Cert.ReferenceIdeal.defs _ _).mono
    (fun r h => ⟨fun c => (h c).2.2.2.2.2, sem_eq_zero_of_no_sems (by decide) r.2⟩) (Cert.ReferenceIdeal.Value.run m ρ)

variable (m : (ℓ : Loc nD τ sig) → Buf (Elt Ideal) ℓ) (c : Dev nD)

theorem norm_eq : (dats m 0 c).arrAt 7 cfg0.N = val_main_v187 (a0 m c) (a1 m c) (a2 m c) (a3 m c) (a4 m c) (a5 m c) := by
  rw [final_norm]
  funext i
  have h := ref_norm (a0 m c) (a1 m c) (a2 m c) (a3 m c) (a4 m c) (a5 m c) (i 0) (i 1)
  exact h.symm.trans (congrArg (val_main_v85 (a0 m c) (a1 m c) (a2 m c) (a3 m c) (a4 m c) (a5 m c)) (eq_ix2 i).symm)

theorem branch_eq : (dats m 0 c).arrAt 8 cfg0.N = val_main_v188 (a0 m c) (a1 m c) (a2 m c) (a3 m c) (a4 m c) (a5 m c) := by
  rw [final_branch]
  funext i
  have h := ref_branch (a0 m c) (a1 m c) (a2 m c) (a3 m c) (a4 m c) (a5 m c) (i 0) (i 1) (i 2)
  exact h.symm.trans (congrArg (val_main_v147 (a0 m c) (a1 m c) (a2 m c) (a3 m c) (a4 m c) (a5 m c)) (eq_ix3 i).symm)

theorem input_eq : (dats m 0 c).arrAt 9 cfg0.N = val_main_v189 (a0 m c) (a1 m c) (a2 m c) (a3 m c) (a4 m c) (a5 m c) := by
  rw [final_input]
  funext i
  have h := ref_input (a0 m c) (a1 m c) (a2 m c) (a3 m c) (a4 m c) (a5 m c) (i 0) (i 1) (i 2)
  exact h.symm.trans (congrArg (val_main_v186 (a0 m c) (a1 m c) (a2 m c) (a3 m c) (a4 m c) (a5 m c)) (eq_ix3 i).symm)

theorem gain_eq : (dats m 0 c).arrAt 11 cfg0.N = val_main_v69 (a0 m c) (a1 m c) (a2 m c) (a3 m c) (a4 m c) := by
  funext (i : S1x1024.Idx)
  have e : i = ix2 (0 : Fin 1) (i 1) := (eq_ix2 i).trans (congrArg (fun u : Fin 1 => ix2 u (i 1)) (Subsingleton.elim (α := Fin 1) (i 0) 0))
  rw [e]
  exact (final_gain m c (i 1)).trans (ref_gain (a0 m c) (a1 m c) (a2 m c) (a3 m c) (a4 m c) (i 1)).symm

/-- A column the mask keeps is one of the gates'. -/
theorem gate_column (i : S4096x10240.Idx) (h : 7168 ≤ (i 1).val) : ∃ (b : Fin 3) (r : Fin 4096) (l : Fin 1024), i = ix2 r (gateCol b l) := by
  have h1 : (i 1).val < 10240 := (i 1).isLt
  refine ⟨⟨((i 1).val - 7168) / 1024, by omega⟩, i 0, ⟨((i 1).val - 7168) % 1024, by omega⟩, ?_⟩
  have e : gateCol ⟨((i 1).val - 7168) / 1024, by omega⟩ ⟨((i 1).val - 7168) % 1024, by omega⟩ = i 1 := Fin.ext (by simp only [gateCol]; omega)
  rw [e]
  exact eq_ix2 i

/-- The mask of the fourth result, read. -/
theorem mask_column (x0 : FVec Ideal S4096x1024 .f32) (x1 : FVec Ideal S3x4096x1024 .f32) (x2 : FVec Ideal S4096x10240 .f32)
    (x3 : FVec Ideal S3x1024x1024 .f32) (x4 : FVec Ideal S1024x1024 .f32) (x5 : FVec Ideal S1x1024 .f32) (i : S4096x10240.Idx)
    (h : (Cert.On_gate_columns.fn (F := Ideal) x0 x1 x2 x3 x4 x5).2.2.2.1 i = 1#1) : 7168 ≤ (i 1).val := by
  have h1 : (i 1).val < 10240 := (i 1).isLt
  replace h : BitVec.ofBool ((7168#32).sle (BitVec.ofNat 32 (i 1).val)) = 1#1 := h
  generalize (i 1).val = n at h h1 ⊢
  by_contra hc
  have hn : (BitVec.ofNat 32 n).toInt = n := by
    rw [BitVec.toInt_eq_toNat_of_lt] <;> simp only [BitVec.toNat_ofNat] <;> omega
  have h0 : (7168#32).sle (BitVec.ofNat 32 n) = false := by
    rw [BitVec.sle, hn, decide_eq_false_iff_not]
    show ¬ (7168 : ℤ) ≤ n
    omega
  rw [h0] at h
  exact absurd h (by decide)

theorem gate_eq (i : S4096x10240.Idx)
    (h : (Cert.On_gate_columns.fn (F := Ideal) (a0 m c) (a1 m c) (a2 m c) (a3 m c) (a4 m c) (a5 m c)).2.2.2.1 i = 1#1) :
    ((dats m 0 c).arrAt 10 cfg0.N : (⟨S4096x10240, .bf16⟩ : BufTy).Contents (Elt Ideal)) i
      = val_main_v190 (a0 m c) (a1 m c) (a2 m c) (a3 m c) (a4 m c) (a5 m c) i := by
  obtain ⟨b, r, l, rfl⟩ := gate_column i (mask_column _ _ _ _ _ _ i h)
  exact (final_gate m c b r l).trans (ref_gradGate (a0 m c) (a1 m c) (a2 m c) (a3 m c) (a4 m c) (a5 m c) b r l).symm

theorem congr_five {A B C D E R : Type} (f : A → B → C → D → E → R) {a a' : A} {b b' : B} {c c' : C} {d d' : D} {e e' : E}
    (ha : a = a') (hb : b = b') (hc : c = c') (hd : d = d') (he : e = e') : f a b c d e = f a' b' c' d' e' := by
  rw [ha, hb, hc, hd, he]

theorem congr_six {A B C D E G R : Type} (f : A → B → C → D → E → G → R) {a a' : A} {b b' : B} {c c' : C} {d d' : D} {e e' : E}
    {g g' : G} (ha : a = a') (hb : b = b') (hc : c = c') (hd : d = d') (he : e = e') (hg : g = g') : f a b c d e g = f a' b' c' d' e' g' := by
  rw [ha, hb, hc, hd, he, hg]

/-- The call and the reference agree: every entry of four results, and of the fifth the columns of the gates. -/
theorem agree : Cert.algebraic_KernelIdeal_ReferenceIdeal_on_gate_columns := by
  intro m g m' g' _ hm
  refine ⟨fun c => val_main_v187 (a0 m c) (a1 m c) (a2 m c) (a3 m c) (a4 m c) (a5 m c), fun c => val_main_v188 (a0 m c) (a1 m c) (a2 m c) (a3 m c) (a4 m c) (a5 m c),
    fun c => val_main_v189 (a0 m c) (a1 m c) (a2 m c) (a3 m c) (a4 m c) (a5 m c), fun c => val_main_v190 (a0 m c) (a1 m c) (a2 m c) (a3 m c) (a4 m c) (a5 m c),
    fun c => val_main_v69 (a0 m c) (a1 m c) (a2 m c) (a3 m c) (a4 m c), ?_, ?_⟩
  · refine (θ_run defs _ _).mono (fun r h c => ?_) (θ_run_and (run_all m g) (kernel_frame m g trivial))
    obtain ⟨⟨hf, _⟩, hk, _⟩ := h
    have hw := (hf c).1
    exact ⟨fun i _ => congrFun ((hw 7).trans (norm_eq m c)) i, fun i _ => congrFun ((hw 8).trans (branch_eq m c)) i,
      fun i _ => congrFun ((hw 9).trans (input_eq m c)) i, fun i hi => (congrFun (hw 10) i).trans (gate_eq m c i hi),
      fun i _ => congrFun ((hw 11).trans (gain_eq m c)) i, hk c⟩
  · refine (θ_run Cert.ReferenceIdeal.defs _ _).mono (fun r h c => ?_) (Cert.ReferenceIdeal.Value.run m' g')
    obtain ⟨h0, h1, h2, h3, h4, h5⟩ := hm c
    obtain ⟨r0, r1, r2, r3, r4, hk⟩ := h c
    have q0 := r0.trans (val_main_v187_eq (StableHlo.launchContents m' c))
    have q1 := r1.trans (val_main_v188_eq (StableHlo.launchContents m' c))
    have q2 := r2.trans (val_main_v189_eq (StableHlo.launchContents m' c))
    have q3 := r3.trans (val_main_v190_eq (StableHlo.launchContents m' c))
    have q4 := r4.trans (val_main_v69_eq (StableHlo.launchContents m' c))
    exact ⟨fun i _ => congrFun (q0.trans (congr_six _ h0 h1 h2 h3 h4 h5)) i, fun i _ => congrFun (q1.trans (congr_six _ h0 h1 h2 h3 h4 h5)) i,
      fun i _ => congrFun (q2.trans (congr_six _ h0 h1 h2 h3 h4 h5)) i, fun i _ => congrFun (q3.trans (congr_six _ h0 h1 h2 h3 h4 h5)) i,
      fun i _ => congrFun (q4.trans (congr_five _ h0 h1 h2 h3 h4)) i, hk⟩

end Cert.MixOut

end
-- ==== Proof.Wgrad.Ff2.lean ====
/- The weight gradient of the second feed-forward layer: what the call leaves in its result, entry by entry. -/
module

public import proofs.«01_k».proof.Proof.Gen.WFf2Ideal.Value
public import proofs.«01_k».proof.Proof.Gen.WFf2RefIdeal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.Wgrad.Ff2

open Idealize.ShloMosaic Idealize.ShloMosaic.TcCoe Idealize.SL.Sem
open Cert.WFf2Ideal Cert.WFf2Ideal.Gen
open Cert.WFf2RefIdeal.Read

/-- The square of the positive part. -/
def sq (x : EReal) : EReal := max x 0 * max x 0

/-- A point adds its tile's product to the sums so far. -/
theorem step_at (x : FVec Ideal S1024x1024 .bf16) (s : FVec Ideal S1024x1024 .f32) (y : FVec Ideal S1024x1024 .bf16) (a : Fin 1024) (b : Fin 1024) :
    k0_pay2 (F := Ideal) x s y (ix2 a b) = s (ix2 a b) + ∑ r : Fin 1024, sq (x (ix2 r a)) * y (ix2 r b) := by
  pointwise [k0_pay2]
  try simp [sq]

theorem zero_at (a : Fin 1024) (b : Fin 1024) : k0_pay1 (F := Ideal) (ix2 a b) = 0 := by
  pointwise [k0_pay1]
  try simp

theorem cast_at (s : FVec Ideal S1024x1024 .f32) (a : Fin 1024) (b : Fin 1024) : k0_pay3 (F := Ideal) s (ix3 (0 : Fin 1) a b) = s (ix2 a b) := by
  pointwise [k0_pay3]

/-- Column `l` of the column tile `q`. -/
abbrev col (q : ℕ) (l : Fin 1024) : Fin 4096 := ⟨1024 * (q % 4) + l.val, by omega⟩

theorem ref_at (x : FVec Ideal S4096x4096 .f32) (y : FVec Ideal S4096x1024 .f32) (q : Fin 4) (a : Fin 1024) (b : Fin 1024) :
    val_main_v7 (F := Ideal) x y (ix3 q a b) = ∑ r : Fin 4096, sq (x (ix2 r (col q.val a))) * y (ix2 r b) := by
  have e : ∀ l : Fin 1024, col q.val l = ⟨q.val * 1024 + l.val, by omega⟩ := fun l => Fin.ext (by simp only [col]; omega)
  rw [e]
  pointwise [val_main_v7, val_main_v6, val_main_v5, val_main_v4, val_main_v3, val_main_v2, val_main_v1, val_main_v0, val_main_call0_v0, val_main_call0_cst]
  try simp [mul_comm, sq]

variable (m : (ℓ : Loc nD τ sig) → Buf (Elt Ideal) ℓ) (c : Dev nD)

/-- The two arguments. -/
abbrev a0 : FVec Ideal S4096x4096 .f32 := m ((c : Thread nD τ).loc main_arg0)
abbrev a1 : FVec Ideal S4096x1024 .f32 := m ((c : Thread nD τ).loc main_arg1)

theorem V_left : V m c main_v0 = (a0 m c : FVec Ideal S4096x4096 .f32) := by
  show StableHlo.after hostOps0 _ (Proc.devRef .tc main_v0) = _
  after_results_simp
  rfl

theorem V_right : V m c main_v1 = (a1 m c : FVec Ideal S4096x1024 .f32) := by
  show StableHlo.after hostOps0 _ (Proc.devRef .tc main_v1) = _
  after_results_simp
  rfl

theorem index_0 : ∀ t : Fin grid0.N, win0_0.index t (0 : Fin 2) = t.val % 4 ∧ win0_0.index t (1 : Fin 2) = t.val / 4 := by decide +kernel
theorem index_1 : ∀ t : Fin grid0.N, win0_1.index t (0 : Fin 2) = t.val % 4 ∧ win0_1.index t (1 : Fin 2) = 0 := by decide +kernel
theorem index_2 : ∀ t : Fin grid0.N, win0_2.index t (0 : Fin 3) = t.val / 4 ∧ win0_2.index t (1 : Fin 3) = 0 ∧ win0_2.index t (2 : Fin 3) = 0 := by decide +kernel

theorem point_lt (t : Fin cfg0.N) : t.val < 16 := Nat.lt_of_lt_of_eq t.isLt N_0

/-- Row `r` of the tile of point `t`. -/
abbrev row (t : ℕ) (r : Fin 1024) : Fin 4096 := ⟨1024 * (t % 4) + r.val, by omega⟩

theorem blk_0 (t : Fin cfg0.N) (r a : Fin 1024) : iblk m c 0 t (ix2 r a) = a0 m c (ix2 (row t r) (col (t.val / 4) a)) := by
  obtain ⟨h0, h1⟩ := index_0 t
  have ht := point_lt t
  have e : ((cfg0.win 0).blk t).view.emb (ix2 r a) = ix2 (row t r) (col (t.val / 4) a) := by
    funext d
    match d with
    | ⟨0, _⟩ => exact Fin.ext (show win0_0.index t (0 : Fin 2) * 1024 + 1 * ((ix2 r a) (0 : Fin 2)).val = _ by rw [h0]; simp [row]; try omega)
    | ⟨1, _⟩ => exact Fin.ext (show win0_0.index t (1 : Fin 2) * 1024 + 1 * ((ix2 r a) (1 : Fin 2)).val = _ by rw [h1]; simp [col]; try omega)
  show V m c main_v0 (((cfg0.win 0).blk t).view.emb (ix2 r a)) = _
  rw [e, V_left]

theorem blk_1 (t : Fin cfg0.N) (r : Fin 1024) (b : Fin 1024) : iblk m c 1 t (ix2 r b) = a1 m c (ix2 (row t r) b) := by
  obtain ⟨h0, h1⟩ := index_1 t
  have ht := point_lt t
  have e : ((cfg0.win 1).blk t).view.emb (ix2 r b) = ix2 (row t r) b := by
    funext d
    match d with
    | ⟨0, _⟩ => exact Fin.ext (show win0_1.index t (0 : Fin 2) * 1024 + 1 * ((ix2 r b) (0 : Fin 2)).val = _ by rw [h0]; simp [row]; try omega)
    | ⟨1, _⟩ => exact Fin.ext (show win0_1.index t (1 : Fin 2) * 1024 + 1 * ((ix2 r b) (1 : Fin 2)).val = _ by rw [h1]; simp [col]; try omega)
  show V m c main_v1 (((cfg0.win 1).blk t).view.emb (ix2 r b)) = _
  rw [e, V_right]

/-- The product of the tiles of point `t`. -/
def tile (t : Fin cfg0.N) (j : S1024x1024.Idx) : EReal :=
  ∑ r : Fin 1024, sq (a0 m c (ix2 (row t r) (col (t.val / 4) (j 0)))) * a1 m c (ix2 (row t r) (j 1))

theorem first (t : Fin cfg0.N) (h : t.val % 4 = 0) (j : S1024x1024.Idx) :
    (outsAt0 m c t.val t.isLt).2 j = 0 + tile m c t j := by
  obtain ⟨a, b, rfl⟩ : ∃ a b, j = ix2 a b := ⟨_, _, eq_ix2 j⟩
  rw [outsAt0_A m c t h (by omega)]
  frame_out
  rw [step_at, zero_at]
  simp only [blk_0, blk_1]
  rfl

theorem later (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + tile m c t j := by
  obtain ⟨a, b, rfl⟩ : ∃ a b, j = ix2 a b := ⟨_, _, eq_ix2 j⟩
  by_cases h1 : t.val % 4 = 3
  · rw [outsAt0_C m c t h h1]
    frame_out
    rw [step_at, (Memref.isWhole_whole cc0_scratch0).read_unread]
    simp only [blk_0, blk_1]
    rfl
  · rw [outsAt0_B m c t h h1]
    frame_out
    rw [step_at, (Memref.isWhole_whole cc0_scratch0).read_unread]
    simp only [blk_0, blk_1]
    rfl

theorem written (t : Fin cfg0.N) (h : t.val % 4 = 3) (a : Fin 1024) (b : Fin 1024) :
    (outsAt0 m c t.val t.isLt).1 (ix3 (0 : Fin 1) a b) = (outsAt0 m c t.val t.isLt).2 (ix2 a b) := by
  rw [outsAt0_C m c t (by omega) h]
  frame_out
  rw [cast_at]

theorem final_at (t : Fin cfg0.N) (h : t.val % 4 = 3) (q : Fin 4) (hq : q.val = t.val / 4) (a : Fin 1024) (b : Fin 1024) :
    (outsAt0 m c t.val t.isLt).1 (ix3 (0 : Fin 1) a b) = val_main_v7 (F := Ideal) (a0 m c) (a1 m c) (ix3 q a b) := by
  rw [written m c t h, Pipeline.eq_sum_fin_of_reset_step_apply_of_flush (fun n h => (outsAt0 m c n h).2) 4 (fun _ => 0) (tile m c)
    (first m c) (later m c) t h, ref_at, zero_add, Fin.sum_univ_tiles 4 1024 rfl]
  refine Finset.sum_congr rfl fun s _ => ?_
  refine Finset.sum_congr rfl fun r _ => ?_
  have e : row (4 * (t.val / 4) + s.val) r = ⟨s.val * 1024 + r.val, by omega⟩ := Fin.ext (by simp only [row]; omega)
  have e' : (4 * (t.val / 4) + s.val) / 4 = q.val := by omega
  show sq (a0 m c (ix2 (row (4 * (t.val / 4) + s.val) r) (col ((4 * (t.val / 4) + s.val) / 4) a))) * a1 m c (ix2 (row (4 * (t.val / 4) + s.val) r) b) = _
  rw [e, e']

theorem place_2 (t : Fin cfg0.N) (q : Fin 4) (hq : q.val = t.val / 4) (a : Fin 1024) (b : Fin 1024) :
    ((cfg0.win 2).blk t).view.emb (ix3 (0 : Fin 1) a b) = ix3 q a b := by
  obtain ⟨h0, h1, h2⟩ := index_2 t
  funext d
  match d with
  | ⟨0, _⟩ => exact Fin.ext (show win0_2.index t (0 : Fin 3) * 1 + 1 * ((ix3 (0 : Fin 1) a b) (0 : Fin 3)).val = _ by rw [h0]; simp [hq])
  | ⟨1, _⟩ => exact Fin.ext (show win0_2.index t (1 : Fin 3) * 1024 + 1 * ((ix3 (0 : Fin 1) a b) (1 : Fin 3)).val = _ by rw [h1]; simp)
  | ⟨2, _⟩ => exact Fin.ext (show win0_2.index t (2 : Fin 3) * 1024 + 1 * ((ix3 (0 : Fin 1) a b) (2 : Fin 3)).val = _ by rw [h2]; simp)

set_option backward.isDefEq.respectTransparency.types false in
/-- The result the call leaves is the reference's. -/
theorem final : (dats m 0 c).arrAt 2 cfg0.N = val_main_v7 (F := Ideal) (a0 m c) (a1 m c) := by
  refine (dats m 0 c).arrAt_eq_of_covers 2 _ (by decide +kernel) fun t hf y => ?_
  have ht := point_lt t
  obtain ⟨a, b, rfl⟩ : ∃ (a : Fin 1024) (b : Fin 1024), y = ix3 (0 : Fin 1) a b :=
    ⟨y 1, y 2, (eq_ix3 y).trans (congrArg (fun u : Fin 1 => ix3 u (y 1) (y 2)) (Subsingleton.elim (α := Fin 1) (y 0) 0))⟩
  rw [place_2 t ⟨t.val / 4, by omega⟩ rfl]
  show (dats m 0 c).after 2 t (ix3 (0 : Fin 1) a b) = _
  rw [after0_2]
  exact final_at m c t ((flush0_2 t).mp hf) ⟨t.val / 4, by omega⟩ rfl a b

end Cert.Wgrad.Ff2

end
-- ==== Proof.Wgrad.Ff1.lean ====
/- The weight gradient of the first feed-forward layer: what the call leaves in its result, entry by entry. -/
module

public import proofs.«01_k».proof.Proof.Gen.WFf1Ideal.Value
public import proofs.«01_k».proof.Proof.Gen.WFf1RefIdeal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.Wgrad.Ff1

open Idealize.ShloMosaic Idealize.ShloMosaic.TcCoe Idealize.SL.Sem
open Cert.WFf1Ideal Cert.WFf1Ideal.Gen
open Cert.WFf1RefIdeal.Read

/-- A point adds its tile's product to the sums so far. -/
theorem step_at (x : FVec Ideal S1024x1024 .bf16) (s : FVec Ideal S1024x1024 .f32) (y : FVec Ideal S1024x1024 .bf16) (a : Fin 1024) (b : Fin 1024) :
    k0_pay2 (F := Ideal) x s y (ix2 a b) = s (ix2 a b) + ∑ r : Fin 1024, x (ix2 r a) * y (ix2 r b) := by
  pointwise [k0_pay2]
  try simp

theorem zero_at (a : Fin 1024) (b : Fin 1024) : k0_pay1 (F := Ideal) (ix2 a b) = 0 := by
  pointwise [k0_pay1]
  try simp

theorem cast_at (s : FVec Ideal S1024x1024 .f32) (a : Fin 1024) (b : Fin 1024) : k0_pay3 (F := Ideal) s (ix3 (0 : Fin 1) a b) = s (ix2 a b) := by
  pointwise [k0_pay3]

/-- Column `l` of the column tile `q`. -/
abbrev col (q : ℕ) (l : Fin 1024) : Fin 4096 := ⟨1024 * (q % 4) + l.val, by omega⟩

theorem ref_at (x : FVec Ideal S4096x1024 .f32) (y : FVec Ideal S4096x4096 .f32) (q : Fin 4) (a : Fin 1024) (b : Fin 1024) :
    val_main_v6 (F := Ideal) x y (ix3 q a b) = ∑ r : Fin 4096, x (ix2 r a) * y (ix2 r (col q.val b)) := by
  have e : ∀ l : Fin 1024, col q.val l = ⟨q.val * 1024 + l.val, by omega⟩ := fun l => Fin.ext (by simp only [col]; omega)
  rw [e]
  pointwise [val_main_v6, val_main_v5, val_main_v4, val_main_v3, val_main_v2, val_main_v1, val_main_v0]
  try simp [mul_comm]

variable (m : (ℓ : Loc nD τ sig) → Buf (Elt Ideal) ℓ) (c : Dev nD)

/-- The two arguments. -/
abbrev a0 : FVec Ideal S4096x1024 .f32 := m ((c : Thread nD τ).loc main_arg0)
abbrev a1 : FVec Ideal S4096x4096 .f32 := m ((c : Thread nD τ).loc main_arg1)

theorem V_left : V m c main_v0 = (a0 m c : FVec Ideal S4096x1024 .f32) := by
  show StableHlo.after hostOps0 _ (Proc.devRef .tc main_v0) = _
  after_results_simp
  rfl

theorem V_right : V m c main_v1 = (a1 m c : FVec Ideal S4096x4096 .f32) := by
  show StableHlo.after hostOps0 _ (Proc.devRef .tc main_v1) = _
  after_results_simp
  rfl

theorem index_0 : ∀ t : Fin grid0.N, win0_0.index t (0 : Fin 2) = t.val % 4 ∧ win0_0.index t (1 : Fin 2) = 0 := by decide +kernel
theorem index_1 : ∀ t : Fin grid0.N, win0_1.index t (0 : Fin 2) = t.val % 4 ∧ win0_1.index t (1 : Fin 2) = t.val / 4 := by decide +kernel
theorem index_2 : ∀ t : Fin grid0.N, win0_2.index t (0 : Fin 3) = t.val / 4 ∧ win0_2.index t (1 : Fin 3) = 0 ∧ win0_2.index t (2 : Fin 3) = 0 := by decide +kernel

theorem point_lt (t : Fin cfg0.N) : t.val < 16 := Nat.lt_of_lt_of_eq t.isLt N_0

/-- Row `r` of the tile of point `t`. -/
abbrev row (t : ℕ) (r : Fin 1024) : Fin 4096 := ⟨1024 * (t % 4) + r.val, by omega⟩

theorem blk_0 (t : Fin cfg0.N) (r a : Fin 1024) : iblk m c 0 t (ix2 r a) = a0 m c (ix2 (row t r) a) := by
  obtain ⟨h0, h1⟩ := index_0 t
  have ht := point_lt t
  have e : ((cfg0.win 0).blk t).view.emb (ix2 r a) = ix2 (row t r) a := by
    funext d
    match d with
    | ⟨0, _⟩ => exact Fin.ext (show win0_0.index t (0 : Fin 2) * 1024 + 1 * ((ix2 r a) (0 : Fin 2)).val = _ by rw [h0]; simp [row]; try omega)
    | ⟨1, _⟩ => exact Fin.ext (show win0_0.index t (1 : Fin 2) * 1024 + 1 * ((ix2 r a) (1 : Fin 2)).val = _ by rw [h1]; simp [col]; try omega)
  show V m c main_v0 (((cfg0.win 0).blk t).view.emb (ix2 r a)) = _
  rw [e, V_left]

theorem blk_1 (t : Fin cfg0.N) (r : Fin 1024) (b : Fin 1024) : iblk m c 1 t (ix2 r b) = a1 m c (ix2 (row t r) (col (t.val / 4) b)) := by
  obtain ⟨h0, h1⟩ := index_1 t
  have ht := point_lt t
  have e : ((cfg0.win 1).blk t).view.emb (ix2 r b) = ix2 (row t r) (col (t.val / 4) b) := by
    funext d
    match d with
    | ⟨0, _⟩ => exact Fin.ext (show win0_1.index t (0 : Fin 2) * 1024 + 1 * ((ix2 r b) (0 : Fin 2)).val = _ by rw [h0]; simp [row]; try omega)
    | ⟨1, _⟩ => exact Fin.ext (show win0_1.index t (1 : Fin 2) * 1024 + 1 * ((ix2 r b) (1 : Fin 2)).val = _ by rw [h1]; simp [col]; try omega)
  show V m c main_v1 (((cfg0.win 1).blk t).view.emb (ix2 r b)) = _
  rw [e, V_right]

/-- The product of the tiles of point `t`. -/
def tile (t : Fin cfg0.N) (j : S1024x1024.Idx) : EReal :=
  ∑ r : Fin 1024, a0 m c (ix2 (row t r) (j 0)) * a1 m c (ix2 (row t r) (col (t.val / 4) (j 1)))

theorem first (t : Fin cfg0.N) (h : t.val % 4 = 0) (j : S1024x1024.Idx) :
    (outsAt0 m c t.val t.isLt).2 j = 0 + tile m c t j := by
  obtain ⟨a, b, rfl⟩ : ∃ a b, j = ix2 a b := ⟨_, _, eq_ix2 j⟩
  rw [outsAt0_A m c t h (by omega)]
  frame_out
  rw [step_at, zero_at]
  simp only [blk_0, blk_1]
  rfl

theorem later (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + tile m c t j := by
  obtain ⟨a, b, rfl⟩ : ∃ a b, j = ix2 a b := ⟨_, _, eq_ix2 j⟩
  by_cases h1 : t.val % 4 = 3
  · rw [outsAt0_C m c t h h1]
    frame_out
    rw [step_at, (Memref.isWhole_whole cc0_scratch0).read_unread]
    simp only [blk_0, blk_1]
    rfl
  · rw [outsAt0_B m c t h h1]
    frame_out
    rw [step_at, (Memref.isWhole_whole cc0_scratch0).read_unread]
    simp only [blk_0, blk_1]
    rfl

theorem written (t : Fin cfg0.N) (h : t.val % 4 = 3) (a : Fin 1024) (b : Fin 1024) :
    (outsAt0 m c t.val t.isLt).1 (ix3 (0 : Fin 1) a b) = (outsAt0 m c t.val t.isLt).2 (ix2 a b) := by
  rw [outsAt0_C m c t (by omega) h]
  frame_out
  rw [cast_at]

theorem final_at (t : Fin cfg0.N) (h : t.val % 4 = 3) (q : Fin 4) (hq : q.val = t.val / 4) (a : Fin 1024) (b : Fin 1024) :
    (outsAt0 m c t.val t.isLt).1 (ix3 (0 : Fin 1) a b) = val_main_v6 (F := Ideal) (a0 m c) (a1 m c) (ix3 q a b) := by
  rw [written m c t h, Pipeline.eq_sum_fin_of_reset_step_apply_of_flush (fun n h => (outsAt0 m c n h).2) 4 (fun _ => 0) (tile m c)
    (first m c) (later m c) t h, ref_at, zero_add, Fin.sum_univ_tiles 4 1024 rfl]
  refine Finset.sum_congr rfl fun s _ => ?_
  refine Finset.sum_congr rfl fun r _ => ?_
  have e : row (4 * (t.val / 4) + s.val) r = ⟨s.val * 1024 + r.val, by omega⟩ := Fin.ext (by simp only [row]; omega)
  have e' : (4 * (t.val / 4) + s.val) / 4 = q.val := by omega
  show a0 m c (ix2 (row (4 * (t.val / 4) + s.val) r) a) * a1 m c (ix2 (row (4 * (t.val / 4) + s.val) r) (col ((4 * (t.val / 4) + s.val) / 4) b)) = _
  rw [e, e']

theorem place_2 (t : Fin cfg0.N) (q : Fin 4) (hq : q.val = t.val / 4) (a : Fin 1024) (b : Fin 1024) :
    ((cfg0.win 2).blk t).view.emb (ix3 (0 : Fin 1) a b) = ix3 q a b := by
  obtain ⟨h0, h1, h2⟩ := index_2 t
  funext d
  match d with
  | ⟨0, _⟩ => exact Fin.ext (show win0_2.index t (0 : Fin 3) * 1 + 1 * ((ix3 (0 : Fin 1) a b) (0 : Fin 3)).val = _ by rw [h0]; simp [hq])
  | ⟨1, _⟩ => exact Fin.ext (show win0_2.index t (1 : Fin 3) * 1024 + 1 * ((ix3 (0 : Fin 1) a b) (1 : Fin 3)).val = _ by rw [h1]; simp)
  | ⟨2, _⟩ => exact Fin.ext (show win0_2.index t (2 : Fin 3) * 1024 + 1 * ((ix3 (0 : Fin 1) a b) (2 : Fin 3)).val = _ by rw [h2]; simp)

set_option backward.isDefEq.respectTransparency.types false in
/-- The result the call leaves is the reference's. -/
theorem final : (dats m 0 c).arrAt 2 cfg0.N = val_main_v6 (F := Ideal) (a0 m c) (a1 m c) := by
  refine (dats m 0 c).arrAt_eq_of_covers 2 _ (by decide +kernel) fun t hf y => ?_
  have ht := point_lt t
  obtain ⟨a, b, rfl⟩ : ∃ (a : Fin 1024) (b : Fin 1024), y = ix3 (0 : Fin 1) a b :=
    ⟨y 1, y 2, (eq_ix3 y).trans (congrArg (fun u : Fin 1 => ix3 u (y 1) (y 2)) (Subsingleton.elim (α := Fin 1) (y 0) 0))⟩
  rw [place_2 t ⟨t.val / 4, by omega⟩ rfl]
  show (dats m 0 c).after 2 t (ix3 (0 : Fin 1) a b) = _
  rw [after0_2]
  exact final_at m c t ((flush0_2 t).mp hf) ⟨t.val / 4, by omega⟩ rfl a b

end Cert.Wgrad.Ff1

end
-- ==== Proof.Wgrad.Out.lean ====
/- The weight gradient of the output projection: what the call leaves in its result, entry by entry. -/
module

public import proofs.«01_k».proof.Proof.Gen.WOutIdeal.Value
public import proofs.«01_k».proof.Proof.Gen.WOutRefIdeal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.Wgrad.Out

open Idealize.ShloMosaic Idealize.ShloMosaic.TcCoe Idealize.SL.Sem
open Cert.WOutIdeal Cert.WOutIdeal.Gen
open Cert.WOutRefIdeal.Read

/-- A point adds its tile's product to the sums so far. -/
theorem step_at (x : FVec Ideal S1024x1024 .bf16) (s : FVec Ideal S1024x1024 .f32) (y : FVec Ideal S1024x1024 .bf16) (a b : Fin 1024) :
    k0_pay2 (F := Ideal) x s y (ix2 a b) = s (ix2 a b) + ∑ r : Fin 1024, x (ix2 r a) * y (ix2 r b) := by
  pointwise [k0_pay2]
  try simp

theorem zero_at (a b : Fin 1024) : k0_pay1 (F := Ideal) (ix2 a b) = 0 := by
  pointwise [k0_pay1]
  try simp

theorem ref_at (x y : FVec Ideal S4096x1024 .f32) (a b : Fin 1024) :
    val_main_v4 (F := Ideal) x y (ix2 a b) = ∑ r : Fin 4096, x (ix2 r a) * y (ix2 r b) := by
  pointwise [val_main_v4, val_main_v3, val_main_v2, val_main_v1, val_main_v0]
  try simp [mul_comm]

variable (m : (ℓ : Loc nD τ sig) → Buf (Elt Ideal) ℓ) (c : Dev nD)

/-- The two arguments. -/
abbrev a0 : FVec Ideal S4096x1024 .f32 := m ((c : Thread nD τ).loc main_arg0)
abbrev a1 : FVec Ideal S4096x1024 .f32 := m ((c : Thread nD τ).loc main_arg1)

theorem V_left : V m c main_v0 = (a0 m c : FVec Ideal S4096x1024 .f32) := by
  show StableHlo.after hostOps0 _ (Proc.devRef .tc main_v0) = _
  after_results_simp
  rfl

theorem V_right : V m c main_v1 = (a1 m c : FVec Ideal S4096x1024 .f32) := by
  show StableHlo.after hostOps0 _ (Proc.devRef .tc main_v1) = _
  after_results_simp
  rfl

theorem index_0 : ∀ t : Fin grid0.N, win0_0.index t (0 : Fin 2) = t.val % 4 ∧ win0_0.index t (1 : Fin 2) = 0 := by decide +kernel
theorem index_1 : ∀ t : Fin grid0.N, win0_1.index t (0 : Fin 2) = t.val % 4 ∧ win0_1.index t (1 : Fin 2) = 0 := by decide +kernel
theorem index_2 : ∀ t : Fin grid0.N, win0_2.index t (0 : Fin 2) = 0 ∧ win0_2.index t (1 : Fin 2) = 0 := by decide +kernel

/-- Row `r` of the tile of point `t`. -/
abbrev row (t : ℕ) (r : Fin 1024) : Fin 4096 := ⟨1024 * (t % 4) + r.val, by omega⟩

theorem blk_0 (t : Fin cfg0.N) (r a : Fin 1024) : iblk m c 0 t (ix2 r a) = a0 m c (ix2 (row t r) a) := by
  obtain ⟨h0, h1⟩ := index_0 t
  have e : ((cfg0.win 0).blk t).view.emb (ix2 r a) = ix2 (row t r) a := by
    funext d
    match d with
    | ⟨0, _⟩ => exact Fin.ext (show win0_0.index t (0 : Fin 2) * 1024 + 1 * ((ix2 r a) (0 : Fin 2)).val = _ by rw [h0]; simp [row]; try omega)
    | ⟨1, _⟩ => exact Fin.ext (show win0_0.index t (1 : Fin 2) * 1024 + 1 * ((ix2 r a) (1 : Fin 2)).val = _ by rw [h1]; simp; try omega)
  show V m c main_v0 (((cfg0.win 0).blk t).view.emb (ix2 r a)) = _
  rw [e, V_left]

theorem blk_1 (t : Fin cfg0.N) (r b : Fin 1024) : iblk m c 1 t (ix2 r b) = a1 m c (ix2 (row t r) b) := by
  obtain ⟨h0, h1⟩ := index_1 t
  have e : ((cfg0.win 1).blk t).view.emb (ix2 r b) = ix2 (row t r) b := by
    funext d
    match d with
    | ⟨0, _⟩ => exact Fin.ext (show win0_1.index t (0 : Fin 2) * 1024 + 1 * ((ix2 r b) (0 : Fin 2)).val = _ by rw [h0]; simp [row]; try omega)
    | ⟨1, _⟩ => exact Fin.ext (show win0_1.index t (1 : Fin 2) * 1024 + 1 * ((ix2 r b) (1 : Fin 2)).val = _ by rw [h1]; simp; try omega)
  show V m c main_v1 (((cfg0.win 1).blk t).view.emb (ix2 r b)) = _
  rw [e, V_right]

/-- The product of the tiles of point `t`. -/
def tile (t : Fin cfg0.N) (j : S1024x1024.Idx) : EReal :=
  ∑ r : Fin 1024, a0 m c (ix2 (row t r) (j 0)) * a1 m c (ix2 (row t r) (j 1))

theorem first (t : Fin cfg0.N) (h : t.val % 4 = 0) (j : S1024x1024.Idx) :
    (outsAt0 m c t.val t.isLt).2 j = 0 + tile m c t j := by
  obtain ⟨a, b, rfl⟩ : ∃ a b, j = ix2 a b := ⟨_, _, eq_ix2 j⟩
  rw [outsAt0_A m c t h (by omega)]
  frame_out
  rw [step_at, zero_at]
  simp only [blk_0, blk_1]
  rfl

theorem later (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + tile m c t j := by
  obtain ⟨a, b, rfl⟩ : ∃ a b, j = ix2 a b := ⟨_, _, eq_ix2 j⟩
  by_cases h1 : t.val % 4 = 3
  · rw [outsAt0_C m c t h h1]
    frame_out
    rw [step_at, (Memref.isWhole_whole cc0_scratch0).read_unread]
    simp only [blk_0, blk_1]
    rfl
  · rw [outsAt0_B m c t h h1]
    frame_out
    rw [step_at, (Memref.isWhole_whole cc0_scratch0).read_unread]
    simp only [blk_0, blk_1]
    rfl

theorem written (t : Fin cfg0.N) (h : t.val % 4 = 3) (j : S1024x1024.Idx) :
    (outsAt0 m c t.val t.isLt).1 j = (outsAt0 m c t.val t.isLt).2 j := by
  rw [outsAt0_C m c t (by omega) h]
  frame_out
  rfl

theorem final_at (t : Fin cfg0.N) (h : t.val % 4 = 3) (a b : Fin 1024) :
    (outsAt0 m c t.val t.isLt).1 (ix2 a b) = val_main_v4 (F := Ideal) (a0 m c) (a1 m c) (ix2 a b) := by
  rw [written m c t h, Pipeline.eq_sum_fin_of_reset_step_apply_of_flush (fun n h => (outsAt0 m c n h).2) 4 (fun _ => 0) (tile m c)
    (first m c) (later m c) t h, ref_at, zero_add, Fin.sum_univ_tiles 4 1024 rfl]
  refine Finset.sum_congr rfl fun s _ => ?_
  refine Finset.sum_congr rfl fun r _ => ?_
  have e : row (4 * (t.val / 4) + s.val) r = ⟨s.val * 1024 + r.val, by omega⟩ := Fin.ext (by simp only [row]; omega)
  show a0 m c (ix2 (row (4 * (t.val / 4) + s.val) r) a) * a1 m c (ix2 (row (4 * (t.val / 4) + s.val) r) b) = _
  rw [e]

theorem place_2 (t : Fin cfg0.N) (a b : Fin 1024) : ((cfg0.win 2).blk t).view.emb (ix2 a b) = ix2 a b := by
  obtain ⟨h0, h1⟩ := index_2 t
  funext d
  match d with
  | ⟨0, _⟩ => exact Fin.ext (show win0_2.index t (0 : Fin 2) * 1024 + 1 * ((ix2 a b) (0 : Fin 2)).val = _ by rw [h0]; simp)
  | ⟨1, _⟩ => exact Fin.ext (show win0_2.index t (1 : Fin 2) * 1024 + 1 * ((ix2 a b) (1 : Fin 2)).val = _ by rw [h1]; simp)

set_option backward.isDefEq.respectTransparency.types false in
/-- The result the call leaves is the reference's. -/
theorem final : (dats m 0 c).arrAt 2 cfg0.N = val_main_v4 (F := Ideal) (a0 m c) (a1 m c) := by
  refine (dats m 0 c).arrAt_eq_of_covers 2 _ (by decide +kernel) fun t hf y => ?_
  obtain ⟨a, b, rfl⟩ : ∃ (a b : Fin 1024), y = ix2 a b := ⟨y 0, y 1, eq_ix2 y⟩
  rw [place_2]
  show (dats m 0 c).after 2 t (ix2 a b) = _
  rw [after0_2]
  exact final_at m c t ((flush0_2 t).mp hf) a b

end Cert.Wgrad.Out

end
-- ==== Proof.Wgrad.Branch.lean ====
/- The weight gradient of the branch projections: what the call leaves in its result, entry by entry. -/
module

public import proofs.«01_k».proof.Proof.Gen.WBranchIdeal.Value
public import proofs.«01_k».proof.Proof.Gen.WBranchRefIdeal.Read
public import Idealize.ShloMosaic.Lib.Pointwise
public import Idealize.ShloMosaic.Lib.Pipeline.ValueKit.Acc
public import Idealize.ShloMosaic.Lib.Pipeline.ValueKit.Geometry
public import Idealize.ShloMosaic.Lib.Pipeline.ValueKit.Tiles

@[expose] public section

set_option maxRecDepth 16384

noncomputable section

namespace Cert.Wgrad.Branch

open Idealize.ShloMosaic Idealize.ShloMosaic.TcCoe Idealize.SL.Sem
open Cert.WBranchIdeal Cert.WBranchIdeal.Gen
open Cert.WBranchRefIdeal.Read

/-- A point adds its tile's product to the sums so far. -/
theorem step_at_2 (x : FVec Ideal S1024x1024 .bf16) (s : FVec Ideal S1024x1024 .f32) (y : FVec Ideal S1x1024x1024 .bf16) (a b : Fin 1024) :
    k0_pay2 (F := Ideal) x s y (ix2 a b) = s (ix2 a b) + ∑ r : Fin 1024, x (ix2 r a) * y (ix3 (0 : Fin 1) r b) := by
  pointwise [k0_pay2]
  try simp

theorem step_at_3 (x : FVec Ideal S1024x1024 .bf16) (s : FVec Ideal S1024x1024 .f32) (y : FVec Ideal S1x1024x1024 .bf16) (a b : Fin 1024) :
    k0_pay3 (F := Ideal) x s y (ix2 a b) = s (ix2 a b) + ∑ r : Fin 1024, x (ix2 r a) * y (ix3 (0 : Fin 1) r b) := by
  pointwise [k0_pay3]
  try simp

theorem step_at_4 (x : FVec Ideal S1024x1024 .bf16) (s : FVec Ideal S1024x1024 .f32) (y : FVec Ideal S1x1024x1024 .bf16) (a b : Fin 1024) :
    k0_pay4 (F := Ideal) x s y (ix2 a b) = s (ix2 a b) + ∑ r : Fin 1024, x (ix2 r a) * y (ix3 (0 : Fin 1) r b) := by
  pointwise [k0_pay4]
  try simp

theorem zero_at (a b : Fin 1024) : k0_pay1 (F := Ideal) (ix2 a b) = 0 := by
  pointwise [k0_pay1]
  try simp

theorem cast_at_5 (s : FVec Ideal S256x1024 .f32) (a : Fin 256) (b : Fin 1024) : k0_pay5 (F := Ideal) s (ix4 (0 : Fin 1) (0 : Fin 1) a b) = s (ix2 a b) := by
  pointwise [k0_pay5]

theorem cast_at_6 (s : FVec Ideal S256x1024 .f32) (a : Fin 256) (b : Fin 1024) : k0_pay6 (F := Ideal) s (ix4 (0 : Fin 1) (0 : Fin 1) a b) = s (ix2 a b) := by
  pointwise [k0_pay6]

theorem cast_at_7 (s : FVec Ideal S256x1024 .f32) (a : Fin 256) (b : Fin 1024) : k0_pay7 (F := Ideal) s (ix4 (0 : Fin 1) (0 : Fin 1) a b) = s (ix2 a b) := by
  pointwise [k0_pay7]

theorem cast_at_8 (s : FVec Ideal S256x1024 .f32) (a : Fin 256) (b : Fin 1024) : k0_pay8 (F := Ideal) s (ix4 (0 : Fin 1) (0 : Fin 1) a b) = s (ix2 a b) := by
  pointwise [k0_pay8]

/-- Row `a` of the row tile `p`. -/
abbrev col (p : ℕ) (a : Fin 256) : Fin 1024 := ⟨256 * (p % 4) + a.val, by omega⟩

theorem ref_at (x y : FVec Ideal S3x4096x1024 .f32) (p : Fin 4) (q : Fin 3) (a : Fin 256) (b : Fin 1024) :
    val_main_v42 (F := Ideal) x y (ix4 p q a b) = ∑ r : Fin 4096, x (ix3 q r (col p.val a)) * y (ix3 q r b) := by
  have e : col p.val a = ⟨p.val * 256 + a.val, by omega⟩ := Fin.ext (by simp only [col]; omega)
  rw [e]
  pointwise [val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25, val_main_v24,
    val_main_v23, val_main_v22, val_main_v21, val_main_v20, val_main_v12, val_main_v11, val_main_v7, val_main_v6, val_main_v2, val_main_v1,
    val_main_cst_0, val_main_cst_1, val_main_cst_2]
  have hp : p.val * 256 + a.val < 1024 := by omega
  fin_cases q <;> simp [mul_comm, hp]

variable (m : (ℓ : Loc nD τ sig) → Buf (Elt Ideal) ℓ) (c : Dev nD)

/-- The two arguments. -/
abbrev a0 : FVec Ideal S3x4096x1024 .f32 := m ((c : Thread nD τ).loc main_arg0)
abbrev a1 : FVec Ideal S3x4096x1024 .f32 := m ((c : Thread nD τ).loc main_arg1)

/-- One branch of the saved values. -/
theorem slice_at_0 (x : FVec Ideal S3x4096x1024 .bf16) (r : Fin 4096) (a : Fin 1024) :
    shapeCast S4096x1024 (extractStridedSlice S1x4096x1024 ![0, 0, 0] x slices_S3x4096x1024_S1x4096x1024_0_0_0) shapeCasts_S1x4096x1024_S4096x1024 (ix2 r a)
      = x (ix3 (0 : Fin 3) r a) := by
  pointwise

theorem slice_at_1 (x : FVec Ideal S3x4096x1024 .bf16) (r : Fin 4096) (a : Fin 1024) :
    shapeCast S4096x1024 (extractStridedSlice S1x4096x1024 ![1, 0, 0] x slices_S3x4096x1024_S1x4096x1024_1_0_0) shapeCasts_S1x4096x1024_S4096x1024 (ix2 r a)
      = x (ix3 (1 : Fin 3) r a) := by
  pointwise

theorem slice_at_2 (x : FVec Ideal S3x4096x1024 .bf16) (r : Fin 4096) (a : Fin 1024) :
    shapeCast S4096x1024 (extractStridedSlice S1x4096x1024 ![2, 0, 0] x slices_S3x4096x1024_S1x4096x1024_2_0_0) shapeCasts_S1x4096x1024_S4096x1024 (ix2 r a)
      = x (ix3 (2 : Fin 3) r a) := by
  pointwise

theorem V_left_0 (r : Fin 4096) (a : Fin 1024) : V m c main_v2 (ix2 r a) = a0 m c (ix3 (0 : Fin 3) r a) := by
  have e : V m c main_v2 = shapeCast S4096x1024 (extractStridedSlice S1x4096x1024 ![0, 0, 0] (truncf .bf16 (a0 m c) bitsLt_bf16_f32) slices_S3x4096x1024_S1x4096x1024_0_0_0) shapeCasts_S1x4096x1024_S4096x1024 := by
    show StableHlo.after hostOps0 _ (Proc.devRef .tc main_v2) = _
    after_results_simp
    rfl
  rw [e, slice_at_0]
  rfl

theorem V_left_1 (r : Fin 4096) (a : Fin 1024) : V m c main_v4 (ix2 r a) = a0 m c (ix3 (1 : Fin 3) r a) := by
  have e : V m c main_v4 = shapeCast S4096x1024 (extractStridedSlice S1x4096x1024 ![1, 0, 0] (truncf .bf16 (a0 m c) bitsLt_bf16_f32) slices_S3x4096x1024_S1x4096x1024_1_0_0) shapeCasts_S1x4096x1024_S4096x1024 := by
    show StableHlo.after hostOps0 _ (Proc.devRef .tc main_v4) = _
    after_results_simp
    rfl
  rw [e, slice_at_1]
  rfl

theorem V_left_2 (r : Fin 4096) (a : Fin 1024) : V m c main_v6 (ix2 r a) = a0 m c (ix3 (2 : Fin 3) r a) := by
  have e : V m c main_v6 = shapeCast S4096x1024 (extractStridedSlice S1x4096x1024 ![2, 0, 0] (truncf .bf16 (a0 m c) bitsLt_bf16_f32) slices_S3x4096x1024_S1x4096x1024_2_0_0) shapeCasts_S1x4096x1024_S4096x1024 := by
    show StableHlo.after hostOps0 _ (Proc.devRef .tc main_v6) = _
    after_results_simp
    rfl
  rw [e, slice_at_2]
  rfl

theorem V_right : V m c main_v7 = (a1 m c : FVec Ideal S3x4096x1024 .f32) := by
  show StableHlo.after hostOps0 _ (Proc.devRef .tc main_v7) = _
  after_results_simp
  rfl

theorem index_0 : ∀ t : Fin grid0.N, t.val / 4 = 0 → win0_0.index t (0 : Fin 2) = t.val % 4 ∧ win0_0.index t (1 : Fin 2) = 0 := by decide +kernel
theorem index_1 : ∀ t : Fin grid0.N, t.val / 4 = 1 → win0_1.index t (0 : Fin 2) = t.val % 4 ∧ win0_1.index t (1 : Fin 2) = 0 := by decide +kernel
theorem index_2 : ∀ t : Fin grid0.N, t.val / 4 = 2 → win0_2.index t (0 : Fin 2) = t.val % 4 ∧ win0_2.index t (1 : Fin 2) = 0 := by decide +kernel
theorem index_3 : ∀ t : Fin grid0.N, win0_3.index t (0 : Fin 3) = t.val / 4 ∧ win0_3.index t (1 : Fin 3) = t.val % 4 ∧ win0_3.index t (2 : Fin 3) = 0 := by decide +kernel
theorem index_4 : ∀ t : Fin grid0.N, win0_4.index t (0 : Fin 4) = 0 ∧ win0_4.index t (1 : Fin 4) = t.val / 4 ∧ win0_4.index t (2 : Fin 4) = 0 ∧ win0_4.index t (3 : Fin 4) = 0 := by decide +kernel

theorem point_lt (t : Fin cfg0.N) : t.val < 12 := Nat.lt_of_lt_of_eq t.isLt N_0

/-- Row `r` of the tile of point `t`, and the branch of that point. -/
abbrev row (t : ℕ) (r : Fin 1024) : Fin 4096 := ⟨1024 * (t % 4) + r.val, by omega⟩
abbrev branch (t : ℕ) : Fin 3 := ⟨t / 4 % 3, by omega⟩

theorem blk_0 (t : Fin cfg0.N) (ht : t.val / 4 = 0) (r a : Fin 1024) : iblk m c 0 t (ix2 r a) = a0 m c (ix3 (branch t) (row t r) a) := by
  obtain ⟨h0, h1⟩ := index_0 t ht
  have e : ((cfg0.win 0).blk t).view.emb (ix2 r a) = ix2 (row t r) a := by
    funext d
    match d with
    | ⟨0, _⟩ => exact Fin.ext (show win0_0.index t (0 : Fin 2) * 1024 + 1 * ((ix2 r a) (0 : Fin 2)).val = _ by rw [h0]; simp [row]; try omega)
    | ⟨1, _⟩ => exact Fin.ext (show win0_0.index t (1 : Fin 2) * 1024 + 1 * ((ix2 r a) (1 : Fin 2)).val = _ by rw [h1]; simp; try omega)
  have eq : branch t = (0 : Fin 3) := Fin.ext (by simp [branch, ht])
  show V m c main_v2 (((cfg0.win 0).blk t).view.emb (ix2 r a)) = _
  rw [e, V_left_0, eq]

theorem blk_1 (t : Fin cfg0.N) (ht : t.val / 4 = 1) (r a : Fin 1024) : iblk m c 1 t (ix2 r a) = a0 m c (ix3 (branch t) (row t r) a) := by
  obtain ⟨h0, h1⟩ := index_1 t ht
  have e : ((cfg0.win 1).blk t).view.emb (ix2 r a) = ix2 (row t r) a := by
    funext d
    match d with
    | ⟨0, _⟩ => exact Fin.ext (show win0_1.index t (0 : Fin 2) * 1024 + 1 * ((ix2 r a) (0 : Fin 2)).val = _ by rw [h0]; simp [row]; try omega)
    | ⟨1, _⟩ => exact Fin.ext (show win0_1.index t (1 : Fin 2) * 1024 + 1 * ((ix2 r a) (1 : Fin 2)).val = _ by rw [h1]; simp; try omega)
  have eq : branch t = (1 : Fin 3) := Fin.ext (by simp [branch, ht])
  show V m c main_v4 (((cfg0.win 1).blk t).view.emb (ix2 r a)) = _
  rw [e, V_left_1, eq]

theorem blk_2 (t : Fin cfg0.N) (ht : t.val / 4 = 2) (r a : Fin 1024) : iblk m c 2 t (ix2 r a) = a0 m c (ix3 (branch t) (row t r) a) := by
  obtain ⟨h0, h1⟩ := index_2 t ht
  have e : ((cfg0.win 2).blk t).view.emb (ix2 r a) = ix2 (row t r) a := by
    funext d
    match d with
    | ⟨0, _⟩ => exact Fin.ext (show win0_2.index t (0 : Fin 2) * 1024 + 1 * ((ix2 r a) (0 : Fin 2)).val = _ by rw [h0]; simp [row]; try omega)
    | ⟨1, _⟩ => exact Fin.ext (show win0_2.index t (1 : Fin 2) * 1024 + 1 * ((ix2 r a) (1 : Fin 2)).val = _ by rw [h1]; simp; try omega)
  have eq : branch t = (2 : Fin 3) := Fin.ext (by simp [branch, ht])
  show V m c main_v6 (((cfg0.win 2).blk t).view.emb (ix2 r a)) = _
  rw [e, V_left_2, eq]

theorem blk_3 (t : Fin cfg0.N) (r b : Fin 1024) : iblk m c 3 t (ix3 (0 : Fin 1) r b) = a1 m c (ix3 (branch t) (row t r) b) := by
  obtain ⟨h0, h1, h2⟩ := index_3 t
  have ht := point_lt t
  have e : ((cfg0.win 3).blk t).view.emb (ix3 (0 : Fin 1) r b) = ix3 (branch t) (row t r) b := by
    funext d
    match d with
    | ⟨0, _⟩ => exact Fin.ext (show win0_3.index t (0 : Fin 3) * 1 + 1 * ((ix3 (0 : Fin 1) r b) (0 : Fin 3)).val = _ by rw [h0]; simp [branch]; try omega)
    | ⟨1, _⟩ => exact Fin.ext (show win0_3.index t (1 : Fin 3) * 1024 + 1 * ((ix3 (0 : Fin 1) r b) (1 : Fin 3)).val = _ by rw [h1]; simp [row]; try omega)
    | ⟨2, _⟩ => exact Fin.ext (show win0_3.index t (2 : Fin 3) * 1024 + 1 * ((ix3 (0 : Fin 1) r b) (2 : Fin 3)).val = _ by rw [h2]; simp)
  show V m c main_v7 (((cfg0.win 3).blk t).view.emb (ix3 (0 : Fin 1) r b)) = _
  rw [e, V_right]

/-- The product of the tiles of point `t`. -/
def tile (t : Fin cfg0.N) (j : S1024x1024.Idx) : EReal :=
  ∑ r : Fin 1024, a0 m c (ix3 (branch t) (row t r) (j 0)) * a1 m c (ix3 (branch t) (row t r) (j 1))

theorem first (t : Fin cfg0.N) (h : t.val % 4 = 0) (j : S1024x1024.Idx) :
    (outsAt0 m c t.val t.isLt).2 j = 0 + tile m c t j := by
  obtain ⟨a, b, rfl⟩ : ∃ a b, j = ix2 a b := ⟨_, _, eq_ix2 j⟩
  have ht := point_lt t
  have hb : t.val / 4 = 0 ∨ t.val / 4 = 1 ∨ t.val / 4 = 2 := by omega
  rcases hb with hb | hb | hb
  · rw [outsAt0_A m c t h (by omega) (by omega) (by omega) (by omega)]
    frame_out
    rw [step_at_2, zero_at]
    simp only [blk_0 m c t hb, blk_3]
    rfl
  · rw [outsAt0_D m c t h (by omega) (by omega) (by omega) (by omega)]
    frame_out
    rw [step_at_3, zero_at]
    simp only [blk_1 m c t hb, blk_3]
    rfl
  · rw [outsAt0_G m c t h (by omega) (by omega) (by omega) (by omega)]
    frame_out
    rw [step_at_4, zero_at]
    simp only [blk_2 m c t hb, blk_3]
    rfl

theorem later (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + tile m c t j := by
  obtain ⟨a, b, rfl⟩ : ∃ a b, j = ix2 a b := ⟨_, _, eq_ix2 j⟩
  have ht := point_lt t
  have hb : t.val / 4 = 0 ∨ t.val / 4 = 1 ∨ t.val / 4 = 2 := by omega
  by_cases h1 : t.val % 4 = 3
  · rcases hb with hb | hb | hb
    · rw [outsAt0_C m c t h (by omega) (by omega) (by omega) (by omega)]
      frame_out
      rw [step_at_2, (Memref.isWhole_whole cc0_scratch0).read_unread]
      simp only [blk_0 m c t hb, blk_3]
      rfl
    · rw [outsAt0_F m c t h (by omega) (by omega) (by omega) (by omega)]
      frame_out
      rw [step_at_3, (Memref.isWhole_whole cc0_scratch0).read_unread]
      simp only [blk_1 m c t hb, blk_3]
      rfl
    · rw [outsAt0_I m c t h (by omega) (by omega) (by omega) (by omega)]
      frame_out
      rw [step_at_4, (Memref.isWhole_whole cc0_scratch0).read_unread]
      simp only [blk_2 m c t hb, blk_3]
      rfl
  · rcases hb with hb | hb | hb
    · rw [outsAt0_B m c t h (by omega) (by omega) (by omega) (by omega)]
      frame_out
      rw [step_at_2, (Memref.isWhole_whole cc0_scratch0).read_unread]
      simp only [blk_0 m c t hb, blk_3]
      rfl
    · rw [outsAt0_E m c t h (by omega) (by omega) (by omega) (by omega)]
      frame_out
      rw [step_at_3, (Memref.isWhole_whole cc0_scratch0).read_unread]
      simp only [blk_1 m c t hb, blk_3]
      rfl
    · rw [outsAt0_H m c t h (by omega) (by omega) (by omega) (by omega)]
      frame_out
      rw [step_at_4, (Memref.isWhole_whole cc0_scratch0).read_unread]
      simp only [blk_2 m c t hb, blk_3]
      rfl

/-- A strip of the sums, read back. -/
theorem strip_at (w : FVec Ideal S1024x1024 .f32) (o : ℕ) (inb : ∀ a, (![o, 0] : Fin 2 → ℕ) a + S256x1024.size a ≤ S1024x1024.size a)
    (a : Fin 256) (b : Fin 1024) (i : Fin 1024) (hi : i.val = o + a.val) :
    View.readCov (Val := Elt Ideal) (View.whole cc0_scratch0) [⟨Rect.unit (s := S1024x1024) ![0, 0] S1024x1024.size inb_S1024x1024_S1024x1024_0_0, w⟩]
      (Rect.unit (s := S1024x1024) ![o, 0] S256x1024.size inb).toLoadRect (ix2 a b) = w (ix2 i b) := by
  rw [View.readCov_eq_canon_ld _ _ _ (fun y => ⟨_, List.mem_cons_self, by
    show y ∈ (Rect.unit (s := S1024x1024) ![0, 0] S1024x1024.size inb_S1024x1024_S1024x1024_0_0).set
    rw [Rect.mem_set_unit]
    intro d
    match d with
    | ⟨0, _⟩ => exact ⟨Nat.zero_le _, (show (y 0).val < 0 + 1024 from lt_of_lt_of_eq (y 0).isLt (by rfl))⟩
    | ⟨1, _⟩ => exact ⟨Nat.zero_le _, (show (y 1).val < 0 + 1024 from lt_of_lt_of_eq (y 1).isLt (by rfl))⟩⟩),
    show View.canon (Val := Elt Ideal) (e := .f32) [⟨Rect.unit (s := S1024x1024) ![0, 0] S1024x1024.size inb_S1024x1024_S1024x1024_0_0, w⟩] = w from
      View.canon_cons_unit_lit' (Val := Elt Ideal) (S := S1024x1024) (e := .f32) (off := ![0, 0]) inb_S1024x1024_S1024x1024_0_0 w [] (fun d => by match d with | ⟨0, _⟩ => rfl | ⟨1, _⟩ => rfl)]
  refine View.ld_unit_apply_of (Val := Elt Ideal) (S := S1024x1024) (e := .f32) w _ _ inb _ (ix2 i b) fun d => ?_
  match d with
  | ⟨0, _⟩ => exact hi
  | ⟨1, _⟩ => exact (Nat.zero_add _).symm

/-- The four row strips of the sums, written one by one. -/
theorem strips_at (w : FVec Ideal S1024x1024 .f32) (p : Fin 4) (a : Fin 256) (b : Fin 1024) :
    View.canon (Val := Elt Ideal) (e := .bf16) [
        ⟨Rect.unit (s := S4x1x256x1024) ![3, 0, 0, 0] S1x1x256x1024.size inb_S4x1x256x1024_S1x1x256x1024_3_0_0_0,
          k0_pay8 (View.readCov (Val := Elt Ideal) (View.whole cc0_scratch0) [⟨Rect.unit (s := S1024x1024) ![0, 0] S1024x1024.size inb_S1024x1024_S1024x1024_0_0, w⟩]
            (Rect.unit (s := S1024x1024) ![768, 0] S256x1024.size inb_S1024x1024_S256x1024_768_0).toLoadRect)⟩,
        ⟨Rect.unit (s := S4x1x256x1024) ![2, 0, 0, 0] S1x1x256x1024.size inb_S4x1x256x1024_S1x1x256x1024_2_0_0_0,
          k0_pay7 (View.readCov (Val := Elt Ideal) (View.whole cc0_scratch0) [⟨Rect.unit (s := S1024x1024) ![0, 0] S1024x1024.size inb_S1024x1024_S1024x1024_0_0, w⟩]
            (Rect.unit (s := S1024x1024) ![512, 0] S256x1024.size inb_S1024x1024_S256x1024_512_0).toLoadRect)⟩,
        ⟨Rect.unit (s := S4x1x256x1024) ![1, 0, 0, 0] S1x1x256x1024.size inb_S4x1x256x1024_S1x1x256x1024_1_0_0_0,
          k0_pay6 (View.readCov (Val := Elt Ideal) (View.whole cc0_scratch0) [⟨Rect.unit (s := S1024x1024) ![0, 0] S1024x1024.size inb_S1024x1024_S1024x1024_0_0, w⟩]
            (Rect.unit (s := S1024x1024) ![256, 0] S256x1024.size inb_S1024x1024_S256x1024_256_0).toLoadRect)⟩,
        ⟨Rect.unit (s := S4x1x256x1024) ![0, 0, 0, 0] S1x1x256x1024.size inb_S4x1x256x1024_S1x1x256x1024_0_0_0_0,
          k0_pay5 (View.readCov (Val := Elt Ideal) (View.whole cc0_scratch0) [⟨Rect.unit (s := S1024x1024) ![0, 0] S1024x1024.size inb_S1024x1024_S1024x1024_0_0, w⟩]
            (Rect.unit (s := S1024x1024) ![0, 0] S256x1024.size inb_S1024x1024_S256x1024_0_0).toLoadRect)⟩]
      (ix4 p (0 : Fin 1) a b) = w (ix2 (col p.val a) b) := by
  canon_tiles x h
  · replace h0 : p.val = 3 + (x 0).val := by simpa using h0
    obtain rfl : x = ix4 (0 : Fin 1) (0 : Fin 1) a b := by
      refine (eq_ix4 x).trans ?_
      rw [show x 0 = (0 : Fin 1) from Subsingleton.elim (α := Fin 1) _ _, show x 1 = (0 : Fin 1) from Subsingleton.elim (α := Fin 1) _ _,
        show x 2 = a from Fin.ext h2.symm, show x 3 = b from Fin.ext h3.symm]
    rw [cast_at_8]
    exact strip_at w 768 _ a b _ (by simp only [col]; omega)
  · replace h0 : p.val = 2 + (x 0).val := by simpa using h0
    obtain rfl : x = ix4 (0 : Fin 1) (0 : Fin 1) a b := by
      refine (eq_ix4 x).trans ?_
      rw [show x 0 = (0 : Fin 1) from Subsingleton.elim (α := Fin 1) _ _, show x 1 = (0 : Fin 1) from Subsingleton.elim (α := Fin 1) _ _,
        show x 2 = a from Fin.ext h2.symm, show x 3 = b from Fin.ext h3.symm]
    rw [cast_at_7]
    exact strip_at w 512 _ a b _ (by simp only [col]; omega)
  · replace h0 : p.val = 1 + (x 0).val := by simpa using h0
    obtain rfl : x = ix4 (0 : Fin 1) (0 : Fin 1) a b := by
      refine (eq_ix4 x).trans ?_
      rw [show x 0 = (0 : Fin 1) from Subsingleton.elim (α := Fin 1) _ _, show x 1 = (0 : Fin 1) from Subsingleton.elim (α := Fin 1) _ _,
        show x 2 = a from Fin.ext h2.symm, show x 3 = b from Fin.ext h3.symm]
    rw [cast_at_6]
    exact strip_at w 256 _ a b _ (by simp only [col]; omega)
  · replace h0 : p.val = 0 + (x 0).val := by simpa using h0
    obtain rfl : x = ix4 (0 : Fin 1) (0 : Fin 1) a b := by
      refine (eq_ix4 x).trans ?_
      rw [show x 0 = (0 : Fin 1) from Subsingleton.elim (α := Fin 1) _ _, show x 1 = (0 : Fin 1) from Subsingleton.elim (α := Fin 1) _ _,
        show x 2 = a from Fin.ext h2.symm, show x 3 = b from Fin.ext h3.symm]
    rw [cast_at_5]
    exact strip_at w 0 _ a b _ (by simp only [col]; omega)

theorem written (t : Fin cfg0.N) (h : t.val % 4 = 3) (p : Fin 4) (a : Fin 256) (b : Fin 1024) :
    (outsAt0 m c t.val t.isLt).1 (ix4 p (0 : Fin 1) a b) = (outsAt0 m c t.val t.isLt).2 (ix2 (col p.val a) b) := by
  have ht := point_lt t
  have hb : t.val / 4 = 0 ∨ t.val / 4 = 1 ∨ t.val / 4 = 2 := by omega
  rcases hb with hb | hb | hb
  · rw [outsAt0_C m c t (by omega) (by omega) (by omega) (by omega) (by omega)]
    frame_out
    exact strips_at _ p a b
  · rw [outsAt0_F m c t (by omega) (by omega) (by omega) (by omega) (by omega)]
    frame_out
    exact strips_at _ p a b
  · rw [outsAt0_I m c t (by omega) (by omega) (by omega) (by omega) (by omega)]
    frame_out
    exact strips_at _ p a b

theorem final_at (t : Fin cfg0.N) (h : t.val % 4 = 3) (p : Fin 4) (q : Fin 3) (hq : q.val = t.val / 4) (a : Fin 256) (b : Fin 1024) :
    (outsAt0 m c t.val t.isLt).1 (ix4 p (0 : Fin 1) a b) = val_main_v42 (F := Ideal) (a0 m c) (a1 m c) (ix4 p q a b) := by
  have ht := point_lt t
  rw [written m c t h, Pipeline.eq_sum_fin_of_reset_step_apply_of_flush (fun n h => (outsAt0 m c n h).2) 4 (fun _ => 0) (tile m c)
    (first m c) (later m c) t h, ref_at, zero_add, Fin.sum_univ_tiles 4 1024 rfl]
  refine Finset.sum_congr rfl fun s _ => ?_
  refine Finset.sum_congr rfl fun r _ => ?_
  have e : row (4 * (t.val / 4) + s.val) r = ⟨s.val * 1024 + r.val, by omega⟩ := Fin.ext (by simp only [row]; omega)
  have e' : branch (4 * (t.val / 4) + s.val) = q := Fin.ext (by simp only [branch]; omega)
  show a0 m c (ix3 (branch (4 * (t.val / 4) + s.val)) (row (4 * (t.val / 4) + s.val) r) (col p.val a)) * a1 m c (ix3 (branch (4 * (t.val / 4) + s.val)) (row (4 * (t.val / 4) + s.val) r) b) = _
  rw [e, e']

theorem place_4 (t : Fin cfg0.N) (p : Fin 4) (q : Fin 3) (hq : q.val = t.val / 4) (a : Fin 256) (b : Fin 1024) :
    ((cfg0.win 4).blk t).view.emb (ix4 p (0 : Fin 1) a b) = ix4 p q a b := by
  obtain ⟨h0, h1, h2, h3⟩ := index_4 t
  funext d
  match d with
  | ⟨0, _⟩ => exact Fin.ext (show win0_4.index t (0 : Fin 4) * 4 + 1 * ((ix4 p (0 : Fin 1) a b) (0 : Fin 4)).val = _ by rw [h0]; simp)
  | ⟨1, _⟩ => exact Fin.ext (show win0_4.index t (1 : Fin 4) * 1 + 1 * ((ix4 p (0 : Fin 1) a b) (1 : Fin 4)).val = _ by rw [h1]; simp [hq])
  | ⟨2, _⟩ => exact Fin.ext (show win0_4.index t (2 : Fin 4) * 256 + 1 * ((ix4 p (0 : Fin 1) a b) (2 : Fin 4)).val = _ by rw [h2]; simp)
  | ⟨3, _⟩ => exact Fin.ext (show win0_4.index t (3 : Fin 4) * 1024 + 1 * ((ix4 p (0 : Fin 1) a b) (3 : Fin 4)).val = _ by rw [h3]; simp)

set_option backward.isDefEq.respectTransparency.types false in
/-- The result the call leaves is the reference's. -/
theorem final : (dats m 0 c).arrAt 4 cfg0.N = val_main_v42 (F := Ideal) (a0 m c) (a1 m c) := by
  refine (dats m 0 c).arrAt_eq_of_covers 4 _ (by decide +kernel) fun t hf y => ?_
  have ht := point_lt t
  obtain ⟨p, a, b, rfl⟩ : ∃ (p : Fin 4) (a : Fin 256) (b : Fin 1024), y = ix4 p (0 : Fin 1) a b :=
    ⟨y 0, y 2, y 3, (eq_ix4 y).trans (congrArg (fun u : Fin 1 => ix4 (y 0) u (y 2) (y 3)) (Subsingleton.elim (α := Fin 1) (y 1) 0))⟩
  rw [place_4 t p ⟨t.val / 4, by omega⟩ rfl]
  show (dats m 0 c).after 4 t (ix4 p (0 : Fin 1) a b) = _
  rw [after0_4]
  exact final_at m c t ((flush0_4 t).mp hf) p ⟨t.val / 4, by omega⟩ rfl a b

end Cert.Wgrad.Branch

end
-- ==== Proof.Wgrad.In.lean ====
/- The weight gradient of the input projection: what the call leaves in its result, entry by entry. -/
module

public import proofs.«01_k».proof.Proof.Gen.WInIdeal.Value
public import proofs.«01_k».proof.Proof.Gen.WInRefIdeal.Read
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.Wgrad.In

open Idealize.ShloMosaic Idealize.ShloMosaic.TcCoe Idealize.SL.Sem
open Cert.WInIdeal Cert.WInIdeal.Gen
open Cert.WInRefIdeal.Read

/-- A point adds its tile's product to the sums so far. -/
theorem step_at (x : FVec Ideal S1024x1024 .bf16) (s : FVec Ideal S1024x2560 .f32) (y : FVec Ideal S1024x2560 .bf16) (a : Fin 1024) (b : Fin 2560) :
    k0_pay2 (F := Ideal) x s y (ix2 a b) = s (ix2 a b) + ∑ r : Fin 1024, x (ix2 r a) * y (ix2 r b) := by
  pointwise [k0_pay2]
  try simp

theorem zero_at (a : Fin 1024) (b : Fin 2560) : k0_pay1 (F := Ideal) (ix2 a b) = 0 := by
  pointwise [k0_pay1]
  try simp

theorem cast_at (s : FVec Ideal S1024x2560 .f32) (a : Fin 1024) (b : Fin 2560) : k0_pay3 (F := Ideal) s (ix3 (0 : Fin 1) a b) = s (ix2 a b) := by
  pointwise [k0_pay3]

/-- Column `l` of the column tile `q`. -/
abbrev col (q : ℕ) (l : Fin 2560) : Fin 10240 := ⟨2560 * (q % 4) + l.val, by omega⟩

theorem ref_at (x : FVec Ideal S4096x1024 .f32) (y : FVec Ideal S4096x10240 .f32) (q : Fin 4) (a : Fin 1024) (b : Fin 2560) :
    val_main_v6 (F := Ideal) x y (ix3 q a b) = ∑ r : Fin 4096, x (ix2 r a) * y (ix2 r (col q.val b)) := by
  have e : ∀ l : Fin 2560, col q.val l = ⟨q.val * 2560 + l.val, by omega⟩ := fun l => Fin.ext (by simp only [col]; omega)
  rw [e]
  pointwise [val_main_v6, val_main_v5, val_main_v4, val_main_v3, val_main_v2, val_main_v1, val_main_v0]
  try simp [mul_comm]

variable (m : (ℓ : Loc nD τ sig) → Buf (Elt Ideal) ℓ) (c : Dev nD)

/-- The two arguments. -/
abbrev a0 : FVec Ideal S4096x1024 .f32 := m ((c : Thread nD τ).loc main_arg0)
abbrev a1 : FVec Ideal S4096x10240 .f32 := m ((c : Thread nD τ).loc main_arg1)

theorem V_left : V m c main_v0 = (a0 m c : FVec Ideal S4096x1024 .f32) := by
  show StableHlo.after hostOps0 _ (Proc.devRef .tc main_v0) = _
  after_results_simp
  rfl

theorem V_right : V m c main_v1 = (a1 m c : FVec Ideal S4096x10240 .f32) := by
  show StableHlo.after hostOps0 _ (Proc.devRef .tc main_v1) = _
  after_results_simp
  rfl

theorem index_0 : ∀ t : Fin grid0.N, win0_0.index t (0 : Fin 2) = t.val % 4 ∧ win0_0.index t (1 : Fin 2) = 0 := by decide +kernel
theorem index_1 : ∀ t : Fin grid0.N, win0_1.index t (0 : Fin 2) = t.val % 4 ∧ win0_1.index t (1 : Fin 2) = t.val / 4 := by decide +kernel
theorem index_2 : ∀ t : Fin grid0.N, win0_2.index t (0 : Fin 3) = t.val / 4 ∧ win0_2.index t (1 : Fin 3) = 0 ∧ win0_2.index t (2 : Fin 3) = 0 := by decide +kernel

theorem point_lt (t : Fin cfg0.N) : t.val < 16 := Nat.lt_of_lt_of_eq t.isLt N_0

/-- Row `r` of the tile of point `t`. -/
abbrev row (t : ℕ) (r : Fin 1024) : Fin 4096 := ⟨1024 * (t % 4) + r.val, by omega⟩

theorem blk_0 (t : Fin cfg0.N) (r a : Fin 1024) : iblk m c 0 t (ix2 r a) = a0 m c (ix2 (row t r) a) := by
  obtain ⟨h0, h1⟩ := index_0 t
  have ht := point_lt t
  have e : ((cfg0.win 0).blk t).view.emb (ix2 r a) = ix2 (row t r) a := by
    funext d
    match d with
    | ⟨0, _⟩ => exact Fin.ext (show win0_0.index t (0 : Fin 2) * 1024 + 1 * ((ix2 r a) (0 : Fin 2)).val = _ by rw [h0]; simp [row]; try omega)
    | ⟨1, _⟩ => exact Fin.ext (show win0_0.index t (1 : Fin 2) * 1024 + 1 * ((ix2 r a) (1 : Fin 2)).val = _ by rw [h1]; simp [col]; try omega)
  show V m c main_v0 (((cfg0.win 0).blk t).view.emb (ix2 r a)) = _
  rw [e, V_left]

theorem blk_1 (t : Fin cfg0.N) (r : Fin 1024) (b : Fin 2560) : iblk m c 1 t (ix2 r b) = a1 m c (ix2 (row t r) (col (t.val / 4) b)) := by
  obtain ⟨h0, h1⟩ := index_1 t
  have ht := point_lt t
  have e : ((cfg0.win 1).blk t).view.emb (ix2 r b) = ix2 (row t r) (col (t.val / 4) b) := by
    funext d
    match d with
    | ⟨0, _⟩ => exact Fin.ext (show win0_1.index t (0 : Fin 2) * 1024 + 1 * ((ix2 r b) (0 : Fin 2)).val = _ by rw [h0]; simp [row]; try omega)
    | ⟨1, _⟩ => exact Fin.ext (show win0_1.index t (1 : Fin 2) * 2560 + 1 * ((ix2 r b) (1 : Fin 2)).val = _ by rw [h1]; simp [col]; try omega)
  show V m c main_v1 (((cfg0.win 1).blk t).view.emb (ix2 r b)) = _
  rw [e, V_right]

/-- The product of the tiles of point `t`. -/
def tile (t : Fin cfg0.N) (j : S1024x2560.Idx) : EReal :=
  ∑ r : Fin 1024, a0 m c (ix2 (row t r) (j 0)) * a1 m c (ix2 (row t r) (col (t.val / 4) (j 1)))

theorem first (t : Fin cfg0.N) (h : t.val % 4 = 0) (j : S1024x2560.Idx) :
    (outsAt0 m c t.val t.isLt).2 j = 0 + tile m c t j := by
  obtain ⟨a, b, rfl⟩ : ∃ a b, j = ix2 a b := ⟨_, _, eq_ix2 j⟩
  rw [outsAt0_A m c t h (by omega)]
  frame_out
  rw [step_at, zero_at]
  simp only [blk_0, blk_1]
  rfl

theorem later (t : Fin cfg0.N) (h : ¬t.val % 4 = 0) (j : S1024x2560.Idx) :
    (outsAt0 m c t.val t.isLt).2 j = (outsAt0 m c (t.val - 1) (Nat.lt_of_le_of_lt (Nat.sub_le _ _) t.isLt)).2 j + tile m c t j := by
  obtain ⟨a, b, rfl⟩ : ∃ a b, j = ix2 a b := ⟨_, _, eq_ix2 j⟩
  by_cases h1 : t.val % 4 = 3
  · rw [outsAt0_C m c t h h1]
    frame_out
    rw [step_at, (Memref.isWhole_whole cc0_scratch0).read_unread]
    simp only [blk_0, blk_1]
    rfl
  · rw [outsAt0_B m c t h h1]
    frame_out
    rw [step_at, (Memref.isWhole_whole cc0_scratch0).read_unread]
    simp only [blk_0, blk_1]
    rfl

theorem written (t : Fin cfg0.N) (h : t.val % 4 = 3) (a : Fin 1024) (b : Fin 2560) :
    (outsAt0 m c t.val t.isLt).1 (ix3 (0 : Fin 1) a b) = (outsAt0 m c t.val t.isLt).2 (ix2 a b) := by
  rw [outsAt0_C m c t (by omega) h]
  frame_out
  rw [cast_at]

theorem final_at (t : Fin cfg0.N) (h : t.val % 4 = 3) (q : Fin 4) (hq : q.val = t.val / 4) (a : Fin 1024) (b : Fin 2560) :
    (outsAt0 m c t.val t.isLt).1 (ix3 (0 : Fin 1) a b) = val_main_v6 (F := Ideal) (a0 m c) (a1 m c) (ix3 q a b) := by
  rw [written m c t h, Pipeline.eq_sum_fin_of_reset_step_apply_of_flush (fun n h => (outsAt0 m c n h).2) 4 (fun _ => 0) (tile m c)
    (first m c) (later m c) t h, ref_at, zero_add, Fin.sum_univ_tiles 4 1024 rfl]
  refine Finset.sum_congr rfl fun s _ => ?_
  refine Finset.sum_congr rfl fun r _ => ?_
  have e : row (4 * (t.val / 4) + s.val) r = ⟨s.val * 1024 + r.val, by omega⟩ := Fin.ext (by simp only [row]; omega)
  have e' : (4 * (t.val / 4) + s.val) / 4 = q.val := by omega
  show a0 m c (ix2 (row (4 * (t.val / 4) + s.val) r) a) * a1 m c (ix2 (row (4 * (t.val / 4) + s.val) r) (col ((4 * (t.val / 4) + s.val) / 4) b)) = _
  rw [e, e']

theorem place_2 (t : Fin cfg0.N) (q : Fin 4) (hq : q.val = t.val / 4) (a : Fin 1024) (b : Fin 2560) :
    ((cfg0.win 2).blk t).view.emb (ix3 (0 : Fin 1) a b) = ix3 q a b := by
  obtain ⟨h0, h1, h2⟩ := index_2 t
  funext d
  match d with
  | ⟨0, _⟩ => exact Fin.ext (show win0_2.index t (0 : Fin 3) * 1 + 1 * ((ix3 (0 : Fin 1) a b) (0 : Fin 3)).val = _ by rw [h0]; simp [hq])
  | ⟨1, _⟩ => exact Fin.ext (show win0_2.index t (1 : Fin 3) * 1024 + 1 * ((ix3 (0 : Fin 1) a b) (1 : Fin 3)).val = _ by rw [h1]; simp)
  | ⟨2, _⟩ => exact Fin.ext (show win0_2.index t (2 : Fin 3) * 2560 + 1 * ((ix3 (0 : Fin 1) a b) (2 : Fin 3)).val = _ by rw [h2]; simp)

set_option backward.isDefEq.respectTransparency.types false in
/-- The result the call leaves is the reference's. -/
theorem final : (dats m 0 c).arrAt 2 cfg0.N = val_main_v6 (F := Ideal) (a0 m c) (a1 m c) := by
  refine (dats m 0 c).arrAt_eq_of_covers 2 _ (by decide +kernel) fun t hf y => ?_
  have ht := point_lt t
  obtain ⟨a, b, rfl⟩ : ∃ (a : Fin 1024) (b : Fin 2560), y = ix3 (0 : Fin 1) a b :=
    ⟨y 1, y 2, (eq_ix3 y).trans (congrArg (fun u : Fin 1 => ix3 u (y 1) (y 2)) (Subsingleton.elim (α := Fin 1) (y 0) 0))⟩
  rw [place_2 t ⟨t.val / 4, by omega⟩ rfl]
  show (dats m 0 c).after 2 t (ix3 (0 : Fin 1) a b) = _
  rw [after0_2]
  exact final_at m c t ((flush0_2 t).mp hf) ⟨t.val / 4, by omega⟩ rfl a b

end Cert.Wgrad.In

end
-- ==== Proof.Wgrad.Claims.lean ====
/- The claims about the five weight gradients: the references' runs, and the equality of each call's result with its
   reference's. -/
module

public import proofs.«01_k».proof.Defs
public import proofs.«01_k».proof.Proof.Wgrad.Ff2
public import proofs.«01_k».proof.Proof.Gen.WFf2RefIdeal.Run
public import proofs.«01_k».proof.Proof.Wgrad.Ff1
public import proofs.«01_k».proof.Proof.Gen.WFf1RefIdeal.Run
public import proofs.«01_k».proof.Proof.Wgrad.Out
public import proofs.«01_k».proof.Proof.Gen.WOutRefIdeal.Run
public import proofs.«01_k».proof.Proof.Wgrad.Branch
public import proofs.«01_k».proof.Proof.Gen.WBranchRefIdeal.Run
public import proofs.«01_k».proof.Proof.Wgrad.In
public import proofs.«01_k».proof.Proof.Gen.WInRefIdeal.Run
public import Idealize.ShloMosaic.Lib.Quiescent

@[expose] public section

set_option maxRecDepth 16384

noncomputable section

namespace Cert.Wgrad

open Idealize.ShloMosaic Idealize.ShloMosaic.TcCoe Idealize.SL.Sem

theorem congr_two {A B R : Type} (f : A → B → R) {a a' : A} {b b' : B} (ha : a = a') (hb : b = b') : f a b = f a' b' := by
  rw [ha, hb]

/-- The run of the reference of `WFf2` keeps the arguments; it has no semaphores. -/
theorem Ff2.reference_frame : Cert.quiescent_WFf2RefIdeal := fun m ρ _ =>
  (θ_run Cert.WFf2RefIdeal.defs _ _).mono
    (fun r h => ⟨fun c => (h c).2, sem_eq_zero_of_no_sems (by decide) r.2⟩) (Cert.WFf2RefIdeal.Value.run m ρ)

/-- `WFf2` and its reference agree on every entry of the result. -/
theorem Ff2.agree : Cert.algebraic_WFf2Ideal_WFf2RefIdeal := by
  intro m g m' g' _ hm
  refine ⟨fun c => Cert.WFf2RefIdeal.Read.val_main_v7 (F := Ideal) (Ff2.a0 m c) (Ff2.a1 m c), ?_, ?_⟩
  · refine (θ_run Cert.WFf2Ideal.defs _ _).mono (fun r h c => ?_) (Cert.WFf2Ideal.Value.run m g)
    exact ⟨(h c).1.trans ((Cert.WFf2Ideal.Value.final2 m c).symm.trans (Ff2.final m c)), (h c).2⟩
  · refine (θ_run Cert.WFf2RefIdeal.defs _ _).mono (fun r h c => ?_) (Cert.WFf2RefIdeal.Value.run m' g')
    obtain ⟨h0, h1⟩ := hm c
    have q0 := (h c).1.trans (Cert.WFf2RefIdeal.Read.val_main_v7_eq _ _)
    exact ⟨q0.trans (congr_two _ h0 h1), (h c).2⟩

/-- The run of the reference of `WFf1` keeps the arguments; it has no semaphores. -/
theorem Ff1.reference_frame : Cert.quiescent_WFf1RefIdeal := fun m ρ _ =>
  (θ_run Cert.WFf1RefIdeal.defs _ _).mono
    (fun r h => ⟨fun c => (h c).2, sem_eq_zero_of_no_sems (by decide) r.2⟩) (Cert.WFf1RefIdeal.Value.run m ρ)

/-- `WFf1` and its reference agree on every entry of the result. -/
theorem Ff1.agree : Cert.algebraic_WFf1Ideal_WFf1RefIdeal := by
  intro m g m' g' _ hm
  refine ⟨fun c => Cert.WFf1RefIdeal.Read.val_main_v6 (F := Ideal) (Ff1.a0 m c) (Ff1.a1 m c), ?_, ?_⟩
  · refine (θ_run Cert.WFf1Ideal.defs _ _).mono (fun r h c => ?_) (Cert.WFf1Ideal.Value.run m g)
    exact ⟨(h c).1.trans ((Cert.WFf1Ideal.Value.final2 m c).symm.trans (Ff1.final m c)), (h c).2⟩
  · refine (θ_run Cert.WFf1RefIdeal.defs _ _).mono (fun r h c => ?_) (Cert.WFf1RefIdeal.Value.run m' g')
    obtain ⟨h0, h1⟩ := hm c
    have q0 := (h c).1.trans (Cert.WFf1RefIdeal.Read.val_main_v6_eq _ _)
    exact ⟨q0.trans (congr_two _ h0 h1), (h c).2⟩

/-- The run of the reference of `WOut` keeps the arguments; it has no semaphores. -/
theorem Out.reference_frame : Cert.quiescent_WOutRefIdeal := fun m ρ _ =>
  (θ_run Cert.WOutRefIdeal.defs _ _).mono
    (fun r h => ⟨fun c => (h c).2, sem_eq_zero_of_no_sems (by decide) r.2⟩) (Cert.WOutRefIdeal.Value.run m ρ)

/-- `WOut` and its reference agree on every entry of the result. -/
theorem Out.agree : Cert.algebraic_WOutIdeal_WOutRefIdeal := by
  intro m g m' g' _ hm
  refine ⟨fun c => Cert.WOutRefIdeal.Read.val_main_v4 (F := Ideal) (Out.a0 m c) (Out.a1 m c), ?_, ?_⟩
  · refine (θ_run Cert.WOutIdeal.defs _ _).mono (fun r h c => ?_) (Cert.WOutIdeal.Value.run m g)
    exact ⟨(h c).1.trans ((Cert.WOutIdeal.Value.final2 m c).symm.trans (Out.final m c)), (h c).2⟩
  · refine (θ_run Cert.WOutRefIdeal.defs _ _).mono (fun r h c => ?_) (Cert.WOutRefIdeal.Value.run m' g')
    obtain ⟨h0, h1⟩ := hm c
    have q0 := (h c).1.trans (Cert.WOutRefIdeal.Read.val_main_v4_eq _ _)
    exact ⟨q0.trans (congr_two _ h0 h1), (h c).2⟩

/-- The run of the reference of `WBranch` keeps the arguments; it has no semaphores. -/
theorem Branch.reference_frame : Cert.quiescent_WBranchRefIdeal := fun m ρ _ =>
  (θ_run Cert.WBranchRefIdeal.defs _ _).mono
    (fun r h => ⟨fun c => (h c).2, sem_eq_zero_of_no_sems (by decide) r.2⟩) (Cert.WBranchRefIdeal.Value.run m ρ)

/-- `WBranch` and its reference agree on every entry of the result. -/
theorem Branch.agree : Cert.algebraic_WBranchIdeal_WBranchRefIdeal := by
  intro m g m' g' _ hm
  refine ⟨fun c => Cert.WBranchRefIdeal.Read.val_main_v42 (F := Ideal) (Branch.a0 m c) (Branch.a1 m c), ?_, ?_⟩
  · refine (θ_run Cert.WBranchIdeal.defs _ _).mono (fun r h c => ?_) (Cert.WBranchIdeal.Value.run m g)
    exact ⟨(h c).1.trans ((Cert.WBranchIdeal.Value.final4 m c).symm.trans (Branch.final m c)), (h c).2⟩
  · refine (θ_run Cert.WBranchRefIdeal.defs _ _).mono (fun r h c => ?_) (Cert.WBranchRefIdeal.Value.run m' g')
    obtain ⟨h0, h1⟩ := hm c
    have q0 := (h c).1.trans (Cert.WBranchRefIdeal.Read.val_main_v42_eq _ _)
    exact ⟨q0.trans (congr_two _ h0 h1), (h c).2⟩

/-- The run of the reference of `WIn` keeps the arguments; it has no semaphores. -/
theorem In.reference_frame : Cert.quiescent_WInRefIdeal := fun m ρ _ =>
  (θ_run Cert.WInRefIdeal.defs _ _).mono
    (fun r h => ⟨fun c => (h c).2, sem_eq_zero_of_no_sems (by decide) r.2⟩) (Cert.WInRefIdeal.Value.run m ρ)

/-- `WIn` and its reference agree on every entry of the result. -/
theorem In.agree : Cert.algebraic_WInIdeal_WInRefIdeal := by
  intro m g m' g' _ hm
  refine ⟨fun c => Cert.WInRefIdeal.Read.val_main_v6 (F := Ideal) (In.a0 m c) (In.a1 m c), ?_, ?_⟩
  · refine (θ_run Cert.WInIdeal.defs _ _).mono (fun r h c => ?_) (Cert.WInIdeal.Value.run m g)
    exact ⟨(h c).1.trans ((Cert.WInIdeal.Value.final2 m c).symm.trans (In.final m c)), (h c).2⟩
  · refine (θ_run Cert.WInRefIdeal.defs _ _).mono (fun r h c => ?_) (Cert.WInRefIdeal.Value.run m' g')
    obtain ⟨h0, h1⟩ := hm c
    have q0 := (h c).1.trans (Cert.WInRefIdeal.Read.val_main_v6_eq _ _)
    exact ⟨q0.trans (congr_two _ h0 h1), (h c).2⟩

end Cert.Wgrad

end
-- ==== Proof.FfnBwd.Points.lean ====
/- The schedule of the gradient of the feed-forward part (`ffn_bwd`): its points and the conditions its body branches on. -/
module

public import proofs.«01_k».proof.Proof.Gen.FfnBwdIdeal.Frame
public import proofs.«01_k».proof.Proof.Gen.FfnBwdIdeal.Skeleton
public import Idealize.ShloMosaic.Lib.Pipeline.Value
public import Idealize.ShloMosaic.Lib.Pipeline.TableIdle
public import Idealize.ShloMosaic.Lib.VecWindow

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- There are 32 points. -/
theorem pt_lt (t : Fin cfg0.N) : t.val < 32 := Nat.lt_of_lt_of_eq t.isLt N_0

/-- The block of tokens of a point. -/
theorem row_of (t : Fin cfg0.N) : (grid0.coords t 0).val = t.val / 8 := by
  have e : (grid0.coords t 0).val = t.val / 8 % 4 := Pipeline.Grid.coords_val t 0 (by decide) rfl
  have := pt_lt t
  omega

/-- The block of columns of a point. -/
theorem col_of (t : Fin cfg0.N) : (grid0.coords t 1).val = t.val % 8 := by
  have e : (grid0.coords t 1).val = t.val / 1 % 8 := Pipeline.Grid.coords_val t 1 (by decide) rfl
  omega

/-- The first condition holds at the first point only. -/
theorem first_iff (t : Fin cfg0.N) : k0_cond1 (grid0.coords t) = 1#1 ↔ t.val = 0 := by
  have ht := pt_lt t
  have e0 := row_of t
  have e1 := col_of t
  rw [show t.val = 0 ↔ t.val / 8 = 0 ∧ t.val % 8 = 0 by omega]
  have h3 : t.val / 8 < 4 := by omega
  have h4 : t.val % 8 < 8 := by omega
  simp only [k0_cond1, e0, e1]
  generalize t.val / 8 = a at *
  generalize t.val % 8 = b at *
  word_cmp

/-- The second condition holds at the first block of columns of each block of tokens. -/
theorem fresh_iff (t : Fin cfg0.N) : k0_cond2 (grid0.coords t) = 1#1 ↔ t.val % 8 = 0 := by
  have e1 := col_of t
  have h4 : t.val % 8 < 8 := by omega
  simp only [k0_cond2, e1]
  generalize t.val % 8 = b at *
  word_cmp

/-- The third condition holds at the last block of columns of each block of tokens. -/
theorem last_iff (t : Fin cfg0.N) : k0_cond3 (grid0.coords t) = 1#1 ↔ t.val % 8 = 7 := by
  have e1 := col_of t
  have h4 : t.val % 8 < 8 := by omega
  simp only [k0_cond3, e1]
  generalize t.val % 8 = b at *
  word_cmp

end Cert.FfnBwdIdeal.Gen

end
-- ==== Proof.FfnBwd.RunMid.lean ====
module

public import proofs.«01_k».proof.Proof.FfnBwd.Points

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A load of a whole buffer reads the values it was given. -/
theorem readAt_all {κ : Kind} {sp : Space} {s : Shape} {e : EltTy} {arg : Memref sig κ sp s e} (h : arg.IsWhole) (x : s.Idx → Elt F e)
    {off : Fin s.rank → ℕ} (inb : ∀ a, off a + s.size a ≤ s.size a) :
    View.readAt (Elt F) arg.view (Rect.unit (s := s) off s.size inb).toLoadRect (h.unread x) = x := by
  rw [View.readAt_full, h.read_unread]

set_option maxHeartbeats 3200000 in
/-- Between the first and the last block of columns: from the gradient `s` through the second norm and the sum `u` so far
    the body leaves the gradient before the activation and the sum with this block's share. -/
theorem run_mid (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1x1024x512 .bf16) (harg7 : arg7.IsWhole) (arg8 : Memref sig .tc .vmem S1024x1024 .f32) (harg8 : arg8.IsWhole) (arg9 : Memref sig .tc .vmem S1x1024 .f32) (harg9 : arg9.IsWhole) (arg11 : Memref sig .tc .vmem S1024x1024 .bf16) (harg11 : arg11.IsWhole) (arg12 : Memref sig .tc .vmem S1024x512 .bf16) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S1024x1024 .f32) (harg17 : arg17.IsWhole)
    (hc0 : ¬ k0_cond1 i = 1#1) (hc1 : ¬ k0_cond2 i = 1#1) (hc2 : ¬ k0_cond3 i = 1#1)
    (x3 : Vec F S1024x512 .bf16) (x4 : Vec F S512x1024 .bf16) (x5 : Vec F S1x1024x512 .bf16) (s : Vec F S1024x1024 .bf16) (u : Vec F S1024x1024 .f32) :
    ∀ (E : Set ℕ) (K : PUnit → sProp 𝕄),
      iprop(owns (c : Thread nD τ) arg5 fullShare x3 ∗ owns (c : Thread nD τ) arg6 fullShare x4 ∗ owns (c : Thread nD τ) arg7 fullShare x5 ∗ (∃ d, owns (c : Thread nD τ) arg12 fullShare d) ∗ owns (c : Thread nD τ) arg16 fullShare s ∗ owns (c : Thread nD τ) arg17 fullShare u
          ∗ (iprop(owns (c : Thread nD τ) arg5 fullShare x3 ∗ owns (c : Thread nD τ) arg6 fullShare x4 ∗ owns (c : Thread nD τ) arg7 fullShare x5 ∗ owns (c : Thread nD τ) arg12 fullShare (k0_pay14 x3 s x4) ∗ owns (c : Thread nD τ) arg16 fullShare s ∗ owns (c : Thread nD τ) arg17 fullShare (k0_pay15 x3 s x4 u x5)) -∗ K ⟨⟩))
        ⊢ wp frame (wpE (defs₀ (F := F)) Variants.none c none) E (cc0_ffn_bwd i arg2 harg2 arg3 harg3 arg4 harg4 arg5 harg5 arg6 harg6 arg7 harg7 arg8 harg8 arg9 harg9 (Memref.whole main_v22) (Memref.isWhole_whole _) arg11 harg11 arg12 harg12 arg13 harg13 arg14 harg14 arg15 harg15 arg16 harg16 arg17 harg17) K := by
  intro E K
  simp only [cc0_ffn_bwd_eq_skeleton]; unfold cc0_ffn_bwd_skel
  simp only [k0_part2_eq_skeleton]
  unfold owns
  iintro ⟨⟨%f3, %hf3, H3⟩, ⟨%f4, %hf4, H4⟩, ⟨%f5, %hf5, H5⟩, ⟨%d9, %f9, -, H9⟩, ⟨%f13, %hf13, HS0⟩, ⟨%f14, %hf14, HS1⟩, Hk⟩
  obtain rfl := harg5.eq_unread hf3; obtain rfl := harg6.eq_unread hf4; obtain rfl := harg7.eq_unread hf5; obtain rfl := harg16.eq_unread hf13; obtain rfl := harg17.eq_unread hf14
  sl_exec (disch := first | sl_exact hc0 | sl_exact hc1 | sl_exact hc2)
  sl_step
  iapply Hk
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H9]
  · iexists _; isplitr; swap; · iexact H9
    ipureintro
    rw [View.read_writes_full, readAt_all, readAt_all, readAt_all]
  isplitl [HS0]
  · iexists _; isplitr; · ipureintro; exact harg16.read_unread _
    iexact HS0
  iexists _; isplitr; swap; · iexact HS1
  ipureintro
  rw [View.read_writes_full, readAt_all, readAt_all, readAt_all, readAt_all, readAt_all]

end Cert.FfnBwdIdeal.Gen

end
-- ==== Proof.FfnBwd.RunLast.lean ====
module

public import proofs.«01_k».proof.Proof.FfnBwd.RunMid

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- At the last block of columns: as between, and the body leaves the gradient of the tokens and adds to the gradient of
    the first norm's gain. -/
theorem run_last (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1x1024x512 .bf16) (harg7 : arg7.IsWhole) (arg8 : Memref sig .tc .vmem S1024x1024 .f32) (harg8 : arg8.IsWhole) (arg9 : Memref sig .tc .vmem S1x1024 .f32) (harg9 : arg9.IsWhole) (arg11 : Memref sig .tc .vmem S1024x1024 .bf16) (harg11 : arg11.IsWhole) (arg12 : Memref sig .tc .vmem S1024x512 .bf16) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S1024x1024 .f32) (harg17 : arg17.IsWhole)
    (hc0 : ¬ k0_cond1 i = 1#1) (hc1 : ¬ k0_cond2 i = 1#1) (hc2 : k0_cond3 i = 1#1)
    (x0 : Vec F S1024x1024 .f32) (x3 : Vec F S1024x512 .bf16) (x4 : Vec F S512x1024 .bf16) (x5 : Vec F S1x1024x512 .bf16) (x6 : Vec F S1024x1024 .f32) (x7 : Vec F S1x1024 .f32) (p : Vec F S1x1024 .f32) (s : Vec F S1024x1024 .bf16) (u : Vec F S1024x1024 .f32) :
    ∀ (E : Set ℕ) (K : PUnit → sProp 𝕄),
      iprop(owns (c : Thread nD τ) arg2 fullShare x0 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg12 fullShare d) ∗ (∃ d, owns (c : Thread nD τ) arg13 fullShare d) ∗ owns (c : Thread nD τ) arg15 fullShare p ∗ owns (c : Thread nD τ) arg16 fullShare s ∗ owns (c : Thread nD τ) arg17 fullShare u
          ∗ (iprop(owns (c : Thread nD τ) arg2 fullShare x0 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg12 fullShare (k0_pay14 x3 s x4) ∗ owns (c : Thread nD τ) arg13 fullShare (k0_pay4 (k0_pay15 x3 s x4 u x5) x6 x7 x0) ∗ owns (c : Thread nD τ) arg15 fullShare (k0_pay3 (k0_pay15 x3 s x4 u x5) x6 p) ∗ owns (c : Thread nD τ) arg16 fullShare s ∗ owns (c : Thread nD τ) arg17 fullShare (k0_pay15 x3 s x4 u x5)) -∗ K ⟨⟩))
        ⊢ wp frame (wpE (defs₀ (F := F)) Variants.none c none) E (cc0_ffn_bwd i arg2 harg2 arg3 harg3 arg4 harg4 arg5 harg5 arg6 harg6 arg7 harg7 arg8 harg8 arg9 harg9 (Memref.whole main_v22) (Memref.isWhole_whole _) arg11 harg11 arg12 harg12 arg13 harg13 arg14 harg14 arg15 harg15 arg16 harg16 arg17 harg17) K := by
  intro E K
  simp only [cc0_ffn_bwd_eq_skeleton]; unfold cc0_ffn_bwd_skel
  simp only [k0_part2_eq_skeleton]
  unfold owns
  iintro ⟨⟨%f0, %hf0, H0⟩, ⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩, ⟨%f12, %hf12, H12⟩, ⟨%f13, %hf13, HS0⟩, ⟨%f14, %hf14, HS1⟩, Hk⟩
  obtain rfl := harg2.eq_unread hf0; obtain rfl := harg5.eq_unread hf3; obtain rfl := harg6.eq_unread hf4; obtain rfl := harg7.eq_unread hf5; obtain rfl := harg8.eq_unread hf6; obtain rfl := harg9.eq_unread hf7; obtain rfl := harg15.eq_unread hf12; obtain rfl := harg16.eq_unread hf13; obtain rfl := harg17.eq_unread hf14
  sl_exec (disch := first | sl_exact hc0 | sl_exact hc1 | sl_exact hc2)
  sl_step
  iapply Hk
  isplitl [H0]
  · iexists _; isplitr; · ipureintro; exact harg2.read_unread _
    iexact H0
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H9]
  · iexists _; isplitr; swap; · iexact H9
    ipureintro
    rw [View.read_writes_full, readAt_all, readAt_all, readAt_all]
  isplitl [H10]
  · iexists _; isplitr; swap; · iexact H10
    ipureintro
    delta run_last.sl.v33; delta run_last.sl.HS1_1; rw [View.readCov_full, View.read_writes_full, readAt_all, readAt_all, readAt_all, readAt_all, readAt_all, readAt_all, readAt_all, readAt_all]
  isplitl [H12]
  · iexists _; isplitr; swap; · iexact H12
    ipureintro
    delta run_last.sl.v33; delta run_last.sl.HS1_1; rw [View.readCov_full, View.read_writes_full, readAt_all, readAt_all, readAt_all, readAt_all, readAt_all, readAt_all, readAt_all]
  isplitl [HS0]
  · iexists _; isplitr; · ipureintro; exact harg16.read_unread _
    iexact HS0
  iexists _; isplitr; swap; · iexact HS1
  ipureintro
  delta run_last.sl.HS1_1; rw [View.read_writes_full, readAt_all, readAt_all, readAt_all, readAt_all, readAt_all]

end Cert.FfnBwdIdeal.Gen

end
-- ==== Proof.FfnBwd.RunFresh.lean ====
module

public import proofs.«01_k».proof.Proof.FfnBwd.RunLast

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- At the first block of columns of a later block of tokens the body takes the gradient through the second norm, adds to
    the gradient of its gain, and starts the sum from zero. -/
theorem run_fresh (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1x1024x512 .bf16) (harg7 : arg7.IsWhole) (arg8 : Memref sig .tc .vmem S1024x1024 .f32) (harg8 : arg8.IsWhole) (arg9 : Memref sig .tc .vmem S1x1024 .f32) (harg9 : arg9.IsWhole) (arg11 : Memref sig .tc .vmem S1024x1024 .bf16) (harg11 : arg11.IsWhole) (arg12 : Memref sig .tc .vmem S1024x512 .bf16) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S1024x1024 .f32) (harg17 : arg17.IsWhole)
    (hc0 : ¬ k0_cond1 i = 1#1) (hc1 : k0_cond2 i = 1#1) (hc2 : ¬ k0_cond3 i = 1#1)
    (x0 : Vec F S1024x1024 .f32) (x1 : Vec F S1024x1024 .bf16) (x2 : Vec F S1x1024 .f32) (x3 : Vec F S1024x512 .bf16) (x4 : Vec F S512x1024 .bf16) (x5 : Vec F S1x1024x512 .bf16) (p : Vec F S1x1024 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg11 fullShare d) ∗ (∃ d, owns (c : Thread nD τ) arg12 fullShare d) ∗ owns (c : Thread nD τ) arg14 fullShare p ∗ (∃ d, owns (c : Thread nD τ) arg16 fullShare d) ∗ (∃ d, owns (c : Thread nD τ) arg17 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg11 fullShare (k0_pay9 x0 x1 x2) ∗ owns (c : Thread nD τ) arg12 fullShare (k0_pay14 x3 (k0_pay10 x0 x1 x2) x4) ∗ owns (c : Thread nD τ) arg14 fullShare (k0_pay8 x0 x1 p) ∗ owns (c : Thread nD τ) arg16 fullShare (k0_pay10 x0 x1 x2) ∗ owns (c : Thread nD τ) arg17 fullShare (k0_pay15 x3 (k0_pay10 x0 x1 x2) x4 k0_pay13 x5)) -∗ K ⟨⟩))
        ⊢ wp frame (wpE (defs₀ (F := F)) Variants.none c none) E (cc0_ffn_bwd i arg2 harg2 arg3 harg3 arg4 harg4 arg5 harg5 arg6 harg6 arg7 harg7 arg8 harg8 arg9 harg9 (Memref.whole main_v22) (Memref.isWhole_whole _) arg11 harg11 arg12 harg12 arg13 harg13 arg14 harg14 arg15 harg15 arg16 harg16 arg17 harg17) K := by
  intro E K
  simp only [cc0_ffn_bwd_eq_skeleton]; unfold cc0_ffn_bwd_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%f11, %hf11, H11⟩, ⟨%d13, %f13, -, HS0⟩, ⟨%d14, %f14, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg14.eq_unread hf11
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr; swap; · iexact H8
    ipureintro
    rw [View.read_writes_full]; delta run_fresh.sl.r; rw [readAt_all, readAt_all, readAt_all]
  isplitl [H9]
  · iexists _; isplitr; swap; · iexact H9
    ipureintro
    rw [View.read_writes_full, readAt_all, readAt_all]; delta run_fresh.sl.v11; delta run_fresh.sl.HS0_1; rw [View.readCov_full, readAt_all, readAt_all, readAt_all]
  isplitl [H11]
  · iexists _; isplitr; swap; · iexact H11
    ipureintro
    rw [View.read_writes_full, readAt_all, readAt_all, readAt_all]
  isplitl [HS0]
  · iexists _; isplitr; swap; · iexact HS0
    ipureintro
    delta run_fresh.sl.HS0_1; rw [View.read_writes_full, readAt_all, readAt_all, readAt_all]
  iexists _; isplitr; swap; · iexact HS1
  ipureintro
  rw [View.read_writes_full, readAt_all, readAt_all, readAt_all]; delta run_fresh.sl.v11; delta run_fresh.sl.HS0_1; delta run_fresh.sl.v22; delta run_fresh.sl.HS1_1; rw [View.readCov_full, readAt_all, readAt_all, readAt_all, View.readCov_full]

end Cert.FfnBwdIdeal.Gen

end
-- ==== Proof.FfnBwd.RunFirst.lean ====
module

public import proofs.«01_k».proof.Proof.FfnBwd.RunFresh

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- At the first point: as at the first block of columns of a later block of tokens, the gradients of both gains starting
    from zero. -/
theorem run_first (c : Dev nD) (i : grid0.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S512x1024 .bf16) (harg6 : arg6.IsWhole) (arg7 : Memref sig .tc .vmem S1x1024x512 .bf16) (harg7 : arg7.IsWhole) (arg8 : Memref sig .tc .vmem S1024x1024 .f32) (harg8 : arg8.IsWhole) (arg9 : Memref sig .tc .vmem S1x1024 .f32) (harg9 : arg9.IsWhole) (arg11 : Memref sig .tc .vmem S1024x1024 .bf16) (harg11 : arg11.IsWhole) (arg12 : Memref sig .tc .vmem S1024x512 .bf16) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S1024x1024 .f32) (harg17 : arg17.IsWhole)
    (hc0 : k0_cond1 i = 1#1) (hc1 : k0_cond2 i = 1#1) (hc2 : ¬ k0_cond3 i = 1#1)
    (x0 : Vec F S1024x1024 .f32) (x1 : Vec F S1024x1024 .bf16) (x2 : Vec F S1x1024 .f32) (x3 : Vec F S1024x512 .bf16) (x4 : Vec F S512x1024 .bf16) (x5 : Vec F S1x1024x512 .bf16) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg11 fullShare d) ∗ (∃ d, owns (c : Thread nD τ) arg12 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg11 fullShare (k0_pay9 x0 x1 x2) ∗ owns (c : Thread nD τ) arg12 fullShare (k0_pay14 x3 (k0_pay10 x0 x1 x2) x4) ∗ owns (c : Thread nD τ) arg14 fullShare (k0_pay8 x0 x1 k0_pay11) ∗ owns (c : Thread nD τ) arg15 fullShare (k0_pay12) ∗ owns (c : Thread nD τ) arg16 fullShare (k0_pay10 x0 x1 x2) ∗ owns (c : Thread nD τ) arg17 fullShare (k0_pay15 x3 (k0_pay10 x0 x1 x2) x4 k0_pay13 x5)) -∗ K ⟨⟩))
        ⊢ wp frame (wpE (defs₀ (F := F)) Variants.none c none) E (cc0_ffn_bwd i arg2 harg2 arg3 harg3 arg4 harg4 arg5 harg5 arg6 harg6 arg7 harg7 arg8 harg8 arg9 harg9 (Memref.whole main_v22) (Memref.isWhole_whole _) arg11 harg11 arg12 harg12 arg13 harg13 arg14 harg14 arg15 harg15 arg16 harg16 arg17 harg17) K := by
  intro E K
  simp only [cc0_ffn_bwd_eq_skeleton]; unfold cc0_ffn_bwd_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%d11, %f11, -, H11⟩, ⟨%d12, %f12, -, H12⟩, ⟨%d13, %f13, -, HS0⟩, ⟨%d14, %f14, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr; swap; · iexact H8
    ipureintro
    rw [View.read_writes_full]; delta run_first.sl.r; rw [readAt_all, readAt_all, readAt_all]
  isplitl [H9]
  · iexists _; isplitr; swap; · iexact H9
    ipureintro
    rw [View.read_writes_full, readAt_all, readAt_all]; delta run_first.sl.v11; delta run_first.sl.HS0_1; rw [View.readCov_full, readAt_all, readAt_all, readAt_all]
  isplitl [H11]
  · iexists _; isplitr; swap; · iexact H11
    ipureintro
    rw [View.read_writes_full, readAt_all, readAt_all]; delta run_first.sl.v63; delta run_first.sl.H11_1; rw [View.readCov_full]
  isplitl [H12]
  · iexists _; isplitr; swap; · iexact H12
    ipureintro
    rw [View.read_writes_full]
  isplitl [HS0]
  · iexists _; isplitr; swap; · iexact HS0
    ipureintro
    delta run_first.sl.HS0_1; rw [View.read_writes_full, readAt_all, readAt_all, readAt_all]
  iexists _; isplitr; swap; · iexact HS1
  ipureintro
  rw [View.read_writes_full, readAt_all, readAt_all, readAt_all]; delta run_first.sl.v11; delta run_first.sl.HS0_1; delta run_first.sl.v22; delta run_first.sl.HS1_1; rw [View.readCov_full, readAt_all, readAt_all, readAt_all, View.readCov_full]

end Cert.FfnBwdIdeal.Gen

end
-- ==== Proof.FfnBwd.Data.lean ====
module

public import proofs.«01_k».proof.Proof.FfnBwd.RunFirst

@[expose] public section

set_option maxRecDepth 16384

noncomputable section

namespace Cert.FfnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the block of tokens that point `t` belongs to. -/
def rowPt (t : Fin cfg0.N) : Fin cfg0.N := ⟨t.val - t.val % 8, by have := t.isLt; omega⟩

theorem rowPt_fresh (t : Fin cfg0.N) (h : t.val % 8 = 0) : rowPt t = t := Fin.ext (by simp only [rowPt]; omega)

theorem rowPt_pred (t : Fin cfg0.N) (h : t.val % 8 ≠ 0) : rowPt ⟨t.val - 1, by omega⟩ = rowPt t :=
  Fin.ext (by simp only [rowPt]; omega)

/-- The gradient through the second norm, over the block of tokens of point `t`, -/
def dfAt (c : Dev nD) (t : Fin cfg0.N) : Vec F S1024x1024 .bf16 :=
  k0_pay9 (iblk m c 0 (rowPt t)) (iblk m c 1 (rowPt t)) (iblk m c 2 (rowPt t))

/-- and as the scratch buffer holds it. -/
def scrAt (c : Dev nD) (t : Fin cfg0.N) : Vec F S1024x1024 .bf16 :=
  k0_pay10 (iblk m c 0 (rowPt t)) (iblk m c 1 (rowPt t)) (iblk m c 2 (rowPt t))

theorem dfAt_pred (c : Dev nD) (t : Fin cfg0.N) (h : t.val % 8 ≠ 0) : dfAt m c ⟨t.val - 1, by omega⟩ = dfAt m c t := by
  unfold dfAt; rw [rowPt_pred t h]
theorem scrAt_pred (c : Dev nD) (t : Fin cfg0.N) (h : t.val % 8 ≠ 0) : scrAt m c ⟨t.val - 1, by omega⟩ = scrAt m c t := by
  unfold scrAt; rw [rowPt_pred t h]

/-- The gradient of the normalised tokens, summed over the blocks of columns up to point `n`. -/
def accAt (c : Dev nD) : (n : ℕ) → n < cfg0.N → Vec F S1024x1024 .f32
  | 0, h => k0_pay15 (iblk m c 3 ⟨0, h⟩) (scrAt m c ⟨0, h⟩) (iblk m c 4 ⟨0, h⟩) k0_pay13 (iblk m c 5 ⟨0, h⟩)
  | n + 1, h =>
    if (n + 1) % 8 = 0 then k0_pay15 (iblk m c 3 ⟨n + 1, h⟩) (scrAt m c ⟨n + 1, h⟩) (iblk m c 4 ⟨n + 1, h⟩) k0_pay13 (iblk m c 5 ⟨n + 1, h⟩)
    else k0_pay15 (iblk m c 3 ⟨n + 1, h⟩) (scrAt m c ⟨n + 1, h⟩) (iblk m c 4 ⟨n + 1, h⟩) (accAt c n (Nat.lt_of_succ_lt h)) (iblk m c 5 ⟨n + 1, h⟩)

/-- The same at a point. -/
def accPt (c : Dev nD) (t : Fin cfg0.N) : Vec F S1024x1024 .f32 := accAt m c t.val t.isLt

theorem accPt_fresh (c : Dev nD) (t : Fin cfg0.N) (h : t.val % 8 = 0) :
    accPt m c t = k0_pay15 (iblk m c 3 t) (scrAt m c t) (iblk m c 4 t) k0_pay13 (iblk m c 5 t) := by
  obtain ⟨_ | n, ht⟩ := t
  · rfl
  · exact if_pos h

theorem accPt_rest (c : Dev nD) (t : Fin cfg0.N) (h : t.val % 8 ≠ 0) :
    accPt m c t = k0_pay15 (iblk m c 3 t) (scrAt m c t) (iblk m c 4 t) (accPt m c ⟨t.val - 1, by omega⟩) (iblk m c 5 t) := by
  obtain ⟨_ | n, ht⟩ := t
  · exact absurd rfl h
  · exact if_neg h

/-- The gradient of the second norm's gain, summed over the blocks of tokens up to point `n`. -/
def g4At (c : Dev nD) : (n : ℕ) → n < cfg0.N → Vec F S1x1024 .f32
  | 0, h => k0_pay8 (iblk m c 0 ⟨0, h⟩) (iblk m c 1 ⟨0, h⟩) k0_pay11
  | n + 1, h =>
    if (n + 1) % 8 = 0 then k0_pay8 (iblk m c 0 ⟨n + 1, h⟩) (iblk m c 1 ⟨n + 1, h⟩) (g4At c n (Nat.lt_of_succ_lt h))
    else g4At c n (Nat.lt_of_succ_lt h)

theorem g4At_first (c : Dev nD) (t : Fin cfg0.N) (h : t.val = 0) :
    g4At m c t.val t.isLt = k0_pay8 (iblk m c 0 t) (iblk m c 1 t) k0_pay11 := by
  obtain ⟨_, ht⟩ := t; simp only at h; subst h; rfl

theorem g4At_fresh (c : Dev nD) (t : Fin cfg0.N) (h0 : t.val ≠ 0) (h : t.val % 8 = 0) :
    g4At m c t.val t.isLt = k0_pay8 (iblk m c 0 t) (iblk m c 1 t) (g4At m c (t.val - 1) (by omega)) := by
  obtain ⟨_ | n, ht⟩ := t
  · exact absurd rfl h0
  · exact if_pos h

theorem g4At_rest (c : Dev nD) (t : Fin cfg0.N) (h : t.val % 8 ≠ 0) :
    g4At m c t.val t.isLt = g4At m c (t.val - 1) (by omega) := by
  obtain ⟨_ | n, ht⟩ := t
  · exact absurd rfl h
  · exact if_neg h

/-- The gradient of the first norm's gain, summed over the blocks of tokens up to point `n`. -/
def g3At (c : Dev nD) : (n : ℕ) → n < cfg0.N → Vec F S1x1024 .f32
  | 0, _ => k0_pay12
  | n + 1, h =>
    if (n + 1) % 8 = 7 then k0_pay3 (accPt m c ⟨n + 1, h⟩) (iblk m c 6 ⟨n + 1, h⟩) (g3At c n (Nat.lt_of_succ_lt h))
    else g3At c n (Nat.lt_of_succ_lt h)

theorem g3At_first (c : Dev nD) (t : Fin cfg0.N) (h : t.val = 0) : g3At m c t.val t.isLt = k0_pay12 := by
  obtain ⟨_, ht⟩ := t; simp only at h; subst h; rfl

theorem g3At_last (c : Dev nD) (t : Fin cfg0.N) (h : t.val % 8 = 7) :
    g3At m c t.val t.isLt = k0_pay3 (accPt m c t) (iblk m c 6 t) (g3At m c (t.val - 1) (by omega)) := by
  obtain ⟨_ | n, ht⟩ := t
  · exact absurd h (by simp)
  · exact if_pos h

theorem g3At_rest (c : Dev nD) (t : Fin cfg0.N) (h0 : t.val ≠ 0) (h : t.val % 8 ≠ 7) :
    g3At m c t.val t.isLt = g3At m c (t.val - 1) (by omega) := by
  obtain ⟨_ | n, ht⟩ := t
  · exact absurd rfl h0
  · exact if_neg h

/-- What the region holds beside the windows before point `n`: inside a block of tokens the scratch buffers at what
    the point before left there; between two blocks anything. -/
def held (c : Dev nD) (n : ℕ) (hn : n ≤ cfg0.N) : sProp 𝕄 :=
  if h : n % 8 = 0 then Pipeline.ΦA spec0 c
  else iprop(iprop(owns (c : Thread nD τ) (Memref.whole cc0_scratch0) fullShare (scrAt m c ⟨n - 1, by omega⟩) ∗ owns (c : Thread nD τ) (Memref.whole cc0_scratch1) fullShare (accPt m c ⟨n - 1, by omega⟩)) ∗ (∃ r, prngReg c r))

theorem held_fresh (c : Dev nD) (n : ℕ) (hn : n ≤ cfg0.N) (h : n % 8 = 0) : held m c n hn = Pipeline.ΦA spec0 c := dif_pos h

theorem held_rest (c : Dev nD) (t : Fin cfg0.N) (h : t.val % 8 ≠ 0) :
    held m c t.val (Nat.le_of_lt t.isLt)
      = iprop(iprop(owns (c : Thread nD τ) (Memref.whole cc0_scratch0) fullShare (scrAt m c ⟨t.val - 1, by omega⟩) ∗ owns (c : Thread nD τ) (Memref.whole cc0_scratch1) fullShare (accPt m c ⟨t.val - 1, by omega⟩)) ∗ (∃ r, prngReg c r)) := dif_neg h

/-- The scratch buffers at anything, as the region is entered and left. -/
theorem loose_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body leaves in the scratch buffers is what is held before the next point. -/
theorem held_give (c : Dev nD) (t : Fin cfg0.N) :
    iprop(iprop(owns (c : Thread nD τ) (Memref.whole cc0_scratch0) fullShare (scrAt m c t) ∗ owns (c : Thread nD τ) (Memref.whole cc0_scratch1) fullShare (accPt m c t)) ∗ (∃ r, prngReg c r)) ⊢ held m c (t.val + 1) t.isLt := by
  by_cases h : (t.val + 1) % 8 = 0
  · rw [held_fresh m c _ _ h, loose_eq]
    iintro ⟨⟨HS0, HS1⟩, Hg⟩
    isplitl [HS0 HS1]
    · isplitl [HS0]; · iexists _; iexact HS0
      iexists _; iexact HS1
    iexact Hg
  · unfold held; rw [dif_neg h]; exact .rfl

/-- The proof data: what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dfAt m c t
    | ⟨9, _⟩ => k0_pay14 (iblk m c 3 t) (scrAt m c t) (iblk m c 4 t)
    | ⟨10, _⟩ => k0_pay4 (accPt m c t) (iblk m c 6 t) (iblk m c 7 t) (iblk m c 0 t)
    | ⟨11, _⟩ => g4At m c t.val t.isLt
    | ⟨12, _⟩ => g3At m c t.val t.isLt
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) : (dats m 0 c).Φ t.castSucc = held m c t.val (Nat.le_of_lt t.isLt) := by
  dsimp only [dats]; exact Pipeline.Dat.Φ_castSucc (held m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = dfAt m c t := by dsimp only [dats]
theorem after_9 (c : Dev nD) (t : Fin cfg0.N) : (dats m 0 c).after 9 t = k0_pay14 (iblk m c 3 t) (scrAt m c t) (iblk m c 4 t) := by dsimp only [dats]
theorem after_10 (c : Dev nD) (t : Fin cfg0.N) : (dats m 0 c).after 10 t = k0_pay4 (accPt m c t) (iblk m c 6 t) (iblk m c 7 t) (iblk m c 0 t) := by dsimp only [dats]
theorem after_11 (c : Dev nD) (t : Fin cfg0.N) : (dats m 0 c).after 11 t = g4At m c t.val t.isLt := by dsimp only [dats]
theorem after_12 (c : Dev nD) (t : Fin cfg0.N) : (dats m 0 c).after 12 t = g3At m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The points at which window 8 is left alone. -/
theorem idle_8 : ∀ t : Fin cfg0.N, cfg0.idle 8 (grid0.coords t) = true ↔ t.val % 8 ≠ 0 :=
  (by decide +kernel : ∀ t : Fin grid0.N, cfg0.idle 8 (grid0.coords t) = true ↔ t.val % 8 ≠ 0)
/-- The points at which window 10 is left alone. -/
theorem idle_10 : ∀ t : Fin cfg0.N, cfg0.idle 10 (grid0.coords t) = true ↔ t.val % 8 ≠ 7 :=
  (by decide +kernel : ∀ t : Fin grid0.N, cfg0.idle 10 (grid0.coords t) = true ↔ t.val % 8 ≠ 7)
/-- The points at which window 11 is left alone. -/
theorem idle_11 : ∀ t : Fin cfg0.N, cfg0.idle 11 (grid0.coords t) = true ↔ t.val % 8 ≠ 0 :=
  (by decide +kernel : ∀ t : Fin grid0.N, cfg0.idle 11 (grid0.coords t) = true ↔ t.val % 8 ≠ 0)
/-- The points at which window 12 is left alone. -/
theorem idle_12 : ∀ t : Fin cfg0.N, cfg0.idle 12 (grid0.coords t) = true ↔ (t.val ≠ 0 ∧ t.val % 8 ≠ 7) :=
  (by decide +kernel : ∀ t : Fin grid0.N, cfg0.idle 12 (grid0.coords t) = true ↔ (t.val ≠ 0 ∧ t.val % 8 ≠ 7))
/-- Window 10 is not written back at a point at which it is left alone. -/
theorem quiet_10 : ∀ t : Fin cfg0.N, t.val % 8 ≠ 7 → (cfg0.win 10).flush t = false :=
  (by decide +kernel : ∀ t : Fin grid0.N, t.val % 8 ≠ 7 → (cfg0.win 10).flush t = false)
/-- Window 12 is not written back at a point at which it is left alone. -/
theorem quiet_12 : ∀ t : Fin cfg0.N, t.val % 8 ≠ 7 → (cfg0.win 12).flush t = false :=
  (by decide +kernel : ∀ t : Fin grid0.N, t.val % 8 ≠ 7 → (cfg0.win 12).flush t = false)
/-- Window 8's buffer holds what the points before stored. -/
theorem notFresh_8 : ∀ t : Fin cfg0.N, t.val % 8 ≠ 0 → cfg0.fresh 8 t.val = false :=
  (by decide +kernel : ∀ t : Fin grid0.N, t.val % 8 ≠ 0 → cfg0.fresh 8 t.val = false)
/-- Window 11's buffer holds what the points before stored. -/
theorem notFresh_11 : ∀ t : Fin cfg0.N, t.val ≠ 0 → cfg0.fresh 11 t.val = false :=
  (by decide +kernel : ∀ t : Fin grid0.N, t.val ≠ 0 → cfg0.fresh 11 t.val = false)
/-- Window 12's buffer holds what the points before stored. -/
theorem notFresh_12 : ∀ t : Fin cfg0.N, t.val ≠ 0 → cfg0.fresh 12 t.val = false :=
  (by decide +kernel : ∀ t : Fin grid0.N, t.val ≠ 0 → cfg0.fresh 12 t.val = false)

theorem before_8 (c : Dev nD) (t : Fin cfg0.N) (h : t.val % 8 ≠ 0) (d) : (dats m 0 c).before 8 t d = (dats m 0 c).after 8 t := by
  rw [(dats m 0 c).before_out_traj 8 rfl (fun _ _ => rfl) (fun t _ hi _ => by
      rw [after_8, after_8, dfAt_pred m c t ((idle_8 t).mp hi)]) t.val t rfl d,
    notFresh_8 t h, if_neg Bool.false_ne_true, after_8, after_8, dfAt_pred m c t h]

theorem before_11 (c : Dev nD) (t : Fin cfg0.N) (h : t.val ≠ 0) (d) :
    (dats m 0 c).before 11 t d = g4At m c (t.val - 1) (by omega) := by
  rw [(dats m 0 c).before_out_traj 11 rfl (fun _ _ => rfl) (fun t _ hi _ => by
      rw [after_11, after_11]; exact g4At_rest m c t ((idle_11 t).mp hi)) t.val t rfl d,
    notFresh_11 t h, if_neg Bool.false_ne_true, after_11]

theorem before_12 (c : Dev nD) (t : Fin cfg0.N) (h : t.val ≠ 0) (d) :
    (dats m 0 c).before 12 t d = g3At m c (t.val - 1) (by omega) := by
  rw [(dats m 0 c).before_out_traj 12 rfl (fun _ _ => rfl) (fun t _ hi _ => by
      rw [after_12, after_12]; exact g3At_rest m c t ((idle_12 t).mp hi).1 ((idle_12 t).mp hi).2) t.val t rfl d,
    notFresh_12 t h, if_neg Bool.false_ne_true, after_12]

/-- A buffer left alone at a point, holding what the proof data state after it, is handed back as they ask. -/
theorem leaves_of_idle {c : Dev nD} (dat : Dat τ (Elt F) Unit ℕ (UR sig nD τ) ℕ cfg0 c) (w : Fin cfg0.W) (t : Fin cfg0.N)
    (hi : cfg0.idle w (grid0.coords t) = true) (d) (h : dat.before w t d = dat.after w t) :
    owns (c : Thread nD τ) ((cfg0.win w).stage (cfg0.slots t w)) fullShare (dat.before w t d) ⊢ dat.leavesExact w t := by
  cases hf : (cfg0.win w).flush t
  · rw [dat.leavesExact_idle w t hi hf]
    iintro H
    iexists d
    iexact H
  · have e : dat.leavesExact w t = owns (c : Thread nD τ) ((cfg0.win w).stage (cfg0.slots t w)) fullShare (dat.after w t) := by
      unfold Dat.leavesExact; rw [hi, hf]
    rw [e, h]

/-- A buffer left alone at a point after which it isn't written back is handed back whatever it holds. -/
theorem leaves_of_quiet {c : Dev nD} (dat : Dat τ (Elt F) Unit ℕ (UR sig nD τ) ℕ cfg0 c) (w : Fin cfg0.W) (t : Fin cfg0.N)
    (hi : cfg0.idle w (grid0.coords t) = true) (d) (hf : (cfg0.win w).flush t = false) :
    owns (c : Thread nD τ) ((cfg0.win w).stage (cfg0.slots t w)) fullShare (dat.before w t d) ⊢ dat.leavesExact w t := by
  rw [dat.leavesExact_idle w t hi hf]
  iintro H
  iexists d
  iexact H

/-- A buffer stored at a point is handed back at what the proof data state after it. -/
theorem leaves_of_live {c : Dev nD} (dat : Dat τ (Elt F) Unit ℕ (UR sig nD τ) ℕ cfg0 c) (w : Fin cfg0.W) (t : Fin cfg0.N)
    (hi : cfg0.idle w (grid0.coords t) = false) :
    dat.leavesExact w t = owns (c : Thread nD τ) ((cfg0.win w).stage (cfg0.slots t w)) fullShare (dat.after w t) := by
  unfold Dat.leavesExact; rw [hi]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 3600000 in
/-- The body between the first and the last block of columns. -/
theorem body_mid (c : Dev nD) (t : Fin cfg0.N) (h : t.val % 8 ≠ 0) (h7 : t.val % 8 ≠ 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = held m c (t.val + 1) t.isLt from rfl, held_castSucc]
  rw [held_rest m c t h, scrAt_pred m c t h]
  rw [leaves_of_live (dats m 0 c) 0 t rfl, after_0]
  rw [leaves_of_live (dats m 0 c) 1 t rfl, after_1]
  rw [leaves_of_live (dats m 0 c) 2 t rfl, after_2]
  rw [leaves_of_live (dats m 0 c) 3 t rfl, after_3]
  rw [leaves_of_live (dats m 0 c) 4 t rfl, after_4]
  rw [leaves_of_live (dats m 0 c) 5 t rfl, after_5]
  rw [leaves_of_live (dats m 0 c) 6 t rfl, after_6]
  rw [leaves_of_live (dats m 0 c) 7 t rfl, after_7]
  rw [leaves_of_live (dats m 0 c) 9 t rfl, after_9]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_mid c (grid0.coords t) _ _ _ _ _ _ _ _ _ _ _ _ _ _ _ _ _ _ _ _ _ _ _ _ _ _ _ _ _ _ (fun hc => h (by have := (first_iff t).mp hc; omega)) (fun hc => h ((fresh_iff t).mp hc)) (fun hc => h7 ((last_iff t).mp hc)) (iblk m c 3 t) (iblk m c 4 t) (iblk m c 5 t) (scrAt m c t) (accPt m c ⟨t.val - 1, by omega⟩) Set.univ _)
  isplitl [H3]; · iexact H3
  isplitl [H4]; · iexact H4
  isplitl [H5]; · iexact H5
  isplitl [H9]; · iexists _; iexact H9
  isplitl [HS0]; · iexact HS0
  isplitl [HS1]; · iexact HS1
  iintro ⟨H3, H4, H5, H9, HS0, HS1⟩
  isplitl [HS0 HS1 Hg]
  · iapply (held_give m c t)
    isplitl [HS0 HS1]
    · isplitl [HS0]; · iexact HS0
      rw [accPt_rest m c t h]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves_of_idle (dats m 0 c) 8 t ((idle_8 t).mpr h) d8 (before_8 m c t h d8)); iexact H8
  isplitl [H9]; · iexact H9
  isplitl [H10]; · iapply (leaves_of_quiet (dats m 0 c) 10 t ((idle_10 t).mpr (by omega)) d10 (quiet_10 t (by omega))); iexact H10
  isplitl [H11]; · iapply (leaves_of_idle (dats m 0 c) 11 t ((idle_11 t).mpr h) d11 ((before_11 m c t (by omega) d11).trans ((after_11 m c t).trans (g4At_rest m c t h)).symm)); iexact H11
  iapply (leaves_of_quiet (dats m 0 c) 12 t ((idle_12 t).mpr (by omega)) d12 (quiet_12 t (by omega))); iexact H12

set_option maxHeartbeats 3600000 in
/-- The body at the last block of columns. -/
theorem body_last (c : Dev nD) (t : Fin cfg0.N) (h7 : t.val % 8 = 7) :
    bodyPre m c t ⊢ wp frame (wpE (defs₀ (F := F)) Variants.none c none) Set.univ (bodyAt0 t) (fun _ => bodyPost m c t) := by
  have h : t.val % 8 ≠ 0 := by omega
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = held m c (t.val + 1) t.isLt from rfl, held_castSucc]
  rw [held_rest m c t h, scrAt_pred m c t h]
  simp only [before_12 m c t (by omega)]
  rw [leaves_of_live (dats m 0 c) 0 t rfl, after_0]
  rw [leaves_of_live (dats m 0 c) 1 t rfl, after_1]
  rw [leaves_of_live (dats m 0 c) 2 t rfl, after_2]
  rw [leaves_of_live (dats m 0 c) 3 t rfl, after_3]
  rw [leaves_of_live (dats m 0 c) 4 t rfl, after_4]
  rw [leaves_of_live (dats m 0 c) 5 t rfl, after_5]
  rw [leaves_of_live (dats m 0 c) 6 t rfl, after_6]
  rw [leaves_of_live (dats m 0 c) 7 t rfl, after_7]
  rw [leaves_of_live (dats m 0 c) 9 t rfl, after_9]
  rw [leaves_of_live (dats m 0 c) 10 t (Bool.eq_false_iff.mpr fun hi => (idle_10 t).mp hi h7), after_10]
  rw [leaves_of_live (dats m 0 c) 12 t (Bool.eq_false_iff.mpr fun hi => ((idle_12 t).mp hi).2 h7), after_12]
  rw [g3At_last m c t h7, accPt_rest m c t h]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_last c (grid0.coords t) _ _ _ _ _ _ _ _ _ _ _ _ _ _ _ _ _ _ _ _ _ _ _ _ _ _ _ _ _ _ (fun hc => h (by have := (first_iff t).mp hc; omega)) (fun hc => h ((fresh_iff t).mp hc)) ((last_iff t).mpr h7) (iblk m c 0 t) (iblk m c 3 t) (iblk m c 4 t) (iblk m c 5 t) (iblk m c 6 t) (iblk m c 7 t) (g3At m c (t.val - 1) (by omega)) (scrAt m c t) (accPt m c ⟨t.val - 1, by omega⟩) Set.univ _)
  isplitl [H0]; · iexact H0
  isplitl [H3]; · iexact H3
  isplitl [H4]; · iexact H4
  isplitl [H5]; · iexact H5
  isplitl [H6]; · iexact H6
  isplitl [H7]; · iexact H7
  isplitl [H9]; · iexists _; iexact H9
  isplitl [H10]; · iexists _; iexact H10
  isplitl [H12]; · iexact H12
  isplitl [HS0]; · iexact HS0
  isplitl [HS1]; · iexact HS1
  iintro ⟨H0, H3, H4, H5, H6, H7, H9, H10, H12, HS0, HS1⟩
  isplitl [HS0 HS1 Hg]
  · iapply (held_give m c t)
    isplitl [HS0 HS1]
    · isplitl [HS0]; · iexact HS0
      rw [accPt_rest m c t h]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves_of_idle (dats m 0 c) 8 t ((idle_8 t).mpr h) d8 (before_8 m c t h d8)); iexact H8
  isplitl [H9]; · iexact H9
  isplitl [H10]; · iexact H10
  isplitl [H11]; · iapply (leaves_of_idle (dats m 0 c) 11 t ((idle_11 t).mpr h) d11 ((before_11 m c t (by omega) d11).trans ((after_11 m c t).trans (g4At_rest m c t h)).symm)); iexact H11
  iexact H12

set_option maxHeartbeats 3600000 in
/-- The body at the first block of columns of a later block of tokens. -/
theorem body_fresh (c : Dev nD) (t : Fin cfg0.N) (h0 : t.val ≠ 0) (h : t.val % 8 = 0) :
    bodyPre m c t ⊢ wp frame (wpE (defs₀ (F := F)) Variants.none c none) Set.univ (bodyAt0 t) (fun _ => bodyPost m c t) := by
  have hr := rowPt_fresh t h
  have e8 : dfAt m c t = k0_pay9 (iblk m c 0 t) (iblk m c 1 t) (iblk m c 2 t) := by unfold dfAt; rw [hr]
  have es : scrAt m c t = k0_pay10 (iblk m c 0 t) (iblk m c 1 t) (iblk m c 2 t) := by unfold scrAt; rw [hr]
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = held m c (t.val + 1) t.isLt from rfl, held_castSucc]
  rw [held_fresh m c _ _ h, loose_eq]
  simp only [before_11 m c t h0]
  rw [leaves_of_live (dats m 0 c) 0 t rfl, after_0]
  rw [leaves_of_live (dats m 0 c) 1 t rfl, after_1]
  rw [leaves_of_live (dats m 0 c) 2 t rfl, after_2]
  rw [leaves_of_live (dats m 0 c) 3 t rfl, after_3]
  rw [leaves_of_live (dats m 0 c) 4 t rfl, after_4]
  rw [leaves_of_live (dats m 0 c) 5 t rfl, after_5]
  rw [leaves_of_live (dats m 0 c) 6 t rfl, after_6]
  rw [leaves_of_live (dats m 0 c) 7 t rfl, after_7]
  rw [leaves_of_live (dats m 0 c) 8 t (Bool.eq_false_iff.mpr fun hi => (idle_8 t).mp hi h), after_8]
  rw [leaves_of_live (dats m 0 c) 9 t rfl, after_9]
  rw [leaves_of_live (dats m 0 c) 11 t (Bool.eq_false_iff.mpr fun hi => (idle_11 t).mp hi h), after_11]
  rw [e8, es, g4At_fresh m c t h0 h]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_fresh c (grid0.coords t) _ _ _ _ _ _ _ _ _ _ _ _ _ _ _ _ _ _ _ _ _ _ _ _ _ _ _ _ _ _ (fun hc => h0 ((first_iff t).mp hc)) ((fresh_iff t).mpr h) (fun hc => by have := (last_iff t).mp hc; omega) (iblk m c 0 t) (iblk m c 1 t) (iblk m c 2 t) (iblk m c 3 t) (iblk m c 4 t) (iblk m c 5 t) (g4At m c (t.val - 1) (by omega)) Set.univ _)
  isplitl [H0]; · iexact H0
  isplitl [H1]; · iexact H1
  isplitl [H2]; · iexact H2
  isplitl [H3]; · iexact H3
  isplitl [H4]; · iexact H4
  isplitl [H5]; · iexact H5
  isplitl [H8]; · iexists _; iexact H8
  isplitl [H9]; · iexists _; iexact H9
  isplitl [H11]; · iexact H11
  isplitl [HS0]; · iexact HS0
  isplitl [HS1]; · iexact HS1
  iintro ⟨H0, H1, H2, H3, H4, H5, H8, H9, H11, HS0, HS1⟩
  isplitl [HS0 HS1 Hg]
  · iapply (held_give m c t)
    isplitl [HS0 HS1]
    · isplitl [HS0]; · rw [es]; iexact HS0
      rw [accPt_fresh m c t h, es]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (leaves_of_quiet (dats m 0 c) 10 t ((idle_10 t).mpr (by omega)) d10 (quiet_10 t (by omega))); iexact H10
  isplitl [H11]; · iexact H11
  iapply (leaves_of_quiet (dats m 0 c) 12 t ((idle_12 t).mpr (by omega)) d12 (quiet_12 t (by omega))); iexact H12

set_option maxHeartbeats 3600000 in
/-- The body at the first point. -/
theorem body_first (c : Dev nD) (t : Fin cfg0.N) (h0 : t.val = 0) :
    bodyPre m c t ⊢ wp frame (wpE (defs₀ (F := F)) Variants.none c none) Set.univ (bodyAt0 t) (fun _ => bodyPost m c t) := by
  have h : t.val % 8 = 0 := by omega
  have hr := rowPt_fresh t h
  have e8 : dfAt m c t = k0_pay9 (iblk m c 0 t) (iblk m c 1 t) (iblk m c 2 t) := by unfold dfAt; rw [hr]
  have es : scrAt m c t = k0_pay10 (iblk m c 0 t) (iblk m c 1 t) (iblk m c 2 t) := by unfold scrAt; rw [hr]
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = held m c (t.val + 1) t.isLt from rfl, held_castSucc]
  rw [held_fresh m c _ _ h, loose_eq]
  rw [leaves_of_live (dats m 0 c) 0 t rfl, after_0]
  rw [leaves_of_live (dats m 0 c) 1 t rfl, after_1]
  rw [leaves_of_live (dats m 0 c) 2 t rfl, after_2]
  rw [leaves_of_live (dats m 0 c) 3 t rfl, after_3]
  rw [leaves_of_live (dats m 0 c) 4 t rfl, after_4]
  rw [leaves_of_live (dats m 0 c) 5 t rfl, after_5]
  rw [leaves_of_live (dats m 0 c) 6 t rfl, after_6]
  rw [leaves_of_live (dats m 0 c) 7 t rfl, after_7]
  rw [leaves_of_live (dats m 0 c) 8 t (Bool.eq_false_iff.mpr fun hi => (idle_8 t).mp hi h), after_8]
  rw [leaves_of_live (dats m 0 c) 9 t rfl, after_9]
  rw [leaves_of_live (dats m 0 c) 11 t (Bool.eq_false_iff.mpr fun hi => (idle_11 t).mp hi h), after_11]
  rw [leaves_of_live (dats m 0 c) 12 t (Bool.eq_false_iff.mpr fun hi => ((idle_12 t).mp hi).1 h0), after_12]
  rw [e8, es, g4At_first m c t h0, g3At_first m c t h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_first c (grid0.coords t) _ _ _ _ _ _ _ _ _ _ _ _ _ _ _ _ _ _ _ _ _ _ _ _ _ _ _ _ _ _ ((first_iff t).mpr h0) ((fresh_iff t).mpr h) (fun hc => by have := (last_iff t).mp hc; omega) (iblk m c 0 t) (iblk m c 1 t) (iblk m c 2 t) (iblk m c 3 t) (iblk m c 4 t) (iblk m c 5 t)  Set.univ _)
  isplitl [H0]; · iexact H0
  isplitl [H1]; · iexact H1
  isplitl [H2]; · iexact H2
  isplitl [H3]; · iexact H3
  isplitl [H4]; · iexact H4
  isplitl [H5]; · iexact H5
  isplitl [H8]; · iexists _; iexact H8
  isplitl [H9]; · iexists _; iexact H9
  isplitl [H11]; · iexists _; iexact H11
  isplitl [H12]; · iexists _; iexact H12
  isplitl [HS0]; · iexact HS0
  isplitl [HS1]; · iexact HS1
  iintro ⟨H0, H1, H2, H3, H4, H5, H8, H9, H11, H12, HS0, HS1⟩
  isplitl [HS0 HS1 Hg]
  · iapply (held_give m c t)
    isplitl [HS0 HS1]
    · isplitl [HS0]; · rw [es]; iexact HS0
      rw [accPt_fresh m c t h, es]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (leaves_of_quiet (dats m 0 c) 10 t ((idle_10 t).mpr (by omega)) d10 (quiet_10 t (by omega))); iexact H10
  isplitl [H11]; · iexact H11
  iexact H12

theorem body_any (c : Dev nD) (t : Fin cfg0.N) :
    bodyPre m c t ⊢ wp frame (wpE (defs₀ (F := F)) Variants.none c none) Set.univ (bodyAt0 t) (fun _ => bodyPost m c t) := by
  by_cases h : t.val % 8 = 0
  · by_cases h0 : t.val = 0
    · exact body_first m c t h0
    · exact body_fresh m c t h0 h
  · by_cases h7 : t.val % 8 = 7
    · exact body_last m c t h7
    · exact body_mid m c t h h7

/-- The body keeps to the proof data at every point. -/
theorem body_keeps (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body_any m c t) rfl .rfl fun _ => .rfl

theorem held_in (c : Dev nD) : Pipeline.ΦA spec0 c ⊢ (dats m 0 c).Φ 0 := by
  rw [show (dats m 0 c).Φ 0 = held m c 0 (Nat.zero_le _) from rfl, held_fresh m c 0 _ rfl]

theorem held_out (c : Dev nD) : (dats m 0 c).Φ (Fin.last cfg0.N) ⊢ Pipeline.ΦA spec0 c := by
  rw [show (dats m 0 c).Φ (Fin.last cfg0.N) = held m c cfg0.N (Nat.le_refl _) from rfl,
    held_fresh m c _ _ (by have : cfg0.N = 32 := N_0; omega)]

set_option backward.isDefEq.respectTransparency.types false in
/-- Every execution of the program ends, every array of the call at what the proof data compute, every other buffer
    as the call found it, every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_keeps m c).loose) (hshare := fun c => (dats m 0 c).share_full fun _ => rfl)
    (howed := fun _ _ => rfl) (V := V m) (hmain := hmain m Variants.none) (hA := A_eq m) (hin := held_in m) (hout := held_out m)

end Cert.FfnBwdIdeal.Gen

end
-- ==== Proof.FfnBwd.Host.lean ====
/- What the call's operands hold: the saved values and the weights that the host prepares. -/
module

public import proofs.«01_k».proof.Proof.Gen.FfnBwdIdeal.Frame
public import proofs.«01_k».proof.Proof.Gen.FfnBwdRefIdeal.Read
public import Idealize.ShloMosaic.Lib.Pointwise

@[expose] public section

set_option maxRecDepth 16384

noncomputable section

namespace Cert.FfnBwdCall

open Idealize.ShloMosaic Idealize.ShloMosaic.TcCoe Idealize.SL.Sem Idealize.ShloMosaic.StableHlo
open Cert.FfnBwdIdeal Cert.FfnBwdIdeal.Gen

variable (m : (ℓ : Loc nD τ sig) → Buf (Elt Ideal) ℓ) (c : Dev nD)

/-- The six arguments: the incoming gradient, the tokens, the first norm's gain, the two weights and the second norm's gain. -/
abbrev a0 : FVec Ideal S4096x1024 .f32 := m ((c : Thread nD τ).loc main_arg0)
abbrev a1 : FVec Ideal S4096x1024 .f32 := m ((c : Thread nD τ).loc main_arg1)
abbrev a2 : FVec Ideal S1x1024 .f32 := m ((c : Thread nD τ).loc main_arg2)
abbrev a3 : FVec Ideal S1024x4096 .f32 := m ((c : Thread nD τ).loc main_arg3)
abbrev a4 : FVec Ideal S4096x1024 .f32 := m ((c : Thread nD τ).loc main_arg4)
abbrev a5 : FVec Ideal S1x1024 .f32 := m ((c : Thread nD τ).loc main_arg5)

set_option maxHeartbeats 4000000 in
theorem V_pre : V m c main_v19
    = (truncf .bf16 (Cert.FfnBwdRefIdeal.Read.val_main_v12 (F := Ideal) (a1 m c) (a2 m c) (a3 m c) : FVec Ideal S4096x4096 .f32) bitsLt_bf16_f32 : FVec Ideal S4096x4096 .bf16) := by
  show after (List.flatten [hostOps0, hostOps0_1, hostOps0_2]) _ (Proc.devRef .tc main_v19) = _
  simp only [hostOps0, hostOps0_1, hostOps0_2, List.flatten_cons, List.flatten_nil, List.append_nil, List.cons_append, List.nil_append]
  after_results_simp
  rfl

set_option maxHeartbeats 4000000 in
theorem V_ffn : V m c main_v18
    = (truncf .bf16 (Cert.FfnBwdRefIdeal.Read.val_main_v15 (F := Ideal) (a1 m c) (a2 m c) (a3 m c) (a4 m c) : FVec Ideal S4096x1024 .f32) bitsLt_bf16_f32 : FVec Ideal S4096x1024 .bf16) := by
  show after (List.flatten [hostOps0, hostOps0_1, hostOps0_2]) _ (Proc.devRef .tc main_v18) = _
  simp only [hostOps0, hostOps0_1, hostOps0_2, List.flatten_cons, List.flatten_nil, List.append_nil, List.cons_append, List.nil_append]
  after_results_simp
  rfl

set_option maxHeartbeats 4000000 in
theorem V_down (k : Fin 4096) (l : Fin 1024) : (V m c main_v20 : FVec Ideal S4096x1024 .bf16) (ix2 k l) = a4 m c (ix2 k l) := by
  show after (List.flatten [hostOps0, hostOps0_1, hostOps0_2]) _ (Proc.devRef .tc main_v20) (ix2 k l) = _
  simp only [hostOps0, hostOps0_1, hostOps0_2, List.flatten_cons, List.flatten_nil, List.append_nil, List.cons_append, List.nil_append]
  after_results_simp
  pointwise []

set_option maxHeartbeats 4000000 in
theorem V_up (q : Fin 4) (k l : Fin 1024) :
    (V m c main_v21 : FVec Ideal S4x1024x1024 .bf16) (ix3 q k l) = a3 m c (ix2 k ⟨q.val * 1024 + l.val, by omega⟩) := by
  show after (List.flatten [hostOps0, hostOps0_1, hostOps0_2]) _ (Proc.devRef .tc main_v21) (ix3 q k l) = _
  simp only [hostOps0, hostOps0_1, hostOps0_2, List.flatten_cons, List.flatten_nil, List.append_nil, List.cons_append, List.nil_append]
  after_results_simp
  pointwise []

end Cert.FfnBwdCall

end
-- ==== Proof.FfnBwd.Reference.lean ====
/- The gradient of the feed-forward part as the reference computes it, read one entry at a time. -/
module

public import proofs.«01_k».proof.Proof.Gen.FfnBwdRefIdeal.Read
public import proofs.«01_k».proof.Proof.RowNorm
public import Idealize.ShloMosaic.Lib.Pointwise

@[expose] public section

set_option maxRecDepth 16384

noncomputable section

namespace Cert.FfnBwdCall

open Idealize.ShloMosaic Idealize.ShloMosaic.TcCoe
open Cert.FfnBwdRefIdeal Cert.FfnBwdRefIdeal.Read

variable (x0 : (⟨S4096x1024, .f32⟩ : BufTy).Contents (Elt Ideal)) (x1 : (⟨S4096x1024, .f32⟩ : BufTy).Contents (Elt Ideal))
  (x2 : (⟨S1x1024, .f32⟩ : BufTy).Contents (Elt Ideal)) (x3 : (⟨S1024x4096, .f32⟩ : BufTy).Contents (Elt Ideal))
  (x4 : (⟨S4096x1024, .f32⟩ : BufTy).Contents (Elt Ideal)) (x5 : (⟨S1x1024, .f32⟩ : BufTy).Contents (Elt Ideal))

/-- The hidden layer before the activation. -/
def pre (r l : Fin 4096) : EReal := val_main_v12 (F := Ideal) x1 x2 x3 (ix2 r l)

/-- Row `r` of the product that the second norm takes in. -/
def ffn (r : Fin 4096) : Fin 1024 → EReal := fun k => val_main_v15 (F := Ideal) x1 x2 x3 x4 (ix2 r k)

/-- The slope of the squared positive part. -/
def slope (a : EReal) : EReal := Ideal.ofBits .f32 1073741824#32 * max a 0

/-- The gradient at the second norm's input, -/
def gradF (r : Fin 4096) (l : Fin 1024) : EReal :=
  RowNorm.normGrad (ffn x1 x2 x3 x4 r) (fun k => x0 (ix2 r k) * x5 (ix2 0 k)) l

/-- at the hidden layer before the activation, -/
def gradA (r l : Fin 4096) : EReal := (∑ k : Fin 1024, gradF x0 x1 x2 x3 x4 x5 r k * x4 (ix2 l k)) * slope (pre x1 x2 x3 r l)

/-- at the normalised tokens, -/
def gradH (r : Fin 4096) (l : Fin 1024) : EReal := ∑ k : Fin 4096, gradA x0 x1 x2 x3 x4 x5 r k * x3 (ix2 l k)

/-- at the tokens, with the gradient that comes along the residual, -/
def gradX (r : Fin 4096) (l : Fin 1024) : EReal :=
  x0 (ix2 r l) + RowNorm.normGrad (fun k => x1 (ix2 r k)) (fun k => gradH x0 x1 x2 x3 x4 x5 r k * x2 (ix2 0 k)) l

/-- at the second norm's gain, -/
def gradG4 (l : Fin 1024) : EReal := ∑ r : Fin 4096, x0 (ix2 r l) * (ffn x1 x2 x3 x4 r l * RowNorm.rowScale (ffn x1 x2 x3 x4 r))

/-- and at the first norm's gain. -/
def gradG3 (l : Fin 1024) : EReal :=
  ∑ r : Fin 4096, gradH x0 x1 x2 x3 x4 x5 r l * (x1 (ix2 r l) * RowNorm.rowScale (fun k => x1 (ix2 r k)))

theorem ref_gradF (r : Fin 4096) (l : Fin 1024) : val_main_v49 (F := Ideal) x0 x1 x2 x3 x4 x5 (ix2 r l) = gradF x0 x1 x2 x3 x4 x5 r l := by
  rw [gradF, ← RowNorm.normGrad_eq]
  pointwise [val_main_v16, val_main_v17, val_main_v18, val_main_v19, val_main_v20, val_main_v21, val_main_v22, val_main_v23, val_main_v24, val_main_v25, val_main_v26, val_main_v27, val_main_v28, val_main_v29, val_main_v34, val_main_v35, val_main_v36, val_main_v37, val_main_v38, val_main_v39, val_main_v40, val_main_v41, val_main_v42, val_main_v43, val_main_v44, val_main_v45, val_main_v46, val_main_v47, val_main_v48, val_main_v49, val_main_cst_2, val_main_cst_3, val_main_cst_4, val_main_cst_5, val_main_cst_7, val_main_cst_8, val_main_cst_9,
    ffn, RowNorm.rowScale, RowNorm.guarded]
  simp

/-- The derivative of the positive part is written as a choice; where the entry is not positive both forms are zero. -/
theorem slope_choice (a y : EReal) : (if 0 < a then y * slope a else 0) = y * slope a := by
  by_cases h : 0 < a
  · rw [if_pos h]
  · rw [if_neg h, slope, max_eq_right (not_lt.mp h), mul_zero, mul_zero]

theorem ref_gradA (r l : Fin 4096) : val_main_v61 (F := Ideal) x0 x1 x2 x3 x4 x5 (ix2 r l) = gradA x0 x1 x2 x3 x4 x5 r l := by
  rw [gradA, ← slope_choice]
  simp only [← ref_gradF, pre, slope]
  unfold val_main_v61 val_main_v59 val_main_v58 val_main_v56 val_main_v52 val_main_v50
  generalize val_main_v49 (F := Ideal) x0 x1 x2 x3 x4 x5 = p
  generalize val_main_v12 (F := Ideal) x1 x2 x3 = q
  pointwise [val_main_v51, val_main_v55, val_main_v60, val_main_call1_cst, val_main_call1_v0, val_main_cst_10, val_main_cst_12, val_main_cst_13]
  try simp

theorem ref_gradH (r : Fin 4096) (l : Fin 1024) : val_main_v78 (F := Ideal) x0 x1 x2 x3 x4 x5 (ix2 r l) = gradH x0 x1 x2 x3 x4 x5 r l := by
  unfold gradH
  simp only [← ref_gradA]
  unfold val_main_v78
  generalize val_main_v61 (F := Ideal) x0 x1 x2 x3 x4 x5 = p
  pointwise []
  try simp

theorem ref_gradX (r : Fin 4096) (l : Fin 1024) : val_main_v100 (F := Ideal) x0 x1 x2 x3 x4 x5 (ix2 r l) = gradX x0 x1 x2 x3 x4 x5 r l := by
  rw [gradX, ← RowNorm.normGrad_eq]
  simp only [← ref_gradH]
  pointwise [val_main_v62, val_main_v63, val_main_v64, val_main_v65, val_main_v66, val_main_v67, val_main_v68, val_main_v69, val_main_v70, val_main_v71, val_main_v72, val_main_v73, val_main_v82, val_main_v83, val_main_v84, val_main_v85, val_main_v86, val_main_v87, val_main_v88, val_main_v89, val_main_v90, val_main_v91, val_main_v92, val_main_v93, val_main_v94, val_main_v95, val_main_v96, val_main_v97, val_main_v100, val_main_cst_14, val_main_cst_15, val_main_cst_16, val_main_cst_17, val_main_cst_19, val_main_cst_20, val_main_cst_21,
    RowNorm.rowScale, RowNorm.guarded]
  simp

theorem ref_gradG4 (l : Fin 1024) : val_main_v33 (F := Ideal) x0 x1 x2 x3 x4 (ix2 0 l) = gradG4 x0 x1 x2 x3 x4 l := by
  pointwise [val_main_v16, val_main_v17, val_main_v18, val_main_v19, val_main_v20, val_main_v21, val_main_v22, val_main_v23, val_main_v27, val_main_v28, val_main_v31, val_main_v32, val_main_v33, val_main_cst_2, val_main_cst_3, val_main_cst_4, val_main_cst_6, gradG4,
    ffn, RowNorm.rowScale, RowNorm.guarded]
  simp [mul_comm]

theorem ref_gradG3 (l : Fin 1024) : val_main_v81 (F := Ideal) x0 x1 x2 x3 x4 x5 (ix2 0 l) = gradG3 x0 x1 x2 x3 x4 x5 l := by
  unfold gradG3
  simp only [← ref_gradH]
  pointwise [val_main_v62, val_main_v63, val_main_v64, val_main_v65, val_main_v66, val_main_v67, val_main_v68, val_main_v69, val_main_v73, val_main_v74, val_main_v79, val_main_v80, val_main_v81, val_main_cst_14, val_main_cst_15, val_main_cst_16, val_main_cst_18,
    RowNorm.rowScale, RowNorm.guarded]
  simp [mul_comm]

end Cert.FfnBwdCall

end
-- ==== Proof.FfnBwd.Payloads.lean ====
/- What the body's stores hold, read one entry at a time in the extended reals. -/
module

public import proofs.«01_k».proof.Proof.Gen.FfnBwdIdeal.Skeleton
public import proofs.«01_k».proof.Proof.FfnBwd.Reference

@[expose] public section

set_option maxRecDepth 16384

noncomputable section

namespace Cert.FfnBwdCall

open Idealize.ShloMosaic Idealize.ShloMosaic.TcCoe
open Cert.FfnBwdIdeal Cert.FfnBwdIdeal.Gen

theorem pay_gradF (d : Vec Ideal S1024x1024 .f32) (x : Vec Ideal S1024x1024 .bf16) (g : Vec Ideal S1x1024 .f32) (r l : Fin 1024) :
    k0_pay9 d x g (ix2 r l) = RowNorm.normGrad (fun k => x (ix2 r k)) (fun k => d (ix2 r k) * g (ix2 0 k)) l := by
  pointwise [k0_pay9, k0_pay7, k0_pay6, k0_pay5, RowNorm.normGrad, RowNorm.rowScale, RowNorm.guarded]

theorem pay_scratch (d : Vec Ideal S1024x1024 .f32) (x : Vec Ideal S1024x1024 .bf16) (g : Vec Ideal S1x1024 .f32) (r l : Fin 1024) :
    k0_pay10 d x g (ix2 r l) = k0_pay9 d x g (ix2 r l) := by
  unfold k0_pay10
  generalize k0_pay9 d x g = q
  pointwise []

theorem pay_gradA (a : Vec Ideal S1024x512 .bf16) (s : Vec Ideal S1024x1024 .bf16) (w : Vec Ideal S512x1024 .bf16) (r : Fin 1024) (l : Fin 512) :
    k0_pay14 a s w (ix2 r l) = (∑ k : Fin 1024, s (ix2 r k) * w (ix2 l k)) * slope (a (ix2 r l)) := by
  pointwise [k0_pay14, slope]
  try simp

theorem pay_sum (a : Vec Ideal S1024x512 .bf16) (s : Vec Ideal S1024x1024 .bf16) (w : Vec Ideal S512x1024 .bf16) (u : Vec Ideal S1024x1024 .f32)
    (v : Vec Ideal S1x1024x512 .bf16) (r l : Fin 1024) :
    k0_pay15 a s w u v (ix2 r l) = u (ix2 r l) + ∑ k : Fin 512, k0_pay14 a s w (ix2 r k) * v (ix3 0 l k) := by
  unfold k0_pay15
  generalize k0_pay14 a s w = q
  pointwise []
  try simp

theorem pay_start (r l : Fin 1024) : k0_pay13 (F := Ideal) (ix2 r l) = 0 := by
  pointwise [k0_pay13]
  try simp

theorem pay_gradX (u x : Vec Ideal S1024x1024 .f32) (g : Vec Ideal S1x1024 .f32) (d : Vec Ideal S1024x1024 .f32) (r l : Fin 1024) :
    k0_pay4 u x g d (ix2 r l) = d (ix2 r l) + RowNorm.normGrad (fun k => x (ix2 r k)) (fun k => u (ix2 r k) * g (ix2 0 k)) l := by
  pointwise [k0_pay4, k0_pay2, k0_pay1, RowNorm.normGrad, RowNorm.rowScale, RowNorm.guarded]

theorem pay_gradG4 (d : Vec Ideal S1024x1024 .f32) (x : Vec Ideal S1024x1024 .bf16) (s : Vec Ideal S1x1024 .f32) (l : Fin 1024) :
    k0_pay8 d x s (ix2 0 l) = s (ix2 0 l) + ∑ r : Fin 1024, d (ix2 r l) * (x (ix2 r l) * RowNorm.rowScale (fun k => x (ix2 r k))) := by
  pointwise [k0_pay8, k0_pay7, k0_pay6, k0_pay5, RowNorm.rowScale, RowNorm.guarded]

theorem pay_gradG3 (u x : Vec Ideal S1024x1024 .f32) (s : Vec Ideal S1x1024 .f32) (l : Fin 1024) :
    k0_pay3 u x s (ix2 0 l) = s (ix2 0 l) + ∑ r : Fin 1024, u (ix2 r l) * (x (ix2 r l) * RowNorm.rowScale (fun k => x (ix2 r k))) := by
  pointwise [k0_pay3, k0_pay2, k0_pay1, RowNorm.rowScale, RowNorm.guarded]

theorem pay_zero4 (l : Fin 1024) : k0_pay11 (F := Ideal) (ix2 0 l) = 0 := by
  pointwise [k0_pay11]

theorem pay_zero3 (l : Fin 1024) : k0_pay12 (F := Ideal) (ix2 0 l) = 0 := by
  pointwise [k0_pay12]

end Cert.FfnBwdCall

end
-- ==== Proof.FfnBwd.Value.lean ====
/- The gradient of the feed-forward part: the blocks the body finds, and the five arrays the run leaves, each read one entry at
   a time. -/
module

public import proofs.«01_k».proof.Proof.FfnBwd.Data
public import proofs.«01_k».proof.Proof.FfnBwd.Host
public import proofs.«01_k».proof.Proof.FfnBwd.Payloads
public import Idealize.ShloMosaic.Lib.Pipeline.ValueKit.Geometry

@[expose] public section

set_option maxRecDepth 16384

noncomputable section

namespace Cert.FfnBwdCall

open Idealize.ShloMosaic Idealize.ShloMosaic.TcCoe Idealize.SL.Sem
open Cert.FfnBwdIdeal Cert.FfnBwdIdeal.Gen
open Cert.FfnBwdRefIdeal.Read

variable (m : (ℓ : Loc nD τ sig) → Buf (Elt Ideal) ℓ) (c : Dev nD)

/-- Row `r` of the block of tokens of point `t`, -/
abbrev row (t : Fin cfg0.N) (r : Fin 1024) : Fin 4096 := ⟨t.val / 8 * 1024 + r.val, by have := pt_lt t; omega⟩
/-- and column `l` of its block of hidden columns. -/
abbrev col (t : Fin cfg0.N) (l : Fin 512) : Fin 4096 := ⟨t.val % 8 * 512 + l.val, by omega⟩

theorem row_rowPt (t : Fin cfg0.N) (r : Fin 1024) : row (rowPt t) r = row t r := Fin.ext (by simp only [row, rowPt]; omega)

theorem index_0 : ∀ t : Fin grid0.N, win0_0.index t (0 : Fin 2) = t.val / 8 ∧ win0_0.index t (1 : Fin 2) = 0 := by decide +kernel
theorem index_1 : ∀ t : Fin grid0.N, win0_1.index t (0 : Fin 2) = t.val / 8 ∧ win0_1.index t (1 : Fin 2) = 0 := by decide +kernel
theorem index_2 : ∀ t : Fin grid0.N, win0_2.index t (0 : Fin 2) = 0 ∧ win0_2.index t (1 : Fin 2) = 0 := by decide +kernel
theorem index_3 : ∀ t : Fin grid0.N, win0_3.index t (0 : Fin 2) = t.val / 8 ∧ win0_3.index t (1 : Fin 2) = t.val % 8 := by decide +kernel
theorem index_4 : ∀ t : Fin grid0.N, win0_4.index t (0 : Fin 2) = t.val % 8 ∧ win0_4.index t (1 : Fin 2) = 0 := by decide +kernel
theorem index_5 : ∀ t : Fin grid0.N, win0_5.index t (0 : Fin 3) = t.val % 8 / 2 ∧ win0_5.index t (1 : Fin 3) = 0 ∧ win0_5.index t (2 : Fin 3) = t.val % 8 % 2 := by decide +kernel
theorem index_6 : ∀ t : Fin grid0.N, win0_6.index t (0 : Fin 2) = t.val / 8 ∧ win0_6.index t (1 : Fin 2) = 0 := by decide +kernel
theorem index_7 : ∀ t : Fin grid0.N, win0_7.index t (0 : Fin 2) = 0 ∧ win0_7.index t (1 : Fin 2) = 0 := by decide +kernel
theorem index_8 : ∀ t : Fin grid0.N, win0_8.index t (0 : Fin 2) = t.val / 8 ∧ win0_8.index t (1 : Fin 2) = 0 := by decide +kernel
theorem index_9 : ∀ t : Fin grid0.N, win0_9.index t (0 : Fin 2) = t.val / 8 ∧ win0_9.index t (1 : Fin 2) = t.val % 8 := by decide +kernel
theorem index_10 : ∀ t : Fin grid0.N, win0_10.index t (0 : Fin 2) = t.val / 8 ∧ win0_10.index t (1 : Fin 2) = 0 := by decide +kernel
theorem index_11 : ∀ t : Fin grid0.N, win0_11.index t (0 : Fin 2) = 0 ∧ win0_11.index t (1 : Fin 2) = 0 := by decide +kernel
theorem index_12 : ∀ t : Fin grid0.N, win0_12.index t (0 : Fin 2) = 0 ∧ win0_12.index t (1 : Fin 2) = 0 := by decide +kernel

theorem place_0 (t : Fin cfg0.N) (a b : Fin 1024) : ((cfg0.win 0).blk t).view.emb (ix2 a b) = ix2 (row t a) b := by
  obtain ⟨h0, h1⟩ := index_0 t
  funext d
  match d with
  | ⟨0, _⟩ => exact Fin.ext (show win0_0.index t (0 : Fin 2) * 1024 + 1 * ((ix2 a b) (0 : Fin 2)).val = _ by rw [h0]; simp [row, col]; try omega)
  | ⟨1, _⟩ => exact Fin.ext (show win0_0.index t (1 : Fin 2) * 1024 + 1 * ((ix2 a b) (1 : Fin 2)).val = _ by rw [h1]; simp [row, col]; try omega)

theorem place_1 (t : Fin cfg0.N) (a b : Fin 1024) : ((cfg0.win 1).blk t).view.emb (ix2 a b) = ix2 (row t a) b := by
  obtain ⟨h0, h1⟩ := index_1 t
  funext d
  match d with
  | ⟨0, _⟩ => exact Fin.ext (show win0_1.index t (0 : Fin 2) * 1024 + 1 * ((ix2 a b) (0 : Fin 2)).val = _ by rw [h0]; simp [row, col]; try omega)
  | ⟨1, _⟩ => exact Fin.ext (show win0_1.index t (1 : Fin 2) * 1024 + 1 * ((ix2 a b) (1 : Fin 2)).val = _ by rw [h1]; simp [row, col]; try omega)

theorem place_6 (t : Fin cfg0.N) (a b : Fin 1024) : ((cfg0.win 6).blk t).view.emb (ix2 a b) = ix2 (row t a) b := by
  obtain ⟨h0, h1⟩ := index_6 t
  funext d
  match d with
  | ⟨0, _⟩ => exact Fin.ext (show win0_6.index t (0 : Fin 2) * 1024 + 1 * ((ix2 a b) (0 : Fin 2)).val = _ by rw [h0]; simp [row, col]; try omega)
  | ⟨1, _⟩ => exact Fin.ext (show win0_6.index t (1 : Fin 2) * 1024 + 1 * ((ix2 a b) (1 : Fin 2)).val = _ by rw [h1]; simp [row, col]; try omega)

theorem place_8 (t : Fin cfg0.N) (a b : Fin 1024) : ((cfg0.win 8).blk t).view.emb (ix2 a b) = ix2 (row t a) b := by
  obtain ⟨h0, h1⟩ := index_8 t
  funext d
  match d with
  | ⟨0, _⟩ => exact Fin.ext (show win0_8.index t (0 : Fin 2) * 1024 + 1 * ((ix2 a b) (0 : Fin 2)).val = _ by rw [h0]; simp [row, col]; try omega)
  | ⟨1, _⟩ => exact Fin.ext (show win0_8.index t (1 : Fin 2) * 1024 + 1 * ((ix2 a b) (1 : Fin 2)).val = _ by rw [h1]; simp [row, col]; try omega)

theorem place_10 (t : Fin cfg0.N) (a b : Fin 1024) : ((cfg0.win 10).blk t).view.emb (ix2 a b) = ix2 (row t a) b := by
  obtain ⟨h0, h1⟩ := index_10 t
  funext d
  match d with
  | ⟨0, _⟩ => exact Fin.ext (show win0_10.index t (0 : Fin 2) * 1024 + 1 * ((ix2 a b) (0 : Fin 2)).val = _ by rw [h0]; simp [row, col]; try omega)
  | ⟨1, _⟩ => exact Fin.ext (show win0_10.index t (1 : Fin 2) * 1024 + 1 * ((ix2 a b) (1 : Fin 2)).val = _ by rw [h1]; simp [row, col]; try omega)

theorem place_3 (t : Fin cfg0.N) (a : Fin 1024) (b : Fin 512) : ((cfg0.win 3).blk t).view.emb (ix2 a b) = ix2 (row t a) (col t b) := by
  obtain ⟨h0, h1⟩ := index_3 t
  funext d
  match d with
  | ⟨0, _⟩ => exact Fin.ext (show win0_3.index t (0 : Fin 2) * 1024 + 1 * ((ix2 a b) (0 : Fin 2)).val = _ by rw [h0]; simp [row, col]; try omega)
  | ⟨1, _⟩ => exact Fin.ext (show win0_3.index t (1 : Fin 2) * 512 + 1 * ((ix2 a b) (1 : Fin 2)).val = _ by rw [h1]; simp [row, col]; try omega)

theorem place_9 (t : Fin cfg0.N) (a : Fin 1024) (b : Fin 512) : ((cfg0.win 9).blk t).view.emb (ix2 a b) = ix2 (row t a) (col t b) := by
  obtain ⟨h0, h1⟩ := index_9 t
  funext d
  match d with
  | ⟨0, _⟩ => exact Fin.ext (show win0_9.index t (0 : Fin 2) * 1024 + 1 * ((ix2 a b) (0 : Fin 2)).val = _ by rw [h0]; simp [row, col]; try omega)
  | ⟨1, _⟩ => exact Fin.ext (show win0_9.index t (1 : Fin 2) * 512 + 1 * ((ix2 a b) (1 : Fin 2)).val = _ by rw [h1]; simp [row, col]; try omega)

theorem place_4 (t : Fin cfg0.N) (a : Fin 512) (b : Fin 1024) : ((cfg0.win 4).blk t).view.emb (ix2 a b) = ix2 (col t a) b := by
  obtain ⟨h0, h1⟩ := index_4 t
  funext d
  match d with
  | ⟨0, _⟩ => exact Fin.ext (show win0_4.index t (0 : Fin 2) * 512 + 1 * ((ix2 a b) (0 : Fin 2)).val = _ by rw [h0]; simp [row, col]; try omega)
  | ⟨1, _⟩ => exact Fin.ext (show win0_4.index t (1 : Fin 2) * 1024 + 1 * ((ix2 a b) (1 : Fin 2)).val = _ by rw [h1]; simp [row, col]; try omega)

theorem place_2 (t : Fin cfg0.N) (b : Fin 1024) : ((cfg0.win 2).blk t).view.emb (ix2 ((0 : Fin 1)) b) = ix2 (0 : Fin 1) b := by
  obtain ⟨h0, h1⟩ := index_2 t
  funext d
  match d with
  | ⟨0, _⟩ => exact Fin.ext (show win0_2.index t (0 : Fin 2) * 1 + 1 * ((ix2 ((0 : Fin 1)) b) (0 : Fin 2)).val = _ by rw [h0]; simp [row, col]; try omega)
  | ⟨1, _⟩ => exact Fin.ext (show win0_2.index t (1 : Fin 2) * 1024 + 1 * ((ix2 ((0 : Fin 1)) b) (1 : Fin 2)).val = _ by rw [h1]; simp [row, col]; try omega)

theorem place_7 (t : Fin cfg0.N) (b : Fin 1024) : ((cfg0.win 7).blk t).view.emb (ix2 ((0 : Fin 1)) b) = ix2 (0 : Fin 1) b := by
  obtain ⟨h0, h1⟩ := index_7 t
  funext d
  match d with
  | ⟨0, _⟩ => exact Fin.ext (show win0_7.index t (0 : Fin 2) * 1 + 1 * ((ix2 ((0 : Fin 1)) b) (0 : Fin 2)).val = _ by rw [h0]; simp [row, col]; try omega)
  | ⟨1, _⟩ => exact Fin.ext (show win0_7.index t (1 : Fin 2) * 1024 + 1 * ((ix2 ((0 : Fin 1)) b) (1 : Fin 2)).val = _ by rw [h1]; simp [row, col]; try omega)

theorem place_5 (t : Fin cfg0.N) (k : Fin 1024) (l : Fin 512) : ((cfg0.win 5).blk t).view.emb (ix3 ((0 : Fin 1)) k l) = ix3 (⟨t.val % 8 / 2, by omega⟩ : Fin 4) k (⟨t.val % 8 % 2 * 512 + l.val, by omega⟩ : Fin 1024) := by
  obtain ⟨h0, h1, h2⟩ := index_5 t
  funext d
  match d with
  | ⟨0, _⟩ => exact Fin.ext (show win0_5.index t (0 : Fin 3) * 1 + 1 * ((ix3 ((0 : Fin 1)) k l) (0 : Fin 3)).val = _ by rw [h0]; simp [row, col]; try omega)
  | ⟨1, _⟩ => exact Fin.ext (show win0_5.index t (1 : Fin 3) * 1024 + 1 * ((ix3 ((0 : Fin 1)) k l) (1 : Fin 3)).val = _ by rw [h1]; simp [row, col]; try omega)
  | ⟨2, _⟩ => exact Fin.ext (show win0_5.index t (2 : Fin 3) * 512 + 1 * ((ix3 ((0 : Fin 1)) k l) (2 : Fin 3)).val = _ by rw [h2]; simp [row, col]; try omega)

theorem blk_0 (t : Fin cfg0.N) (a k : Fin 1024) : iblk m c 0 t (ix2 a k) = a0 m c (ix2 (row t a) k) := by
  show V m c main_arg0 (((cfg0.win 0).blk t).view.emb (ix2 a k)) = _
  rw [place_0, V_main_arg0]

theorem blk_2 (t : Fin cfg0.N) (l : Fin 1024) : iblk m c 2 t (ix2 (0 : Fin 1) l) = a5 m c (ix2 (0 : Fin 1) l) := by
  show V m c main_arg5 (((cfg0.win 2).blk t).view.emb (ix2 (0 : Fin 1) l)) = _
  rw [place_2, V_main_arg5]

theorem blk_6 (t : Fin cfg0.N) (a k : Fin 1024) : iblk m c 6 t (ix2 a k) = a1 m c (ix2 (row t a) k) := by
  show V m c main_arg1 (((cfg0.win 6).blk t).view.emb (ix2 a k)) = _
  rw [place_6, V_main_arg1]

theorem blk_7 (t : Fin cfg0.N) (l : Fin 1024) : iblk m c 7 t (ix2 (0 : Fin 1) l) = a2 m c (ix2 (0 : Fin 1) l) := by
  show V m c main_arg2 (((cfg0.win 7).blk t).view.emb (ix2 (0 : Fin 1) l)) = _
  rw [place_7, V_main_arg2]

theorem blk_1 (t : Fin cfg0.N) (a k : Fin 1024) : iblk m c 1 t (ix2 a k) = ffn (a1 m c) (a2 m c) (a3 m c) (a4 m c) (row t a) k := by
  show V m c main_v18 (((cfg0.win 1).blk t).view.emb (ix2 a k)) = _
  rw [place_1, V_ffn]
  rfl

theorem blk_3 (t : Fin cfg0.N) (a : Fin 1024) (k : Fin 512) : iblk m c 3 t (ix2 a k) = pre (a1 m c) (a2 m c) (a3 m c) (row t a) (col t k) := by
  show V m c main_v19 (((cfg0.win 3).blk t).view.emb (ix2 a k)) = _
  rw [place_3, V_pre]
  rfl

theorem blk_4 (t : Fin cfg0.N) (k : Fin 512) (l : Fin 1024) : iblk m c 4 t (ix2 k l) = a4 m c (ix2 (col t k) l) := by
  show V m c main_v20 (((cfg0.win 4).blk t).view.emb (ix2 k l)) = _
  rw [place_4]
  exact V_down m c _ l

theorem blk_5 (t : Fin cfg0.N) (k : Fin 1024) (l : Fin 512) : iblk m c 5 t (ix3 (0 : Fin 1) k l) = a3 m c (ix2 k (col t l)) := by
  show V m c main_v21 (((cfg0.win 5).blk t).view.emb (ix3 (0 : Fin 1) k l)) = _
  rw [place_5]
  refine (V_up m c _ k _).trans ?_
  have e : (⟨t.val % 8 / 2 * 1024 + (t.val % 8 % 2 * 512 + l.val), by omega⟩ : Fin 4096) = col t l := Fin.ext (by simp only [col]; omega)
  exact congrArg (fun q => a3 m c (ix2 k q)) e

theorem gradF_at (t : Fin cfg0.N) (r l : Fin 1024) : dfAt m c t (ix2 r l) = gradF (a0 m c) (a1 m c) (a2 m c) (a3 m c) (a4 m c) (a5 m c) (row t r) l := by
  unfold dfAt
  rw [pay_gradF]
  simp only [blk_0, blk_1, blk_2, row_rowPt]
  rfl

theorem scratch_at (t : Fin cfg0.N) (r l : Fin 1024) : scrAt m c t (ix2 r l) = gradF (a0 m c) (a1 m c) (a2 m c) (a3 m c) (a4 m c) (a5 m c) (row t r) l := by
  unfold scrAt
  rw [pay_scratch]
  exact gradF_at m c t r l

theorem gradA_at (t : Fin cfg0.N) (r : Fin 1024) (l : Fin 512) :
    k0_pay14 (F := Ideal) (iblk m c 3 t) (scrAt m c t) (iblk m c 4 t) (ix2 r l) = gradA (a0 m c) (a1 m c) (a2 m c) (a3 m c) (a4 m c) (a5 m c) (row t r) (col t l) := by
  rw [pay_gradA]
  simp only [scratch_at, blk_3, blk_4]
  rfl

/-- The share of block `s` of the hidden columns in an entry of the gradient at the normalised tokens. -/
def share (r : Fin 4096) (s : ℕ) (l : Fin 1024) : EReal :=
  ∑ k : Fin 512, gradA (a0 m c) (a1 m c) (a2 m c) (a3 m c) (a4 m c) (a5 m c) r ⟨s % 8 * 512 + k.val, by omega⟩ * a3 m c (ix2 l ⟨s % 8 * 512 + k.val, by omega⟩)

theorem share_at (t : Fin cfg0.N) (u : FVec Ideal S1024x1024 .f32) (r l : Fin 1024) :
    k0_pay15 (F := Ideal) (iblk m c 3 t) (scrAt m c t) (iblk m c 4 t) u (iblk m c 5 t) (ix2 r l)
      = u (ix2 r l) + share m c (row t r) (t.val % 8) l := by
  rw [pay_sum]
  simp only [gradA_at, blk_5]
  unfold share
  refine congrArg (_ + ·) (Finset.sum_congr rfl fun k _ => ?_)
  have e : (⟨t.val % 8 % 8 * 512 + k.val, by omega⟩ : Fin 4096) = col t k := Fin.ext (by simp only [col]; omega)
  rw [e]

/-- The sum a point leaves is that of the shares up to its block of hidden columns. -/
theorem sum_at (n : ℕ) : ∀ (t : Fin cfg0.N), t.val = n → ∀ r l : Fin 1024,
    accPt m c t (ix2 r l) = ∑ s ∈ Finset.range (t.val % 8 + 1), share m c (row t r) s l := by
  induction n with
  | zero =>
    intro t h r l
    rw [accPt_fresh m c t (by omega), share_at, pay_start, show t.val % 8 = 0 by omega]
    simp
  | succ n ih =>
    intro t h r l
    by_cases h4 : t.val % 8 = 0
    · rw [accPt_fresh m c t h4, share_at, pay_start, h4]
      simp
    · have e : row ⟨t.val - 1, by omega⟩ r = row t r := Fin.ext (by simp only [row]; omega)
      rw [accPt_rest m c t h4, share_at, ih ⟨t.val - 1, by omega⟩ (by show t.val - 1 = n; omega) r l, e, Finset.sum_range_succ _ (t.val % 8),
        show (t.val - 1) % 8 + 1 = t.val % 8 by omega]

theorem gradH_at (t : Fin cfg0.N) (h : t.val % 8 = 7) (r l : Fin 1024) : accPt m c t (ix2 r l) = gradH (a0 m c) (a1 m c) (a2 m c) (a3 m c) (a4 m c) (a5 m c) (row t r) l := by
  rw [sum_at m c t.val t rfl r l, h, Finset.sum_range]
  unfold gradH
  rw [Fin.sum_univ_tiles 8 512 rfl]
  refine Finset.sum_congr rfl fun s _ => Finset.sum_congr rfl fun k _ => ?_
  have e : (⟨s.val % 8 * 512 + k.val, by omega⟩ : Fin 4096) = ⟨s.val * 512 + k.val, by omega⟩ := Fin.ext (by simp only; omega)
  rw [e]

theorem gradX_at (t : Fin cfg0.N) (h : t.val % 8 = 7) (r l : Fin 1024) :
    k0_pay4 (F := Ideal) (accPt m c t) (iblk m c 6 t) (iblk m c 7 t) (iblk m c 0 t) (ix2 r l) = gradX (a0 m c) (a1 m c) (a2 m c) (a3 m c) (a4 m c) (a5 m c) (row t r) l := by
  rw [pay_gradX]
  simp only [gradH_at m c t h, blk_6, blk_7, blk_0]
  rfl

/-- One block of tokens' share of the gradient of the second norm's gain, -/
def part4 (n : ℕ) (l : Fin 1024) : EReal :=
  if h : n < 4 then ∑ r : Fin 1024, a0 m c (ix2 ⟨n * 1024 + r.val, by omega⟩ l)
    * (ffn (a1 m c) (a2 m c) (a3 m c) (a4 m c) ⟨n * 1024 + r.val, by omega⟩ l * RowNorm.rowScale (ffn (a1 m c) (a2 m c) (a3 m c) (a4 m c) ⟨n * 1024 + r.val, by omega⟩)) else 0

/-- and of the gradient of the first norm's gain. -/
def part3 (n : ℕ) (l : Fin 1024) : EReal :=
  if h : n < 4 then ∑ r : Fin 1024, gradH (a0 m c) (a1 m c) (a2 m c) (a3 m c) (a4 m c) (a5 m c) ⟨n * 1024 + r.val, by omega⟩ l
    * (a1 m c (ix2 ⟨n * 1024 + r.val, by omega⟩ l) * RowNorm.rowScale (fun k => a1 m c (ix2 ⟨n * 1024 + r.val, by omega⟩ k))) else 0

theorem part4_step (t : Fin cfg0.N) (s : Vec Ideal S1x1024 .f32) (l : Fin 1024) :
    k0_pay8 (iblk m c 0 t) (iblk m c 1 t) s (ix2 0 l) = s (ix2 0 l) + part4 m c (t.val / 8) l := by
  have ht : t.val / 8 < 4 := by have := pt_lt t; omega
  have hs : part4 m c (t.val / 8) l = ∑ r : Fin 1024, a0 m c (ix2 (row t r) l) * (ffn (a1 m c) (a2 m c) (a3 m c) (a4 m c) (row t r) l
      * RowNorm.rowScale (ffn (a1 m c) (a2 m c) (a3 m c) (a4 m c) (row t r))) := dif_pos ht
  rw [hs]
  refine (pay_gradG4 _ _ s l).trans (congrArg (s (ix2 0 l) + ·) (Finset.sum_congr rfl fun r _ => ?_))
  simp only [blk_0, blk_1]

theorem part3_step (t : Fin cfg0.N) (h : t.val % 8 = 7) (s : Vec Ideal S1x1024 .f32) (l : Fin 1024) :
    k0_pay3 (accPt m c t) (iblk m c 6 t) s (ix2 0 l) = s (ix2 0 l) + part3 m c (t.val / 8) l := by
  have ht : t.val / 8 < 4 := by have := pt_lt t; omega
  have hs : part3 m c (t.val / 8) l = ∑ r : Fin 1024, gradH (a0 m c) (a1 m c) (a2 m c) (a3 m c) (a4 m c) (a5 m c) (row t r) l * (a1 m c (ix2 (row t r) l)
      * RowNorm.rowScale (fun k => a1 m c (ix2 (row t r) k))) := dif_pos ht
  rw [hs]
  refine (pay_gradG3 _ _ s l).trans (congrArg (s (ix2 0 l) + ·) (Finset.sum_congr rfl fun r _ => ?_))
  simp only [gradH_at m c t h, blk_6]

theorem gain4_at (l : Fin 1024) : ∀ (n : ℕ) (h : n < cfg0.N), g4At m c n h (ix2 0 l) = ∑ i ∈ Finset.range (n / 8 + 1), part4 m c i l
  | 0, h => by
    rw [g4At_first m c ⟨0, h⟩ rfl, part4_step, pay_zero4, zero_add]
    simp
  | n + 1, h => by
    by_cases h8 : (n + 1) % 8 = 0
    · have e : (n + 1) / 8 = n / 8 + 1 := by omega
      rw [g4At_fresh m c ⟨n + 1, h⟩ (Nat.succ_ne_zero n) h8, part4_step, e, Finset.sum_range_succ]
      exact congrArg (· + _) (gain4_at l n (Nat.lt_of_succ_lt h))
    · have e : (n + 1) / 8 = n / 8 := by omega
      rw [g4At_rest m c ⟨n + 1, h⟩ h8, e]
      exact gain4_at l n (Nat.lt_of_succ_lt h)

theorem gain3_at (l : Fin 1024) : ∀ (n : ℕ) (h : n < cfg0.N), g3At m c n h (ix2 0 l) = ∑ i ∈ Finset.range ((n + 1) / 8), part3 m c i l
  | 0, h => by
    rw [g3At_first m c ⟨0, h⟩ rfl, pay_zero3]
    simp
  | n + 1, h => by
    by_cases h8 : (n + 1) % 8 = 7
    · have e : (n + 1 + 1) / 8 = (n + 1) / 8 + 1 := by omega
      rw [g3At_last m c ⟨n + 1, h⟩ h8, part3_step m c ⟨n + 1, h⟩ h8, e, Finset.sum_range_succ]
      exact congrArg (· + _) (gain3_at l n (Nat.lt_of_succ_lt h))
    · have e : (n + 1 + 1) / 8 = (n + 1) / 8 := by omega
      rw [g3At_rest m c ⟨n + 1, h⟩ (Nat.succ_ne_zero n) h8, e]
      exact gain3_at l n (Nat.lt_of_succ_lt h)

theorem gain4_all (l : Fin 1024) : ∑ i ∈ Finset.range 4, part4 m c i l = gradG4 (a0 m c) (a1 m c) (a2 m c) (a3 m c) (a4 m c) l := by
  rw [gradG4, Fin.sum_univ_tiles 4 1024 rfl, ← Fin.sum_univ_eq_sum_range (fun i => part4 m c i l)]
  refine Finset.sum_congr rfl fun i _ => ?_
  rw [part4, dif_pos i.isLt]

theorem gain3_all (l : Fin 1024) : ∑ i ∈ Finset.range 4, part3 m c i l = gradG3 (a0 m c) (a1 m c) (a2 m c) (a3 m c) (a4 m c) (a5 m c) l := by
  rw [gradG3, Fin.sum_univ_tiles 4 1024 rfl, ← Fin.sum_univ_eq_sum_range (fun i => part3 m c i l)]
  refine Finset.sum_congr rfl fun i _ => ?_
  rw [part3, dif_pos i.isLt]

theorem flush_10 (t : Fin cfg0.N) (hf : (cfg0.win 10).flush t = true) : t.val % 8 = 7 := by
  by_contra h
  rw [quiet_10 t h] at hf
  cases hf

set_option backward.isDefEq.respectTransparency.types false in
theorem final_gradF : (dats m 0 c).arrAt 8 cfg0.N = val_main_v98 (F := Ideal) (a0 m c) (a1 m c) (a2 m c) (a3 m c) (a4 m c) (a5 m c) :=
  (dats m 0 c).arrAt_eq_of_covers 8 _ (by decide +kernel) fun t hf y => by
    obtain ⟨r, l, rfl⟩ : ∃ (r l : Fin 1024), y = ix2 r l := ⟨y 0, y 1, eq_ix2 y⟩
    rw [place_8]
    show (dats m 0 c).after 8 t (ix2 r l) = _
    rw [after_8]
    exact (gradF_at m c t r l).trans (ref_gradF (a0 m c) (a1 m c) (a2 m c) (a3 m c) (a4 m c) (a5 m c) (row t r) l).symm

set_option backward.isDefEq.respectTransparency.types false in
theorem final_gradA : (dats m 0 c).arrAt 9 cfg0.N = val_main_v99 (F := Ideal) (a0 m c) (a1 m c) (a2 m c) (a3 m c) (a4 m c) (a5 m c) :=
  (dats m 0 c).arrAt_eq_of_covers 9 _ (by decide +kernel) fun t hf y => by
    obtain ⟨r, l, rfl⟩ : ∃ (r : Fin 1024) (l : Fin 512), y = ix2 r l := ⟨y 0, y 1, eq_ix2 y⟩
    rw [place_9]
    show (dats m 0 c).after 9 t (ix2 r l) = _
    rw [after_9]
    exact (gradA_at m c t r l).trans (ref_gradA (a0 m c) (a1 m c) (a2 m c) (a3 m c) (a4 m c) (a5 m c) (row t r) (col t l)).symm

set_option backward.isDefEq.respectTransparency.types false in
theorem final_gradX : (dats m 0 c).arrAt 10 cfg0.N = val_main_v100 (F := Ideal) (a0 m c) (a1 m c) (a2 m c) (a3 m c) (a4 m c) (a5 m c) :=
  (dats m 0 c).arrAt_eq_of_covers 10 _ (by decide +kernel) fun t hf y => by
    obtain ⟨r, l, rfl⟩ : ∃ (r l : Fin 1024), y = ix2 r l := ⟨y 0, y 1, eq_ix2 y⟩
    rw [place_10]
    show (dats m 0 c).after 10 t (ix2 r l) = _
    rw [after_10]
    exact (gradX_at m c t (flush_10 t hf) r l).trans (ref_gradX (a0 m c) (a1 m c) (a2 m c) (a3 m c) (a4 m c) (a5 m c) (row t r) l).symm

set_option backward.isDefEq.respectTransparency.types false in
theorem last_gain4 (l : Fin 1024) : ((dats m 0 c).arrAt 11 cfg0.N : (⟨S1x1024, .f32⟩ : BufTy).Contents (Elt Ideal)) (ix2 0 l) = gradG4 (a0 m c) (a1 m c) (a2 m c) (a3 m c) (a4 m c) l := by
  have h := (dats m 0 c).arrAt_emb_eq_after_last 11 ⟨31, by decide⟩ (by decide +kernel) (ix2 0 l)
  refine (h.trans ?_)
  show (dats m 0 c).after 11 ⟨31, by decide⟩ (ix2 0 l) = _
  rw [after_11, gain4_at]
  exact gain4_all m c l

theorem final_gain4 : ((dats m 0 c).arrAt 11 cfg0.N : (⟨S1x1024, .f32⟩ : BufTy).Contents (Elt Ideal)) = val_main_v33 (F := Ideal) (a0 m c) (a1 m c) (a2 m c) (a3 m c) (a4 m c) := by
  funext y
  obtain ⟨u, l, rfl⟩ : ∃ (u : Fin 1) (l : Fin 1024), y = ix2 u l := ⟨y 0, y 1, eq_ix2 y⟩
  obtain rfl := Subsingleton.elim (α := Fin 1) u 0
  exact (last_gain4 m c l).trans (ref_gradG4 (a0 m c) (a1 m c) (a2 m c) (a3 m c) (a4 m c) l).symm

set_option backward.isDefEq.respectTransparency.types false in
theorem last_gain3 (l : Fin 1024) : ((dats m 0 c).arrAt 12 cfg0.N : (⟨S1x1024, .f32⟩ : BufTy).Contents (Elt Ideal)) (ix2 0 l) = gradG3 (a0 m c) (a1 m c) (a2 m c) (a3 m c) (a4 m c) (a5 m c) l := by
  have h := (dats m 0 c).arrAt_emb_eq_after_last 12 ⟨31, by decide⟩ (by decide +kernel) (ix2 0 l)
  refine (h.trans ?_)
  show (dats m 0 c).after 12 ⟨31, by decide⟩ (ix2 0 l) = _
  rw [after_12, gain3_at]
  exact gain3_all m c l

theorem final_gain3 : ((dats m 0 c).arrAt 12 cfg0.N : (⟨S1x1024, .f32⟩ : BufTy).Contents (Elt Ideal)) = val_main_v81 (F := Ideal) (a0 m c) (a1 m c) (a2 m c) (a3 m c) (a4 m c) (a5 m c) := by
  funext y
  obtain ⟨u, l, rfl⟩ : ∃ (u : Fin 1) (l : Fin 1024), y = ix2 u l := ⟨y 0, y 1, eq_ix2 y⟩
  obtain rfl := Subsingleton.elim (α := Fin 1) u 0
  exact (last_gain3 m c l).trans (ref_gradG3 (a0 m c) (a1 m c) (a2 m c) (a3 m c) (a4 m c) (a5 m c) l).symm

end Cert.FfnBwdCall

end
-- ==== Proof.FfnBwd.Printed.lean ====
/- The call before idealization. Its program has the same text as the idealized one, so the two bodies are equal and the
   run of the one, which holds over any float values, is a run of the other. -/
module

public import proofs.«01_k».proof.Defs
public import proofs.«01_k».proof.Proof.Gen.FfnBwd
public import proofs.«01_k».proof.Proof.FfnBwd.Data
public import Idealize.ShloMosaic.Lib.Claim

@[expose] public section

set_option maxRecDepth 16384

noncomputable section

namespace Cert.FfnBwdCall

open Idealize.ShloMosaic Idealize.ShloMosaic.TcCoe Idealize.SL.Sem
open Cert.FfnBwdIdeal Cert.FfnBwdIdeal.Gen

/-- The call's run over any float values keeps the arguments and leaves every semaphore at zero. -/
theorem run_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) ((θ_run defs _ _).mono (fun _ h => h.1) (run_all m ρ)))
    ((θ_run defs _ _).mono (fun _ h => h.2) (run_all m ρ))

theorem kernel_frame : Cert.quiescent_FfnBwdIdeal := fun m ρ _ => run_frame m ρ

set_option maxHeartbeats 1000000 in
theorem same_body : @Cert.FfnBwd.cc0_ffn_bwd Bits _ _ = @Cert.FfnBwdIdeal.cc0_ffn_bwd Bits _ _ := rfl

set_option maxHeartbeats 1000000 in
theorem same_table : Cert.FfnBwd.defs₀ (F := Bits) = Cert.FfnBwdIdeal.defs₀ (F := Bits) := by
  unfold Cert.FfnBwd.defs₀ Cert.FfnBwdIdeal.defs₀
  refine congrArg Defs.onTc (funext fun p => ?_)
  match p with
  | ⟨0, _⟩ => funext a; rfl

set_option maxHeartbeats 1000000 in
theorem same_defs : Cert.FfnBwd.defs (F := Bits) = Cert.FfnBwdIdeal.defs (F := Bits) :=
  congrArg (Pipeline.defs Cert.FfnBwdIdeal.pcfgs) same_table

set_option maxHeartbeats 1000000 in
theorem same_main : Cert.FfnBwd.main (F := Bits) = Cert.FfnBwdIdeal.main (F := Bits) := rfl

/-- Equal programs have equal runs. -/
theorem run_of_eq {nD : Nat} {τ : Topo} {sig : RefSig} {Λ : Labels} {Val : EltTy → Type} {D D' : Defs nD τ sig Val Λ}
    {p p' : (c : Thread nD τ) → Prog (TpuEff nD τ sig Val Λ c.2) PUnit} {s : MemSt nD τ sig Val}
    {Q : PUnit × MemSt nD τ sig Val → Prop} (hD : D = D') (hp : p = p') (h : θ_run D' p' s Q) : θ_run D p s Q := by
  subst hD hp
  exact h

set_option maxHeartbeats 1000000 in
theorem printed_frame : Cert.quiescent_FfnBwd := fun m ρ _ =>
  run_of_eq same_defs (congrArg (onTc (τ := τ)) same_main) (run_frame (F := Bits) m ρ)

end Cert.FfnBwdCall

end
-- ==== Proof.FfnBwd.Claim.lean ====
/- The claims about the gradient of the feed-forward part: its run over the extended reals, the reference's run, and the equality
   of their five results. -/
module

public import proofs.«01_k».proof.Defs
public import proofs.«01_k».proof.Proof.FfnBwd.Value
public import proofs.«01_k».proof.Proof.FfnBwd.Printed
public import proofs.«01_k».proof.Proof.Gen.FfnBwdRefIdeal.Run
public import Idealize.ShloMosaic.Lib.Quiescent
public import Idealize.ShloMosaic.Lib.Claim

@[expose] public section

set_option maxRecDepth 16384

noncomputable section

namespace Cert.FfnBwdCall

open Idealize.ShloMosaic Idealize.ShloMosaic.TcCoe Idealize.SL.Sem
open Cert.FfnBwdIdeal Cert.FfnBwdIdeal.Gen
open Cert.FfnBwdRefIdeal.Read

/-- The reference's run keeps the arguments; it has no semaphores. -/
theorem reference_frame : Cert.quiescent_FfnBwdRefIdeal := fun m ρ _ =>
  (θ_run Cert.FfnBwdRefIdeal.defs _ _).mono
    (fun r h => ⟨fun c => (h c).2.2.2.2.2, sem_eq_zero_of_no_sems (by decide) r.2⟩) (Cert.FfnBwdRefIdeal.Value.run m ρ)

/-- The call and the reference agree on every entry of all five results. -/
theorem agree : Cert.algebraic_FfnBwdIdeal_FfnBwdRefIdeal := by
  intro m g m' g' _ hm
  refine ⟨fun c => val_main_v98 (F := Ideal) (a0 m c) (a1 m c) (a2 m c) (a3 m c) (a4 m c) (a5 m c), fun c => val_main_v99 (F := Ideal) (a0 m c) (a1 m c) (a2 m c) (a3 m c) (a4 m c) (a5 m c),
    fun c => val_main_v100 (F := Ideal) (a0 m c) (a1 m c) (a2 m c) (a3 m c) (a4 m c) (a5 m c), fun c => val_main_v33 (F := Ideal) (a0 m c) (a1 m c) (a2 m c) (a3 m c) (a4 m c),
    fun c => val_main_v81 (F := Ideal) (a0 m c) (a1 m c) (a2 m c) (a3 m c) (a4 m c) (a5 m c), ?_, ?_⟩
  · refine (θ_run defs _ _).mono (fun r h c => ?_) (θ_run_and (run_all m g) (kernel_frame m g trivial))
    obtain ⟨⟨hf, _⟩, hk, _⟩ := h
    have hw := (hf c).1
    exact ⟨(hw 8).trans (final_gradF m c), (hw 9).trans (final_gradA m c), (hw 10).trans (final_gradX m c),
      (hw 11).trans (final_gain4 m c), (hw 12).trans (final_gain3 m c), hk c⟩
  · refine (θ_run Cert.FfnBwdRefIdeal.defs _ _).mono (fun r h c => ?_) (Cert.FfnBwdRefIdeal.Value.run m' g')
    obtain ⟨h0, h1, h2, h3, h4, h5⟩ := hm c
    obtain ⟨r0, r1, r2, r3, r4, hk⟩ := h c
    have q0 := r0.trans (val_main_v98_eq _ _)
    have q1 := r1.trans (val_main_v99_eq _ _)
    have q2 := r2.trans (val_main_v100_eq _ _)
    have q3 := r3.trans (val_main_v33_eq _ _)
    have q4 := r4.trans (val_main_v81_eq _ _)
    refine ⟨q0.trans ?_, q1.trans ?_, q2.trans ?_, q3.trans ?_, q4.trans ?_, hk⟩
    · exact congr (congr (congr (congr (congr (congrArg _ h0) h1) h2) h3) h4) h5
    · exact congr (congr (congr (congr (congr (congrArg _ h0) h1) h2) h3) h4) h5
    · exact congr (congr (congr (congr (congr (congrArg _ h0) h1) h2) h3) h4) h5
    · exact congr (congr (congr (congr (congrArg _ h0) h1) h2) h3) h4
    · exact congr (congr (congr (congr (congr (congrArg _ h0) h1) h2) h3) h4) h5

end Cert.FfnBwdCall

end
-- ==== Proof.InProj.Loop.lean ====
/- The backward pass of the input projection: what the eight strips of a row tile leave. -/
module

public import proofs.«01_k».proof.Proof.Gen.InBwdIdeal.Value
public import proofs.«01_k».proof.Proof.RowNorm
public import Idealize.ShloMosaic.Lib.Pointwise
public import Idealize.ShloMosaic.Lib.Pipeline.ValueKit.Tiles
public import Idealize.ShloMosaic.Lib.Pipeline.ValueKit.Geometry

@[expose] public section

set_option maxRecDepth 16384

noncomputable section

namespace Cert.InProj

open Idealize.ShloMosaic Idealize.ShloMosaic.TcCoe Idealize.SL.Sem
open Cert.InBwdIdeal Cert.InBwdIdeal.Gen

/-- The gradient at an entry of the row tile: the one that came in, and the norm's. -/
def rowGrad (d x e : FVec Ideal S1024x1024 .f32) (g : FVec Ideal S1x1024 .f32) (j : S1024x1024.Idx) : EReal :=
  e j + RowNorm.normGrad (fun k => x (ix2 (j 0) k)) (fun k => d (ix2 (j 0) k) * g (ix2 0 k)) (j 1)

/-- A row's share of the gain's gradient. -/
def gainTerm (d x : FVec Ideal S1024x1024 .f32) (r : Fin 1024) (l : Fin 1024) : EReal :=
  d (ix2 r l) * (x (ix2 r l) * RowNorm.rowScale (fun k => x (ix2 r k)))

theorem strip_norm (d x e : FVec Ideal S128x1024 .f32) (g : FVec Ideal S1x1024 .f32) (r : Fin 128) (l : Fin 1024) :
    k0_pay7 (F := Ideal) d x g e (ix2 r l) = e (ix2 r l) + RowNorm.normGrad (fun k => x (ix2 r k)) (fun k => d (ix2 r k) * g (ix2 0 k)) l := by
  pointwise [k0_pay7, k0_pay6, k0_pay5, RowNorm.normGrad, RowNorm.rowScale, RowNorm.guarded]

theorem strip_gain (s : FVec Ideal S1x1024 .f32) (d x : FVec Ideal S128x1024 .f32) (l : Fin 1024) :
    k0_pay8 (F := Ideal) s d x (ix2 0 l) = s (ix2 0 l) + ∑ r : Fin 128, d (ix2 r l) * (x (ix2 r l) * RowNorm.rowScale (fun k => x (ix2 r k))) := by
  pointwise [k0_pay8, k0_pay6, k0_pay5, RowNorm.rowScale, RowNorm.guarded]

theorem zero_gain (l : Fin 1024) : k0_pay4 (F := Ideal) (ix2 0 l) = 0 := by
  pointwise [k0_pay4]
  try simp

theorem off : ∀ k : Fin k0_t1_loop.trips, k0_off1 k = ![128 * k.val, 0] := by decide +kernel

theorem trips : k0_t1_loop.trips = 8 := by decide +kernel

/-- The rows of a tile from `128 k` on. -/
def part (k : ℕ) (x : FVec Ideal S1024x1024 .f32) : FVec Ideal S128x1024 .f32 := fun j => x (ix2 ⟨(k % 8) * 128 + (j 0).val, by have : (j 0).val < 128 := (j 0).isLt; omega⟩ (j 1))

theorem strip (i : grid0.Coords) (k0_h3 : k0_cond3 i = 1#1) (k : Fin k0_t1_loop.trips) (x : FVec Ideal S1024x1024 .f32) :
    View.ld (Val := Elt Ideal) (S := S1024x1024) (e' := .f32) x (Rect.unit (s := S1024x1024) (k0_off1 k) S128x1024.size (k0_off1_inb i k k0_h3)) = part k.val x := by
  have hk : k.val < 8 := lt_of_lt_of_eq k.isLt trips
  funext j
  refine View.ld_unit_apply_of (Val := Elt Ideal) (S := S1024x1024) (e := .f32) x _ _ (k0_off1_inb i k k0_h3) j _ fun a => ?_
  refine Eq.trans ?_ (congrArg (· + (j a).val) (congrFun (off k) a).symm)
  match a with
  | ⟨0, _⟩ => exact (show (k.val % 8) * 128 + (j 0).val = 128 * k.val + (j 0).val by omega)
  | ⟨1, _⟩ => exact (Nat.zero_add _).symm

theorem yields (𝒱 : Variants) (c : Dev nD) (bd : Option 𝒱.V) (i : grid0.Coords) (arg3 : Memref sig .tc .vmem S1024x2560 .bf16) (harg3 : arg3.IsWhole) (arg4 : Memref sig .tc .vmem S1x1024x2560 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .hbm S8x128 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (k0_h3 : k0_cond3 i = 1#1) (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (k : Fin k0_t1_loop.trips) (acc : FVec Ideal S1x1024 .f32) :
    tripR_k0_t1 (F := Ideal) 𝒱 c bd i arg3 harg3 arg4 harg4 arg5 harg5 arg6 harg6 arg7 harg7 arg8 harg8 arg9 harg9 arg10 harg10 arg11 harg11 k0_h3 X_arg5 X_arg6 X_arg7 X_arg11 k acc
      = k0_pay8 acc (View.ld (View.read (Elt Ideal) arg11.view X_arg11) (Rect.unit (s := S1024x1024) (k0_off1 k) S128x1024.size (k0_off1_inb i k k0_h3))) (View.ld (View.read (Elt Ideal) arg5.view X_arg5) (Rect.unit (s := S1024x1024) (k0_off1 k) S128x1024.size (k0_off1_inb i k k0_h3))) := by
  unfold tripR_k0_t1 trip_k0_t1
  dsimp only
  try frame_out
  try rfl

theorem stores (𝒱 : Variants) (c : Dev nD) (bd : Option 𝒱.V) (i : grid0.Coords) (arg3 : Memref sig .tc .vmem S1024x2560 .bf16) (harg3 : arg3.IsWhole) (arg4 : Memref sig .tc .vmem S1x1024x2560 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .hbm S8x128 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (k0_h3 : k0_cond3 i = 1#1) (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (k : Fin k0_t1_loop.trips) (acc : FVec Ideal S1x1024 .f32) :
    tripL_k0_t1 (F := Ideal) 𝒱 c bd i arg3 harg3 arg4 harg4 arg5 harg5 arg6 harg6 arg7 harg7 arg8 harg8 arg9 harg9 arg10 harg10 arg11 harg11 k0_h3 X_arg5 X_arg6 X_arg7 X_arg11 k acc
      = [⟨(Rect.unit (s := S1024x1024) (k0_off1 k) S128x1024.size (k0_off1_inb i k k0_h3)), k0_pay7 (View.ld (View.read (Elt Ideal) arg11.view X_arg11) (Rect.unit (s := S1024x1024) (k0_off1 k) S128x1024.size (k0_off1_inb i k k0_h3))) (View.ld (View.read (Elt Ideal) arg5.view X_arg5) (Rect.unit (s := S1024x1024) (k0_off1 k) S128x1024.size (k0_off1_inb i k k0_h3))) (View.read (Elt Ideal) arg6.view X_arg6) (View.ld (View.read (Elt Ideal) arg7.view X_arg7) (Rect.unit (s := S1024x1024) (k0_off1 k) S128x1024.size (k0_off1_inb i k k0_h3)))⟩] := by
  unfold tripL_k0_t1 trip_k0_t1
  dsimp only
  try frame_out
  try rfl

/-- After `n` strips: the gain's gradient over their rows. -/
theorem carried (𝒱 : Variants) (c : Dev nD) (bd : Option 𝒱.V) (i : grid0.Coords) (arg3 : Memref sig .tc .vmem S1024x2560 .bf16) (harg3 : arg3.IsWhole) (arg4 : Memref sig .tc .vmem S1x1024x2560 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .hbm S8x128 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (k0_h3 : k0_cond3 i = 1#1) (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (l : Fin 1024) :
    ∀ n : ℕ, n ≤ k0_t1_loop.trips → (st_k0_t1 (F := Ideal) 𝒱 c bd i arg3 harg3 arg4 harg4 arg5 harg5 arg6 harg6 arg7 harg7 arg8 harg8 arg9 harg9 arg10 harg10 arg11 harg11 k0_h3 X_arg5 X_arg6 X_arg7 X_arg11 k0_pay4 n).1 (ix2 0 l)
      = ∑ s ∈ Finset.range n, ∑ r : Fin 128, gainTerm (View.read (Elt Ideal) arg11.view X_arg11) (View.read (Elt Ideal) arg5.view X_arg5) ⟨(s % 8) * 128 + r.val, by omega⟩ l
  | 0, _ => by
    rw [Finset.range_zero, Finset.sum_empty]
    exact zero_gain l
  | n + 1, h => by
    have hn : n < 8 := by have := trips; omega
    rw [st_k0_t1_succ 𝒱 c bd i arg3 harg3 arg4 harg4 arg5 harg5 arg6 harg6 arg7 harg7 arg8 harg8 arg9 harg9 arg10 harg10 arg11 harg11 k0_h3 X_arg5 X_arg6 X_arg7 X_arg11 k0_pay4 ⟨n, h⟩, Finset.sum_range_succ, ← carried 𝒱 c bd i arg3 harg3 arg4 harg4 arg5 harg5 arg6 harg6 arg7 harg7 arg8 harg8 arg9 harg9 arg10 harg10 arg11 harg11 k0_h3 X_arg5 X_arg6 X_arg7 X_arg11 l n (by omega)]
    show tripR_k0_t1 (F := Ideal) 𝒱 c bd i arg3 harg3 arg4 harg4 arg5 harg5 arg6 harg6 arg7 harg7 arg8 harg8 arg9 harg9 arg10 harg10 arg11 harg11 k0_h3 X_arg5 X_arg6 X_arg7 X_arg11 ⟨n, h⟩ _ (ix2 0 l) = _
    rw [yields, strip i k0_h3 ⟨n, h⟩, strip i k0_h3 ⟨n, h⟩, strip_gain]
    refine congrArg (_ + ·) (Finset.sum_congr rfl fun r _ => ?_)
    rfl

/-- Every store of the strips holds the rows of the gradient it covers. -/
theorem pieces (𝒱 : Variants) (c : Dev nD) (bd : Option 𝒱.V) (i : grid0.Coords) (arg3 : Memref sig .tc .vmem S1024x2560 .bf16) (harg3 : arg3.IsWhole) (arg4 : Memref sig .tc .vmem S1x1024x2560 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .hbm S8x128 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (k0_h3 : k0_cond3 i = 1#1) (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) :
    ∀ n : ℕ, n ≤ k0_t1_loop.trips → ∀ p ∈ (st_k0_t1 (F := Ideal) 𝒱 c bd i arg3 harg3 arg4 harg4 arg5 harg5 arg6 harg6 arg7 harg7 arg8 harg8 arg9 harg9 arg10 harg10 arg11 harg11 k0_h3 X_arg5 X_arg6 X_arg7 X_arg11 k0_pay4 n).2, ∀ x : p.1.shape.Idx,
      p.2 x = rowGrad (View.read (Elt Ideal) arg11.view X_arg11) (View.read (Elt Ideal) arg5.view X_arg5) (View.read (Elt Ideal) arg7.view X_arg7) (View.read (Elt Ideal) arg6.view X_arg6) (p.1.emb x)
  | 0, _ => fun p hp => absurd hp (List.not_mem_nil)
  | n + 1, h => by
    intro p hp x
    rw [st_k0_t1_succ 𝒱 c bd i arg3 harg3 arg4 harg4 arg5 harg5 arg6 harg6 arg7 harg7 arg8 harg8 arg9 harg9 arg10 harg10 arg11 harg11 k0_h3 X_arg5 X_arg6 X_arg7 X_arg11 k0_pay4 ⟨n, h⟩] at hp
    replace hp : p ∈ tripL_k0_t1 (F := Ideal) 𝒱 c bd i arg3 harg3 arg4 harg4 arg5 harg5 arg6 harg6 arg7 harg7 arg8 harg8 arg9 harg9 arg10 harg10 arg11 harg11 k0_h3 X_arg5 X_arg6 X_arg7 X_arg11 ⟨n, h⟩ (st_k0_t1 (F := Ideal) 𝒱 c bd i arg3 harg3 arg4 harg4 arg5 harg5 arg6 harg6 arg7 harg7 arg8 harg8 arg9 harg9 arg10 harg10 arg11 harg11 k0_h3 X_arg5 X_arg6 X_arg7 X_arg11 k0_pay4 n).1 ++ (st_k0_t1 (F := Ideal) 𝒱 c bd i arg3 harg3 arg4 harg4 arg5 harg5 arg6 harg6 arg7 harg7 arg8 harg8 arg9 harg9 arg10 harg10 arg11 harg11 k0_h3 X_arg5 X_arg6 X_arg7 X_arg11 k0_pay4 n).2 := hp
    rcases List.mem_append.mp hp with hp | hp
    · rw [stores, List.mem_singleton] at hp
      subst hp
      have hn : n < 8 := by have := trips; omega
      obtain ⟨r, l, rfl⟩ : ∃ (r : Fin 128) (l : Fin 1024), x = ix2 r l := ⟨x 0, x 1, eq_ix2 x⟩
      have he : (Rect.unit (s := S1024x1024) (k0_off1 ⟨n, h⟩) S128x1024.size (k0_off1_inb i ⟨n, h⟩ k0_h3)).emb (ix2 r l) = ix2 (⟨(n % 8) * 128 + r.val, by omega⟩ : Fin 1024) l := by
        funext a
        refine Fin.ext ((ValueKit.rect_emb_unit_val _ _ (k0_off1_inb i ⟨n, h⟩ k0_h3) (ix2 r l) a).trans ?_)
        refine Eq.trans (congrArg (· + (ix2 r l a).val) (congrFun (off ⟨n, h⟩) a)) ?_
        match a with
        | ⟨0, _⟩ => exact (show 128 * n + r.val = (n % 8) * 128 + r.val by omega)
        | ⟨1, _⟩ => exact Nat.zero_add _
      refine Eq.trans ?_ (congrArg _ he).symm
      show k0_pay7 (F := Ideal) _ _ _ _ (ix2 r l) = _
      rw [strip i k0_h3 ⟨n, h⟩, strip i k0_h3 ⟨n, h⟩, strip i k0_h3 ⟨n, h⟩, strip_norm]
      rfl
    · exact pieces 𝒱 c bd i arg3 harg3 arg4 harg4 arg5 harg5 arg6 harg6 arg7 harg7 arg8 harg8 arg9 harg9 arg10 harg10 arg11 harg11 k0_h3 X_arg5 X_arg6 X_arg7 X_arg11 n (by omega) p hp x

/-- The stores of `n` strips cover their rows. -/
theorem covered (𝒱 : Variants) (c : Dev nD) (bd : Option 𝒱.V) (i : grid0.Coords) (arg3 : Memref sig .tc .vmem S1024x2560 .bf16) (harg3 : arg3.IsWhole) (arg4 : Memref sig .tc .vmem S1x1024x2560 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .hbm S8x128 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (k0_h3 : k0_cond3 i = 1#1) (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (y : S1024x1024.Idx) :
    ∀ n : ℕ, n ≤ k0_t1_loop.trips → (y 0).val < 128 * n → ∃ p ∈ (st_k0_t1 (F := Ideal) 𝒱 c bd i arg3 harg3 arg4 harg4 arg5 harg5 arg6 harg6 arg7 harg7 arg8 harg8 arg9 harg9 arg10 harg10 arg11 harg11 k0_h3 X_arg5 X_arg6 X_arg7 X_arg11 k0_pay4 n).2, y ∈ p.1.set
  | 0, _, hy => absurd hy (Nat.not_lt_zero _)
  | n + 1, h, hy => by
    rw [st_k0_t1_succ 𝒱 c bd i arg3 harg3 arg4 harg4 arg5 harg5 arg6 harg6 arg7 harg7 arg8 harg8 arg9 harg9 arg10 harg10 arg11 harg11 k0_h3 X_arg5 X_arg6 X_arg7 X_arg11 k0_pay4 ⟨n, h⟩]
    show ∃ p ∈ tripL_k0_t1 (F := Ideal) 𝒱 c bd i arg3 harg3 arg4 harg4 arg5 harg5 arg6 harg6 arg7 harg7 arg8 harg8 arg9 harg9 arg10 harg10 arg11 harg11 k0_h3 X_arg5 X_arg6 X_arg7 X_arg11 ⟨n, h⟩ (st_k0_t1 (F := Ideal) 𝒱 c bd i arg3 harg3 arg4 harg4 arg5 harg5 arg6 harg6 arg7 harg7 arg8 harg8 arg9 harg9 arg10 harg10 arg11 harg11 k0_h3 X_arg5 X_arg6 X_arg7 X_arg11 k0_pay4 n).1 ++ (st_k0_t1 (F := Ideal) 𝒱 c bd i arg3 harg3 arg4 harg4 arg5 harg5 arg6 harg6 arg7 harg7 arg8 harg8 arg9 harg9 arg10 harg10 arg11 harg11 k0_h3 X_arg5 X_arg6 X_arg7 X_arg11 k0_pay4 n).2, y ∈ p.1.set
    rw [stores]
    by_cases hl : (y 0).val < 128 * n
    · obtain ⟨p, hp, hm⟩ := covered 𝒱 c bd i arg3 harg3 arg4 harg4 arg5 harg5 arg6 harg6 arg7 harg7 arg8 harg8 arg9 harg9 arg10 harg10 arg11 harg11 k0_h3 X_arg5 X_arg6 X_arg7 X_arg11 y n (by omega) hl
      exact ⟨p, List.mem_append_right _ hp, hm⟩
    · refine ⟨_, List.mem_append_left _ (List.mem_singleton_self _), ?_⟩
      show y ∈ (Rect.unit (s := S1024x1024) (k0_off1 ⟨n, h⟩) S128x1024.size (k0_off1_inb i ⟨n, h⟩ k0_h3)).set
      rw [Rect.mem_set_unit]
      intro a
      have ha := congrFun (off ⟨n, h⟩) a
      match a with
      | ⟨0, _⟩ =>
        replace ha : k0_off1 ⟨n, h⟩ 0 = 128 * n := ha
        exact (show k0_off1 ⟨n, h⟩ 0 ≤ (y 0).val ∧ (y 0).val < k0_off1 ⟨n, h⟩ 0 + 128 by omega)
      | ⟨1, _⟩ =>
        replace ha : k0_off1 ⟨n, h⟩ 1 = 0 := ha
        have hy1 : (y 1).val < 1024 := (y 1).isLt
        exact (show k0_off1 ⟨n, h⟩ 1 ≤ (y 1).val ∧ (y 1).val < k0_off1 ⟨n, h⟩ 1 + 1024 by omega)

/-- All the strips' stores together are the gradient of the row tile. -/
theorem tileGrad (𝒱 : Variants) (c : Dev nD) (bd : Option 𝒱.V) (i : grid0.Coords) (arg3 : Memref sig .tc .vmem S1024x2560 .bf16) (harg3 : arg3.IsWhole) (arg4 : Memref sig .tc .vmem S1x1024x2560 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .hbm S8x128 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (k0_h3 : k0_cond3 i = 1#1) (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (y : S1024x1024.Idx) :
    View.canon (st_k0_t1 (F := Ideal) 𝒱 c bd i arg3 harg3 arg4 harg4 arg5 harg5 arg6 harg6 arg7 harg7 arg8 harg8 arg9 harg9 arg10 harg10 arg11 harg11 k0_h3 X_arg5 X_arg6 X_arg7 X_arg11 k0_pay4 k0_t1_loop.trips).2 y
      = rowGrad (View.read (Elt Ideal) arg11.view X_arg11) (View.read (Elt Ideal) arg5.view X_arg5) (View.read (Elt Ideal) arg7.view X_arg7) (View.read (Elt Ideal) arg6.view X_arg6) y :=
  View.canon_apply_of_pieces _ _ (pieces 𝒱 c bd i arg3 harg3 arg4 harg4 arg5 harg5 arg6 harg6 arg7 harg7 arg8 harg8 arg9 harg9 arg10 harg10 arg11 harg11 k0_h3 X_arg5 X_arg6 X_arg7 X_arg11 _ le_rfl) y
    (covered 𝒱 c bd i arg3 harg3 arg4 harg4 arg5 harg5 arg6 harg6 arg7 harg7 arg8 harg8 arg9 harg9 arg10 harg10 arg11 harg11 k0_h3 X_arg5 X_arg6 X_arg7 X_arg11 y _ le_rfl (by
      have hy : (y 0).val < 1024 := (y 0).isLt
      have := trips
      omega))

/-- All the strips' sums together are the row tile's. -/
theorem tileGain (𝒱 : Variants) (c : Dev nD) (bd : Option 𝒱.V) (i : grid0.Coords) (arg3 : Memref sig .tc .vmem S1024x2560 .bf16) (harg3 : arg3.IsWhole) (arg4 : Memref sig .tc .vmem S1x1024x2560 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .hbm S8x128 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (k0_h3 : k0_cond3 i = 1#1) (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (l : Fin 1024) :
    (st_k0_t1 (F := Ideal) 𝒱 c bd i arg3 harg3 arg4 harg4 arg5 harg5 arg6 harg6 arg7 harg7 arg8 harg8 arg9 harg9 arg10 harg10 arg11 harg11 k0_h3 X_arg5 X_arg6 X_arg7 X_arg11 k0_pay4 k0_t1_loop.trips).1 (ix2 0 l)
      = ∑ r : Fin 1024, gainTerm (View.read (Elt Ideal) arg11.view X_arg11) (View.read (Elt Ideal) arg5.view X_arg5) r l := by
  rw [carried 𝒱 c bd i arg3 harg3 arg4 harg4 arg5 harg5 arg6 harg6 arg7 harg7 arg8 harg8 arg9 harg9 arg10 harg10 arg11 harg11 k0_h3 X_arg5 X_arg6 X_arg7 X_arg11 l _ le_rfl, trips, Fin.sum_univ_tiles 8 128 rfl, ← Fin.sum_univ_eq_sum_range]
  refine Finset.sum_congr rfl fun s _ => Finset.sum_congr rfl fun r _ => congrArg (fun q => gainTerm _ _ q l) (Fin.ext ?_)
  show (s.val % 8) * 128 + r.val = s.val * 128 + r.val
  omega

end Cert.InProj

end
-- ==== Proof.InProj.Value.lean ====
/- The backward pass of the input projection: what the call leaves in its two results, entry by entry. -/
module

public import proofs.«01_k».proof.Proof.InProj.Loop
public import proofs.«01_k».proof.Proof.Gen.InBwdRefIdeal.Read
public import Idealize.ShloMosaic.Lib.Pipeline.ValueKit.Acc
public import Idealize.ShloMosaic.Lib.VecWindow

@[expose] public section

set_option maxRecDepth 16384

noncomputable section

namespace Cert.InProj

open Idealize.ShloMosaic Idealize.ShloMosaic.TcCoe Idealize.SL.Sem
open Cert.InBwdIdeal Cert.InBwdIdeal.Gen
open Cert.InBwdRefIdeal.Read

/-- A point adds its tile's product to the sums so far. -/
theorem step_at (s : FVec Ideal S1024x1024 .f32) (x : FVec Ideal S1024x2560 .bf16) (y : FVec Ideal S1x1024x2560 .bf16) (a b : Fin 1024) :
    k0_pay3 (F := Ideal) s x y (ix2 a b) = s (ix2 a b) + ∑ k : Fin 2560, x (ix2 a k) * y (ix3 0 b k) := by
  pointwise [k0_pay3]
  try simp

theorem zero_at (a b : Fin 1024) : k0_pay2 (F := Ideal) (ix2 a b) = 0 := by
  pointwise [k0_pay2]
  try simp

theorem none_at (l : Fin 1024) : k0_pay1 (F := Ideal) (ix2 0 l) = 0 := by
  pointwise [k0_pay1]
  try simp

theorem sum_at (s u : FVec Ideal S1x1024 .f32) (l : Fin 1024) : k0_pay9 (F := Ideal) s u (ix2 0 l) = s (ix2 0 l) + u (ix2 0 l) := by
  pointwise [k0_pay9]

section Reference

variable (x0 : FVec Ideal S4096x10240 .f32) (x1 : FVec Ideal S4096x1024 .f32) (x2 : FVec Ideal S1x1024 .f32) (x3 : FVec Ideal S1024x10240 .f32) (x4 : FVec Ideal S4096x1024 .f32)

theorem ref_product (r : Fin 4096) (l : Fin 1024) : val_main_v16 (F := Ideal) x0 x3 (ix2 r l) = ∑ k : Fin 10240, x0 (ix2 r k) * x3 (ix2 l k) := by
  pointwise [val_main_v16]
  try simp

theorem ref_gain (l : Fin 1024) : val_main_v19 (F := Ideal) x0 x1 x3 (ix2 0 l)
    = ∑ r : Fin 4096, val_main_v16 (F := Ideal) x0 x3 (ix2 r l) * (x1 (ix2 r l) * RowNorm.rowScale (fun k => x1 (ix2 r k))) := by
  unfold val_main_v19 val_main_v18 val_main_v17
  generalize val_main_v16 (F := Ideal) x0 x3 = d
  pointwise [val_main_v0, val_main_cst, val_main_v1, val_main_v2, val_main_cst_0, val_main_v3, val_main_v4, val_main_cst_1, val_main_v5, val_main_v6, val_main_v7, val_main_v11, val_main_v12, val_main_cst_3, RowNorm.rowScale, RowNorm.guarded]
  try simp [mul_comm]

theorem ref_input (r : Fin 4096) (l : Fin 1024) : val_main_v36 (F := Ideal) x0 x1 x2 x3 x4 (ix2 r l)
    = x4 (ix2 r l) + RowNorm.normGrad (fun k => x1 (ix2 r k)) (fun k => val_main_v16 (F := Ideal) x0 x3 (ix2 r k) * x2 (ix2 0 k)) l := by
  rw [← RowNorm.normGrad_eq]
  unfold val_main_v36 val_main_v35 val_main_v34 val_main_v33 val_main_v32 val_main_v31 val_main_v30 val_main_v29 val_main_v27 val_main_v26 val_main_v24 val_main_v23 val_main_v22 val_main_v21
  generalize val_main_v16 (F := Ideal) x0 x3 = d
  pointwise [val_main_v0, val_main_cst, val_main_v1, val_main_v2, val_main_cst_0, val_main_v3, val_main_v4, val_main_cst_1, val_main_v5, val_main_v6, val_main_v7, val_main_v8, val_main_cst_2, val_main_v9, val_main_v10, val_main_v20, val_main_cst_4, val_main_v25, val_main_cst_5, val_main_v28, val_main_cst_6, RowNorm.rowScale, RowNorm.guarded]
  try simp

end Reference

variable (m : (ℓ : Loc nD τ sig) → Buf (Elt Ideal) ℓ) (c : Dev nD)

/-- The five arguments: the gradient of the projection, the tokens, the gain, the weight and the gradient that comes in. -/
abbrev a0 : FVec Ideal S4096x10240 .f32 := m ((c : Thread nD τ).loc main_arg0)
abbrev a1 : FVec Ideal S4096x1024 .f32 := m ((c : Thread nD τ).loc main_arg1)
abbrev a2 : FVec Ideal S1x1024 .f32 := m ((c : Thread nD τ).loc main_arg2)
abbrev a3 : FVec Ideal S1024x10240 .f32 := m ((c : Thread nD τ).loc main_arg3)
abbrev a4 : FVec Ideal S4096x1024 .f32 := m ((c : Thread nD τ).loc main_arg4)

/-- Column `k` of the column tile of point `t`, and row `r` of its row tile. -/
abbrev col (t : ℕ) (k : Fin 2560) : Fin 10240 := ⟨2560 * (t % 4) + k.val, by omega⟩
abbrev row (t : ℕ) (r : Fin 1024) : Fin 4096 := ⟨1024 * (t / 4 % 4) + r.val, by omega⟩

theorem V_left : V m c main_v2 = (a0 m c : FVec Ideal S4096x10240 .f32) := by
  show StableHlo.after hostOps0 _ (Proc.devRef .tc main_v2) = _
  after_results_simp
  rfl

theorem V_weight : V m c main_v3 = (truncf .bf16 (transpose S4x1024x2560 [1, 0, 2] (shapeCast S1024x4x2560 (a3 m c) shapeCasts_S1024x10240_S1024x4x2560) transposes_S1024x4x2560_S4x1024x2560_1_0_2 : FVec Ideal S4x1024x2560 .f32) bitsLt_bf16_f32 : FVec Ideal S4x1024x2560 .bf16) := by
  show StableHlo.after hostOps0 _ (Proc.devRef .tc main_v3) = _
  after_results_simp
  rfl

theorem tiled_at (x : FVec Ideal S1024x10240 .f32) (q : Fin 4) (b : Fin 1024) (k : Fin 2560) :
    (truncf .bf16 (transpose S4x1024x2560 [1, 0, 2] (shapeCast S1024x4x2560 x shapeCasts_S1024x10240_S1024x4x2560) transposes_S1024x4x2560_S4x1024x2560_1_0_2 : FVec Ideal S4x1024x2560 .f32) bitsLt_bf16_f32 : FVec Ideal S4x1024x2560 .bf16) (ix3 q b k)
      = x (ix2 b ⟨q.val * 2560 + k.val, by omega⟩) := by
  pointwise []

theorem index_0 : ∀ t : Fin grid0.N, win0_0.index t (0 : Fin 2) = t.val / 4 ∧ win0_0.index t (1 : Fin 2) = t.val % 4 := by decide +kernel
theorem index_1 : ∀ t : Fin grid0.N, win0_1.index t (0 : Fin 3) = t.val % 4 ∧ win0_1.index t (1 : Fin 3) = 0 ∧ win0_1.index t (2 : Fin 3) = 0 := by decide +kernel
theorem index_2 : ∀ t : Fin grid0.N, win0_2.index t (0 : Fin 2) = t.val / 4 ∧ win0_2.index t (1 : Fin 2) = 0 := by decide +kernel
theorem index_3 : ∀ t : Fin grid0.N, win0_3.index t (0 : Fin 2) = 0 ∧ win0_3.index t (1 : Fin 2) = 0 := by decide +kernel
theorem index_4 : ∀ t : Fin grid0.N, win0_4.index t (0 : Fin 2) = t.val / 4 ∧ win0_4.index t (1 : Fin 2) = 0 := by decide +kernel
theorem index_5 : ∀ t : Fin grid0.N, win0_5.index t (0 : Fin 2) = t.val / 4 ∧ win0_5.index t (1 : Fin 2) = 0 := by decide +kernel
theorem index_6 : ∀ t : Fin grid0.N, win0_6.index t (0 : Fin 2) = 0 ∧ win0_6.index t (1 : Fin 2) = 0 := by decide +kernel

theorem point_lt (t : Fin cfg0.N) : t.val < 16 := Nat.lt_of_lt_of_eq t.isLt N_0

theorem place_0 (t : Fin cfg0.N) (a : Fin 1024) (k : Fin 2560) : ((cfg0.win 0).blk t).view.emb (ix2 a k) = ix2 (row t a) (col t k) := by
  obtain ⟨h0, h1⟩ := index_0 t
  have ht := point_lt t
  funext d
  match d with
  | ⟨0, _⟩ => exact Fin.ext (show win0_0.index t (0 : Fin 2) * 1024 + 1 * ((ix2 a k) (0 : Fin 2)).val = _ by rw [h0]; simp [row, col]; try omega)
  | ⟨1, _⟩ => exact Fin.ext (show win0_0.index t (1 : Fin 2) * 2560 + 1 * ((ix2 a k) (1 : Fin 2)).val = _ by rw [h1]; simp [row, col]; try omega)

theorem place_1 (t : Fin cfg0.N) (b : Fin 1024) (k : Fin 2560) : ((cfg0.win 1).blk t).view.emb (ix3 (0 : Fin 1) b k) = ix3 (⟨t.val % 4, by omega⟩ : Fin 4) b k := by
  obtain ⟨h0, h1, h2⟩ := index_1 t
  have ht := point_lt t
  funext d
  match d with
  | ⟨0, _⟩ => exact Fin.ext (show win0_1.index t (0 : Fin 3) * 1 + 1 * ((ix3 (0 : Fin 1) b k) (0 : Fin 3)).val = _ by rw [h0]; simp [row, col]; try omega)
  | ⟨1, _⟩ => exact Fin.ext (show win0_1.index t (1 : Fin 3) * 1024 + 1 * ((ix3 (0 : Fin 1) b k) (1 : Fin 3)).val = _ by rw [h1]; simp [row, col]; try omega)
  | ⟨2, _⟩ => exact Fin.ext (show win0_1.index t (2 : Fin 3) * 2560 + 1 * ((ix3 (0 : Fin 1) b k) (2 : Fin 3)).val = _ by rw [h2]; simp [row, col]; try omega)

theorem place_2 (t : Fin cfg0.N) (a b : Fin 1024) : ((cfg0.win 2).blk t).view.emb (ix2 a b) = ix2 (row t a) b := by
  obtain ⟨h0, h1⟩ := index_2 t
  have ht := point_lt t
  funext d
  match d with
  | ⟨0, _⟩ => exact Fin.ext (show win0_2.index t (0 : Fin 2) * 1024 + 1 * ((ix2 a b) (0 : Fin 2)).val = _ by rw [h0]; simp [row, col]; try omega)
  | ⟨1, _⟩ => exact Fin.ext (show win0_2.index t (1 : Fin 2) * 1024 + 1 * ((ix2 a b) (1 : Fin 2)).val = _ by rw [h1]; simp [row, col]; try omega)

theorem place_4 (t : Fin cfg0.N) (a b : Fin 1024) : ((cfg0.win 4).blk t).view.emb (ix2 a b) = ix2 (row t a) b := by
  obtain ⟨h0, h1⟩ := index_4 t
  have ht := point_lt t
  funext d
  match d with
  | ⟨0, _⟩ => exact Fin.ext (show win0_4.index t (0 : Fin 2) * 1024 + 1 * ((ix2 a b) (0 : Fin 2)).val = _ by rw [h0]; simp [row, col]; try omega)
  | ⟨1, _⟩ => exact Fin.ext (show win0_4.index t (1 : Fin 2) * 1024 + 1 * ((ix2 a b) (1 : Fin 2)).val = _ by rw [h1]; simp [row, col]; try omega)

theorem place_5 (t : Fin cfg0.N) (a b : Fin 1024) : ((cfg0.win 5).blk t).view.emb (ix2 a b) = ix2 (row t a) b := by
  obtain ⟨h0, h1⟩ := index_5 t
  have ht := point_lt t
  funext d
  match d with
  | ⟨0, _⟩ => exact Fin.ext (show win0_5.index t (0 : Fin 2) * 1024 + 1 * ((ix2 a b) (0 : Fin 2)).val = _ by rw [h0]; simp [row, col]; try omega)
  | ⟨1, _⟩ => exact Fin.ext (show win0_5.index t (1 : Fin 2) * 1024 + 1 * ((ix2 a b) (1 : Fin 2)).val = _ by rw [h1]; simp [row, col]; try omega)

theorem place_3 (t : Fin cfg0.N) (b : Fin 1024) : ((cfg0.win 3).blk t).view.emb (ix2 (0 : Fin 1) b) = ix2 (0 : Fin 1) b := by
  obtain ⟨h0, h1⟩ := index_3 t
  have ht := point_lt t
  funext d
  match d with
  | ⟨0, _⟩ => exact Fin.ext (show win0_3.index t (0 : Fin 2) * 1 + 1 * ((ix2 (0 : Fin 1) b) (0 : Fin 2)).val = _ by rw [h0]; simp [row, col]; try omega)
  | ⟨1, _⟩ => exact Fin.ext (show win0_3.index t (1 : Fin 2) * 1024 + 1 * ((ix2 (0 : Fin 1) b) (1 : Fin 2)).val = _ by rw [h1]; simp [row, col]; try omega)

theorem place_6 (t : Fin cfg0.N) (b : Fin 1024) : ((cfg0.win 6).blk t).view.emb (ix2 (0 : Fin 1) b) = ix2 (0 : Fin 1) b := by
  obtain ⟨h0, h1⟩ := index_6 t
  have ht := point_lt t
  funext d
  match d with
  | ⟨0, _⟩ => exact Fin.ext (show win0_6.index t (0 : Fin 2) * 1 + 1 * ((ix2 (0 : Fin 1) b) (0 : Fin 2)).val = _ by rw [h0]; simp [row, col]; try omega)
  | ⟨1, _⟩ => exact Fin.ext (show win0_6.index t (1 : Fin 2) * 1024 + 1 * ((ix2 (0 : Fin 1) b) (1 : Fin 2)).val = _ by rw [h1]; simp [row, col]; try omega)

theorem blk_0 (t : Fin cfg0.N) (a : Fin 1024) (k : Fin 2560) : iblk m c 0 t (ix2 a k) = a0 m c (ix2 (row t a) (col t k)) := by
  show V m c main_v2 (((cfg0.win 0).blk t).view.emb (ix2 a k)) = _
  rw [place_0, V_left]

theorem blk_1 (t : Fin cfg0.N) (b : Fin 1024) (k : Fin 2560) : iblk m c 1 t (ix3 (0 : Fin 1) b k) = a3 m c (ix2 b (col t k)) := by
  show V m c main_v3 (((cfg0.win 1).blk t).view.emb (ix3 (0 : Fin 1) b k)) = _
  rw [place_1, V_weight, tiled_at]
  exact congrArg (fun q => a3 m c (ix2 b q)) (Fin.ext (show t.val % 4 * 2560 + k.val = 2560 * (t.val % 4) + k.val by omega))

theorem blk_2 (t : Fin cfg0.N) (a b : Fin 1024) : iblk m c 2 t (ix2 a b) = a1 m c (ix2 (row t a) b) := by
  show V m c main_arg1 (((cfg0.win 2).blk t).view.emb (ix2 a b)) = _
  rw [place_2]
  rfl

theorem blk_3 (t : Fin cfg0.N) (b : Fin 1024) : iblk m c 3 t (ix2 (0 : Fin 1) b) = a2 m c (ix2 (0 : Fin 1) b) := by
  show V m c main_arg2 (((cfg0.win 3).blk t).view.emb (ix2 (0 : Fin 1) b)) = _
  rw [place_3]
  rfl

theorem blk_4 (t : Fin cfg0.N) (a b : Fin 1024) : iblk m c 4 t (ix2 a b) = a4 m c (ix2 (row t a) b) := by
  show V m c main_arg4 (((cfg0.win 4).blk t).view.emb (ix2 a b)) = _
  rw [place_4]
  rfl

/-- The product of the tiles of point `t`. -/
def tile (t : Fin cfg0.N) (j : S1024x1024.Idx) : EReal :=
  ∑ k : Fin 2560, a0 m c (ix2 (row t (j 0)) (col t k)) * a3 m c (ix2 (j 1) (col t k))

theorem add_tile (t : Fin cfg0.N) (s : FVec Ideal S1024x1024 .f32) (j : S1024x1024.Idx) :
    k0_pay3 (F := Ideal) s (iblk m c 0 t) (iblk m c 1 t) j = s j + tile m c t j := by
  obtain ⟨a, b, rfl⟩ : ∃ a b, j = ix2 a b := ⟨_, _, eq_ix2 j⟩
  rw [step_at]
  simp only [blk_0, blk_1]
  rfl

theorem zero_tile (j : S1024x1024.Idx) : k0_pay2 (F := Ideal) j = 0 := by
  obtain ⟨a, b, rfl⟩ : ∃ a b, j = ix2 a b := ⟨_, _, eq_ix2 j⟩
  exact zero_at a b

theorem first (t : Fin cfg0.N) (h : t.val % 4 = 0) (j : S1024x1024.Idx) :
    (outsAt0 m c t.val t.isLt).2.2 j = 0 + tile m c t j := by
  by_cases h0 : t.val % 16 = 0
  · rw [outsAt0_A m c t h0 h (by omega)]
    frame_out
    rw [add_tile, zero_tile]
  · rw [outsAt0_D m c t h0 h (by omega)]
    frame_out
    rw [add_tile, zero_tile]

theorem before_lt (t : Fin cfg0.N) : t.val - 1 < cfg0.N := Nat.lt_of_le_of_lt (Nat.sub_le _ _) t.isLt

theorem last (t : Fin cfg0.N) (h : t.val % 4 = 3) :
    (outsAt0 m c t.val t.isLt).2.2 = k0_pay3 (F := Ideal) (outsAt0 m c (t.val - 1) (before_lt t)).2.2 (iblk m c 0 t) (iblk m c 1 t) := by
  rw [outsAt0_C m c t (by omega) (by omega) h]
  frame_out
  rw [(Memref.isWhole_whole cc0_scratch0).read_unread]

theorem later (t : Fin cfg0.N) (h : ¬t.val % 4 = 0) (j : S1024x1024.Idx) :
    (outsAt0 m c t.val t.isLt).2.2 j = (outsAt0 m c (t.val - 1) (Nat.lt_of_le_of_lt (Nat.sub_le _ _) t.isLt)).2.2 j + tile m c t j := by
  by_cases h1 : t.val % 4 = 3
  · rw [last m c t h1, add_tile]
  · rw [outsAt0_B m c t (by omega) h h1]
    frame_out
    rw [add_tile, (Memref.isWhole_whole cc0_scratch0).read_unread]

/-- The gradient at the normalised tokens of a row tile. -/
def gradTile (t : ℕ) : FVec Ideal S1024x1024 .f32 := fun j => val_main_v16 (F := Ideal) (a0 m c) (a3 m c) (ix2 (row t (j 0)) (j 1))

theorem product (t : Fin cfg0.N) (h : t.val % 4 = 3) :
    k0_pay3 (F := Ideal) (outsAt0 m c (t.val - 1) (before_lt t)).2.2 (iblk m c 0 t) (iblk m c 1 t) = gradTile m c t.val := by
  rw [← last m c t h]
  have ht := point_lt t
  funext j
  obtain ⟨a, b, rfl⟩ : ∃ a b, j = ix2 a b := ⟨_, _, eq_ix2 j⟩
  rw [Pipeline.eq_sum_fin_of_reset_step_apply_of_flush (fun n h => (outsAt0 m c n h).2.2) 4 (fun _ => 0) (tile m c)
    (first m c) (later m c) t h, zero_add]
  show _ = val_main_v16 (F := Ideal) (a0 m c) (a3 m c) (ix2 (row t a) b)
  rw [ref_product, Fin.sum_univ_tiles 4 2560 rfl]
  refine Finset.sum_congr rfl fun s _ => ?_
  refine Finset.sum_congr rfl fun k _ => ?_
  have e : row (4 * (t.val / 4) + s.val) a = row t a := Fin.ext (by simp only [row]; omega)
  have e' : col (4 * (t.val / 4) + s.val) k = ⟨s.val * 2560 + k.val, by omega⟩ := Fin.ext (by simp only [col]; omega)
  show a0 m c (ix2 (row (4 * (t.val / 4) + s.val) a) (col (4 * (t.val / 4) + s.val) k)) * a3 m c (ix2 b (col (4 * (t.val / 4) + s.val) k)) = _
  rw [e, e']

theorem scratch_read (w : FVec Ideal S1024x1024 .f32) (inb : ∀ a, (![0, 0] : Fin 2 → ℕ) a + S1024x1024.size a ≤ S1024x1024.size a) :
    View.read (Elt Ideal) scM0_0.view ((View.whole cc0_scratch0).writes (Elt Ideal) (View.whole cc0_scratch0).junk [⟨Rect.unit (s := S1024x1024) ![0, 0] ![1024, 1024] inb, w⟩]) = w :=
  View.read_writes_full (Val := Elt Ideal) (s := S1024x1024) (e := .f32) (View.whole cc0_scratch0) (View.whole cc0_scratch0).junk (off := ![0, 0]) inb w []

theorem input_at (t : Fin cfg0.N) (h : t.val % 4 = 3) (j : S1024x1024.Idx) :
    (outsAt0 m c t.val t.isLt).1 j = rowGrad (gradTile m c t.val) (iblk m c 2 t) (iblk m c 4 t) (iblk m c 3 t) j := by
  rw [outsAt0_C m c t (by omega) (by omega) h]
  frame_out
  refine (tileGrad _ _ _ _ _ _ _ _ _ _ _ _ _ _ _ _ _ _ _ _ _ _ _ _ _ _ _ j).trans ?_
  rw [scratch_read, (Memref.isWhole_whole cc0_scratch0).read_unread, product m c t h, (hs0_2 t).read_unread, (hs0_3 t).read_unread, (hs0_4 t).read_unread]

theorem gain_step (t : Fin cfg0.N) (h : t.val % 4 = 3) (l : Fin 1024) :
    (outsAt0 m c t.val t.isLt).2.1 (ix2 0 l) = (outsAt0 m c (t.val - 1) (before_lt t)).2.1 (ix2 0 l)
      + ∑ r : Fin 1024, gainTerm (gradTile m c t.val) (iblk m c 2 t) r l := by
  rw [outsAt0_C m c t (by omega) (by omega) h]
  frame_out
  rw [sum_at]
  refine congrArg₂ (· + ·) ?_ ((tileGain _ _ _ _ _ _ _ _ _ _ _ _ _ _ _ _ _ _ _ _ _ _ _ _ _ _ _ l).trans ?_)
  · rfl
  · rw [scratch_read, (Memref.isWhole_whole cc0_scratch0).read_unread, product m c t h, (hs0_2 t).read_unread]

/-- A row tile's share of the gain's gradient. -/
def gainPart (i : ℕ) (l : Fin 1024) : EReal :=
  ∑ r : Fin 1024, val_main_v16 (F := Ideal) (a0 m c) (a3 m c) (ix2 (row (4 * i) r) l) * (a1 m c (ix2 (row (4 * i) r) l)
    * RowNorm.rowScale (fun k => a1 m c (ix2 (row (4 * i) r) k)))

theorem gain_last (t : Fin cfg0.N) (h : t.val % 4 = 3) (l : Fin 1024) :
    (outsAt0 m c t.val t.isLt).2.1 (ix2 0 l) = (outsAt0 m c (t.val - 1) (before_lt t)).2.1 (ix2 0 l) + gainPart m c (t.val / 4) l := by
  rw [gain_step m c t h l]
  refine congrArg (_ + ·) (Finset.sum_congr rfl fun r _ => ?_)
  have e : row (4 * (t.val / 4)) r = row t r := Fin.ext (by simp only [row]; omega)
  rw [e]
  unfold gainTerm gradTile
  simp only [blk_2]
  rfl

theorem gain_keep (t : Fin cfg0.N) (h0 : ¬t.val % 16 = 0) (h : ¬t.val % 4 = 3) (l : Fin 1024) :
    (outsAt0 m c t.val t.isLt).2.1 (ix2 0 l) = (outsAt0 m c (t.val - 1) (before_lt t)).2.1 (ix2 0 l) := by
  by_cases h1 : t.val % 4 = 0
  · rw [outsAt0_D m c t h0 h1 h]
    try frame_out
    try rfl
  · rw [outsAt0_B m c t h0 h1 h]
    try frame_out
    try rfl

theorem gain_start (t : Fin cfg0.N) (h0 : t.val % 16 = 0) (l : Fin 1024) : (outsAt0 m c t.val t.isLt).2.1 (ix2 0 l) = 0 := by
  rw [outsAt0_A m c t h0 (by omega) (by omega)]
  frame_out
  exact none_at l

theorem gain_at (l : Fin 1024) : ∀ (n : ℕ) (h : n < cfg0.N), (outsAt0 m c n h).2.1 (ix2 0 l) = ∑ i ∈ Finset.range ((n + 1) / 4), gainPart m c i l
  | 0, h => by
    rw [gain_start m c ⟨0, h⟩ rfl l]
    rfl
  | n + 1, h => by
    have hn := point_lt ⟨n + 1, h⟩
    by_cases h3 : (n + 1) % 4 = 3
    · have e : (n + 1 + 1) / 4 = (n + 1) / 4 + 1 := by omega
      have e' : (n + 1) / 4 = (n + 1) / 4 := rfl
      rw [gain_last m c ⟨n + 1, h⟩ h3, e, Finset.sum_range_succ]
      exact congrArg (· + _) (gain_at l n (Nat.lt_of_succ_lt h))
    · have e : (n + 1 + 1) / 4 = (n + 1) / 4 := by omega
      rw [gain_keep m c ⟨n + 1, h⟩ (show ¬(n + 1) % 16 = 0 from by have : n + 1 < 16 := hn; omega) h3, e]
      exact gain_at l n (Nat.lt_of_succ_lt h)

theorem gain_all (t : Fin cfg0.N) (h : t.val % 16 = 15) (l : Fin 1024) :
    (outsAt0 m c t.val t.isLt).2.1 (ix2 0 l) = val_main_v19 (F := Ideal) (a0 m c) (a1 m c) (a3 m c) (ix2 0 l) := by
  have ht := point_lt t
  have e : (t.val + 1) / 4 = 4 := by omega
  rw [gain_at, e, ref_gain, Fin.sum_univ_tiles 4 1024 rfl, ← Fin.sum_univ_eq_sum_range (fun i => gainPart m c i l)]
  refine Finset.sum_congr rfl fun i _ => Finset.sum_congr rfl fun r _ => ?_
  have e' : row (4 * i.val) r = ⟨i.val * 1024 + r.val, by omega⟩ := Fin.ext (by simp only [row]; omega)
  rw [e']

theorem input_all (t : Fin cfg0.N) (h : t.val % 4 = 3) (a b : Fin 1024) :
    (outsAt0 m c t.val t.isLt).1 (ix2 a b) = val_main_v36 (F := Ideal) (a0 m c) (a1 m c) (a2 m c) (a3 m c) (a4 m c) (ix2 (row t a) b) := by
  rw [input_at m c t h, ref_input]
  show @HAdd.hAdd EReal EReal EReal instHAdd (iblk m c 4 t (ix2 a b)) (RowNorm.normGrad (fun k => iblk m c 2 t (ix2 a k))
    (fun k => val_main_v16 (F := Ideal) (a0 m c) (a3 m c) (ix2 (row t a) k) * iblk m c 3 t (ix2 (0 : Fin 1) k)) b) = _
  simp only [blk_2, blk_3, blk_4]

set_option backward.isDefEq.respectTransparency.types false in
/-- The gradient at the tokens is the reference's. -/
theorem final_input : (dats m 0 c).arrAt 5 cfg0.N = val_main_v36 (F := Ideal) (a0 m c) (a1 m c) (a2 m c) (a3 m c) (a4 m c) := by
  refine (dats m 0 c).arrAt_eq_of_covers 5 _ (by decide +kernel) fun t hf y => ?_
  obtain ⟨a, b, rfl⟩ : ∃ (a b : Fin 1024), y = ix2 a b := ⟨y 0, y 1, eq_ix2 y⟩
  rw [place_5]
  show (dats m 0 c).after 5 t (ix2 a b) = _
  rw [after0_5]
  exact input_all m c t ((flush0_5 t).mp hf) a b

set_option backward.isDefEq.respectTransparency.types false in
/-- The gradient at the gain is the reference's. -/
theorem final_gain : (dats m 0 c).arrAt 6 cfg0.N = val_main_v19 (F := Ideal) (a0 m c) (a1 m c) (a3 m c) := by
  refine (dats m 0 c).arrAt_eq_of_covers 6 _ (by decide +kernel) fun t hf y => ?_
  obtain ⟨b, rfl⟩ : ∃ (b : Fin 1024), y = ix2 (0 : Fin 1) b :=
    ⟨y 1, (eq_ix2 y).trans (congrArg (fun u : Fin 1 => ix2 u (y 1)) (Subsingleton.elim (α := Fin 1) (y 0) 0))⟩
  rw [place_6]
  show (dats m 0 c).after 6 t (ix2 (0 : Fin 1) b) = _
  rw [after0_6]
  exact gain_all m c t ((flush0_6 t).mp hf) b

end Cert.InProj

end
-- ==== Proof.InProj.Claim.lean ====
/- The claims about the backward pass of the input projection: the reference's run, and the equality of the call's two
   results with the reference's. -/
module

public import proofs.«01_k».proof.Defs
public import proofs.«01_k».proof.Proof.InProj.Value
public import proofs.«01_k».proof.Proof.Gen.InBwdRefIdeal.Run
public import Idealize.ShloMosaic.Lib.Quiescent

@[expose] public section

set_option maxRecDepth 16384

noncomputable section

namespace Cert.InProj

open Idealize.ShloMosaic Idealize.ShloMosaic.TcCoe Idealize.SL.Sem

theorem congr_three {A B C R : Type} (f : A → B → C → R) {a a' : A} {b b' : B} {c c' : C} (ha : a = a') (hb : b = b') (hc : c = c') :
    f a b c = f a' b' c' := by
  rw [ha, hb, hc]

theorem congr_five {A B C D E R : Type} (f : A → B → C → D → E → R) {a a' : A} {b b' : B} {c c' : C} {d d' : D} {e e' : E}
    (ha : a = a') (hb : b = b') (hc : c = c') (hd : d = d') (he : e = e') : f a b c d e = f a' b' c' d' e' := by
  rw [ha, hb, hc, hd, he]

/-- The run of the reference keeps the arguments; it has no semaphores. -/
theorem reference_frame : Cert.quiescent_InBwdRefIdeal := fun m ρ _ =>
  (θ_run Cert.InBwdRefIdeal.defs _ _).mono
    (fun r h => ⟨fun c => (h c).2.2, sem_eq_zero_of_no_sems (by decide) r.2⟩) (Cert.InBwdRefIdeal.Value.run m ρ)

/-- The call and the reference agree on every entry of both results. -/
theorem agree : Cert.algebraic_InBwdIdeal_InBwdRefIdeal := by
  intro m g m' g' _ hm
  refine ⟨fun c => Cert.InBwdRefIdeal.Read.val_main_v36 (F := Ideal) (a0 m c) (a1 m c) (a2 m c) (a3 m c) (a4 m c),
    fun c => Cert.InBwdRefIdeal.Read.val_main_v19 (F := Ideal) (a0 m c) (a1 m c) (a3 m c), ?_, ?_⟩
  · refine (θ_run Cert.InBwdIdeal.defs _ _).mono (fun r h c => ?_) (Cert.InBwdIdeal.Value.run_blocks m g)
    obtain ⟨r0, r1, hk⟩ := h c
    exact ⟨r0.trans (final_input m c), r1.trans (final_gain m c), hk⟩
  · refine (θ_run Cert.InBwdRefIdeal.defs _ _).mono (fun r h c => ?_) (Cert.InBwdRefIdeal.Value.run m' g')
    obtain ⟨h0, h1, h2, h3, h4⟩ := hm c
    obtain ⟨r0, r1, hk⟩ := h c
    have q0 := r0.trans (Cert.InBwdRefIdeal.Read.val_main_v36_eq _ _)
    have q1 := r1.trans (Cert.InBwdRefIdeal.Read.val_main_v19_eq _ _ _)
    exact ⟨q0.trans (congr_five _ h0 h1 h2 h3 h4), q1.trans (congr_three _ h0 h1 h3), hk⟩

end Cert.InProj

end
-- ==== Proof.InFwd.Points.lean ====
/- The schedule of the input projection (`in_proj_fwd`): its points and the condition its body branches on. -/
module

public import proofs.«01_k».proof.Proof.Gen.InFwdIdeal.Frame
public import proofs.«01_k».proof.Proof.Gen.InFwdIdeal.Skeleton
public import Idealize.ShloMosaic.Lib.Pipeline.Value
public import Idealize.ShloMosaic.Lib.Pipeline.TableIdle
public import Idealize.ShloMosaic.Lib.VecWindow

@[expose] public section

set_option maxRecDepth 16384

noncomputable section

namespace Cert.InFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- There are 16 points. -/
theorem pt_lt (t : Fin cfg0.N) : t.val < 16 := Nat.lt_of_lt_of_eq t.isLt N_0

/-- The block of tokens of a point. -/
theorem row_of (t : Fin cfg0.N) : (grid0.coords t 0).val = t.val / 4 := by
  have e : (grid0.coords t 0).val = t.val / 4 % 4 := Pipeline.Grid.coords_val t 0 (by decide) rfl
  have := pt_lt t
  omega

/-- The block of columns of a point. -/
theorem col_of (t : Fin cfg0.N) : (grid0.coords t 1).val = t.val % 4 := by
  have e : (grid0.coords t 1).val = t.val / 1 % 4 := Pipeline.Grid.coords_val t 1 (by decide) rfl
  omega

/-- The body's condition holds at the first block of columns of each block of tokens. -/
theorem fresh_iff (t : Fin cfg0.N) : k0_cond1 (grid0.coords t) = 1#1 ↔ t.val % 4 = 0 := by
  have e1 := col_of t
  have e2 : (grid0.coords t 2).val = 0 := by have := (grid0.coords t 2).isLt; exact Nat.lt_one_iff.mp this
  have h4 : t.val % 4 < 4 := by omega
  simp only [k0_cond1, e1, e2]
  generalize t.val % 4 = b at *
  word_cmp

end Cert.InFwdIdeal.Gen

end
-- ==== Proof.InFwd.RunRest.lean ====
module

public import proofs.«01_k».proof.Proof.InFwd.Points

@[expose] public section

set_option maxRecDepth 16384

noncomputable section

namespace Cert.InFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A load of a whole buffer reads the values it was given. -/
theorem readAt_all {κ : Kind} {sp : Space} {s : Shape} {e : EltTy} {arg : Memref sig κ sp s e} (h : arg.IsWhole) (x : s.Idx → Elt F e)
    {off : Fin s.rank → ℕ} (inb : ∀ a, off a + s.size a ≤ s.size a) :
    View.readAt (Elt F) arg.view (Rect.unit (s := s) off s.size inb).toLoadRect (h.unread x) = x := by
  rw [View.readAt_full, h.read_unread]

set_option maxHeartbeats 1600000 in
/-- At a later block of columns: from the normalised tokens `s` held in the scratch buffer the body leaves their product
    with the block of the weight. -/
theorem run_rest (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1x1024x2560 .bf16) (harg5 : arg5.IsWhole) (arg7 : Memref sig .tc .vmem S1024x1024 .bf16) (harg7 : arg7.IsWhole) (arg8 : Memref sig .tc .vmem S1024x2560 .bf16) (harg8 : arg8.IsWhole) (arg9 : Memref sig .tc .vmem S1024x1024 .bf16) (harg9 : arg9.IsWhole)
    (hc0 : ¬ k0_cond1 i = 1#1)
    (x2 : Vec F S1x1024x2560 .bf16) (s : Vec F S1024x1024 .bf16) :
    ∀ (E : Set ℕ) (K : PUnit → sProp 𝕄),
      iprop(owns (c : Thread nD τ) arg5 fullShare x2 ∗ (∃ d, owns (c : Thread nD τ) arg8 fullShare d) ∗ owns (c : Thread nD τ) arg9 fullShare s
          ∗ (iprop(owns (c : Thread nD τ) arg5 fullShare x2 ∗ owns (c : Thread nD τ) arg8 fullShare (k0_pay3 s x2) ∗ owns (c : Thread nD τ) arg9 fullShare s) -∗ K ⟨⟩))
        ⊢ wp frame (wpE (defs₀ (F := F)) Variants.none c none) E (cc0_in_proj i arg3 harg3 arg4 harg4 arg5 harg5 (Memref.whole main_v3) (Memref.isWhole_whole _) arg7 harg7 arg8 harg8 arg9 harg9) K := by
  intro E K
  simp only [cc0_in_proj_eq_skeleton]; unfold cc0_in_proj_skel
  unfold owns
  iintro ⟨⟨%f2, %hf2, H2⟩, ⟨%d4, %f4, -, H4⟩, ⟨%f5, %hf5, HS0⟩, Hk⟩
  obtain rfl := harg5.eq_unread hf2; obtain rfl := harg9.eq_unread hf5
  sl_exec (disch := first | sl_exact hc0)
  sl_step
  iapply Hk
  isplitl [H2]
  · iexists _; isplitr; · ipureintro; exact harg5.read_unread _
    iexact H2
  isplitl [H4]
  · iexists _; isplitr; swap; · iexact H4
    ipureintro
    rw [View.read_writes_full, readAt_all, readAt_all]
  iexists _; isplitr; · ipureintro; exact harg9.read_unread _
  iexact HS0

end Cert.InFwdIdeal.Gen

end
-- ==== Proof.InFwd.RunFresh.lean ====
module

public import proofs.«01_k».proof.Proof.InFwd.RunRest

@[expose] public section

set_option maxRecDepth 16384

noncomputable section

namespace Cert.InFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- At the first block of columns the body normalises the tokens, keeps them, and leaves their product with the block of
    the weight. -/
theorem run_fresh (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1x1024x2560 .bf16) (harg5 : arg5.IsWhole) (arg7 : Memref sig .tc .vmem S1024x1024 .bf16) (harg7 : arg7.IsWhole) (arg8 : Memref sig .tc .vmem S1024x2560 .bf16) (harg8 : arg8.IsWhole) (arg9 : Memref sig .tc .vmem S1024x1024 .bf16) (harg9 : arg9.IsWhole)
    (hc0 : k0_cond1 i = 1#1)
    (x0 : Vec F S1024x1024 .f32) (x1 : Vec F S1x1024 .f32) (x2 : Vec F S1x1024x2560 .bf16) :
    ∀ (E : Set ℕ) (K : PUnit → sProp 𝕄),
      iprop(owns (c : Thread nD τ) arg3 fullShare x0 ∗ owns (c : Thread nD τ) arg4 fullShare x1 ∗ owns (c : Thread nD τ) arg5 fullShare x2 ∗ (∃ d, owns (c : Thread nD τ) arg7 fullShare d) ∗ (∃ d, owns (c : Thread nD τ) arg8 fullShare d) ∗ (∃ d, owns (c : Thread nD τ) arg9 fullShare d)
          ∗ (iprop(owns (c : Thread nD τ) arg3 fullShare x0 ∗ owns (c : Thread nD τ) arg4 fullShare x1 ∗ owns (c : Thread nD τ) arg5 fullShare x2 ∗ owns (c : Thread nD τ) arg7 fullShare (k0_pay1 x0 x1) ∗ owns (c : Thread nD τ) arg8 fullShare (k0_pay3 (k0_pay2 x0 x1) x2) ∗ owns (c : Thread nD τ) arg9 fullShare (k0_pay2 x0 x1)) -∗ K ⟨⟩))
        ⊢ wp frame (wpE (defs₀ (F := F)) Variants.none c none) E (cc0_in_proj i arg3 harg3 arg4 harg4 arg5 harg5 (Memref.whole main_v3) (Memref.isWhole_whole _) arg7 harg7 arg8 harg8 arg9 harg9) K := by
  intro E K
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, HS0⟩, Hk⟩
  obtain rfl := harg3.eq_unread hf0; obtain rfl := harg4.eq_unread hf1; obtain rfl := harg5.eq_unread hf2
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    rw [View.read_writes_full, readAt_all, readAt_all]
  isplitl [H4]
  · iexists _; isplitr; swap; · iexact H4
    ipureintro
    rw [View.read_writes_full, readAt_all]
    delta run_fresh.sl.v5; delta run_fresh.sl.HS0_1
    rw [View.readCov_full, readAt_all, readAt_all]
  iexists _; isplitr; swap; · iexact HS0
  ipureintro
  delta run_fresh.sl.HS0_1
  rw [View.read_writes_full, readAt_all, readAt_all]

end Cert.InFwdIdeal.Gen

end
-- ==== Proof.InFwd.Data.lean ====
module

public import proofs.«01_k».proof.Proof.InFwd.RunFresh

@[expose] public section

set_option maxRecDepth 16384

noncomputable section

namespace Cert.InFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the block of tokens that point `t` belongs to. -/
def rowPt (t : Fin cfg0.N) : Fin cfg0.N := ⟨t.val - t.val % 4, by have := t.isLt; omega⟩

theorem rowPt_fresh (t : Fin cfg0.N) (h : t.val % 4 = 0) : rowPt t = t := Fin.ext (by simp only [rowPt]; omega)

theorem rowPt_pred (t : Fin cfg0.N) (h : t.val % 4 ≠ 0) : rowPt ⟨t.val - 1, by omega⟩ = rowPt t :=
  Fin.ext (by simp only [rowPt]; omega)

/-- The normalised tokens of the block of point `t`, -/
def hAt (c : Dev nD) (t : Fin cfg0.N) : Vec F S1024x1024 .bf16 := k0_pay1 (iblk m c 0 (rowPt t)) (iblk m c 1 (rowPt t))

/-- and as the scratch buffer holds them. -/
def scrAt (c : Dev nD) (t : Fin cfg0.N) : Vec F S1024x1024 .bf16 := k0_pay2 (iblk m c 0 (rowPt t)) (iblk m c 1 (rowPt t))

theorem hAt_pred (c : Dev nD) (t : Fin cfg0.N) (h : t.val % 4 ≠ 0) : hAt m c ⟨t.val - 1, by omega⟩ = hAt m c t := by
  unfold hAt; rw [rowPt_pred t h]
theorem scrAt_pred (c : Dev nD) (t : Fin cfg0.N) (h : t.val % 4 ≠ 0) : scrAt m c ⟨t.val - 1, by omega⟩ = scrAt m c t := by
  unfold scrAt; rw [rowPt_pred t h]

/-- What the region holds beside the windows before point `n`: inside a block of tokens the scratch buffers at what
    the point before left there; between two blocks anything. -/
def held (c : Dev nD) (n : ℕ) (hn : n ≤ cfg0.N) : sProp 𝕄 :=
  if h : n % 4 = 0 then Pipeline.ΦA spec0 c
  else iprop(iprop(owns (c : Thread nD τ) (Memref.whole cc0_scratch0) fullShare (scrAt m c ⟨n - 1, by omega⟩)) ∗ (∃ r, prngReg c r))

theorem held_fresh (c : Dev nD) (n : ℕ) (hn : n ≤ cfg0.N) (h : n % 4 = 0) : held m c n hn = Pipeline.ΦA spec0 c := dif_pos h

theorem held_rest (c : Dev nD) (t : Fin cfg0.N) (h : t.val % 4 ≠ 0) :
    held m c t.val (Nat.le_of_lt t.isLt)
      = iprop(iprop(owns (c : Thread nD τ) (Memref.whole cc0_scratch0) fullShare (scrAt m c ⟨t.val - 1, by omega⟩)) ∗ (∃ r, prngReg c r)) := dif_neg h

/-- The scratch buffers at anything, as the region is entered and left. -/
theorem loose_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- What the body leaves in the scratch buffers is what is held before the next point. -/
theorem held_give (c : Dev nD) (t : Fin cfg0.N) :
    iprop(iprop(owns (c : Thread nD τ) (Memref.whole cc0_scratch0) fullShare (scrAt m c t)) ∗ (∃ r, prngReg c r)) ⊢ held m c (t.val + 1) t.isLt := by
  by_cases h : (t.val + 1) % 4 = 0
  · rw [held_fresh m c _ _ h, loose_eq]
    iintro ⟨HS0, Hg⟩
    isplitl [HS0]
    · iexists _; iexact HS0
    iexact Hg
  · unfold held; rw [dif_neg h]; exact .rfl

/-- The proof data: what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hAt m c t
    | ⟨4, _⟩ => k0_pay3 (scrAt m c t) (iblk m c 2 t)
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) : (dats m 0 c).Φ t.castSucc = held m c t.val (Nat.le_of_lt t.isLt) := by
  dsimp only [dats]; exact Pipeline.Dat.Φ_castSucc (held m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = hAt m c t := by dsimp only [dats]
theorem after_4 (c : Dev nD) (t : Fin cfg0.N) : (dats m 0 c).after 4 t = k0_pay3 (scrAt m c t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The points at which window 3 is left alone. -/
theorem idle_3 : ∀ t : Fin cfg0.N, cfg0.idle 3 (grid0.coords t) = true ↔ t.val % 4 ≠ 0 :=
  (by decide +kernel : ∀ t : Fin grid0.N, cfg0.idle 3 (grid0.coords t) = true ↔ t.val % 4 ≠ 0)
/-- Window 3's buffer holds what the points before stored. -/
theorem notFresh_3 : ∀ t : Fin cfg0.N, t.val % 4 ≠ 0 → cfg0.fresh 3 t.val = false :=
  (by decide +kernel : ∀ t : Fin grid0.N, t.val % 4 ≠ 0 → cfg0.fresh 3 t.val = false)

theorem before_3 (c : Dev nD) (t : Fin cfg0.N) (h : t.val % 4 ≠ 0) (d) : (dats m 0 c).before 3 t d = (dats m 0 c).after 3 t := by
  rw [(dats m 0 c).before_out_traj 3 rfl (fun _ _ => rfl) (fun t _ hi _ => by
      rw [after_3, after_3, hAt_pred m c t ((idle_3 t).mp hi)]) t.val t rfl d,
    notFresh_3 t h, if_neg Bool.false_ne_true, after_3, after_3, hAt_pred m c t h]

/-- A buffer left alone at a point, holding what the proof data state after it, is handed back as they ask. -/
theorem leaves_of_idle {c : Dev nD} (dat : Dat τ (Elt F) Unit ℕ (UR sig nD τ) ℕ cfg0 c) (w : Fin cfg0.W) (t : Fin cfg0.N)
    (hi : cfg0.idle w (grid0.coords t) = true) (d) (h : dat.before w t d = dat.after w t) :
    owns (c : Thread nD τ) ((cfg0.win w).stage (cfg0.slots t w)) fullShare (dat.before w t d) ⊢ dat.leavesExact w t := by
  cases hf : (cfg0.win w).flush t
  · rw [dat.leavesExact_idle w t hi hf]
    iintro H
    iexists d
    iexact H
  · have e : dat.leavesExact w t = owns (c : Thread nD τ) ((cfg0.win w).stage (cfg0.slots t w)) fullShare (dat.after w t) := by
      unfold Dat.leavesExact; rw [hi, hf]
    rw [e, h]

/-- A buffer left alone at a point after which it isn't written back is handed back whatever it holds. -/
theorem leaves_of_quiet {c : Dev nD} (dat : Dat τ (Elt F) Unit ℕ (UR sig nD τ) ℕ cfg0 c) (w : Fin cfg0.W) (t : Fin cfg0.N)
    (hi : cfg0.idle w (grid0.coords t) = true) (d) (hf : (cfg0.win w).flush t = false) :
    owns (c : Thread nD τ) ((cfg0.win w).stage (cfg0.slots t w)) fullShare (dat.before w t d) ⊢ dat.leavesExact w t := by
  rw [dat.leavesExact_idle w t hi hf]
  iintro H
  iexists d
  iexact H

/-- A buffer stored at a point is handed back at what the proof data state after it. -/
theorem leaves_of_live {c : Dev nD} (dat : Dat τ (Elt F) Unit ℕ (UR sig nD τ) ℕ cfg0 c) (w : Fin cfg0.W) (t : Fin cfg0.N)
    (hi : cfg0.idle w (grid0.coords t) = false) :
    dat.leavesExact w t = owns (c : Thread nD τ) ((cfg0.win w).stage (cfg0.slots t w)) fullShare (dat.after w t) := by
  unfold Dat.leavesExact; rw [hi]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 3600000 in
/-- The body at a later block of columns. -/
theorem body_rest (c : Dev nD) (t : Fin cfg0.N) (h : t.val % 4 ≠ 0) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = held m c (t.val + 1) t.isLt from rfl, held_castSucc]
  rw [held_rest m c t h, scrAt_pred m c t h]
  rw [leaves_of_live (dats m 0 c) 0 t rfl, after_0]
  rw [leaves_of_live (dats m 0 c) 1 t rfl, after_1]
  rw [leaves_of_live (dats m 0 c) 2 t rfl, after_2]
  rw [leaves_of_live (dats m 0 c) 4 t rfl, after_4]
  iintro ⟨⟨HS0, Hg⟩, Ho, ⟨%d0, H0⟩, ⟨%d1, H1⟩, ⟨%d2, H2⟩, ⟨%d3, H3⟩, ⟨%d4, H4⟩⟩
  iapply (run_rest c (grid0.coords t) _ _ _ _ _ _ _ _ _ _ _ _ (fun hc => h ((fresh_iff t).mp hc)) (iblk m c 2 t) (scrAt m c t) Set.univ _)
  isplitl [H2]; · iexact H2
  isplitl [H4]; · iexists _; iexact H4
  isplitl [HS0]; · iexact HS0
  iintro ⟨H2, H4, HS0⟩
  isplitl [HS0 Hg]
  · iapply (held_give m c t)
    isplitl [HS0]
    · iexact HS0
    iexact Hg
  isplitl [Ho]; · iexact Ho
  isplitl [H0]; · iexact H0
  isplitl [H1]; · iexact H1
  isplitl [H2]; · iexact H2
  isplitl [H3]; · iapply (leaves_of_idle (dats m 0 c) 3 t ((idle_3 t).mpr h) d3 (before_3 m c t h d3)); iexact H3
  iexact H4

set_option maxHeartbeats 3600000 in
/-- The body at the first block of columns. -/
theorem body_fresh (c : Dev nD) (t : Fin cfg0.N) (h : t.val % 4 = 0) :
    bodyPre m c t ⊢ wp frame (wpE (defs₀ (F := F)) Variants.none c none) Set.univ (bodyAt0 t) (fun _ => bodyPost m c t) := by
  have hr := rowPt_fresh t h
  have e3 : hAt m c t = k0_pay1 (iblk m c 0 t) (iblk m c 1 t) := by unfold hAt; rw [hr]
  have es : scrAt m c t = k0_pay2 (iblk m c 0 t) (iblk m c 1 t) := by unfold scrAt; rw [hr]
  unfold bodyPre bodyPost bodyAt0
  simp only [before_0, before_1, before_2]
  rw [show (dats m 0 c).owesAt () t.succ = (dats m 0 c).owesAt () t.castSucc from rfl]
  rw [show (dats m 0 c).Φ t.succ = held m c (t.val + 1) t.isLt from rfl, held_castSucc]
  rw [held_fresh m c _ _ h, loose_eq]
  rw [leaves_of_live (dats m 0 c) 0 t rfl, after_0]
  rw [leaves_of_live (dats m 0 c) 1 t rfl, after_1]
  rw [leaves_of_live (dats m 0 c) 2 t rfl, after_2]
  rw [leaves_of_live (dats m 0 c) 3 t (Bool.eq_false_iff.mpr fun hi => (idle_3 t).mp hi h), after_3]
  rw [leaves_of_live (dats m 0 c) 4 t rfl, after_4]
  rw [e3, es]
  iintro ⟨⟨HS0, Hg⟩, Ho, ⟨%d0, H0⟩, ⟨%d1, H1⟩, ⟨%d2, H2⟩, ⟨%d3, H3⟩, ⟨%d4, H4⟩⟩
  iapply (run_fresh c (grid0.coords t) _ _ _ _ _ _ _ _ _ _ _ _ ((fresh_iff t).mpr h) (iblk m c 0 t) (iblk m c 1 t) (iblk m c 2 t)  Set.univ _)
  isplitl [H0]; · iexact H0
  isplitl [H1]; · iexact H1
  isplitl [H2]; · iexact H2
  isplitl [H3]; · iexists _; iexact H3
  isplitl [H4]; · iexists _; iexact H4
  isplitl [HS0]; · iexact HS0
  iintro ⟨H0, H1, H2, H3, H4, HS0⟩
  isplitl [HS0 Hg]
  · iapply (held_give m c t)
    isplitl [HS0]
    · rw [es]; iexact HS0
    iexact Hg
  isplitl [Ho]; · iexact Ho
  isplitl [H0]; · iexact H0
  isplitl [H1]; · iexact H1
  isplitl [H2]; · iexact H2
  isplitl [H3]; · iexact H3
  iexact H4

theorem body_any (c : Dev nD) (t : Fin cfg0.N) :
    bodyPre m c t ⊢ wp frame (wpE (defs₀ (F := F)) Variants.none c none) Set.univ (bodyAt0 t) (fun _ => bodyPost m c t) := by
  by_cases h : t.val % 4 = 0
  · exact body_fresh m c t h
  · exact body_rest m c t h

/-- The body keeps to the proof data at every point. -/
theorem body_keeps (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body_any m c t) rfl .rfl fun _ => .rfl

theorem held_in (c : Dev nD) : Pipeline.ΦA spec0 c ⊢ (dats m 0 c).Φ 0 := by
  rw [show (dats m 0 c).Φ 0 = held m c 0 (Nat.zero_le _) from rfl, held_fresh m c 0 _ rfl]

theorem held_out (c : Dev nD) : (dats m 0 c).Φ (Fin.last cfg0.N) ⊢ Pipeline.ΦA spec0 c := by
  rw [show (dats m 0 c).Φ (Fin.last cfg0.N) = held m c cfg0.N (Nat.le_refl _) from rfl,
    held_fresh m c _ _ (by have : cfg0.N = 16 := N_0; omega)]

set_option backward.isDefEq.respectTransparency.types false in
/-- Every execution of the program ends, every array of the call at what the proof data compute, every other buffer
    as the call found it, every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_keeps m c).loose) (hshare := fun c => (dats m 0 c).share_full fun _ => rfl)
    (howed := fun _ _ => rfl) (V := V m) (hmain := hmain m Variants.none) (hA := A_eq m) (hin := held_in m) (hout := held_out m)

end Cert.InFwdIdeal.Gen

end
-- ==== Proof.InFwd.Value.lean ====
/- The input projection: the reference's results, the blocks the body finds, and the two arrays the run leaves, each read
   one entry at a time. -/
module

public import proofs.«01_k».proof.Proof.InFwd.Data
public import proofs.«01_k».proof.Proof.Gen.InFwdRefIdeal.Read
public import proofs.«01_k».proof.Proof.RowNorm
public import Idealize.ShloMosaic.Lib.Pointwise
public import Idealize.ShloMosaic.Lib.Pipeline.ValueKit.Geometry

@[expose] public section

set_option maxRecDepth 16384

noncomputable section

namespace Cert.InFwdCall

open Idealize.ShloMosaic Idealize.ShloMosaic.TcCoe Idealize.SL.Sem
open Cert.InFwdIdeal Cert.InFwdIdeal.Gen
open Cert.InFwdRefIdeal.Read

section Formulas
variable (x : FVec Ideal S4096x1024 .f32) (g : FVec Ideal S1x1024 .f32) (w : FVec Ideal S1024x10240 .f32)

/-- The normalised tokens. -/
def normed (r : Fin 4096) (l : Fin 1024) : EReal := x (ix2 r l) * RowNorm.rowScale (fun k => x (ix2 r k)) * g (ix2 0 l)

/-- Their projection. -/
def projected (r : Fin 4096) (l : Fin 10240) : EReal := ∑ k : Fin 1024, normed x g r k * w (ix2 k l)

theorem ref_normed (r : Fin 4096) (l : Fin 1024) : val_main_v11 (F := Ideal) x g (ix2 r l) = normed x g r l := by
  pointwise [val_main_v0, val_main_cst, val_main_v1, val_main_v2, val_main_cst_0, val_main_v3, val_main_v4, val_main_cst_1, val_main_v5, val_main_v6, val_main_v7, val_main_v8, val_main_v9, val_main_v10, val_main_v11, normed, RowNorm.rowScale, RowNorm.guarded]
  try simp

theorem ref_projected (r : Fin 4096) (l : Fin 10240) : val_main_v13 (F := Ideal) x g w (ix2 r l) = projected x g w r l := by
  unfold projected
  simp only [← ref_normed]
  unfold val_main_v13
  generalize val_main_v11 (F := Ideal) x g = p
  pointwise []
  try simp

theorem pay_normed (u : FVec Ideal S1024x1024 .f32) (r l : Fin 1024) :
    k0_pay1 (F := Ideal) u g (ix2 r l) = u (ix2 r l) * RowNorm.rowScale (fun k => u (ix2 r k)) * g (ix2 0 l) := by
  pointwise [k0_pay1, RowNorm.rowScale, RowNorm.guarded]
  try simp

theorem pay_scratch (u : FVec Ideal S1024x1024 .f32) (r l : Fin 1024) : k0_pay2 (F := Ideal) u g (ix2 r l) = k0_pay1 (F := Ideal) u g (ix2 r l) := by
  unfold k0_pay2
  generalize k0_pay1 (F := Ideal) u g = q
  pointwise []

theorem pay_project (h : FVec Ideal S1024x1024 .bf16) (v : FVec Ideal S1x1024x2560 .bf16) (r : Fin 1024) (l : Fin 2560) :
    k0_pay3 (F := Ideal) h v (ix2 r l) = ∑ k : Fin 1024, h (ix2 r k) * v (ix3 0 k l) := by
  pointwise [k0_pay3]
  try simp

end Formulas

variable (m : (ℓ : Loc nD τ sig) → Buf (Elt Ideal) ℓ) (c : Dev nD)

/-- The three arguments: the tokens, the gain and the weight. -/
abbrev a0 : FVec Ideal S4096x1024 .f32 := m ((c : Thread nD τ).loc main_arg0)
abbrev a1 : FVec Ideal S1x1024 .f32 := m ((c : Thread nD τ).loc main_arg1)
abbrev a2 : FVec Ideal S1024x10240 .f32 := m ((c : Thread nD τ).loc main_arg2)

/-- Row `r` of the block of tokens of point `t`, -/
abbrev row (t : Fin cfg0.N) (r : Fin 1024) : Fin 4096 := ⟨t.val / 4 * 1024 + r.val, by have := pt_lt t; omega⟩
/-- and column `l` of its block of columns. -/
abbrev col (t : Fin cfg0.N) (l : Fin 2560) : Fin 10240 := ⟨t.val % 4 * 2560 + l.val, by omega⟩

theorem row_rowPt (t : Fin cfg0.N) (r : Fin 1024) : row (rowPt t) r = row t r := Fin.ext (by simp only [row, rowPt]; omega)

theorem V_weight (q : Fin 4) (k : Fin 1024) (l : Fin 2560) :
    (V m c main_v2 : FVec Ideal S4x1024x2560 .bf16) (ix3 q k l) = a2 m c (ix2 k ⟨q.val * 2560 + l.val, by omega⟩) := by
  show StableHlo.after hostOps0 _ (Proc.devRef .tc main_v2) (ix3 q k l) = _
  after_results_simp
  pointwise []

theorem index_0 : ∀ t : Fin grid0.N, win0_0.index t (0 : Fin 2) = t.val / 4 ∧ win0_0.index t (1 : Fin 2) = 0 := by decide +kernel
theorem index_1 : ∀ t : Fin grid0.N, win0_1.index t (0 : Fin 2) = 0 ∧ win0_1.index t (1 : Fin 2) = 0 := by decide +kernel
theorem index_2 : ∀ t : Fin grid0.N, win0_2.index t (0 : Fin 3) = t.val % 4 ∧ win0_2.index t (1 : Fin 3) = 0 ∧ win0_2.index t (2 : Fin 3) = 0 := by decide +kernel
theorem index_3 : ∀ t : Fin grid0.N, win0_3.index t (0 : Fin 2) = t.val / 4 ∧ win0_3.index t (1 : Fin 2) = 0 := by decide +kernel
theorem index_4 : ∀ t : Fin grid0.N, win0_4.index t (0 : Fin 2) = t.val / 4 ∧ win0_4.index t (1 : Fin 2) = t.val % 4 := by decide +kernel

theorem place_0 (t : Fin cfg0.N) (a b : Fin 1024) : ((cfg0.win 0).blk t).view.emb (ix2 a b) = ix2 (row t a) b := by
  obtain ⟨h0, h1⟩ := index_0 t
  funext d
  match d with
  | ⟨0, _⟩ => exact Fin.ext (show win0_0.index t (0 : Fin 2) * 1024 + 1 * ((ix2 a b) (0 : Fin 2)).val = _ by rw [h0]; simp [row, col]; try omega)
  | ⟨1, _⟩ => exact Fin.ext (show win0_0.index t (1 : Fin 2) * 1024 + 1 * ((ix2 a b) (1 : Fin 2)).val = _ by rw [h1]; simp [row, col]; try omega)

theorem place_1 (t : Fin cfg0.N) (b : Fin 1024) : ((cfg0.win 1).blk t).view.emb (ix2 ((0 : Fin 1)) b) = ix2 (0 : Fin 1) b := by
  obtain ⟨h0, h1⟩ := index_1 t
  funext d
  match d with
  | ⟨0, _⟩ => exact Fin.ext (show win0_1.index t (0 : Fin 2) * 1 + 1 * ((ix2 ((0 : Fin 1)) b) (0 : Fin 2)).val = _ by rw [h0]; simp [row, col]; try omega)
  | ⟨1, _⟩ => exact Fin.ext (show win0_1.index t (1 : Fin 2) * 1024 + 1 * ((ix2 ((0 : Fin 1)) b) (1 : Fin 2)).val = _ by rw [h1]; simp [row, col]; try omega)

theorem place_2 (t : Fin cfg0.N) (k : Fin 1024) (l : Fin 2560) : ((cfg0.win 2).blk t).view.emb (ix3 ((0 : Fin 1)) k l) = ix3 (⟨t.val % 4, Nat.mod_lt _ (by decide)⟩ : Fin 4) k l := by
  obtain ⟨h0, h1, h2⟩ := index_2 t
  funext d
  match d with
  | ⟨0, _⟩ => exact Fin.ext (show win0_2.index t (0 : Fin 3) * 1 + 1 * ((ix3 ((0 : Fin 1)) k l) (0 : Fin 3)).val = _ by rw [h0]; simp [row, col]; try omega)
  | ⟨1, _⟩ => exact Fin.ext (show win0_2.index t (1 : Fin 3) * 1024 + 1 * ((ix3 ((0 : Fin 1)) k l) (1 : Fin 3)).val = _ by rw [h1]; simp [row, col]; try omega)
  | ⟨2, _⟩ => exact Fin.ext (show win0_2.index t (2 : Fin 3) * 2560 + 1 * ((ix3 ((0 : Fin 1)) k l) (2 : Fin 3)).val = _ by rw [h2]; simp [row, col]; try omega)

theorem place_3 (t : Fin cfg0.N) (a b : Fin 1024) : ((cfg0.win 3).blk t).view.emb (ix2 a b) = ix2 (row t a) b := by
  obtain ⟨h0, h1⟩ := index_3 t
  funext d
  match d with
  | ⟨0, _⟩ => exact Fin.ext (show win0_3.index t (0 : Fin 2) * 1024 + 1 * ((ix2 a b) (0 : Fin 2)).val = _ by rw [h0]; simp [row, col]; try omega)
  | ⟨1, _⟩ => exact Fin.ext (show win0_3.index t (1 : Fin 2) * 1024 + 1 * ((ix2 a b) (1 : Fin 2)).val = _ by rw [h1]; simp [row, col]; try omega)

theorem place_4 (t : Fin cfg0.N) (a : Fin 1024) (b : Fin 2560) : ((cfg0.win 4).blk t).view.emb (ix2 a b) = ix2 (row t a) (col t b) := by
  obtain ⟨h0, h1⟩ := index_4 t
  funext d
  match d with
  | ⟨0, _⟩ => exact Fin.ext (show win0_4.index t (0 : Fin 2) * 1024 + 1 * ((ix2 a b) (0 : Fin 2)).val = _ by rw [h0]; simp [row, col]; try omega)
  | ⟨1, _⟩ => exact Fin.ext (show win0_4.index t (1 : Fin 2) * 2560 + 1 * ((ix2 a b) (1 : Fin 2)).val = _ by rw [h1]; simp [row, col]; try omega)

theorem blk_0 (t : Fin cfg0.N) (a k : Fin 1024) : iblk m c 0 t (ix2 a k) = a0 m c (ix2 (row t a) k) := by
  show V m c main_arg0 (((cfg0.win 0).blk t).view.emb (ix2 a k)) = _
  rw [place_0, V_main_arg0]

theorem blk_1 (t : Fin cfg0.N) (l : Fin 1024) : iblk m c 1 t (ix2 (0 : Fin 1) l) = a1 m c (ix2 (0 : Fin 1) l) := by
  show V m c main_arg1 (((cfg0.win 1).blk t).view.emb (ix2 (0 : Fin 1) l)) = _
  rw [place_1, V_main_arg1]

theorem blk_2 (t : Fin cfg0.N) (k : Fin 1024) (l : Fin 2560) : iblk m c 2 t (ix3 (0 : Fin 1) k l) = a2 m c (ix2 k (col t l)) := by
  show V m c main_v2 (((cfg0.win 2).blk t).view.emb (ix3 (0 : Fin 1) k l)) = _
  rw [place_2]
  exact V_weight m c _ k l

theorem normed_at (t : Fin cfg0.N) (r l : Fin 1024) : hAt m c t (ix2 r l) = normed (a0 m c) (a1 m c) (row t r) l := by
  unfold hAt
  rw [pay_normed]
  simp only [blk_0, blk_1, row_rowPt]
  rfl

theorem scratch_at (t : Fin cfg0.N) (r l : Fin 1024) : scrAt m c t (ix2 r l) = normed (a0 m c) (a1 m c) (row t r) l := by
  unfold scrAt
  rw [pay_scratch]
  exact normed_at m c t r l

theorem projected_at (t : Fin cfg0.N) (r : Fin 1024) (l : Fin 2560) :
    k0_pay3 (F := Ideal) (scrAt m c t) (iblk m c 2 t) (ix2 r l) = projected (a0 m c) (a1 m c) (a2 m c) (row t r) (col t l) := by
  rw [pay_project]
  simp only [scratch_at, blk_2]
  rfl

set_option backward.isDefEq.respectTransparency.types false in
theorem final_normed : (dats m 0 c).arrAt 3 cfg0.N = val_main_v12 (F := Ideal) (a0 m c) (a1 m c) :=
  (dats m 0 c).arrAt_eq_of_covers 3 _ (by decide +kernel) fun t hf y => by
    obtain ⟨r, l, rfl⟩ : ∃ (r l : Fin 1024), y = ix2 r l := ⟨y 0, y 1, eq_ix2 y⟩
    rw [place_3]
    show (dats m 0 c).after 3 t (ix2 r l) = _
    rw [after_3]
    exact (normed_at m c t r l).trans (ref_normed (a0 m c) (a1 m c) (row t r) l).symm

set_option backward.isDefEq.respectTransparency.types false in
theorem final_projected : (dats m 0 c).arrAt 4 cfg0.N = val_main_v14 (F := Ideal) (a0 m c) (a1 m c) (a2 m c) :=
  (dats m 0 c).arrAt_eq_of_covers 4 _ (by decide +kernel) fun t hf y => by
    obtain ⟨r, l, rfl⟩ : ∃ (r : Fin 1024) (l : Fin 2560), y = ix2 r l := ⟨y 0, y 1, eq_ix2 y⟩
    rw [place_4]
    show (dats m 0 c).after 4 t (ix2 r l) = _
    rw [after_4]
    exact (projected_at m c t r l).trans (ref_projected (a0 m c) (a1 m c) (a2 m c) (row t r) (col t l)).symm

end Cert.InFwdCall

end
-- ==== Proof.InFwd.Printed.lean ====
/- The call before idealization. Its program has the same text as the idealized one, so the two bodies are equal and the
   run of the one, which holds over any float values, is a run of the other. -/
module

public import proofs.«01_k».proof.Defs
public import proofs.«01_k».proof.Proof.Gen.InFwd
public import proofs.«01_k».proof.Proof.InFwd.Data
public import Idealize.ShloMosaic.Lib.Claim

@[expose] public section

set_option maxRecDepth 16384

noncomputable section

namespace Cert.InFwdCall

open Idealize.ShloMosaic Idealize.ShloMosaic.TcCoe Idealize.SL.Sem
open Cert.InFwdIdeal Cert.InFwdIdeal.Gen

/-- The call's run over any float values keeps the arguments and leaves every semaphore at zero. -/
theorem run_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) ((θ_run defs _ _).mono (fun _ h => h.1) (run_all m ρ)))
    ((θ_run defs _ _).mono (fun _ h => h.2) (run_all m ρ))

theorem kernel_frame : Cert.quiescent_InFwdIdeal := fun m ρ _ => run_frame m ρ

set_option maxHeartbeats 1000000 in
theorem same_body : @Cert.InFwd.cc0_in_proj Bits _ _ = @Cert.InFwdIdeal.cc0_in_proj Bits _ _ := rfl

set_option maxHeartbeats 1000000 in
theorem same_table : Cert.InFwd.defs₀ (F := Bits) = Cert.InFwdIdeal.defs₀ (F := Bits) := by
  unfold Cert.InFwd.defs₀ Cert.InFwdIdeal.defs₀
  refine congrArg Defs.onTc (funext fun p => ?_)
  match p with
  | ⟨0, _⟩ => funext a; rfl

set_option maxHeartbeats 1000000 in
theorem same_defs : Cert.InFwd.defs (F := Bits) = Cert.InFwdIdeal.defs (F := Bits) :=
  congrArg (Pipeline.defs Cert.InFwdIdeal.pcfgs) same_table

set_option maxHeartbeats 1000000 in
theorem same_main : Cert.InFwd.main (F := Bits) = Cert.InFwdIdeal.main (F := Bits) := rfl

/-- Equal programs have equal runs. -/
theorem run_of_eq {nD : Nat} {τ : Topo} {sig : RefSig} {Λ : Labels} {Val : EltTy → Type} {D D' : Defs nD τ sig Val Λ}
    {p p' : (c : Thread nD τ) → Prog (TpuEff nD τ sig Val Λ c.2) PUnit} {s : MemSt nD τ sig Val}
    {Q : PUnit × MemSt nD τ sig Val → Prop} (hD : D = D') (hp : p = p') (h : θ_run D' p' s Q) : θ_run D p s Q := by
  subst hD hp
  exact h

set_option maxHeartbeats 1000000 in
theorem printed_frame : Cert.quiescent_InFwd := fun m ρ _ =>
  run_of_eq same_defs (congrArg (onTc (τ := τ)) same_main) (run_frame (F := Bits) m ρ)

end Cert.InFwdCall

end
-- ==== Proof.InFwd.Claim.lean ====
/- The claims about the input projection: its run over the extended reals, the reference's run, and the equality of their two
   results. -/
module

public import proofs.«01_k».proof.Defs
public import proofs.«01_k».proof.Proof.InFwd.Value
public import proofs.«01_k».proof.Proof.InFwd.Printed
public import proofs.«01_k».proof.Proof.Gen.InFwdRefIdeal.Run
public import Idealize.ShloMosaic.Lib.Quiescent
public import Idealize.ShloMosaic.Lib.Claim

@[expose] public section

set_option maxRecDepth 16384

noncomputable section

namespace Cert.InFwdCall

open Idealize.ShloMosaic Idealize.ShloMosaic.TcCoe Idealize.SL.Sem
open Cert.InFwdIdeal Cert.InFwdIdeal.Gen
open Cert.InFwdRefIdeal.Read

/-- The reference's run keeps the arguments; it has no semaphores. -/
theorem reference_frame : Cert.quiescent_InFwdRefIdeal := fun m ρ _ =>
  (θ_run Cert.InFwdRefIdeal.defs _ _).mono
    (fun r h => ⟨fun c => (h c).2.2, sem_eq_zero_of_no_sems (by decide) r.2⟩) (Cert.InFwdRefIdeal.Value.run m ρ)

/-- The call and the reference agree on every entry of both results. -/
theorem agree : Cert.algebraic_InFwdIdeal_InFwdRefIdeal := by
  intro m g m' g' _ hm
  refine ⟨fun c => val_main_v12 (F := Ideal) (a0 m c) (a1 m c), fun c => val_main_v14 (F := Ideal) (a0 m c) (a1 m c) (a2 m c), ?_, ?_⟩
  · refine (θ_run defs _ _).mono (fun r h c => ?_) (θ_run_and (run_all m g) (kernel_frame m g trivial))
    obtain ⟨⟨hf, _⟩, hk, _⟩ := h
    have hw := (hf c).1
    exact ⟨(hw 3).trans (final_normed m c), (hw 4).trans (final_projected m c), hk c⟩
  · refine (θ_run Cert.InFwdRefIdeal.defs _ _).mono (fun r h c => ?_) (Cert.InFwdRefIdeal.Value.run m' g')
    obtain ⟨h0, h1, h2⟩ := hm c
    obtain ⟨r0, r1, hk⟩ := h c
    have q0 := r0.trans (val_main_v12_eq _ _)
    have q1 := r1.trans (val_main_v14_eq _ _ _)
    refine ⟨q0.trans ?_, q1.trans ?_, hk⟩
    · exact congr (congrArg _ h0) h1
    · exact congr (congr (congrArg _ h0) h1) h2

end Cert.InFwdCall

end
-- ==== Proof.FfnFwd.Points.lean ====
/- The schedule of the forward feed-forward part (`ffn_fwd`): its points and the conditions its body branches on. -/
module

public import proofs.«01_k».proof.Proof.Gen.FfnFwdIdeal.Frame
public import proofs.«01_k».proof.Proof.Gen.FfnFwdIdeal.Skeleton
public import Idealize.ShloMosaic.Lib.Pipeline.Value
public import Idealize.ShloMosaic.Lib.Pipeline.TableIdle
public import Idealize.ShloMosaic.Lib.VecWindow

@[expose] public section

set_option maxRecDepth 16384

noncomputable section

namespace Cert.FfnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- There are 16 points. -/
theorem pt_lt (t : Fin cfg0.N) : t.val < 16 := Nat.lt_of_lt_of_eq t.isLt N_0

/-- The block of tokens of a point. -/
theorem row_of (t : Fin cfg0.N) : (grid0.coords t 0).val = t.val / 4 := by
  have e : (grid0.coords t 0).val = t.val / 4 % 4 := Pipeline.Grid.coords_val t 0 (by decide) rfl
  have := pt_lt t
  omega

/-- The block of columns of a point. -/
theorem col_of (t : Fin cfg0.N) : (grid0.coords t 1).val = t.val % 4 := by
  have e : (grid0.coords t 1).val = t.val / 1 % 4 := Pipeline.Grid.coords_val t 1 (by decide) rfl
  omega

/-- The first condition holds at the first block of columns of each block of tokens. -/
theorem fresh_iff (t : Fin cfg0.N) : k0_cond1 (grid0.coords t) = 1#1 ↔ t.val % 4 = 0 := by
  have e1 := col_of t
  have h4 : t.val % 4 < 4 := by omega
  simp only [k0_cond1, e1]
  generalize t.val % 4 = b at *
  word_cmp

/-- The second condition holds at the last block of columns of each block of tokens. -/
theorem last_iff (t : Fin cfg0.N) : k0_cond2 (grid0.coords t) = 1#1 ↔ t.val % 4 = 3 := by
  have e1 := col_of t
  have h4 : t.val % 4 < 4 := by omega
  simp only [k0_cond2, e1]
  generalize t.val % 4 = b at *
  word_cmp

end Cert.FfnFwdIdeal.Gen

end
-- ==== Proof.FfnFwd.RunMid.lean ====
module

public import proofs.«01_k».proof.Proof.FfnFwd.Points

@[expose] public section

set_option maxRecDepth 16384

noncomputable section

namespace Cert.FfnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A load of a whole buffer reads the values it was given. -/
theorem readAt_all {κ : Kind} {sp : Space} {s : Shape} {e : EltTy} {arg : Memref sig κ sp s e} (h : arg.IsWhole) (x : s.Idx → Elt F e)
    {off : Fin s.rank → ℕ} (inb : ∀ a, off a + s.size a ≤ s.size a) :
    View.readAt (Elt F) arg.view (Rect.unit (s := s) off s.size inb).toLoadRect (h.unread x) = x := by
  rw [View.readAt_full, h.read_unread]

set_option maxHeartbeats 1600000 in
/-- Between the first and the last block of columns: from the normalised tokens `s` and the sum `u` so far the body leaves
    the product before the activation and the sum with this block's share. -/
theorem run_mid (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1024 .f32) (harg12 : arg12.IsWhole)
    (hc0 : ¬ k0_cond1 i = 1#1) (hc1 : ¬ k0_cond2 i = 1#1)
    (x2 : Vec F S1x1024x1024 .bf16) (x3 : Vec F S1024x1024 .bf16) (s : Vec F S1024x1024 .bf16) (u : Vec F S1024x1024 .f32) :
    ∀ (E : Set ℕ) (K : PUnit → sProp 𝕄),
      iprop(owns (c : Thread nD τ) arg4 fullShare x2 ∗ owns (c : Thread nD τ) arg5 fullShare x3 ∗ (∃ d, owns (c : Thread nD τ) arg8 fullShare d) ∗ owns (c : Thread nD τ) arg11 fullShare s ∗ owns (c : Thread nD τ) arg12 fullShare u
          ∗ (iprop(owns (c : Thread nD τ) arg4 fullShare x2 ∗ owns (c : Thread nD τ) arg5 fullShare x3 ∗ owns (c : Thread nD τ) arg8 fullShare (k0_pay5 s x2) ∗ owns (c : Thread nD τ) arg11 fullShare s ∗ owns (c : Thread nD τ) arg12 fullShare (k0_pay6 s x2 u x3)) -∗ K ⟨⟩))
        ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12) K := by
  intro E K
  simp only [cc0_ffn_fwd_eq_skeleton]; unfold cc0_ffn_fwd_skel
  unfold owns
  iintro ⟨⟨%f2, %hf2, H2⟩, ⟨%f3, %hf3, H3⟩, ⟨%d6, %f6, -, H6⟩, ⟨%f9, %hf9, HS0⟩, ⟨%f10, %hf10, HS1⟩, Hk⟩
  obtain rfl := harg4.eq_unread hf2; obtain rfl := harg5.eq_unread hf3; obtain rfl := harg11.eq_unread hf9; obtain rfl := harg12.eq_unread hf10
  sl_exec (disch := first | sl_exact hc0 | sl_exact hc1)
  sl_step
  iapply Hk
  isplitl [H2]
  · iexists _; isplitr; · ipureintro; exact harg4.read_unread _
    iexact H2
  isplitl [H3]
  · iexists _; isplitr; · ipureintro; exact harg5.read_unread _
    iexact H3
  isplitl [H6]
  · iexists _; isplitr; swap; · iexact H6
    ipureintro
    rw [View.read_writes_full, readAt_all, readAt_all]
  isplitl [HS0]
  · iexists _; isplitr; · ipureintro; exact harg11.read_unread _
    iexact HS0
  iexists _; isplitr; swap; · iexact HS1
  ipureintro
  rw [View.read_writes_full, readAt_all, readAt_all, readAt_all, readAt_all]

end Cert.FfnFwdIdeal.Gen

end
-- ==== Proof.FfnFwd.RunLast.lean ====
module

public import proofs.«01_k».proof.Proof.FfnFwd.RunMid

@[expose] public section

set_option maxRecDepth 16384

noncomputable section

namespace Cert.FfnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- At the last block of columns: as between, and the body leaves the sum and the tokens with the norm of the sum added. -/
theorem run_last (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1024 .f32) (harg12 : arg12.IsWhole)
    (hc0 : ¬ k0_cond1 i = 1#1) (hc1 : k0_cond2 i = 1#1)
    (x0 : Vec F S1024x1024 .f32) (x2 : Vec F S1x1024x1024 .bf16) (x3 : Vec F S1024x1024 .bf16) (x4 : Vec F S1x1024 .f32) (s : Vec F S1024x1024 .bf16) (u : Vec F S1024x1024 .f32) :
    ∀ (E : Set ℕ) (K : PUnit → sProp 𝕄),
      iprop(owns (c : Thread nD τ) arg2 fullShare x0 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare s ∗ owns (c : Thread nD τ) arg12 fullShare u
          ∗ (iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg8 fullShare (k0_pay5 s x2) ∗ owns (c : Thread nD τ) arg9 fullShare (k0_pay7 (k0_pay6 s x2 u x3)) ∗ owns (c : Thread nD τ) arg10 fullShare (k0_pay8 (k0_pay6 s x2 u x3) x0 x4) ∗ owns (c : Thread nD τ) arg11 fullShare s ∗ owns (c : Thread nD τ) arg12 fullShare (k0_pay6 s x2 u x3)) -∗ K ⟨⟩))
        ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12) K := by
  intro E K
  simp only [cc0_ffn_fwd_eq_skeleton]; unfold cc0_ffn_fwd_skel
  unfold owns
  iintro ⟨⟨%f0, %hf0, H0⟩, ⟨%f2, %hf2, H2⟩, ⟨%f3, %hf3, H3⟩, ⟨%f4, %hf4, H4⟩, ⟨%d6, %f6, -, H6⟩, ⟨%d7, %f7, -, H7⟩, ⟨%d8, %f8, -, H8⟩, ⟨%f9, %hf9, HS0⟩, ⟨%f10, %hf10, HS1⟩, Hk⟩
  obtain rfl := harg2.eq_unread hf0; obtain rfl := harg4.eq_unread hf2; obtain rfl := harg5.eq_unread hf3; obtain rfl := harg6.eq_unread hf4; obtain rfl := harg11.eq_unread hf9; obtain rfl := harg12.eq_unread hf10
  sl_exec (disch := first | sl_exact hc0 | sl_exact hc1)
  sl_step
  iapply Hk
  isplitl [H0]
  · iexists _; isplitr; · ipureintro; exact harg2.read_unread _
    iexact H0
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H6]
  · iexists _; isplitr; swap; · iexact H6
    ipureintro
    rw [View.read_writes_full, readAt_all, readAt_all]
  isplitl [H7]
  · iexists _; isplitr; swap; · iexact H7
    ipureintro
    delta run_last.sl.v24; delta run_last.sl.HS1_1; rw [View.readCov_full, View.read_writes_full, readAt_all, readAt_all, readAt_all, readAt_all]
  isplitl [H8]
  · iexists _; isplitr; swap; · iexact H8
    ipureintro
    delta run_last.sl.v24; delta run_last.sl.HS1_1; rw [View.readCov_full, View.read_writes_full, readAt_all, readAt_all, readAt_all, readAt_all, readAt_all, readAt_all]
  isplitl [HS0]
  · iexists _; isplitr; · ipureintro; exact harg11.read_unread _
    iexact HS0
  iexists _; isplitr; swap; · iexact HS1
  ipureintro
  delta run_last.sl.HS1_1; rw [View.read_writes_full, readAt_all, readAt_all, readAt_all, readAt_all]

end Cert.FfnFwdIdeal.Gen

end
-- ==== Proof.FfnFwd.RunFresh.lean ====
module

public import proofs.«01_k».proof.Proof.FfnFwd.RunLast

@[expose] public section

set_option maxRecDepth 16384

noncomputable section

namespace Cert.FfnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- At the first block of columns the body normalises the tokens, keeps them, and starts the sum from zero. -/
theorem run_fresh (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1024 .f32) (harg12 : arg12.IsWhole)
    (hc0 : k0_cond1 i = 1#1) (hc1 : ¬ k0_cond2 i = 1#1)
    (x0 : Vec F S1024x1024 .f32) (x1 : Vec F S1x1024 .f32) (x2 : Vec F S1x1024x1024 .bf16) (x3 : Vec F S1024x1024 .bf16) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ (∃ d, owns (c : Thread nD τ) arg11 fullShare d) ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare (k0_pay1 x0 x1) ∗ owns (c : Thread nD τ) arg8 fullShare (k0_pay5 (k0_pay2 x0 x1) x2) ∗ owns (c : Thread nD τ) arg11 fullShare (k0_pay2 x0 x1) ∗ owns (c : Thread nD τ) arg12 fullShare (k0_pay6 (k0_pay2 x0 x1) x2 k0_pay3 x3)) -∗ K ⟨⟩))
        ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12) K := by
  intro E K
  simp only [cc0_ffn_fwd_eq_skeleton]; unfold cc0_ffn_fwd_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%d9, %f9, -, HS0⟩, ⟨%d10, %f10, -, HS1⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H5]
  · iexists _; isplitr; swap; · iexact H5
    ipureintro
    rw [View.read_writes_full, readAt_all, readAt_all]
  isplitl [H6]
  · iexists _; isplitr; swap; · iexact H6
    ipureintro
    rw [View.read_writes_full, readAt_all]; delta run_fresh.sl.v3; delta run_fresh.sl.HS0_1; rw [View.readCov_full, readAt_all, readAt_all]
  isplitl [HS0]
  · iexists _; isplitr; swap; · iexact HS0
    ipureintro
    delta run_fresh.sl.HS0_1; rw [View.read_writes_full, readAt_all, readAt_all]
  iexists _; isplitr; swap; · iexact HS1
  ipureintro
  rw [View.read_writes_full, readAt_all, readAt_all]; delta run_fresh.sl.v3; delta run_fresh.sl.HS0_1; delta run_fresh.sl.v11; delta run_fresh.sl.HS1_1; rw [View.readCov_full, readAt_all, readAt_all, View.readCov_full]

end Cert.FfnFwdIdeal.Gen

end
-- ==== Proof.FfnFwd.Data.lean ====
module

public import proofs.«01_k».proof.Proof.FfnFwd.RunFresh

@[expose] public section

set_option maxRecDepth 16384

noncomputable section

namespace Cert.FfnFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the block of tokens that point `t` belongs to. -/
def rowPt (t : Fin cfg0.N) : Fin cfg0.N := ⟨t.val - t.val % 4, by have := t.isLt; omega⟩

theorem rowPt_fresh (t : Fin cfg0.N) (h : t.val % 4 = 0) : rowPt t = t := Fin.ext (by simp only [rowPt]; omega)

theorem rowPt_pred (t : Fin cfg0.N) (h : t.val % 4 ≠ 0) : rowPt ⟨t.val - 1, by omega⟩ = rowPt t :=
  Fin.ext (by simp only [rowPt]; omega)

/-- The normalised tokens of the block of point `t`, -/
def hAt (c : Dev nD) (t : Fin cfg0.N) : Vec F S1024x1024 .bf16 := k0_pay1 (iblk m c 0 (rowPt t)) (iblk m c 1 (rowPt t))

/-- and as the scratch buffer holds them. -/
def scrAt (c : Dev nD) (t : Fin cfg0.N) : Vec F S1024x1024 .bf16 := k0_pay2 (iblk m c 0 (rowPt t)) (iblk m c 1 (rowPt t))

theorem hAt_pred (c : Dev nD) (t : Fin cfg0.N) (h : t.val % 4 ≠ 0) : hAt m c ⟨t.val - 1, by omega⟩ = hAt m c t := by
  unfold hAt; rw [rowPt_pred t h]
theorem scrAt_pred (c : Dev nD) (t : Fin cfg0.N) (h : t.val % 4 ≠ 0) : scrAt m c ⟨t.val - 1, by omega⟩ = scrAt m c t := by
  unfold scrAt; rw [rowPt_pred t h]

/-- The second product, summed over the blocks of columns up to point `n`. -/
def accAt (c : Dev nD) : (n : ℕ) → n < cfg0.N → Vec F S1024x1024 .f32
  | 0, h => k0_pay6 (scrAt m c ⟨0, h⟩) (iblk m c 2 ⟨0, h⟩) k0_pay3 (iblk m c 3 ⟨0, h⟩)
  | n + 1, h =>
    if (n + 1) % 4 = 0 then k0_pay6 (scrAt m c ⟨n + 1, h⟩) (iblk m c 2 ⟨n + 1, h⟩) k0_pay3 (iblk m c 3 ⟨n + 1, h⟩)
    else k0_pay6 (scrAt m c ⟨n + 1, h⟩) (iblk m c 2 ⟨n + 1, h⟩) (accAt c n (Nat.lt_of_succ_lt h)) (iblk m c 3 ⟨n + 1, h⟩)

/-- The same at a point. -/
def accPt (c : Dev nD) (t : Fin cfg0.N) : Vec F S1024x1024 .f32 := accAt m c t.val t.isLt

theorem accPt_fresh (c : Dev nD) (t : Fin cfg0.N) (h : t.val % 4 = 0) :
    accPt m c t = k0_pay6 (scrAt m c t) (iblk m c 2 t) k0_pay3 (iblk m c 3 t) := by
  obtain ⟨_ | n, ht⟩ := t
  · rfl
  · exact if_pos h

theorem accPt_rest (c : Dev nD) (t : Fin cfg0.N) (h : t.val % 4 ≠ 0) :
    accPt m c t = k0_pay6 (scrAt m c t) (iblk m c 2 t) (accPt m c ⟨t.val - 1, by omega⟩) (iblk m c 3 t) := by
  obtain ⟨_ | n, ht⟩ := t
  · exact absurd rfl h
  · exact if_neg h

/-- What the region holds beside the windows before point `n`: inside a block of tokens the scratch buffers at what
    the point before left there; between two blocks anything. -/
def held (c : Dev nD) (n : ℕ) (hn : n ≤ cfg0.N) : sProp 𝕄 :=
  if h : n % 4 = 0 then Pipeline.ΦA spec0 c
  else iprop(iprop(owns (c : Thread nD τ) (Memref.whole cc0_scratch0) fullShare (scrAt m c ⟨n - 1, by omega⟩) ∗ owns (c : Thread nD τ) (Memref.whole cc0_scratch1) fullShare (accPt m c ⟨n - 1, by omega⟩)) ∗ (∃ r, prngReg c r))

theorem held_fresh (c : Dev nD) (n : ℕ) (hn : n ≤ cfg0.N) (h : n % 4 = 0) : held m c n hn = Pipeline.ΦA spec0 c := dif_pos h

theorem held_rest (c : Dev nD) (t : Fin cfg0.N) (h : t.val % 4 ≠ 0) :
    held m c t.val (Nat.le_of_lt t.isLt)
      = iprop(iprop(owns (c : Thread nD τ) (Memref.whole cc0_scratch0) fullShare (scrAt m c ⟨t.val - 1, by omega⟩) ∗ owns (c : Thread nD τ) (Memref.whole cc0_scratch1) fullShare (accPt m c ⟨t.val - 1, by omega⟩)) ∗ (∃ r, prngReg c r)) := dif_neg h

/-- The scratch buffers at anything, as the region is entered and left. -/
theorem loose_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body leaves in the scratch buffers is what is held before the next point. -/
theorem held_give (c : Dev nD) (t : Fin cfg0.N) :
    iprop(iprop(owns (c : Thread nD τ) (Memref.whole cc0_scratch0) fullShare (scrAt m c t) ∗ owns (c : Thread nD τ) (Memref.whole cc0_scratch1) fullShare (accPt m c t)) ∗ (∃ r, prngReg c r)) ⊢ held m c (t.val + 1) t.isLt := by
  by_cases h : (t.val + 1) % 4 = 0
  · rw [held_fresh m c _ _ h, loose_eq]
    iintro ⟨⟨HS0, HS1⟩, Hg⟩
    isplitl [HS0 HS1]
    · isplitl [HS0]; · iexists _; iexact HS0
      iexists _; iexact HS1
    iexact Hg
  · unfold held; rw [dif_neg h]; exact .rfl

/-- The proof data: what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hAt m c t
    | ⟨6, _⟩ => k0_pay5 (scrAt m c t) (iblk m c 2 t)
    | ⟨7, _⟩ => k0_pay7 (accPt m c t)
    | ⟨8, _⟩ => k0_pay8 (accPt m c t) (iblk m c 0 t) (iblk m c 4 t)
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) : (dats m 0 c).Φ t.castSucc = held m c t.val (Nat.le_of_lt t.isLt) := by
  dsimp only [dats]; exact Pipeline.Dat.Φ_castSucc (held m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = hAt m c t := by dsimp only [dats]
theorem after_6 (c : Dev nD) (t : Fin cfg0.N) : (dats m 0 c).after 6 t = k0_pay5 (scrAt m c t) (iblk m c 2 t) := by dsimp only [dats]
theorem after_7 (c : Dev nD) (t : Fin cfg0.N) : (dats m 0 c).after 7 t = k0_pay7 (accPt m c t) := by dsimp only [dats]
theorem after_8 (c : Dev nD) (t : Fin cfg0.N) : (dats m 0 c).after 8 t = k0_pay8 (accPt m c t) (iblk m c 0 t) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The points at which window 5 is left alone. -/
theorem idle_5 : ∀ t : Fin cfg0.N, cfg0.idle 5 (grid0.coords t) = true ↔ t.val % 4 ≠ 0 :=
  (by decide +kernel : ∀ t : Fin grid0.N, cfg0.idle 5 (grid0.coords t) = true ↔ t.val % 4 ≠ 0)
/-- The points at which window 7 is left alone. -/
theorem idle_7 : ∀ t : Fin cfg0.N, cfg0.idle 7 (grid0.coords t) = true ↔ t.val % 4 ≠ 3 :=
  (by decide +kernel : ∀ t : Fin grid0.N, cfg0.idle 7 (grid0.coords t) = true ↔ t.val % 4 ≠ 3)
/-- The points at which window 8 is left alone. -/
theorem idle_8 : ∀ t : Fin cfg0.N, cfg0.idle 8 (grid0.coords t) = true ↔ t.val % 4 ≠ 3 :=
  (by decide +kernel : ∀ t : Fin grid0.N, cfg0.idle 8 (grid0.coords t) = true ↔ t.val % 4 ≠ 3)
/-- Window 7 is not written back at a point at which it is left alone. -/
theorem quiet_7 : ∀ t : Fin cfg0.N, t.val % 4 ≠ 3 → (cfg0.win 7).flush t = false :=
  (by decide +kernel : ∀ t : Fin grid0.N, t.val % 4 ≠ 3 → (cfg0.win 7).flush t = false)
/-- Window 8 is not written back at a point at which it is left alone. -/
theorem quiet_8 : ∀ t : Fin cfg0.N, t.val % 4 ≠ 3 → (cfg0.win 8).flush t = false :=
  (by decide +kernel : ∀ t : Fin grid0.N, t.val % 4 ≠ 3 → (cfg0.win 8).flush t = false)
/-- Window 5's buffer holds what the points before stored. -/
theorem notFresh_5 : ∀ t : Fin cfg0.N, t.val % 4 ≠ 0 → cfg0.fresh 5 t.val = false :=
  (by decide +kernel : ∀ t : Fin grid0.N, t.val % 4 ≠ 0 → cfg0.fresh 5 t.val = false)

theorem before_5 (c : Dev nD) (t : Fin cfg0.N) (h : t.val % 4 ≠ 0) (d) : (dats m 0 c).before 5 t d = (dats m 0 c).after 5 t := by
  rw [(dats m 0 c).before_out_traj 5 rfl (fun _ _ => rfl) (fun t _ hi _ => by
      rw [after_5, after_5, hAt_pred m c t ((idle_5 t).mp hi)]) t.val t rfl d,
    notFresh_5 t h, if_neg Bool.false_ne_true, after_5, after_5, hAt_pred m c t h]

/-- A buffer left alone at a point, holding what the proof data state after it, is handed back as they ask. -/
theorem leaves_of_idle {c : Dev nD} (dat : Dat τ (Elt F) Unit ℕ (UR sig nD τ) ℕ cfg0 c) (w : Fin cfg0.W) (t : Fin cfg0.N)
    (hi : cfg0.idle w (grid0.coords t) = true) (d) (h : dat.before w t d = dat.after w t) :
    owns (c : Thread nD τ) ((cfg0.win w).stage (cfg0.slots t w)) fullShare (dat.before w t d) ⊢ dat.leavesExact w t := by
  cases hf : (cfg0.win w).flush t
  · rw [dat.leavesExact_idle w t hi hf]
    iintro H
    iexists d
    iexact H
  · have e : dat.leavesExact w t = owns (c : Thread nD τ) ((cfg0.win w).stage (cfg0.slots t w)) fullShare (dat.after w t) := by
      unfold Dat.leavesExact; rw [hi, hf]
    rw [e, h]

/-- A buffer left alone at a point after which it isn't written back is handed back whatever it holds. -/
theorem leaves_of_quiet {c : Dev nD} (dat : Dat τ (Elt F) Unit ℕ (UR sig nD τ) ℕ cfg0 c) (w : Fin cfg0.W) (t : Fin cfg0.N)
    (hi : cfg0.idle w (grid0.coords t) = true) (d) (hf : (cfg0.win w).flush t = false) :
    owns (c : Thread nD τ) ((cfg0.win w).stage (cfg0.slots t w)) fullShare (dat.before w t d) ⊢ dat.leavesExact w t := by
  rw [dat.leavesExact_idle w t hi hf]
  iintro H
  iexists d
  iexact H

/-- A buffer stored at a point is handed back at what the proof data state after it. -/
theorem leaves_of_live {c : Dev nD} (dat : Dat τ (Elt F) Unit ℕ (UR sig nD τ) ℕ cfg0 c) (w : Fin cfg0.W) (t : Fin cfg0.N)
    (hi : cfg0.idle w (grid0.coords t) = false) :
    dat.leavesExact w t = owns (c : Thread nD τ) ((cfg0.win w).stage (cfg0.slots t w)) fullShare (dat.after w t) := by
  unfold Dat.leavesExact; rw [hi]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 3600000 in
/-- The body between the first and the last block of columns. -/
theorem body_mid (c : Dev nD) (t : Fin cfg0.N) (h : t.val % 4 ≠ 0) (h3 : t.val % 4 ≠ 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = held m c (t.val + 1) t.isLt from rfl, held_castSucc]
  rw [held_rest m c t h, scrAt_pred m c t h]
  rw [leaves_of_live (dats m 0 c) 0 t rfl, after_0]
  rw [leaves_of_live (dats m 0 c) 1 t rfl, after_1]
  rw [leaves_of_live (dats m 0 c) 2 t rfl, after_2]
  rw [leaves_of_live (dats m 0 c) 3 t rfl, after_3]
  rw [leaves_of_live (dats m 0 c) 4 t rfl, after_4]
  rw [leaves_of_live (dats m 0 c) 6 t rfl, after_6]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_mid c (grid0.coords t) _ _ _ _ _ _ _ _ _ _ _ _ _ _ _ _ _ _ _ _ _ _ (fun hc => h ((fresh_iff t).mp hc)) (fun hc => h3 ((last_iff t).mp hc)) (iblk m c 2 t) (iblk m c 3 t) (scrAt m c t) (accPt m c ⟨t.val - 1, by omega⟩) Set.univ _)
  isplitl [H2]; · iexact H2
  isplitl [H3]; · iexact H3
  isplitl [H6]; · iexists _; iexact H6
  isplitl [HS0]; · iexact HS0
  isplitl [HS1]; · iexact HS1
  iintro ⟨H2, H3, H6, HS0, HS1⟩
  isplitl [HS0 HS1 Hg]
  · iapply (held_give m c t)
    isplitl [HS0 HS1]
    · isplitl [HS0]; · iexact HS0
      rw [accPt_rest m c t h]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (leaves_of_idle (dats m 0 c) 5 t ((idle_5 t).mpr h) d5 (before_5 m c t h d5)); iexact H5
  isplitl [H6]; · iexact H6
  isplitl [H7]; · iapply (leaves_of_quiet (dats m 0 c) 7 t ((idle_7 t).mpr (by omega)) d7 (quiet_7 t (by omega))); iexact H7
  iapply (leaves_of_quiet (dats m 0 c) 8 t ((idle_8 t).mpr (by omega)) d8 (quiet_8 t (by omega))); iexact H8

set_option maxHeartbeats 3600000 in
/-- The body at the last block of columns. -/
theorem body_last (c : Dev nD) (t : Fin cfg0.N) (h3 : t.val % 4 = 3) :
    bodyPre m c t ⊢ wp frame (wpE (defs₀ (F := F)) Variants.none c none) Set.univ (bodyAt0 t) (fun _ => bodyPost m c t) := by
  have h : t.val % 4 ≠ 0 := by omega
  unfold bodyPre bodyPost bodyAt0
  simp only [before_0, before_1, before_2, before_3, before_4]
  rw [show (dats m 0 c).owesAt () t.succ = (dats m 0 c).owesAt () t.castSucc from rfl]
  rw [show (dats m 0 c).Φ t.succ = held m c (t.val + 1) t.isLt from rfl, held_castSucc]
  rw [held_rest m c t h, scrAt_pred m c t h]
  rw [leaves_of_live (dats m 0 c) 0 t rfl, after_0]
  rw [leaves_of_live (dats m 0 c) 1 t rfl, after_1]
  rw [leaves_of_live (dats m 0 c) 2 t rfl, after_2]
  rw [leaves_of_live (dats m 0 c) 3 t rfl, after_3]
  rw [leaves_of_live (dats m 0 c) 4 t rfl, after_4]
  rw [leaves_of_live (dats m 0 c) 6 t rfl, after_6]
  rw [leaves_of_live (dats m 0 c) 7 t (Bool.eq_false_iff.mpr fun hi => (idle_7 t).mp hi h3), after_7]
  rw [leaves_of_live (dats m 0 c) 8 t (Bool.eq_false_iff.mpr fun hi => (idle_8 t).mp hi h3), after_8]
  rw [accPt_rest m c t h]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_last c (grid0.coords t) _ _ _ _ _ _ _ _ _ _ _ _ _ _ _ _ _ _ _ _ _ _ (fun hc => h ((fresh_iff t).mp hc)) ((last_iff t).mpr h3) (iblk m c 0 t) (iblk m c 2 t) (iblk m c 3 t) (iblk m c 4 t) (scrAt m c t) (accPt m c ⟨t.val - 1, by omega⟩) Set.univ _)
  isplitl [H0]; · iexact H0
  isplitl [H2]; · iexact H2
  isplitl [H3]; · iexact H3
  isplitl [H4]; · iexact H4
  isplitl [H6]; · iexists _; iexact H6
  isplitl [H7]; · iexists _; iexact H7
  isplitl [H8]; · iexists _; iexact H8
  isplitl [HS0]; · iexact HS0
  isplitl [HS1]; · iexact HS1
  iintro ⟨H0, H2, H3, H4, H6, H7, H8, HS0, HS1⟩
  isplitl [HS0 HS1 Hg]
  · iapply (held_give m c t)
    isplitl [HS0 HS1]
    · isplitl [HS0]; · iexact HS0
      rw [accPt_rest m c t h]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (leaves_of_idle (dats m 0 c) 5 t ((idle_5 t).mpr h) d5 (before_5 m c t h d5)); iexact H5
  isplitl [H6]; · iexact H6
  isplitl [H7]; · iexact H7
  iexact H8

set_option maxHeartbeats 3600000 in
/-- The body at the first block of columns. -/
theorem body_fresh (c : Dev nD) (t : Fin cfg0.N) (h : t.val % 4 = 0) :
    bodyPre m c t ⊢ wp frame (wpE (defs₀ (F := F)) Variants.none c none) Set.univ (bodyAt0 t) (fun _ => bodyPost m c t) := by
  have hr := rowPt_fresh t h
  have e5 : hAt m c t = k0_pay1 (iblk m c 0 t) (iblk m c 1 t) := by unfold hAt; rw [hr]
  have es : scrAt m c t = k0_pay2 (iblk m c 0 t) (iblk m c 1 t) := by unfold scrAt; rw [hr]
  unfold bodyPre bodyPost bodyAt0
  simp only [before_0, before_1, before_2, before_3, before_4]
  rw [show (dats m 0 c).owesAt () t.succ = (dats m 0 c).owesAt () t.castSucc from rfl]
  rw [show (dats m 0 c).Φ t.succ = held m c (t.val + 1) t.isLt from rfl, held_castSucc]
  rw [held_fresh m c _ _ h, loose_eq]
  rw [leaves_of_live (dats m 0 c) 0 t rfl, after_0]
  rw [leaves_of_live (dats m 0 c) 1 t rfl, after_1]
  rw [leaves_of_live (dats m 0 c) 2 t rfl, after_2]
  rw [leaves_of_live (dats m 0 c) 3 t rfl, after_3]
  rw [leaves_of_live (dats m 0 c) 4 t rfl, after_4]
  rw [leaves_of_live (dats m 0 c) 5 t (Bool.eq_false_iff.mpr fun hi => (idle_5 t).mp hi h), after_5]
  rw [leaves_of_live (dats m 0 c) 6 t rfl, after_6]
  rw [e5, es]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_fresh c (grid0.coords t) _ _ _ _ _ _ _ _ _ _ _ _ _ _ _ _ _ _ _ _ _ _ ((fresh_iff t).mpr h) (fun hc => by have := (last_iff t).mp hc; omega) (iblk m c 0 t) (iblk m c 1 t) (iblk m c 2 t) (iblk m c 3 t)  Set.univ _)
  isplitl [H0]; · iexact H0
  isplitl [H1]; · iexact H1
  isplitl [H2]; · iexact H2
  isplitl [H3]; · iexact H3
  isplitl [H5]; · iexists _; iexact H5
  isplitl [H6]; · iexists _; iexact H6
  isplitl [HS0]; · iexact HS0
  isplitl [HS1]; · iexact HS1
  iintro ⟨H0, H1, H2, H3, H5, H6, HS0, HS1⟩
  isplitl [HS0 HS1 Hg]
  · iapply (held_give m c t)
    isplitl [HS0 HS1]
    · isplitl [HS0]; · rw [es]; iexact HS0
      rw [accPt_fresh m c t h, es]; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves_of_quiet (dats m 0 c) 7 t ((idle_7 t).mpr (by omega)) d7 (quiet_7 t (by omega))); iexact H7
  iapply (leaves_of_quiet (dats m 0 c) 8 t ((idle_8 t).mpr (by omega)) d8 (quiet_8 t (by omega))); iexact H8

theorem body_any (c : Dev nD) (t : Fin cfg0.N) :
    bodyPre m c t ⊢ wp frame (wpE (defs₀ (F := F)) Variants.none c none) Set.univ (bodyAt0 t) (fun _ => bodyPost m c t) := by
  by_cases h : t.val % 4 = 0
  · exact body_fresh m c t h
  · by_cases h3 : t.val % 4 = 3
    · exact body_last m c t h3
    · exact body_mid m c t h h3

/-- The body keeps to the proof data at every point. -/
theorem body_keeps (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body_any m c t) rfl .rfl fun _ => .rfl

theorem held_in (c : Dev nD) : Pipeline.ΦA spec0 c ⊢ (dats m 0 c).Φ 0 := by
  rw [show (dats m 0 c).Φ 0 = held m c 0 (Nat.zero_le _) from rfl, held_fresh m c 0 _ rfl]

theorem held_out (c : Dev nD) : (dats m 0 c).Φ (Fin.last cfg0.N) ⊢ Pipeline.ΦA spec0 c := by
  rw [show (dats m 0 c).Φ (Fin.last cfg0.N) = held m c cfg0.N (Nat.le_refl _) from rfl,
    held_fresh m c _ _ (by have : cfg0.N = 16 := N_0; omega)]

set_option backward.isDefEq.respectTransparency.types false in
/-- Every execution of the program ends, every array of the call at what the proof data compute, every other buffer
    as the call found it, every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_keeps m c).loose) (hshare := fun c => (dats m 0 c).share_full fun _ => rfl)
    (howed := fun _ _ => rfl) (V := V m) (hmain := hmain m Variants.none) (hA := A_eq m) (hin := held_in m) (hout := held_out m)

end Cert.FfnFwdIdeal.Gen

end
-- ==== Proof.FfnFwd.Value.lean ====
/- The feed-forward part: the reference's results, the blocks the body finds, and the four arrays the run leaves, each read one
   entry at a time. -/
module

public import proofs.«01_k».proof.Proof.FfnFwd.Data
public import proofs.«01_k».proof.Proof.Gen.FfnFwdRefIdeal.Read
public import proofs.«01_k».proof.Proof.RowNorm
public import Idealize.ShloMosaic.Lib.Pointwise
public import Idealize.ShloMosaic.Lib.Pipeline.ValueKit.Geometry

@[expose] public section

set_option maxRecDepth 16384

noncomputable section

namespace Cert.FfnFwdCall

open Idealize.ShloMosaic Idealize.ShloMosaic.TcCoe Idealize.SL.Sem
open Cert.FfnFwdIdeal Cert.FfnFwdIdeal.Gen
open Cert.FfnFwdRefIdeal.Read

section Formulas
variable (x : FVec Ideal S4096x1024 .f32) (g : FVec Ideal S1x1024 .f32) (w : FVec Ideal S1024x4096 .f32) (v : FVec Ideal S4096x1024 .f32)
  (g' : FVec Ideal S1x1024 .f32)

/-- The normalised tokens, -/
def normed (r : Fin 4096) (l : Fin 1024) : EReal := x (ix2 r l) * RowNorm.rowScale (fun k => x (ix2 r k)) * g (ix2 0 l)

/-- the hidden layer before the activation, -/
def hidden (r l : Fin 4096) : EReal := ∑ k : Fin 1024, normed x g r k * w (ix2 k l)

/-- the activation, the square of the positive part, -/
def act (a : EReal) : EReal := max a 0 * max a 0

/-- the second projection, -/
def ffn (r : Fin 4096) (l : Fin 1024) : EReal := ∑ k : Fin 4096, act (hidden x g w r k) * v (ix2 k l)

/-- and the tokens with its normalised rows added. -/
def added (r : Fin 4096) (l : Fin 1024) : EReal :=
  x (ix2 r l) + ffn x g w v r l * RowNorm.rowScale (fun k => ffn x g w v r k) * g' (ix2 0 l)

theorem ref_normed (r : Fin 4096) (l : Fin 1024) : val_main_v11 (F := Ideal) x g (ix2 r l) = normed x g r l := by
  pointwise [val_main_v0, val_main_cst, val_main_v1, val_main_v2, val_main_cst_0, val_main_v3, val_main_v4, val_main_cst_1, val_main_v5, val_main_v6, val_main_v7, val_main_v8, val_main_v9, val_main_v10, val_main_v11, normed, RowNorm.rowScale, RowNorm.guarded]
  try simp

theorem ref_hidden (r l : Fin 4096) : val_main_v12 (F := Ideal) x g w (ix2 r l) = hidden x g w r l := by
  unfold hidden
  simp only [← ref_normed]
  unfold val_main_v12
  generalize val_main_v11 (F := Ideal) x g = p
  pointwise []
  try simp

theorem ref_act (r l : Fin 4096) : val_main_v14 (F := Ideal) x g w (ix2 r l) = act (hidden x g w r l) := by
  rw [← ref_hidden]
  unfold val_main_v14 val_main_v13
  generalize val_main_v12 (F := Ideal) x g w = p
  pointwise [val_main_call0_cst, val_main_call0_v0, act]
  try simp

theorem ref_ffn (r : Fin 4096) (l : Fin 1024) : val_main_v15 (F := Ideal) x g w v (ix2 r l) = ffn x g w v r l := by
  unfold ffn
  simp only [← ref_act]
  unfold val_main_v15
  generalize val_main_v14 (F := Ideal) x g w = p
  pointwise []
  try simp

theorem ref_added (r : Fin 4096) (l : Fin 1024) : val_main_v31 (F := Ideal) x g w v g' (ix2 r l) = added x g w v g' r l := by
  unfold added
  simp only [← ref_ffn]
  unfold val_main_v31 val_main_v30 val_main_v28 val_main_v27 val_main_v26 val_main_v25 val_main_v23 val_main_v21 val_main_v20 val_main_v19
  generalize val_main_v15 (F := Ideal) x g w v = p
  pointwise [val_main_cst_2, val_main_cst_3, val_main_v22, val_main_cst_4, val_main_v24, val_main_v29, RowNorm.rowScale, RowNorm.guarded]
  try simp

theorem pay_normed (u : FVec Ideal S1024x1024 .f32) (r l : Fin 1024) :
    k0_pay1 (F := Ideal) u g (ix2 r l) = u (ix2 r l) * RowNorm.rowScale (fun k => u (ix2 r k)) * g (ix2 0 l) := by
  pointwise [k0_pay1, RowNorm.rowScale, RowNorm.guarded]
  try simp

theorem pay_scratch (u : FVec Ideal S1024x1024 .f32) (r l : Fin 1024) : k0_pay2 (F := Ideal) u g (ix2 r l) = k0_pay1 (F := Ideal) u g (ix2 r l) := by
  unfold k0_pay2
  generalize k0_pay1 (F := Ideal) u g = q
  pointwise []

theorem pay_hidden (h : FVec Ideal S1024x1024 .bf16) (u : FVec Ideal S1x1024x1024 .bf16) (r l : Fin 1024) :
    k0_pay4 (F := Ideal) h u (ix2 r l) = ∑ k : Fin 1024, h (ix2 r k) * u (ix3 0 k l) := by
  pointwise [k0_pay4]
  try simp

theorem pay_sum (h : FVec Ideal S1024x1024 .bf16) (u : FVec Ideal S1x1024x1024 .bf16) (s : FVec Ideal S1024x1024 .f32)
    (y : FVec Ideal S1024x1024 .bf16) (r l : Fin 1024) :
    k0_pay6 (F := Ideal) h u s y (ix2 r l) = s (ix2 r l) + ∑ k : Fin 1024, act (k0_pay4 (F := Ideal) h u (ix2 r k)) * y (ix2 k l) := by
  unfold k0_pay6
  generalize k0_pay4 (F := Ideal) h u = p
  pointwise [act]
  try simp

theorem pay_zero (r l : Fin 1024) : k0_pay3 (F := Ideal) (ix2 r l) = 0 := by
  pointwise [k0_pay3]
  try simp

theorem pay_added (s u : FVec Ideal S1024x1024 .f32) (r l : Fin 1024) :
    k0_pay8 (F := Ideal) s u g (ix2 r l) = u (ix2 r l) + s (ix2 r l) * RowNorm.rowScale (fun k => s (ix2 r k)) * g (ix2 0 l) := by
  pointwise [k0_pay8, RowNorm.rowScale, RowNorm.guarded]
  try simp

end Formulas

variable (m : (ℓ : Loc nD τ sig) → Buf (Elt Ideal) ℓ) (c : Dev nD)

/-- The five arguments: the tokens, the first norm's gain, the two weights and the second norm's gain. -/
abbrev a0 : FVec Ideal S4096x1024 .f32 := m ((c : Thread nD τ).loc main_arg0)
abbrev a1 : FVec Ideal S1x1024 .f32 := m ((c : Thread nD τ).loc main_arg1)
abbrev a2 : FVec Ideal S1024x4096 .f32 := m ((c : Thread nD τ).loc main_arg2)
abbrev a3 : FVec Ideal S4096x1024 .f32 := m ((c : Thread nD τ).loc main_arg3)
abbrev a4 : FVec Ideal S1x1024 .f32 := m ((c : Thread nD τ).loc main_arg4)

/-- Row `r` of the block of tokens of point `t`, -/
abbrev row (t : Fin cfg0.N) (r : Fin 1024) : Fin 4096 := ⟨t.val / 4 * 1024 + r.val, by have := pt_lt t; omega⟩
/-- and column `l` of its block of hidden columns. -/
abbrev col (t : Fin cfg0.N) (l : Fin 1024) : Fin 4096 := ⟨t.val % 4 * 1024 + l.val, by omega⟩

theorem row_rowPt (t : Fin cfg0.N) (r : Fin 1024) : row (rowPt t) r = row t r := Fin.ext (by simp only [row, rowPt]; omega)

theorem V_up (q : Fin 4) (k l : Fin 1024) :
    (V m c main_v2 : FVec Ideal S4x1024x1024 .bf16) (ix3 q k l) = a2 m c (ix2 k ⟨q.val * 1024 + l.val, by omega⟩) := by
  show StableHlo.after hostOps0 _ (Proc.devRef .tc main_v2) (ix3 q k l) = _
  after_results_simp
  pointwise []

theorem V_down (k : Fin 4096) (l : Fin 1024) : (V m c main_v3 : FVec Ideal S4096x1024 .bf16) (ix2 k l) = a3 m c (ix2 k l) := by
  show StableHlo.after hostOps0 _ (Proc.devRef .tc main_v3) (ix2 k l) = _
  after_results_simp
  pointwise []

theorem index_0 : ∀ t : Fin grid0.N, win0_0.index t (0 : Fin 2) = t.val / 4 ∧ win0_0.index t (1 : Fin 2) = 0 := by decide +kernel
theorem index_1 : ∀ t : Fin grid0.N, win0_1.index t (0 : Fin 2) = 0 ∧ win0_1.index t (1 : Fin 2) = 0 := by decide +kernel
theorem index_2 : ∀ t : Fin grid0.N, win0_2.index t (0 : Fin 3) = t.val % 4 ∧ win0_2.index t (1 : Fin 3) = 0 ∧ win0_2.index t (2 : Fin 3) = 0 := by decide +kernel
theorem index_3 : ∀ t : Fin grid0.N, win0_3.index t (0 : Fin 2) = t.val % 4 ∧ win0_3.index t (1 : Fin 2) = 0 := by decide +kernel
theorem index_4 : ∀ t : Fin grid0.N, win0_4.index t (0 : Fin 2) = 0 ∧ win0_4.index t (1 : Fin 2) = 0 := by decide +kernel
theorem index_5 : ∀ t : Fin grid0.N, win0_5.index t (0 : Fin 2) = t.val / 4 ∧ win0_5.index t (1 : Fin 2) = 0 := by decide +kernel
theorem index_6 : ∀ t : Fin grid0.N, win0_6.index t (0 : Fin 2) = t.val / 4 ∧ win0_6.index t (1 : Fin 2) = t.val % 4 := by decide +kernel
theorem index_7 : ∀ t : Fin grid0.N, win0_7.index t (0 : Fin 2) = t.val / 4 ∧ win0_7.index t (1 : Fin 2) = 0 := by decide +kernel
theorem index_8 : ∀ t : Fin grid0.N, win0_8.index t (0 : Fin 2) = t.val / 4 ∧ win0_8.index t (1 : Fin 2) = 0 := by decide +kernel

theorem place_0 (t : Fin cfg0.N) (a b : Fin 1024) : ((cfg0.win 0).blk t).view.emb (ix2 a b) = ix2 (row t a) b := by
  obtain ⟨h0, h1⟩ := index_0 t
  funext d
  match d with
  | ⟨0, _⟩ => exact Fin.ext (show win0_0.index t (0 : Fin 2) * 1024 + 1 * ((ix2 a b) (0 : Fin 2)).val = _ by rw [h0]; simp [row, col]; try omega)
  | ⟨1, _⟩ => exact Fin.ext (show win0_0.index t (1 : Fin 2) * 1024 + 1 * ((ix2 a b) (1 : Fin 2)).val = _ by rw [h1]; simp [row, col]; try omega)

theorem place_3 (t : Fin cfg0.N) (a b : Fin 1024) : ((cfg0.win 3).blk t).view.emb (ix2 a b) = ix2 (col t a) b := by
  obtain ⟨h0, h1⟩ := index_3 t
  funext d
  match d with
  | ⟨0, _⟩ => exact Fin.ext (show win0_3.index t (0 : Fin 2) * 1024 + 1 * ((ix2 a b) (0 : Fin 2)).val = _ by rw [h0]; simp [row, col]; try omega)
  | ⟨1, _⟩ => exact Fin.ext (show win0_3.index t (1 : Fin 2) * 1024 + 1 * ((ix2 a b) (1 : Fin 2)).val = _ by rw [h1]; simp [row, col]; try omega)

theorem place_5 (t : Fin cfg0.N) (a b : Fin 1024) : ((cfg0.win 5).blk t).view.emb (ix2 a b) = ix2 (row t a) b := by
  obtain ⟨h0, h1⟩ := index_5 t
  funext d
  match d with
  | ⟨0, _⟩ => exact Fin.ext (show win0_5.index t (0 : Fin 2) * 1024 + 1 * ((ix2 a b) (0 : Fin 2)).val = _ by rw [h0]; simp [row, col]; try omega)
  | ⟨1, _⟩ => exact Fin.ext (show win0_5.index t (1 : Fin 2) * 1024 + 1 * ((ix2 a b) (1 : Fin 2)).val = _ by rw [h1]; simp [row, col]; try omega)

theorem place_6 (t : Fin cfg0.N) (a b : Fin 1024) : ((cfg0.win 6).blk t).view.emb (ix2 a b) = ix2 (row t a) (col t b) := by
  obtain ⟨h0, h1⟩ := index_6 t
  funext d
  match d with
  | ⟨0, _⟩ => exact Fin.ext (show win0_6.index t (0 : Fin 2) * 1024 + 1 * ((ix2 a b) (0 : Fin 2)).val = _ by rw [h0]; simp [row, col]; try omega)
  | ⟨1, _⟩ => exact Fin.ext (show win0_6.index t (1 : Fin 2) * 1024 + 1 * ((ix2 a b) (1 : Fin 2)).val = _ by rw [h1]; simp [row, col]; try omega)

theorem place_7 (t : Fin cfg0.N) (a b : Fin 1024) : ((cfg0.win 7).blk t).view.emb (ix2 a b) = ix2 (row t a) b := by
  obtain ⟨h0, h1⟩ := index_7 t
  funext d
  match d with
  | ⟨0, _⟩ => exact Fin.ext (show win0_7.index t (0 : Fin 2) * 1024 + 1 * ((ix2 a b) (0 : Fin 2)).val = _ by rw [h0]; simp [row, col]; try omega)
  | ⟨1, _⟩ => exact Fin.ext (show win0_7.index t (1 : Fin 2) * 1024 + 1 * ((ix2 a b) (1 : Fin 2)).val = _ by rw [h1]; simp [row, col]; try omega)

theorem place_8 (t : Fin cfg0.N) (a b : Fin 1024) : ((cfg0.win 8).blk t).view.emb (ix2 a b) = ix2 (row t a) b := by
  obtain ⟨h0, h1⟩ := index_8 t
  funext d
  match d with
  | ⟨0, _⟩ => exact Fin.ext (show win0_8.index t (0 : Fin 2) * 1024 + 1 * ((ix2 a b) (0 : Fin 2)).val = _ by rw [h0]; simp [row, col]; try omega)
  | ⟨1, _⟩ => exact Fin.ext (show win0_8.index t (1 : Fin 2) * 1024 + 1 * ((ix2 a b) (1 : Fin 2)).val = _ by rw [h1]; simp [row, col]; try omega)

theorem place_1 (t : Fin cfg0.N) (b : Fin 1024) : ((cfg0.win 1).blk t).view.emb (ix2 ((0 : Fin 1)) b) = ix2 (0 : Fin 1) b := by
  obtain ⟨h0, h1⟩ := index_1 t
  funext d
  match d with
  | ⟨0, _⟩ => exact Fin.ext (show win0_1.index t (0 : Fin 2) * 1 + 1 * ((ix2 ((0 : Fin 1)) b) (0 : Fin 2)).val = _ by rw [h0]; simp [row, col]; try omega)
  | ⟨1, _⟩ => exact Fin.ext (show win0_1.index t (1 : Fin 2) * 1024 + 1 * ((ix2 ((0 : Fin 1)) b) (1 : Fin 2)).val = _ by rw [h1]; simp [row, col]; try omega)

theorem place_4 (t : Fin cfg0.N) (b : Fin 1024) : ((cfg0.win 4).blk t).view.emb (ix2 ((0 : Fin 1)) b) = ix2 (0 : Fin 1) b := by
  obtain ⟨h0, h1⟩ := index_4 t
  funext d
  match d with
  | ⟨0, _⟩ => exact Fin.ext (show win0_4.index t (0 : Fin 2) * 1 + 1 * ((ix2 ((0 : Fin 1)) b) (0 : Fin 2)).val = _ by rw [h0]; simp [row, col]; try omega)
  | ⟨1, _⟩ => exact Fin.ext (show win0_4.index t (1 : Fin 2) * 1024 + 1 * ((ix2 ((0 : Fin 1)) b) (1 : Fin 2)).val = _ by rw [h1]; simp [row, col]; try omega)

theorem place_2 (t : Fin cfg0.N) (k l : Fin 1024) : ((cfg0.win 2).blk t).view.emb (ix3 ((0 : Fin 1)) k l) = ix3 (⟨t.val % 4, Nat.mod_lt _ (by decide)⟩ : Fin 4) k l := by
  obtain ⟨h0, h1, h2⟩ := index_2 t
  funext d
  match d with
  | ⟨0, _⟩ => exact Fin.ext (show win0_2.index t (0 : Fin 3) * 1 + 1 * ((ix3 ((0 : Fin 1)) k l) (0 : Fin 3)).val = _ by rw [h0]; simp [row, col]; try omega)
  | ⟨1, _⟩ => exact Fin.ext (show win0_2.index t (1 : Fin 3) * 1024 + 1 * ((ix3 ((0 : Fin 1)) k l) (1 : Fin 3)).val = _ by rw [h1]; simp [row, col]; try omega)
  | ⟨2, _⟩ => exact Fin.ext (show win0_2.index t (2 : Fin 3) * 1024 + 1 * ((ix3 ((0 : Fin 1)) k l) (2 : Fin 3)).val = _ by rw [h2]; simp [row, col]; try omega)

theorem blk_0 (t : Fin cfg0.N) (a k : Fin 1024) : iblk m c 0 t (ix2 a k) = a0 m c (ix2 (row t a) k) := by
  show V m c main_arg0 (((cfg0.win 0).blk t).view.emb (ix2 a k)) = _
  rw [place_0, V_main_arg0]

theorem blk_1 (t : Fin cfg0.N) (l : Fin 1024) : iblk m c 1 t (ix2 (0 : Fin 1) l) = a1 m c (ix2 (0 : Fin 1) l) := by
  show V m c main_arg1 (((cfg0.win 1).blk t).view.emb (ix2 (0 : Fin 1) l)) = _
  rw [place_1, V_main_arg1]

theorem blk_2 (t : Fin cfg0.N) (k l : Fin 1024) : iblk m c 2 t (ix3 (0 : Fin 1) k l) = a2 m c (ix2 k (col t l)) := by
  show V m c main_v2 (((cfg0.win 2).blk t).view.emb (ix3 (0 : Fin 1) k l)) = _
  rw [place_2]
  exact V_up m c _ k l

theorem blk_3 (t : Fin cfg0.N) (k l : Fin 1024) : iblk m c 3 t (ix2 k l) = a3 m c (ix2 (col t k) l) := by
  show V m c main_v3 (((cfg0.win 3).blk t).view.emb (ix2 k l)) = _
  rw [place_3]
  exact V_down m c _ l

theorem blk_4 (t : Fin cfg0.N) (l : Fin 1024) : iblk m c 4 t (ix2 (0 : Fin 1) l) = a4 m c (ix2 (0 : Fin 1) l) := by
  show V m c main_arg4 (((cfg0.win 4).blk t).view.emb (ix2 (0 : Fin 1) l)) = _
  rw [place_4, V_main_arg4]

theorem normed_at (t : Fin cfg0.N) (r l : Fin 1024) : hAt m c t (ix2 r l) = normed (a0 m c) (a1 m c) (row t r) l := by
  unfold hAt
  rw [pay_normed]
  simp only [blk_0, blk_1, row_rowPt]
  rfl

theorem scratch_at (t : Fin cfg0.N) (r l : Fin 1024) : scrAt m c t (ix2 r l) = normed (a0 m c) (a1 m c) (row t r) l := by
  unfold scrAt
  rw [pay_scratch]
  exact normed_at m c t r l

theorem hidden_at (t : Fin cfg0.N) (r l : Fin 1024) :
    k0_pay4 (F := Ideal) (scrAt m c t) (iblk m c 2 t) (ix2 r l) = hidden (a0 m c) (a1 m c) (a2 m c) (row t r) (col t l) := by
  rw [pay_hidden]
  simp only [scratch_at, blk_2]
  rfl

/-- The share of block `s` of the hidden columns in an entry of the second projection. -/
def share (r : Fin 4096) (s : ℕ) (l : Fin 1024) : EReal :=
  ∑ k : Fin 1024, act (hidden (a0 m c) (a1 m c) (a2 m c) r ⟨s % 4 * 1024 + k.val, by omega⟩) * a3 m c (ix2 ⟨s % 4 * 1024 + k.val, by omega⟩ l)

theorem share_at (t : Fin cfg0.N) (u : FVec Ideal S1024x1024 .f32) (r l : Fin 1024) :
    k0_pay6 (F := Ideal) (scrAt m c t) (iblk m c 2 t) u (iblk m c 3 t) (ix2 r l) = u (ix2 r l) + share m c (row t r) (t.val % 4) l := by
  rw [pay_sum]
  simp only [hidden_at, blk_3]
  unfold share
  refine congrArg (_ + ·) (Finset.sum_congr rfl fun k _ => ?_)
  have e : (⟨t.val % 4 % 4 * 1024 + k.val, by omega⟩ : Fin 4096) = col t k := Fin.ext (by simp only [col]; omega)
  rw [e]

/-- The sum a point leaves is that of the shares up to its block of hidden columns. -/
theorem sum_at (n : ℕ) : ∀ (t : Fin cfg0.N), t.val = n → ∀ r l : Fin 1024,
    accPt m c t (ix2 r l) = ∑ s ∈ Finset.range (t.val % 4 + 1), share m c (row t r) s l := by
  induction n with
  | zero =>
    intro t h r l
    rw [accPt_fresh m c t (by omega), share_at, pay_zero, show t.val % 4 = 0 by omega]
    simp
  | succ n ih =>
    intro t h r l
    by_cases h4 : t.val % 4 = 0
    · rw [accPt_fresh m c t h4, share_at, pay_zero, h4]
      simp
    · have e : row ⟨t.val - 1, by omega⟩ r = row t r := Fin.ext (by simp only [row]; omega)
      rw [accPt_rest m c t h4, share_at, ih ⟨t.val - 1, by omega⟩ (by show t.val - 1 = n; omega) r l, e, Finset.sum_range_succ _ (t.val % 4),
        show (t.val - 1) % 4 + 1 = t.val % 4 by omega]

theorem ffn_at (t : Fin cfg0.N) (h : t.val % 4 = 3) (r l : Fin 1024) :
    accPt m c t (ix2 r l) = ffn (a0 m c) (a1 m c) (a2 m c) (a3 m c) (row t r) l := by
  rw [sum_at m c t.val t rfl r l, h, Finset.sum_range]
  unfold ffn
  rw [Fin.sum_univ_tiles 4 1024 rfl]
  refine Finset.sum_congr rfl fun s _ => Finset.sum_congr rfl fun k _ => ?_
  have e : (⟨s.val % 4 * 1024 + k.val, by omega⟩ : Fin 4096) = ⟨s.val * 1024 + k.val, by omega⟩ := Fin.ext (by simp only; omega)
  rw [e]

theorem added_at (t : Fin cfg0.N) (h : t.val % 4 = 3) (r l : Fin 1024) :
    k0_pay8 (F := Ideal) (accPt m c t) (iblk m c 0 t) (iblk m c 4 t) (ix2 r l)
      = added (a0 m c) (a1 m c) (a2 m c) (a3 m c) (a4 m c) (row t r) l := by
  rw [pay_added]
  simp only [ffn_at m c t h, blk_0, blk_4]
  rfl

theorem flush_7 (t : Fin cfg0.N) (hf : (cfg0.win 7).flush t = true) : t.val % 4 = 3 := by
  by_contra h
  rw [quiet_7 t h] at hf
  cases hf

theorem flush_8 (t : Fin cfg0.N) (hf : (cfg0.win 8).flush t = true) : t.val % 4 = 3 := by
  by_contra h
  rw [quiet_8 t h] at hf
  cases hf

set_option backward.isDefEq.respectTransparency.types false in
theorem final_normed : (dats m 0 c).arrAt 5 cfg0.N = val_main_v16 (F := Ideal) (a0 m c) (a1 m c) :=
  (dats m 0 c).arrAt_eq_of_covers 5 _ (by decide +kernel) fun t hf y => by
    obtain ⟨r, l, rfl⟩ : ∃ (r l : Fin 1024), y = ix2 r l := ⟨y 0, y 1, eq_ix2 y⟩
    rw [place_5]
    show (dats m 0 c).after 5 t (ix2 r l) = _
    rw [after_5]
    exact (normed_at m c t r l).trans (ref_normed (a0 m c) (a1 m c) (row t r) l).symm

set_option backward.isDefEq.respectTransparency.types false in
theorem final_hidden : (dats m 0 c).arrAt 6 cfg0.N = val_main_v17 (F := Ideal) (a0 m c) (a1 m c) (a2 m c) :=
  (dats m 0 c).arrAt_eq_of_covers 6 _ (by decide +kernel) fun t hf y => by
    obtain ⟨r, l, rfl⟩ : ∃ (r l : Fin 1024), y = ix2 r l := ⟨y 0, y 1, eq_ix2 y⟩
    rw [place_6]
    show (dats m 0 c).after 6 t (ix2 r l) = _
    rw [after_6]
    exact (hidden_at m c t r l).trans (ref_hidden (a0 m c) (a1 m c) (a2 m c) (row t r) (col t l)).symm

set_option backward.isDefEq.respectTransparency.types false in
theorem final_ffn : (dats m 0 c).arrAt 7 cfg0.N = val_main_v18 (F := Ideal) (a0 m c) (a1 m c) (a2 m c) (a3 m c) :=
  (dats m 0 c).arrAt_eq_of_covers 7 _ (by decide +kernel) fun t hf y => by
    obtain ⟨r, l, rfl⟩ : ∃ (r l : Fin 1024), y = ix2 r l := ⟨y 0, y 1, eq_ix2 y⟩
    rw [place_7]
    show (dats m 0 c).after 7 t (ix2 r l) = _
    rw [after_7]
    exact (ffn_at m c t (flush_7 t hf) r l).trans (ref_ffn (a0 m c) (a1 m c) (a2 m c) (a3 m c) (row t r) l).symm

set_option backward.isDefEq.respectTransparency.types false in
theorem final_added : (dats m 0 c).arrAt 8 cfg0.N = val_main_v31 (F := Ideal) (a0 m c) (a1 m c) (a2 m c) (a3 m c) (a4 m c) :=
  (dats m 0 c).arrAt_eq_of_covers 8 _ (by decide +kernel) fun t hf y => by
    obtain ⟨r, l, rfl⟩ : ∃ (r l : Fin 1024), y = ix2 r l := ⟨y 0, y 1, eq_ix2 y⟩
    rw [place_8]
    show (dats m 0 c).after 8 t (ix2 r l) = _
    rw [after_8]
    exact (added_at m c t (flush_8 t hf) r l).trans (ref_added (a0 m c) (a1 m c) (a2 m c) (a3 m c) (a4 m c) (row t r) l).symm

end Cert.FfnFwdCall

end
-- ==== Proof.FfnFwd.Printed.lean ====
/- The call before idealization. Its program has the same text as the idealized one, so the two bodies are equal and the
   run of the one, which holds over any float values, is a run of the other. -/
module

public import proofs.«01_k».proof.Defs
public import proofs.«01_k».proof.Proof.Gen.FfnFwd
public import proofs.«01_k».proof.Proof.FfnFwd.Data
public import Idealize.ShloMosaic.Lib.Claim

@[expose] public section

set_option maxRecDepth 16384

noncomputable section

namespace Cert.FfnFwdCall

open Idealize.ShloMosaic Idealize.ShloMosaic.TcCoe Idealize.SL.Sem
open Cert.FfnFwdIdeal Cert.FfnFwdIdeal.Gen

/-- The call's run over any float values keeps the arguments and leaves every semaphore at zero. -/
theorem run_frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) ((θ_run defs _ _).mono (fun _ h => h.1) (run_all m ρ)))
    ((θ_run defs _ _).mono (fun _ h => h.2) (run_all m ρ))

theorem kernel_frame : Cert.quiescent_FfnFwdIdeal := fun m ρ _ => run_frame m ρ

set_option maxHeartbeats 1000000 in
theorem same_body : @Cert.FfnFwd.cc0_ffn_fwd Bits _ _ = @Cert.FfnFwdIdeal.cc0_ffn_fwd Bits _ _ := rfl

set_option maxHeartbeats 1000000 in
theorem same_table : Cert.FfnFwd.defs₀ (F := Bits) = Cert.FfnFwdIdeal.defs₀ (F := Bits) := by
  unfold Cert.FfnFwd.defs₀ Cert.FfnFwdIdeal.defs₀
  refine congrArg Defs.onTc (funext fun p => ?_)
  match p with
  | ⟨0, _⟩ => funext a; rfl

set_option maxHeartbeats 1000000 in
theorem same_defs : Cert.FfnFwd.defs (F := Bits) = Cert.FfnFwdIdeal.defs (F := Bits) :=
  congrArg (Pipeline.defs Cert.FfnFwdIdeal.pcfgs) same_table

set_option maxHeartbeats 1000000 in
theorem same_main : Cert.FfnFwd.main (F := Bits) = Cert.FfnFwdIdeal.main (F := Bits) := rfl

/-- Equal programs have equal runs. -/
theorem run_of_eq {nD : Nat} {τ : Topo} {sig : RefSig} {Λ : Labels} {Val : EltTy → Type} {D D' : Defs nD τ sig Val Λ}
    {p p' : (c : Thread nD τ) → Prog (TpuEff nD τ sig Val Λ c.2) PUnit} {s : MemSt nD τ sig Val}
    {Q : PUnit × MemSt nD τ sig Val → Prop} (hD : D = D') (hp : p = p') (h : θ_run D' p' s Q) : θ_run D p s Q := by
  subst hD hp
  exact h

set_option maxHeartbeats 1000000 in
theorem printed_frame : Cert.quiescent_FfnFwd := fun m ρ _ =>
  run_of_eq same_defs (congrArg (onTc (τ := τ)) same_main) (run_frame (F := Bits) m ρ)

end Cert.FfnFwdCall

end
-- ==== Proof.FfnFwd.Claim.lean ====
/- The claims about the feed-forward part: its run over the extended reals, the reference's run, and the equality of their four
   results. -/
module

public import proofs.«01_k».proof.Defs
public import proofs.«01_k».proof.Proof.FfnFwd.Value
public import proofs.«01_k».proof.Proof.FfnFwd.Printed
public import proofs.«01_k».proof.Proof.Gen.FfnFwdRefIdeal.Run
public import Idealize.ShloMosaic.Lib.Quiescent
public import Idealize.ShloMosaic.Lib.Claim

@[expose] public section

set_option maxRecDepth 16384

noncomputable section

namespace Cert.FfnFwdCall

open Idealize.ShloMosaic Idealize.ShloMosaic.TcCoe Idealize.SL.Sem
open Cert.FfnFwdIdeal Cert.FfnFwdIdeal.Gen
open Cert.FfnFwdRefIdeal.Read

/-- The reference's run keeps the arguments; it has no semaphores. -/
theorem reference_frame : Cert.quiescent_FfnFwdRefIdeal := fun m ρ _ =>
  (θ_run Cert.FfnFwdRefIdeal.defs _ _).mono
    (fun r h => ⟨fun c => (h c).2.2.2.2, sem_eq_zero_of_no_sems (by decide) r.2⟩) (Cert.FfnFwdRefIdeal.Value.run m ρ)

/-- The call and the reference agree on every entry of all four results. -/
theorem agree : Cert.algebraic_FfnFwdIdeal_FfnFwdRefIdeal := by
  intro m g m' g' _ hm
  refine ⟨fun c => val_main_v16 (F := Ideal) (a0 m c) (a1 m c), fun c => val_main_v17 (F := Ideal) (a0 m c) (a1 m c) (a2 m c),
    fun c => val_main_v18 (F := Ideal) (a0 m c) (a1 m c) (a2 m c) (a3 m c),
    fun c => val_main_v31 (F := Ideal) (a0 m c) (a1 m c) (a2 m c) (a3 m c) (a4 m c), ?_, ?_⟩
  · refine (θ_run defs _ _).mono (fun r h c => ?_) (θ_run_and (run_all m g) (kernel_frame m g trivial))
    obtain ⟨⟨hf, _⟩, hk, _⟩ := h
    have hw := (hf c).1
    exact ⟨(hw 5).trans (final_normed m c), (hw 6).trans (final_hidden m c), (hw 7).trans (final_ffn m c), (hw 8).trans (final_added m c), hk c⟩
  · refine (θ_run Cert.FfnFwdRefIdeal.defs _ _).mono (fun r h c => ?_) (Cert.FfnFwdRefIdeal.Value.run m' g')
    obtain ⟨h0, h1, h2, h3, h4⟩ := hm c
    obtain ⟨r0, r1, r2, r3, hk⟩ := h c
    have q0 := r0.trans (val_main_v16_eq _ _)
    have q1 := r1.trans (val_main_v17_eq _ _ _)
    have q2 := r2.trans (val_main_v18_eq _ _ _ _)
    have q3 := r3.trans (val_main_v31_eq _ _)
    refine ⟨q0.trans ?_, q1.trans ?_, q2.trans ?_, q3.trans ?_, hk⟩
    · exact congr (congrArg _ h0) h1
    · exact congr (congr (congrArg _ h0) h1) h2
    · exact congr (congr (congr (congrArg _ h0) h1) h2) h3
    · exact congr (congr (congr (congr (congrArg _ h0) h1) h2) h3) h4

end Cert.FfnFwdCall

end
-- ==== Proof.MixFwd.Payloads.lean ====
/- The forward end of the token mixing: what the body's stores hold, read one entry at a time. -/
module

public import proofs.«01_k».proof.Proof.Gen.MixOutFwdIdeal.Value
public import proofs.«01_k».proof.Proof.MixOut.Reference
public import proofs.«01_k».proof.Proof.RowNorm
public import Idealize.ShloMosaic.Lib.Pointwise

@[expose] public section

set_option maxRecDepth 16384

noncomputable section

namespace Cert.MixFwd

open Idealize.ShloMosaic Idealize.ShloMosaic.TcCoe
open Cert.MixOutFwdIdeal Cert.MixOutFwdIdeal.Gen
open Cert.MixOut (gate)

variable (y0 y1 y2 y3 : FVec Ideal S512x256 .bf16) (w0 w1 w2 w3 : FVec Ideal S1x1x256x1024 .bf16)
  (p s : FVec Ideal S512x1024 .f32) (z : FVec Ideal S512x1024 .bf16) (r : Fin 512) (l : Fin 1024)

/-- A quarter of a branch's product. -/
def quarter (y : FVec Ideal S512x256 .bf16) (w : FVec Ideal S1x1x256x1024 .bf16) (r : Fin 512) (l : Fin 1024) : EReal :=
  ∑ k : Fin 256, y (ix2 r k) * w (ix4 0 0 k l)

theorem first_at : k0_pay2 (F := Ideal) y0 w0 y1 w1 y2 w2 y3 w3 (ix2 r l) = quarter y0 w0 r l + quarter y1 w1 r l + quarter y2 w2 r l + quarter y3 w3 r l := by
  pointwise [k0_pay2, quarter]
  try simp

theorem second_at : k0_pay7 (F := Ideal) (k0_pay5 y0 w0 y1 w1 y2 w2) (k0_pay6 y3) w3 (ix2 r l) = quarter y0 w0 r l + quarter y1 w1 r l + quarter y2 w2 r l + quarter y3 w3 r l := by
  pointwise [k0_pay7, k0_pay6, k0_pay5, quarter]
  try simp

theorem third_at : k0_pay11 (F := Ideal) (k0_pay10 y0 w0 y1 w1) y2 w2 y3 w3 (ix2 r l) = quarter y0 w0 r l + quarter y1 w1 r l + quarter y2 w2 r l + quarter y3 w3 r l := by
  pointwise [k0_pay11, k0_pay10, quarter]
  try simp

theorem gated_first : k0_pay4 (F := Ideal) p z (ix2 r l) = gate (z (ix2 r l)) * p (ix2 r l) := by
  pointwise [k0_pay4, gate]
  try simp

theorem gated_second (u : FVec Ideal S512x256 .bf16) :
    k0_pay9 (F := Ideal) s p u w3 z (ix2 r l) = s (ix2 r l) + gate (z (ix2 r l)) * k0_pay7 (F := Ideal) p u w3 (ix2 r l) := by
  unfold k0_pay9
  generalize k0_pay7 (F := Ideal) p u w3 = q
  pointwise [gate]
  try simp

theorem gated_third :
    k0_pay13 (F := Ideal) s p y2 w2 y3 w3 z (ix2 r l) = s (ix2 r l) + gate (z (ix2 r l)) * k0_pay11 (F := Ideal) p y2 w2 y3 w3 (ix2 r l) := by
  unfold k0_pay13
  generalize k0_pay11 (F := Ideal) p y2 w2 y3 w3 = q
  pointwise [gate]
  try simp

theorem project_at (v : FVec Ideal S1024x1024 .bf16) :
    k0_pay14 (F := Ideal) s p y2 w2 y3 w3 z v (ix2 r l) = ∑ k : Fin 1024, k0_pay13 (F := Ideal) s p y2 w2 y3 w3 z (ix2 r k) * v (ix2 k l) := by
  unfold k0_pay14
  generalize k0_pay13 (F := Ideal) s p y2 w2 y3 w3 z = q
  pointwise []
  try simp

theorem mix_at (x : FVec Ideal S512x1024 .f32) (g : FVec Ideal S1x1024 .f32) :
    k0_pay1 (F := Ideal) p x g (ix2 r l) = x (ix2 r l) + p (ix2 r l) * RowNorm.rowScale (fun k => p (ix2 r k)) * g (ix2 0 l) := by
  pointwise [k0_pay1, RowNorm.rowScale, RowNorm.guarded]

theorem store_first : k0_pay3 (F := Ideal) y0 w0 y1 w1 y2 w2 y3 w3 (ix3 0 r l) = k0_pay2 (F := Ideal) y0 w0 y1 w1 y2 w2 y3 w3 (ix2 r l) := by
  unfold k0_pay3
  generalize k0_pay2 (F := Ideal) y0 w0 y1 w1 y2 w2 y3 w3 = q
  pointwise []

theorem store_second (u : FVec Ideal S512x256 .bf16) : k0_pay8 (F := Ideal) p u w3 (ix3 0 r l) = k0_pay7 (F := Ideal) p u w3 (ix2 r l) := by
  unfold k0_pay8
  generalize k0_pay7 (F := Ideal) p u w3 = q
  pointwise []

theorem store_third : k0_pay12 (F := Ideal) p y2 w2 y3 w3 (ix3 0 r l) = k0_pay11 (F := Ideal) p y2 w2 y3 w3 (ix2 r l) := by
  unfold k0_pay12
  generalize k0_pay11 (F := Ideal) p y2 w2 y3 w3 = q
  pointwise []

end Cert.MixFwd

end
-- ==== Proof.MixFwd.Reference.lean ====
/- The forward end of the token mixing: the reference's results, read one entry at a time. -/
module

public import proofs.«01_k».proof.Proof.Gen.MixOutFwdRefIdeal.Read
public import proofs.«01_k».proof.Proof.MixOut.Reference
public import proofs.«01_k».proof.Proof.RowNorm
public import Idealize.ShloMosaic.Lib.Pointwise

@[expose] public section

set_option maxRecDepth 16384

noncomputable section

namespace Cert.MixFwd

open Idealize.ShloMosaic Idealize.ShloMosaic.TcCoe
open Cert.MixOutFwdRefIdeal Cert.MixOutFwdRefIdeal.Read
open Cert.MixOut (gate gateCol)

variable (x0 : FVec Ideal S3x4096x1024 .f32) (x1 : FVec Ideal S4096x10240 .f32) (x2 : FVec Ideal S4096x1024 .f32)
  (x3 : FVec Ideal S3x1024x1024 .f32) (x4 : FVec Ideal S1024x1024 .f32) (x5 : FVec Ideal S1x1024 .f32)

/-- Branch `b`'s product. -/
def branch (b : Fin 3) (r : Fin 4096) (l : Fin 1024) : EReal := ∑ k : Fin 1024, x0 (ix3 b r k) * x3 (ix3 b k l)

/-- The gated sum of the branches. -/
def merged (r : Fin 4096) (l : Fin 1024) : EReal :=
  gate (x1 (ix2 r (gateCol 0 l))) * branch x0 x3 0 r l + gate (x1 (ix2 r (gateCol 1 l))) * branch x0 x3 1 r l
    + gate (x1 (ix2 r (gateCol 2 l))) * branch x0 x3 2 r l

/-- Its projection. -/
def projected (r : Fin 4096) (l : Fin 1024) : EReal := ∑ k : Fin 1024, merged x0 x1 x3 r k * x4 (ix2 k l)

/-- The tokens after the mixing. -/
def mixed (r : Fin 4096) (l : Fin 1024) : EReal :=
  x2 (ix2 r l) + projected x0 x1 x3 x4 r l * RowNorm.rowScale (projected x0 x1 x3 x4 r) * x5 (ix2 0 l)

theorem ref_branch (b : Fin 3) (r : Fin 4096) (l : Fin 1024) : val_main_v18 (F := Ideal) x0 x3 (ix3 b r l) = branch x0 x3 b r l := by
  have hb : b = 0 ∨ b = 1 ∨ b = 2 := by omega
  rcases hb with rfl | rfl | rfl
  all_goals
    pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, branch]
    try simp

theorem ref_merged (r : Fin 4096) (l : Fin 1024) : val_main_v50 (F := Ideal) x0 x1 x3 (ix2 r l) = merged x0 x1 x3 r l := by
  have e0 : gateCol 0 l = ⟨7168 + l.val, by omega⟩ := Fin.ext (by simp [gateCol])
  have e1 : gateCol 1 l = ⟨8192 + l.val, by omega⟩ := Fin.ext (by simp [gateCol])
  have e2 : gateCol 2 l = ⟨9216 + l.val, by omega⟩ := Fin.ext (by simp [gateCol])
  rw [merged, ← ref_branch, ← ref_branch, ← ref_branch, e0, e1, e2]
  unfold val_main_v50 val_main_v49 val_main_v48 val_main_v47 val_main_v39 val_main_v38 val_main_v37 val_main_v36 val_main_v28 val_main_v27 val_main_v26
  generalize val_main_v18 (F := Ideal) x0 x3 = p
  pointwise [val_main_v19, val_main_v20, val_main_v21, val_main_cst, val_main_v22, val_main_v23, val_main_cst_0, val_main_v24, val_main_v25, val_main_v29, val_main_v30, val_main_v31, val_main_cst_1, val_main_v32, val_main_v33, val_main_cst_2, val_main_v34, val_main_v35, val_main_v40, val_main_v41, val_main_v42, val_main_cst_3, val_main_v43, val_main_v44, val_main_cst_4, val_main_v45, val_main_v46, gate]
  try simp

theorem ref_projected (r : Fin 4096) (l : Fin 1024) : val_main_v51 (F := Ideal) x0 x1 x3 x4 (ix2 r l) = projected x0 x1 x3 x4 r l := by
  unfold projected
  simp only [← ref_merged]
  unfold val_main_v51
  generalize val_main_v50 (F := Ideal) x0 x1 x3 = p
  pointwise []
  try simp

theorem ref_mixed (r : Fin 4096) (l : Fin 1024) : val_main_v67 (F := Ideal) x0 x1 x2 x3 x4 x5 (ix2 r l) = mixed x0 x1 x2 x3 x4 x5 r l := by
  have e : projected x0 x1 x3 x4 r = fun k => val_main_v51 (F := Ideal) x0 x1 x3 x4 (ix2 r k) := funext fun k => (ref_projected x0 x1 x3 x4 r k).symm
  rw [mixed, e]
  unfold val_main_v67 val_main_v66 val_main_v64 val_main_v63 val_main_v62 val_main_v61 val_main_v59 val_main_v57 val_main_v56 val_main_v55
  generalize val_main_v51 (F := Ideal) x0 x1 x3 x4 = p
  pointwise [val_main_cst_5, val_main_cst_6, val_main_v58, val_main_cst_7, val_main_v60, val_main_v65, RowNorm.rowScale, RowNorm.guarded]
  try simp

end Cert.MixFwd

end
-- ==== Proof.MixFwd.Value.lean ====
/- The forward end of the token mixing: what the call leaves in its four results, entry by entry. -/
module

public import proofs.«01_k».proof.Proof.MixFwd.Payloads
public import proofs.«01_k».proof.Proof.MixFwd.Reference
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.VecWindow

@[expose] public section

set_option maxRecDepth 16384

noncomputable section

namespace Cert.MixFwd

open Idealize.ShloMosaic Idealize.ShloMosaic.TcCoe Idealize.SL.Sem
open Cert.MixOutFwdIdeal Cert.MixOutFwdIdeal.Gen
open Cert.MixOut (gate gateCol)

variable (m : (ℓ : Loc nD τ sig) → Buf (Elt Ideal) ℓ) (c : Dev nD)

/-- The six arguments: the branches' inputs, the projection that carries the gates, the tokens, the branches' weights,
    the output weight and the gain. -/
abbrev a0 : FVec Ideal S3x4096x1024 .f32 := m ((c : Thread nD τ).loc main_arg0)
abbrev a1 : FVec Ideal S4096x10240 .f32 := m ((c : Thread nD τ).loc main_arg1)
abbrev a2 : FVec Ideal S4096x1024 .f32 := m ((c : Thread nD τ).loc main_arg2)
abbrev a3 : FVec Ideal S3x1024x1024 .f32 := m ((c : Thread nD τ).loc main_arg3)
abbrev a4 : FVec Ideal S1024x1024 .f32 := m ((c : Thread nD τ).loc main_arg4)
abbrev a5 : FVec Ideal S1x1024 .f32 := m ((c : Thread nD τ).loc main_arg5)

/-- Row `r` of the row tile of point `t`. -/
abbrev row (t : ℕ) (r : Fin 512) : Fin 4096 := ⟨512 * (t % 8) + r.val, by omega⟩

theorem V_left_0 (r : Fin 4096) (k : Fin 1024) : (V m c main_v4 : FVec Ideal S4096x1024 .bf16) (ix2 r k) = a0 m c (ix3 0 r k) := by
  show StableHlo.after hostOps0 _ (Proc.devRef .tc main_v4) (ix2 r k) = _
  after_results_simp
  pointwise []

theorem V_left_1 (r : Fin 4096) (k : Fin 1024) : (V m c main_v6 : FVec Ideal S4096x1024 .bf16) (ix2 r k) = a0 m c (ix3 1 r k) := by
  show StableHlo.after hostOps0 _ (Proc.devRef .tc main_v6) (ix2 r k) = _
  after_results_simp
  pointwise []

theorem V_left_2 (r : Fin 4096) (k : Fin 1024) : (V m c main_v8 : FVec Ideal S4096x1024 .bf16) (ix2 r k) = a0 m c (ix3 2 r k) := by
  show StableHlo.after hostOps0 _ (Proc.devRef .tc main_v8) (ix2 r k) = _
  after_results_simp
  pointwise []

theorem V_gates : (V m c main_v9 : FVec Ideal S4096x10240 .bf16) = a1 m c := by
  show StableHlo.after hostOps0 _ (Proc.devRef .tc main_v9) = _
  after_results_simp
  rfl

theorem V_weight (q : Fin 4) (b : Fin 3) (k : Fin 256) (l : Fin 1024) :
    (V m c main_v10 : FVec Ideal S4x3x256x1024 .bf16) (ix4 q b k l) = a3 m c (ix3 b ⟨q.val * 256 + k.val, by omega⟩ l) := by
  show StableHlo.after hostOps0 _ (Proc.devRef .tc main_v10) (ix4 q b k l) = _
  after_results_simp
  pointwise []

theorem V_out : (V m c main_v11 : FVec Ideal S1024x1024 .bf16) = a4 m c := by
  show StableHlo.after hostOps0 _ (Proc.devRef .tc main_v11) = _
  after_results_simp
  rfl

theorem point_lt (t : Fin cfg0.N) : t.val < 8 := Nat.lt_of_lt_of_eq t.isLt N_0

theorem index_0 : ∀ t : Fin grid0.N, win0_0.index t (0 : Fin 2) = t.val ∧ win0_0.index t (1 : Fin 2) = 0 := by decide +kernel
theorem index_1 : ∀ t : Fin grid0.N, win0_1.index t (0 : Fin 2) = t.val ∧ win0_1.index t (1 : Fin 2) = 0 := by decide +kernel
theorem index_2 : ∀ t : Fin grid0.N, win0_2.index t (0 : Fin 2) = t.val ∧ win0_2.index t (1 : Fin 2) = 0 := by decide +kernel
theorem index_3 : ∀ t : Fin grid0.N, win0_3.index t (0 : Fin 2) = t.val ∧ win0_3.index t (1 : Fin 2) = 7 := by decide +kernel
theorem index_4 : ∀ t : Fin grid0.N, win0_4.index t (0 : Fin 2) = t.val ∧ win0_4.index t (1 : Fin 2) = 8 := by decide +kernel
theorem index_5 : ∀ t : Fin grid0.N, win0_5.index t (0 : Fin 2) = t.val ∧ win0_5.index t (1 : Fin 2) = 9 := by decide +kernel
theorem index_6 : ∀ t : Fin grid0.N, win0_6.index t (0 : Fin 2) = t.val ∧ win0_6.index t (1 : Fin 2) = 0 := by decide +kernel
theorem index_7 : ∀ t : Fin grid0.N, win0_7.index t (0 : Fin 4) = 0 ∧ win0_7.index t (1 : Fin 4) = 0 ∧ win0_7.index t (2 : Fin 4) = 0 ∧ win0_7.index t (3 : Fin 4) = 0 := by decide +kernel
theorem index_8 : ∀ t : Fin grid0.N, win0_8.index t (0 : Fin 2) = 0 ∧ win0_8.index t (1 : Fin 2) = 0 := by decide +kernel
theorem index_9 : ∀ t : Fin grid0.N, win0_9.index t (0 : Fin 2) = 0 ∧ win0_9.index t (1 : Fin 2) = 0 := by decide +kernel
theorem index_10 : ∀ t : Fin grid0.N, win0_10.index t (0 : Fin 3) = 0 ∧ win0_10.index t (1 : Fin 3) = t.val ∧ win0_10.index t (2 : Fin 3) = 0 := by decide +kernel
theorem index_11 : ∀ t : Fin grid0.N, win0_11.index t (0 : Fin 2) = t.val ∧ win0_11.index t (1 : Fin 2) = 0 := by decide +kernel
theorem index_12 : ∀ t : Fin grid0.N, win0_12.index t (0 : Fin 2) = t.val ∧ win0_12.index t (1 : Fin 2) = 0 := by decide +kernel
theorem index_13 : ∀ t : Fin grid0.N, win0_13.index t (0 : Fin 2) = t.val ∧ win0_13.index t (1 : Fin 2) = 0 := by decide +kernel

theorem place_0 (t : Fin cfg0.N) (a : Fin 512) (b : Fin 1024) : ((cfg0.win 0).blk t).view.emb (ix2 a b) = ix2 (row t a) b := by
  obtain ⟨h0, h1⟩ := index_0 t
  have ht := point_lt t
  funext d
  match d with
  | ⟨0, _⟩ => exact Fin.ext (show win0_0.index t (0 : Fin 2) * 512 + 1 * ((ix2 a b) (0 : Fin 2)).val = _ by rw [h0]; simp [row, gateCol]; try omega)
  | ⟨1, _⟩ => exact Fin.ext (show win0_0.index t (1 : Fin 2) * 1024 + 1 * ((ix2 a b) (1 : Fin 2)).val = _ by rw [h1]; simp [row, gateCol]; try omega)

theorem place_1 (t : Fin cfg0.N) (a : Fin 512) (b : Fin 1024) : ((cfg0.win 1).blk t).view.emb (ix2 a b) = ix2 (row t a) b := by
  obtain ⟨h0, h1⟩ := index_1 t
  have ht := point_lt t
  funext d
  match d with
  | ⟨0, _⟩ => exact Fin.ext (show win0_1.index t (0 : Fin 2) * 512 + 1 * ((ix2 a b) (0 : Fin 2)).val = _ by rw [h0]; simp [row, gateCol]; try omega)
  | ⟨1, _⟩ => exact Fin.ext (show win0_1.index t (1 : Fin 2) * 1024 + 1 * ((ix2 a b) (1 : Fin 2)).val = _ by rw [h1]; simp [row, gateCol]; try omega)

theorem place_2 (t : Fin cfg0.N) (a : Fin 512) (b : Fin 1024) : ((cfg0.win 2).blk t).view.emb (ix2 a b) = ix2 (row t a) b := by
  obtain ⟨h0, h1⟩ := index_2 t
  have ht := point_lt t
  funext d
  match d with
  | ⟨0, _⟩ => exact Fin.ext (show win0_2.index t (0 : Fin 2) * 512 + 1 * ((ix2 a b) (0 : Fin 2)).val = _ by rw [h0]; simp [row, gateCol]; try omega)
  | ⟨1, _⟩ => exact Fin.ext (show win0_2.index t (1 : Fin 2) * 1024 + 1 * ((ix2 a b) (1 : Fin 2)).val = _ by rw [h1]; simp [row, gateCol]; try omega)

theorem place_6 (t : Fin cfg0.N) (a : Fin 512) (b : Fin 1024) : ((cfg0.win 6).blk t).view.emb (ix2 a b) = ix2 (row t a) b := by
  obtain ⟨h0, h1⟩ := index_6 t
  have ht := point_lt t
  funext d
  match d with
  | ⟨0, _⟩ => exact Fin.ext (show win0_6.index t (0 : Fin 2) * 512 + 1 * ((ix2 a b) (0 : Fin 2)).val = _ by rw [h0]; simp [row, gateCol]; try omega)
  | ⟨1, _⟩ => exact Fin.ext (show win0_6.index t (1 : Fin 2) * 1024 + 1 * ((ix2 a b) (1 : Fin 2)).val = _ by rw [h1]; simp [row, gateCol]; try omega)

theorem place_11 (t : Fin cfg0.N) (a : Fin 512) (b : Fin 1024) : ((cfg0.win 11).blk t).view.emb (ix2 a b) = ix2 (row t a) b := by
  obtain ⟨h0, h1⟩ := index_11 t
  have ht := point_lt t
  funext d
  match d with
  | ⟨0, _⟩ => exact Fin.ext (show win0_11.index t (0 : Fin 2) * 512 + 1 * ((ix2 a b) (0 : Fin 2)).val = _ by rw [h0]; simp [row, gateCol]; try omega)
  | ⟨1, _⟩ => exact Fin.ext (show win0_11.index t (1 : Fin 2) * 1024 + 1 * ((ix2 a b) (1 : Fin 2)).val = _ by rw [h1]; simp [row, gateCol]; try omega)

theorem place_12 (t : Fin cfg0.N) (a : Fin 512) (b : Fin 1024) : ((cfg0.win 12).blk t).view.emb (ix2 a b) = ix2 (row t a) b := by
  obtain ⟨h0, h1⟩ := index_12 t
  have ht := point_lt t
  funext d
  match d with
  | ⟨0, _⟩ => exact Fin.ext (show win0_12.index t (0 : Fin 2) * 512 + 1 * ((ix2 a b) (0 : Fin 2)).val = _ by rw [h0]; simp [row, gateCol]; try omega)
  | ⟨1, _⟩ => exact Fin.ext (show win0_12.index t (1 : Fin 2) * 1024 + 1 * ((ix2 a b) (1 : Fin 2)).val = _ by rw [h1]; simp [row, gateCol]; try omega)

theorem place_13 (t : Fin cfg0.N) (a : Fin 512) (b : Fin 1024) : ((cfg0.win 13).blk t).view.emb (ix2 a b) = ix2 (row t a) b := by
  obtain ⟨h0, h1⟩ := index_13 t
  have ht := point_lt t
  funext d
  match d with
  | ⟨0, _⟩ => exact Fin.ext (show win0_13.index t (0 : Fin 2) * 512 + 1 * ((ix2 a b) (0 : Fin 2)).val = _ by rw [h0]; simp [row, gateCol]; try omega)
  | ⟨1, _⟩ => exact Fin.ext (show win0_13.index t (1 : Fin 2) * 1024 + 1 * ((ix2 a b) (1 : Fin 2)).val = _ by rw [h1]; simp [row, gateCol]; try omega)

theorem place_3 (t : Fin cfg0.N) (a : Fin 512) (b : Fin 1024) : ((cfg0.win 3).blk t).view.emb (ix2 a b) = ix2 (row t a) (gateCol 0 b) := by
  obtain ⟨h0, h1⟩ := index_3 t
  have ht := point_lt t
  funext d
  match d with
  | ⟨0, _⟩ => exact Fin.ext (show win0_3.index t (0 : Fin 2) * 512 + 1 * ((ix2 a b) (0 : Fin 2)).val = _ by rw [h0]; simp [row, gateCol]; try omega)
  | ⟨1, _⟩ => exact Fin.ext (show win0_3.index t (1 : Fin 2) * 1024 + 1 * ((ix2 a b) (1 : Fin 2)).val = _ by rw [h1]; simp [row, gateCol]; try omega)

theorem place_4 (t : Fin cfg0.N) (a : Fin 512) (b : Fin 1024) : ((cfg0.win 4).blk t).view.emb (ix2 a b) = ix2 (row t a) (gateCol 1 b) := by
  obtain ⟨h0, h1⟩ := index_4 t
  have ht := point_lt t
  funext d
  match d with
  | ⟨0, _⟩ => exact Fin.ext (show win0_4.index t (0 : Fin 2) * 512 + 1 * ((ix2 a b) (0 : Fin 2)).val = _ by rw [h0]; simp [row, gateCol]; try omega)
  | ⟨1, _⟩ => exact Fin.ext (show win0_4.index t (1 : Fin 2) * 1024 + 1 * ((ix2 a b) (1 : Fin 2)).val = _ by rw [h1]; simp [row, gateCol]; try omega)

theorem place_5 (t : Fin cfg0.N) (a : Fin 512) (b : Fin 1024) : ((cfg0.win 5).blk t).view.emb (ix2 a b) = ix2 (row t a) (gateCol 2 b) := by
  obtain ⟨h0, h1⟩ := index_5 t
  have ht := point_lt t
  funext d
  match d with
  | ⟨0, _⟩ => exact Fin.ext (show win0_5.index t (0 : Fin 2) * 512 + 1 * ((ix2 a b) (0 : Fin 2)).val = _ by rw [h0]; simp [row, gateCol]; try omega)
  | ⟨1, _⟩ => exact Fin.ext (show win0_5.index t (1 : Fin 2) * 1024 + 1 * ((ix2 a b) (1 : Fin 2)).val = _ by rw [h1]; simp [row, gateCol]; try omega)

theorem place_7 (t : Fin cfg0.N) (q : Fin 4) (p : Fin 3) (a : Fin 256) (b : Fin 1024) : ((cfg0.win 7).blk t).view.emb (ix4 q p a b) = ix4 q p a b := by
  obtain ⟨h0, h1, h2, h3⟩ := index_7 t
  have ht := point_lt t
  funext d
  match d with
  | ⟨0, _⟩ => exact Fin.ext (show win0_7.index t (0 : Fin 4) * 4 + 1 * ((ix4 q p a b) (0 : Fin 4)).val = _ by rw [h0]; simp [row, gateCol]; try omega)
  | ⟨1, _⟩ => exact Fin.ext (show win0_7.index t (1 : Fin 4) * 3 + 1 * ((ix4 q p a b) (1 : Fin 4)).val = _ by rw [h1]; simp [row, gateCol]; try omega)
  | ⟨2, _⟩ => exact Fin.ext (show win0_7.index t (2 : Fin 4) * 256 + 1 * ((ix4 q p a b) (2 : Fin 4)).val = _ by rw [h2]; simp [row, gateCol]; try omega)
  | ⟨3, _⟩ => exact Fin.ext (show win0_7.index t (3 : Fin 4) * 1024 + 1 * ((ix4 q p a b) (3 : Fin 4)).val = _ by rw [h3]; simp [row, gateCol]; try omega)

theorem place_8 (t : Fin cfg0.N) (a b : Fin 1024) : ((cfg0.win 8).blk t).view.emb (ix2 a b) = ix2 a b := by
  obtain ⟨h0, h1⟩ := index_8 t
  have ht := point_lt t
  funext d
  match d with
  | ⟨0, _⟩ => exact Fin.ext (show win0_8.index t (0 : Fin 2) * 1024 + 1 * ((ix2 a b) (0 : Fin 2)).val = _ by rw [h0]; simp [row, gateCol]; try omega)
  | ⟨1, _⟩ => exact Fin.ext (show win0_8.index t (1 : Fin 2) * 1024 + 1 * ((ix2 a b) (1 : Fin 2)).val = _ by rw [h1]; simp [row, gateCol]; try omega)

theorem place_9 (t : Fin cfg0.N) (b : Fin 1024) : ((cfg0.win 9).blk t).view.emb (ix2 (0 : Fin 1) b) = ix2 (0 : Fin 1) b := by
  obtain ⟨h0, h1⟩ := index_9 t
  have ht := point_lt t
  funext d
  match d with
  | ⟨0, _⟩ => exact Fin.ext (show win0_9.index t (0 : Fin 2) * 1 + 1 * ((ix2 (0 : Fin 1) b) (0 : Fin 2)).val = _ by rw [h0]; simp [row, gateCol]; try omega)
  | ⟨1, _⟩ => exact Fin.ext (show win0_9.index t (1 : Fin 2) * 1024 + 1 * ((ix2 (0 : Fin 1) b) (1 : Fin 2)).val = _ by rw [h1]; simp [row, gateCol]; try omega)

theorem place_10 (t : Fin cfg0.N) (p : Fin 3) (a : Fin 512) (b : Fin 1024) : ((cfg0.win 10).blk t).view.emb (ix3 p a b) = ix3 p (row t a) b := by
  obtain ⟨h0, h1, h2⟩ := index_10 t
  have ht := point_lt t
  funext d
  match d with
  | ⟨0, _⟩ => exact Fin.ext (show win0_10.index t (0 : Fin 3) * 3 + 1 * ((ix3 p a b) (0 : Fin 3)).val = _ by rw [h0]; simp [row, gateCol]; try omega)
  | ⟨1, _⟩ => exact Fin.ext (show win0_10.index t (1 : Fin 3) * 512 + 1 * ((ix3 p a b) (1 : Fin 3)).val = _ by rw [h1]; simp [row, gateCol]; try omega)
  | ⟨2, _⟩ => exact Fin.ext (show win0_10.index t (2 : Fin 3) * 1024 + 1 * ((ix3 p a b) (2 : Fin 3)).val = _ by rw [h2]; simp [row, gateCol]; try omega)

theorem blk_0 (t : Fin cfg0.N) (a : Fin 512) (k : Fin 1024) : iblk m c 0 t (ix2 a k) = a0 m c (ix3 0 (row t a) k) := by
  show V m c main_v4 (((cfg0.win 0).blk t).view.emb (ix2 a k)) = _
  rw [place_0]
  exact V_left_0 m c (row t a) k

theorem blk_3 (t : Fin cfg0.N) (a : Fin 512) (k : Fin 1024) : iblk m c 3 t (ix2 a k) = a1 m c (ix2 (row t a) (gateCol 0 k)) := by
  show V m c main_v9 (((cfg0.win 3).blk t).view.emb (ix2 a k)) = _
  rw [place_3, V_gates]

theorem blk_1 (t : Fin cfg0.N) (a : Fin 512) (k : Fin 1024) : iblk m c 1 t (ix2 a k) = a0 m c (ix3 1 (row t a) k) := by
  show V m c main_v6 (((cfg0.win 1).blk t).view.emb (ix2 a k)) = _
  rw [place_1]
  exact V_left_1 m c (row t a) k

theorem blk_4 (t : Fin cfg0.N) (a : Fin 512) (k : Fin 1024) : iblk m c 4 t (ix2 a k) = a1 m c (ix2 (row t a) (gateCol 1 k)) := by
  show V m c main_v9 (((cfg0.win 4).blk t).view.emb (ix2 a k)) = _
  rw [place_4, V_gates]

theorem blk_2 (t : Fin cfg0.N) (a : Fin 512) (k : Fin 1024) : iblk m c 2 t (ix2 a k) = a0 m c (ix3 2 (row t a) k) := by
  show V m c main_v8 (((cfg0.win 2).blk t).view.emb (ix2 a k)) = _
  rw [place_2]
  exact V_left_2 m c (row t a) k

theorem blk_5 (t : Fin cfg0.N) (a : Fin 512) (k : Fin 1024) : iblk m c 5 t (ix2 a k) = a1 m c (ix2 (row t a) (gateCol 2 k)) := by
  show V m c main_v9 (((cfg0.win 5).blk t).view.emb (ix2 a k)) = _
  rw [place_5, V_gates]

theorem blk_6 (t : Fin cfg0.N) (a : Fin 512) (k : Fin 1024) : iblk m c 6 t (ix2 a k) = a2 m c (ix2 (row t a) k) := by
  show V m c main_arg2 (((cfg0.win 6).blk t).view.emb (ix2 a k)) = _
  rw [place_6]
  rfl

theorem blk_7 (t : Fin cfg0.N) (q : Fin 4) (b : Fin 3) (k : Fin 256) (l : Fin 1024) :
    iblk m c 7 t (ix4 q b k l) = a3 m c (ix3 b ⟨q.val * 256 + k.val, by omega⟩ l) := by
  show V m c main_v10 (((cfg0.win 7).blk t).view.emb (ix4 q b k l)) = _
  rw [place_7]
  exact V_weight m c q b k l

theorem blk_8 (t : Fin cfg0.N) (k l : Fin 1024) : iblk m c 8 t (ix2 k l) = a4 m c (ix2 k l) := by
  show V m c main_v11 (((cfg0.win 8).blk t).view.emb (ix2 k l)) = _
  rw [place_8, V_out]

theorem blk_9 (t : Fin cfg0.N) (l : Fin 1024) : iblk m c 9 t (ix2 (0 : Fin 1) l) = a5 m c (ix2 (0 : Fin 1) l) := by
  show V m c main_arg5 (((cfg0.win 9).blk t).view.emb (ix2 (0 : Fin 1) l)) = _
  rw [place_9]
  rfl

/-- The four parts of a branch's product, put together. -/
theorem parts_at (t : Fin cfg0.N) (b : Fin 3) (u : ℕ) (hu : u = b.val) (y : FVec Ideal S512x1024 .bf16)
    (hy : ∀ (a : Fin 512) (k : Fin 1024), y (ix2 a k) = a0 m c (ix3 b (row t a) k)) (r : Fin 512) (l : Fin 1024)
    (i0 i1 i2 i3 j0 j1 j2 j3) :
    quarter (View.ld (Val := Elt Ideal) (S := S512x1024) (e' := .bf16) y (Rect.unit (s := S512x1024) ![0, 0] ![512, 256] i0))
        (View.ld (Val := Elt Ideal) (S := S4x3x256x1024) (e' := .bf16) (iblk m c 7 t) (Rect.unit (s := S4x3x256x1024) ![0, u, 0, 0] ![1, 1, 256, 1024] j0)) r l
      + quarter (View.ld (Val := Elt Ideal) (S := S512x1024) (e' := .bf16) y (Rect.unit (s := S512x1024) ![0, 256] ![512, 256] i1))
        (View.ld (Val := Elt Ideal) (S := S4x3x256x1024) (e' := .bf16) (iblk m c 7 t) (Rect.unit (s := S4x3x256x1024) ![1, u, 0, 0] ![1, 1, 256, 1024] j1)) r l
      + quarter (View.ld (Val := Elt Ideal) (S := S512x1024) (e' := .bf16) y (Rect.unit (s := S512x1024) ![0, 512] ![512, 256] i2))
        (View.ld (Val := Elt Ideal) (S := S4x3x256x1024) (e' := .bf16) (iblk m c 7 t) (Rect.unit (s := S4x3x256x1024) ![2, u, 0, 0] ![1, 1, 256, 1024] j2)) r l
      + quarter (View.ld (Val := Elt Ideal) (S := S512x1024) (e' := .bf16) y (Rect.unit (s := S512x1024) ![0, 768] ![512, 256] i3))
        (View.ld (Val := Elt Ideal) (S := S4x3x256x1024) (e' := .bf16) (iblk m c 7 t) (Rect.unit (s := S4x3x256x1024) ![3, u, 0, 0] ![1, 1, 256, 1024] j3)) r l
      = branch (a0 m c) (a3 m c) b (row t r) l := by
  have part : ∀ (q : Fin 4) (o v : ℕ) (_ : o = q.val * 256) (_ : v = q.val) (i j),
      quarter (View.ld (Val := Elt Ideal) (S := S512x1024) (e' := .bf16) y (Rect.unit (s := S512x1024) ![0, o] ![512, 256] i))
        (View.ld (Val := Elt Ideal) (S := S4x3x256x1024) (e' := .bf16) (iblk m c 7 t) (Rect.unit (s := S4x3x256x1024) ![v, u, 0, 0] ![1, 1, 256, 1024] j)) r l
        = ∑ k : Fin 256, a0 m c (ix3 b (row t r) ⟨q.val * 256 + k.val, by omega⟩) * a3 m c (ix3 b ⟨q.val * 256 + k.val, by omega⟩ l) := by
    intro q o v ho hv i j
    refine Finset.sum_congr rfl fun k _ => congrArg₂ (· * ·) ?_ ?_
    · refine (View.ld_unit_apply_of (Val := Elt Ideal) (S := S512x1024) (e := .bf16) y _ _ i (ix2 r k) (ix2 r (⟨q.val * 256 + k.val, by omega⟩ : Fin 1024)) fun d => ?_).trans (hy _ _)
      match d with
      | ⟨0, _⟩ => exact (Nat.zero_add _).symm
      | ⟨1, _⟩ => exact (congrArg (· + k.val) ho).symm
    · refine (View.ld_unit_apply_of (Val := Elt Ideal) (S := S4x3x256x1024) (e := .bf16) (iblk m c 7 t) _ _ j (ix4 0 0 k l) (ix4 q b k l) fun d => ?_).trans (blk_7 m c t q b k l)
      match d with
      | ⟨0, _⟩ => exact hv.symm
      | ⟨1, _⟩ => exact hu.symm
      | ⟨2, _⟩ => exact (Nat.zero_add _).symm
      | ⟨3, _⟩ => exact (Nat.zero_add _).symm
  rw [part 0 0 0 rfl rfl, part 1 256 1 rfl rfl, part 2 512 2 rfl rfl, part 3 768 3 rfl rfl, branch, Fin.sum_univ_tiles 4 256 rfl, Fin.sum_univ_four]

theorem project_of (s p : FVec Ideal S512x1024 .f32) (y2 y3 : FVec Ideal S512x256 .bf16) (w2 w3 : FVec Ideal S1x1x256x1024 .bf16)
    (z : FVec Ideal S512x1024 .bf16) (v : FVec Ideal S1024x1024 .bf16) (r : Fin 512) (l : Fin 1024) (f : Fin 1024 → EReal)
    (h : ∀ k : Fin 1024, k0_pay13 (F := Ideal) s p y2 w2 y3 w3 z (ix2 r k) = f k) :
    k0_pay14 (F := Ideal) s p y2 w2 y3 w3 z v (ix2 r l) = ∑ k : Fin 1024, f k * v (ix2 k l) := by
  rw [project_at]
  exact Finset.sum_congr rfl fun k _ => congrArg (· * v (ix2 k l)) (h k)

theorem mix_of (p x : FVec Ideal S512x1024 .f32) (g : FVec Ideal S1x1024 .f32) (r : Fin 512) (l : Fin 1024) (f : Fin 1024 → EReal)
    (h : ∀ k : Fin 1024, p (ix2 r k) = f k) :
    k0_pay1 (F := Ideal) p x g (ix2 r l) = x (ix2 r l) + f l * RowNorm.rowScale f * g (ix2 0 l) := by
  obtain rfl : (fun k : Fin 1024 => p (ix2 r k)) = f := funext h
  exact mix_at p r l x g

theorem merged_at (t : Fin cfg0.N) (r : Fin 512) (l : Fin 1024) :
    (outsAt0 m c t).2.1 (ix2 r l) = merged (a0 m c) (a1 m c) (a3 m c) (row t r) l := by
  unfold outsAt0
  frame_out
  rw [gated_third, third_at, gated_second, second_at, gated_first, first_at, blk_3, blk_4, blk_5,
    parts_at m c t 0 0 rfl _ (blk_0 m c t), parts_at m c t 1 1 rfl _ (blk_1 m c t), parts_at m c t 2 2 rfl _ (blk_2 m c t)]
  rfl

theorem projected_at (t : Fin cfg0.N) (r : Fin 512) (l : Fin 1024) :
    (outsAt0 m c t).2.2.1 (ix2 r l) = projected (a0 m c) (a1 m c) (a3 m c) (a4 m c) (row t r) l := by
  unfold outsAt0
  frame_out
  unfold k0_pay15
  refine (project_of _ _ _ _ _ _ _ _ r l (merged (a0 m c) (a1 m c) (a3 m c) (row t r)) fun l => ?_).trans
    (Finset.sum_congr rfl fun k _ => congrArg (merged (a0 m c) (a1 m c) (a3 m c) (row t r) k * ·) (blk_8 m c t k l))
  rw [gated_third, third_at, gated_second, second_at, gated_first, first_at, blk_3, blk_4, blk_5,
    parts_at m c t 0 0 rfl _ (blk_0 m c t), parts_at m c t 1 1 rfl _ (blk_1 m c t), parts_at m c t 2 2 rfl _ (blk_2 m c t)]
  rfl

theorem mixed_at (t : Fin cfg0.N) (r : Fin 512) (l : Fin 1024) :
    (outsAt0 m c t).2.2.2 (ix2 r l) = mixed (a0 m c) (a1 m c) (a2 m c) (a3 m c) (a4 m c) (a5 m c) (row t r) l := by
  unfold outsAt0
  frame_out
  refine (mix_of _ _ _ r l (projected (a0 m c) (a1 m c) (a3 m c) (a4 m c) (row t r)) fun l => ?_).trans
    (congrArg₂ (fun x g : EReal => x + projected (a0 m c) (a1 m c) (a3 m c) (a4 m c) (row t r) l
      * RowNorm.rowScale (projected (a0 m c) (a1 m c) (a3 m c) (a4 m c) (row t r)) * g) (blk_6 m c t r l) (blk_9 m c t l))
  refine (project_of _ _ _ _ _ _ _ _ r l (merged (a0 m c) (a1 m c) (a3 m c) (row t r)) fun l => ?_).trans
    (Finset.sum_congr rfl fun k _ => congrArg (merged (a0 m c) (a1 m c) (a3 m c) (row t r) k * ·) (blk_8 m c t k l))
  rw [gated_third, third_at, gated_second, second_at, gated_first, first_at, blk_3, blk_4, blk_5,
    parts_at m c t 0 0 rfl _ (blk_0 m c t), parts_at m c t 1 1 rfl _ (blk_1 m c t), parts_at m c t 2 2 rfl _ (blk_2 m c t)]
  rfl

theorem branch_at (t : Fin cfg0.N) (b : Fin 3) (r : Fin 512) (l : Fin 1024) :
    (outsAt0 m c t).1 (ix3 b r l) = branch (a0 m c) (a3 m c) b (row t r) l := by
  unfold outsAt0
  frame_out
  canon_tiles x h
  · replace h0 : b.val = 2 + (x 0).val := by simpa using h0
    obtain rfl : b = 2 := Fin.ext (by have h : (x 0).val < 1 := (x 0).isLt; simp; omega)
    obtain rfl : x = ix3 (0 : Fin 1) r l := by
      refine (eq_ix3 x).trans ?_
      rw [show x 0 = (0 : Fin 1) from Subsingleton.elim (α := Fin 1) _ _, show x 1 = r from Fin.ext h1.symm, show x 2 = l from Fin.ext h2.symm]
    rw [store_third, third_at]
    exact parts_at m c t 2 2 rfl _ (blk_2 m c t) r l _ _ _ _ _ _ _ _
  · replace h0 : b.val = 1 + (x 0).val := by simpa using h0
    obtain rfl : b = 1 := Fin.ext (by have h : (x 0).val < 1 := (x 0).isLt; simp; omega)
    obtain rfl : x = ix3 (0 : Fin 1) r l := by
      refine (eq_ix3 x).trans ?_
      rw [show x 0 = (0 : Fin 1) from Subsingleton.elim (α := Fin 1) _ _, show x 1 = r from Fin.ext h1.symm, show x 2 = l from Fin.ext h2.symm]
    rw [store_second, second_at]
    exact parts_at m c t 1 1 rfl _ (blk_1 m c t) r l _ _ _ _ _ _ _ _
  · replace h0 : b.val = 0 + (x 0).val := by simpa using h0
    obtain rfl : b = 0 := Fin.ext (by have h : (x 0).val < 1 := (x 0).isLt; simp; omega)
    obtain rfl : x = ix3 (0 : Fin 1) r l := by
      refine (eq_ix3 x).trans ?_
      rw [show x 0 = (0 : Fin 1) from Subsingleton.elim (α := Fin 1) _ _, show x 1 = r from Fin.ext h1.symm, show x 2 = l from Fin.ext h2.symm]
    rw [store_first, first_at]
    exact parts_at m c t 0 0 rfl _ (blk_0 m c t) r l _ _ _ _ _ _ _ _

set_option backward.isDefEq.respectTransparency.types false in
theorem final_branches : (dats m 0 c).arrAt 10 cfg0.N = Cert.MixOutFwdRefIdeal.Read.val_main_v52 (F := Ideal) (a0 m c) (a3 m c) := by
  refine (dats m 0 c).arrAt_eq_of_covers 10 _ (by decide +kernel) fun t hf y => ?_
  obtain ⟨b, a, l, rfl⟩ : ∃ (b : Fin 3) (a : Fin 512) (l : Fin 1024), y = ix3 b a l := ⟨y 0, y 1, y 2, eq_ix3 y⟩
  rw [place_10]
  show (dats m 0 c).after 10 t (ix3 b a l) = _
  rw [after0_10]
  exact (branch_at m c t b a l).trans (ref_branch (a0 m c) (a3 m c) b (row t a) l).symm

set_option backward.isDefEq.respectTransparency.types false in
theorem final_merged : (dats m 0 c).arrAt 11 cfg0.N = Cert.MixOutFwdRefIdeal.Read.val_main_v53 (F := Ideal) (a0 m c) (a1 m c) (a3 m c) := by
  refine (dats m 0 c).arrAt_eq_of_covers 11 _ (by decide +kernel) fun t hf y => ?_
  obtain ⟨a, l, rfl⟩ : ∃ (a : Fin 512) (l : Fin 1024), y = ix2 a l := ⟨y 0, y 1, eq_ix2 y⟩
  rw [place_11]
  show (dats m 0 c).after 11 t (ix2 a l) = _
  rw [after0_11]
  exact (merged_at m c t a l).trans (ref_merged (a0 m c) (a1 m c) (a3 m c) (row t a) l).symm

set_option backward.isDefEq.respectTransparency.types false in
theorem final_projected : (dats m 0 c).arrAt 12 cfg0.N = Cert.MixOutFwdRefIdeal.Read.val_main_v54 (F := Ideal) (a0 m c) (a1 m c) (a3 m c) (a4 m c) := by
  refine (dats m 0 c).arrAt_eq_of_covers 12 _ (by decide +kernel) fun t hf y => ?_
  obtain ⟨a, l, rfl⟩ : ∃ (a : Fin 512) (l : Fin 1024), y = ix2 a l := ⟨y 0, y 1, eq_ix2 y⟩
  rw [place_12]
  show (dats m 0 c).after 12 t (ix2 a l) = _
  rw [after0_12]
  exact (projected_at m c t a l).trans (ref_projected (a0 m c) (a1 m c) (a3 m c) (a4 m c) (row t a) l).symm

set_option backward.isDefEq.respectTransparency.types false in
theorem final_mixed : (dats m 0 c).arrAt 13 cfg0.N = Cert.MixOutFwdRefIdeal.Read.val_main_v67 (F := Ideal) (a0 m c) (a1 m c) (a2 m c) (a3 m c) (a4 m c) (a5 m c) := by
  refine (dats m 0 c).arrAt_eq_of_covers 13 _ (by decide +kernel) fun t hf y => ?_
  obtain ⟨a, l, rfl⟩ : ∃ (a : Fin 512) (l : Fin 1024), y = ix2 a l := ⟨y 0, y 1, eq_ix2 y⟩
  rw [place_13]
  show (dats m 0 c).after 13 t (ix2 a l) = _
  rw [after0_13]
  exact (mixed_at m c t a l).trans (ref_mixed (a0 m c) (a1 m c) (a2 m c) (a3 m c) (a4 m c) (a5 m c) (row t a) l).symm

end Cert.MixFwd

end
-- ==== Proof.MixFwd.Claim.lean ====
/- The claims about the forward end of the token mixing: the reference's run, and the equality of the call's four
   results with the reference's. -/
module

public import proofs.«01_k».proof.Defs
public import proofs.«01_k».proof.Proof.MixFwd.Value
public import proofs.«01_k».proof.Proof.Gen.MixOutFwdRefIdeal.Run
public import Idealize.ShloMosaic.Lib.Quiescent

@[expose] public section

set_option maxRecDepth 16384

noncomputable section

namespace Cert.MixFwd

open Idealize.ShloMosaic Idealize.ShloMosaic.TcCoe Idealize.SL.Sem

/-- The run of the reference keeps the arguments; it has no semaphores. -/
theorem reference_frame : Cert.quiescent_MixOutFwdRefIdeal := fun m ρ _ =>
  (θ_run Cert.MixOutFwdRefIdeal.defs _ _).mono
    (fun r h => ⟨fun c => (h c).2.2.2.2, sem_eq_zero_of_no_sems (by decide) r.2⟩) (Cert.MixOutFwdRefIdeal.Value.run m ρ)

/-- The call and the reference agree on every entry of the four results. -/
theorem agree : Cert.algebraic_MixOutFwdIdeal_MixOutFwdRefIdeal := by
  intro m g m' g' _ hm
  refine ⟨fun c => Cert.MixOutFwdRefIdeal.Read.val_main_v52 (F := Ideal) (a0 m c) (a3 m c),
    fun c => Cert.MixOutFwdRefIdeal.Read.val_main_v53 (F := Ideal) (a0 m c) (a1 m c) (a3 m c),
    fun c => Cert.MixOutFwdRefIdeal.Read.val_main_v54 (F := Ideal) (a0 m c) (a1 m c) (a3 m c) (a4 m c),
    fun c => Cert.MixOutFwdRefIdeal.Read.val_main_v67 (F := Ideal) (a0 m c) (a1 m c) (a2 m c) (a3 m c) (a4 m c) (a5 m c), ?_, ?_⟩
  · refine (θ_run Cert.MixOutFwdIdeal.defs _ _).mono (fun r h c => ?_) (Cert.MixOutFwdIdeal.Value.run_blocks m g)
    obtain ⟨r0, r1, r2, r3, hk⟩ := h c
    exact ⟨r0.trans (final_branches m c), r1.trans (final_merged m c), r2.trans (final_projected m c), r3.trans (final_mixed m c), hk⟩
  · refine (θ_run Cert.MixOutFwdRefIdeal.defs _ _).mono (fun r h c => ?_) (Cert.MixOutFwdRefIdeal.Value.run m' g')
    obtain ⟨h0, h1, h2, h3, h4, h5⟩ := hm c
    obtain ⟨r0, r1, r2, r3, hk⟩ := h c
    have q0 := r0.trans (Cert.MixOutFwdRefIdeal.Read.val_main_v52_eq _ _)
    have q1 := r1.trans (Cert.MixOutFwdRefIdeal.Read.val_main_v53_eq _ _)
    have q2 := r2.trans (Cert.MixOutFwdRefIdeal.Read.val_main_v54_eq _ _)
    have q3 := r3.trans (Cert.MixOutFwdRefIdeal.Read.val_main_v67_eq _ _)
    refine ⟨q0.trans ?_, q1.trans ?_, q2.trans ?_, q3.trans ?_, hk⟩
    · exact congrArg₂ _ h0 h3
    · exact congr (congr (congrArg _ h0) h1) h3
    · exact congr (congr (congr (congrArg _ h0) h1) h3) h4
    · exact congr (congr (congr (congr (congr (congrArg _ h0) h1) h2) h3) h4) h5

end Cert.MixFwd

end
-- ==== Proof.LossHead.Payloads.lean ====
/- The loss head (`loss_head`): what one point computes from its tiles, entry by entry, and what the reference computes. -/
module

public import proofs.«01_k».proof.Proof.Gen.LossHeadIdeal.Value
public import proofs.«01_k».proof.Proof.Gen.LossHeadRefIdeal.Read
public import proofs.«01_k».proof.Proof.RowNorm
public import Idealize.ShloMosaic.Lib.Pointwise
public import Idealize.ShloMosaic.Lib.Pipeline.ValueKit.Acc
public import Idealize.ShloMosaic.Lib.Pipeline.ValueKit.Geometry

@[expose] public section

set_option maxRecDepth 16384

noncomputable section

namespace Cert.LossHeadCall

open Idealize.ShloMosaic Idealize.ShloMosaic.TcCoe Idealize.SL.Sem
open Cert.LossHeadIdeal Cert.LossHeadIdeal.Gen
open Cert.LossHeadRefIdeal.Read

theorem bits_half : Ideal.ofBits .f32 1056964608#32 = ((1 / 2 : ℝ) : EReal) := by
  simp [Ideal.ofBits, Ideal.ieee, -EReal.coe_mul]; norm_num

theorem bits_two : Ideal.ofBits .f32 1073741824#32 = ((2 : ℝ) : EReal) := by
  simp [Ideal.ofBits, Ideal.ieee, -EReal.coe_mul]; norm_num

/-- The kernel's factor of the gradient, one over the length of a row. -/
theorem bits_inv : Ideal.ofBits .f32 0x3A800000#32 = ((1 / 1024 : ℝ) : EReal) := by
  simp [Ideal.ofBits, Ideal.ieee, -EReal.coe_mul]; norm_num

/-- The kernel's factor of the loss, half of that. -/
theorem bits_half_inv : Ideal.ofBits .f32 0x3A000000#32 = ((1 / 2048 : ℝ) : EReal) := by
  simp [Ideal.ofBits, Ideal.ieee, -EReal.coe_mul]; norm_num

/-- A point's gradient: the error divided by the length of a row. -/
theorem grad_at (x y : FVec Ideal S512x1024 .f32) (a : Fin 512) (b : Fin 1024) :
    k0_pay3 (F := Ideal) x y (ix2 a b) = (x (ix2 a b) - y (ix2 a b)) * Ideal.ofBits .f32 0x3A800000#32 := by
  pointwise [k0_pay3, k0_pay2]
  try rfl

/-- The loss starts from zero. -/
theorem zero_at (b : Fin 128) : k0_pay1 (F := Ideal) (ix2 0 b) = 0 := by
  pointwise [k0_pay1]
  try simp

/-- A point adds to the loss so far the scaled sum of its tile's squared errors. -/
theorem loss_at (x y : FVec Ideal S512x1024 .f32) (s : FVec Ideal S1x128 .f32) (b : Fin 128) :
    k0_pay4 (F := Ideal) x y s (ix2 0 b) = s (ix2 0 b) + (∑ r : Fin 512, ∑ k : Fin 1024,
      (x (ix2 r k) - y (ix2 r k)) * (x (ix2 r k) - y (ix2 r k))) * Ideal.ofBits .f32 0x3A000000#32 := by
  pointwise [k0_pay4, k0_pay2]

/-- The reference's gradient is the error divided by the length of a row. -/
theorem ref_grad_at (x y : FVec Ideal S4096x1024 .f32) (a : Fin 4096) (b : Fin 1024) :
    val_main_v14 (F := Ideal) x y (ix2 a b) = (x (ix2 a b) - y (ix2 a b)) * ((1 / 1024 : ℝ) : EReal) := by
  pointwise [val_main_v14, val_main_v13, val_main_v12, val_main_v11, val_main_v10, val_main_v9, val_main_v3, val_main_v2, val_main_v0, val_main_cst_4, val_main_cst_5, val_main_cst_6, val_main_cst]
  rw [bits_half, bits_two, Cert.RowNorm.bits_1024, Ideal.div_coe (by norm_num), ← mul_assoc, ← EReal.coe_mul, ← EReal.coe_mul, mul_comm]
  norm_num

/-- The reference's loss is half the sum of the rows' mean squared errors: the sum of all squared errors, scaled. -/
theorem ref_loss_at (x y : FVec Ideal S4096x1024 .f32) (b : Fin 128) :
    val_main_v15 (F := Ideal) x y (ix2 0 b) = (∑ r : Fin 4096, ∑ k : Fin 1024,
      (x (ix2 r k) - y (ix2 r k)) * (x (ix2 r k) - y (ix2 r k))) * ((1 / 2048 : ℝ) : EReal) := by
  pointwise [val_main_v15, val_main_v8, val_main_v7, val_main_v6, val_main_v5, val_main_v4, val_main_v1, val_main_v0, val_main_cst_0, val_main_cst_1, val_main_cst_2, val_main_cst_3]
  rw [bits_half, Cert.RowNorm.bits_1024]
  simp only [Ideal.div_coe (show (1024 : ℝ) ≠ 0 by norm_num)]
  rw [Cert.RowNorm.sum_mul_of_nonneg _ (by exact_mod_cast (by norm_num : (0 : ℝ) ≤ 1 / 1024)) (EReal.coe_ne_top _), mul_comm, mul_assoc, ← EReal.coe_mul]
  norm_num

end Cert.LossHeadCall

end
-- ==== Proof.LossHead.Value.lean ====
/- The loss head (`loss_head`): what the call leaves in its two results, entry by entry. -/
module

public import proofs.«01_k».proof.Proof.LossHead.Payloads

@[expose] public section

set_option maxRecDepth 16384

noncomputable section

namespace Cert.LossHeadCall

open Idealize.ShloMosaic Idealize.ShloMosaic.TcCoe Idealize.SL.Sem
open Cert.LossHeadIdeal Cert.LossHeadIdeal.Gen
open Cert.LossHeadRefIdeal.Read

variable (m : (ℓ : Loc nD τ sig) → Buf (Elt Ideal) ℓ) (c : Dev nD)

/-- The two arguments: the last layer's output and the target. -/
abbrev a0 : FVec Ideal S4096x1024 .f32 := m ((c : Thread nD τ).loc main_arg0)
abbrev a1 : FVec Ideal S4096x1024 .f32 := m ((c : Thread nD τ).loc main_arg1)

theorem index_0 : ∀ t : Fin grid0.N, win0_0.index t (0 : Fin 2) = t.val % 8 ∧ win0_0.index t (1 : Fin 2) = 0 := by decide +kernel
theorem index_1 : ∀ t : Fin grid0.N, win0_1.index t (0 : Fin 2) = t.val % 8 ∧ win0_1.index t (1 : Fin 2) = 0 := by decide +kernel
theorem index_2 : ∀ t : Fin grid0.N, win0_2.index t (0 : Fin 2) = t.val % 8 ∧ win0_2.index t (1 : Fin 2) = 0 := by decide +kernel
theorem index_3 : ∀ t : Fin grid0.N, win0_3.index t (0 : Fin 2) = 0 ∧ win0_3.index t (1 : Fin 2) = 0 := by decide +kernel

/-- Row `r` of the tile of point `t`. -/
abbrev row (t : ℕ) (r : Fin 512) : Fin 4096 := ⟨512 * (t % 8) + r.val, by omega⟩

theorem blk_0 (t : Fin cfg0.N) (r : Fin 512) (a : Fin 1024) : iblk m c 0 t (ix2 r a) = a0 m c (ix2 (row t r) a) := by
  obtain ⟨h0, h1⟩ := index_0 t
  have e : ((cfg0.win 0).blk t).view.emb (ix2 r a) = ix2 (row t r) a := by
    funext d
    match d with
    | ⟨0, _⟩ => exact Fin.ext (show win0_0.index t (0 : Fin 2) * 512 + 1 * ((ix2 r a) (0 : Fin 2)).val = _ by rw [h0]; simp [row]; try omega)
    | ⟨1, _⟩ => exact Fin.ext (show win0_0.index t (1 : Fin 2) * 1024 + 1 * ((ix2 r a) (1 : Fin 2)).val = _ by rw [h1]; simp; try omega)
  show V m c main_arg0 (((cfg0.win 0).blk t).view.emb (ix2 r a)) = _
  rw [e, V_main_arg0]

theorem blk_1 (t : Fin cfg0.N) (r : Fin 512) (a : Fin 1024) : iblk m c 1 t (ix2 r a) = a1 m c (ix2 (row t r) a) := by
  obtain ⟨h0, h1⟩ := index_1 t
  have e : ((cfg0.win 1).blk t).view.emb (ix2 r a) = ix2 (row t r) a := by
    funext d
    match d with
    | ⟨0, _⟩ => exact Fin.ext (show win0_1.index t (0 : Fin 2) * 512 + 1 * ((ix2 r a) (0 : Fin 2)).val = _ by rw [h0]; simp [row]; try omega)
    | ⟨1, _⟩ => exact Fin.ext (show win0_1.index t (1 : Fin 2) * 1024 + 1 * ((ix2 r a) (1 : Fin 2)).val = _ by rw [h1]; simp; try omega)
  show V m c main_arg1 (((cfg0.win 1).blk t).view.emb (ix2 r a)) = _
  rw [e, V_main_arg1]

/-- The loss is one row. -/
theorem one_row (j : S1x128.Idx) : ∃ b : Fin 128, j = ix2 (0 : Fin 1) b :=
  ⟨j 1, (eq_ix2 j).trans (congrArg (fun a : Fin 1 => (ix2 a (j 1) : S1x128.Idx)) (Subsingleton.elim (α := Fin 1) (j 0) 0))⟩

/-- The error of an entry. -/
abbrev err (r : Fin 4096) (k : Fin 1024) : EReal := a0 m c (ix2 r k) - a1 m c (ix2 r k)

/-- The gradient a point leaves in its tile. -/
theorem grad (t : Fin cfg0.N) (r : Fin 512) (k : Fin 1024) :
    (outsAt0 m c t.val t.isLt).1 (ix2 r k) = val_main_v14 (F := Ideal) (a0 m c) (a1 m c) (ix2 (row t r) k) := by
  by_cases h : t.val % 8 = 0
  · rw [outsAt0_A m c t h]
    frame_out
    rw [grad_at, blk_0, blk_1, bits_inv, ref_grad_at]
  · rw [outsAt0_B m c t h]
    frame_out
    rw [grad_at, blk_0, blk_1, bits_inv, ref_grad_at]

theorem place_2 (t : Fin cfg0.N) (r : Fin 512) (k : Fin 1024) : ((cfg0.win 2).blk t).view.emb (ix2 r k) = ix2 (row t r) k := by
  obtain ⟨h0, h1⟩ := index_2 t
  funext d
  match d with
  | ⟨0, _⟩ => exact Fin.ext (show win0_2.index t (0 : Fin 2) * 512 + 1 * ((ix2 r k) (0 : Fin 2)).val = _ by rw [h0]; simp [row]; try omega)
  | ⟨1, _⟩ => exact Fin.ext (show win0_2.index t (1 : Fin 2) * 1024 + 1 * ((ix2 r k) (1 : Fin 2)).val = _ by rw [h1]; simp; try omega)

set_option backward.isDefEq.respectTransparency.types false in
/-- The gradient the call leaves is the reference's. -/
theorem final_grad : (dats m 0 c).arrAt 2 cfg0.N = val_main_v14 (F := Ideal) (a0 m c) (a1 m c) := by
  refine (dats m 0 c).arrAt_eq_of_covers 2 _ (by decide +kernel) fun t _ y => ?_
  obtain ⟨a, b, rfl⟩ : ∃ (a : Fin 512) (b : Fin 1024), y = ix2 a b := ⟨y 0, y 1, eq_ix2 y⟩
  rw [place_2]
  show (dats m 0 c).after 2 t (ix2 a b) = _
  rw [after0_2]
  exact grad m c t a b

/-- The scaled sum of the squared errors of the tile of point `t`. -/
def part (t : Fin cfg0.N) (_ : S1x128.Idx) : EReal :=
  (∑ r : Fin 512, ∑ k : Fin 1024, err m c (row t r) k * err m c (row t r) k) * ((1 / 2048 : ℝ) : EReal)

theorem first (t : Fin cfg0.N) (h : t.val % 8 = 0) (j : S1x128.Idx) :
    (outsAt0 m c t.val t.isLt).2 j = 0 + part m c t j := by
  obtain ⟨b, rfl⟩ : ∃ b : Fin 128, j = ix2 (0 : Fin 1) b := one_row j
  rw [outsAt0_A m c t h]
  frame_out
  rw [loss_at, zero_at, bits_half_inv]
  simp only [blk_0, blk_1]
  rfl

theorem later (t : Fin cfg0.N) (h : ¬t.val % 8 = 0) (j : S1x128.Idx) :
    (outsAt0 m c t.val t.isLt).2 j = (outsAt0 m c (t.val - 1) (Nat.lt_of_le_of_lt (Nat.sub_le _ _) t.isLt)).2 j + part m c t j := by
  obtain ⟨b, rfl⟩ : ∃ b : Fin 128, j = ix2 (0 : Fin 1) b := one_row j
  rw [outsAt0_B m c t h]
  frame_out
  rw [loss_at, bits_half_inv]
  simp only [blk_0, blk_1]
  rfl

/-- After the last point the loss is the reference's. -/
theorem loss (t : Fin cfg0.N) (h : t.val % 8 = 7) (b : Fin 128) :
    (outsAt0 m c t.val t.isLt).2 (ix2 0 b) = val_main_v15 (F := Ideal) (a0 m c) (a1 m c) (ix2 0 b) := by
  rw [Pipeline.eq_sum_fin_of_reset_step_apply_of_flush (fun n h => (outsAt0 m c n h).2) 8 (fun _ => 0) (part m c)
    (first m c) (later m c) t h, ref_loss_at, zero_add, Fin.sum_univ_tiles 8 512 rfl]
  simp only [part]
  rw [Cert.RowNorm.sum_mul_of_nonneg _ (by exact_mod_cast (by norm_num : (0 : ℝ) ≤ 1 / 2048)) (EReal.coe_ne_top _)]
  refine congrArg (· * _) (Finset.sum_congr rfl fun s _ => Finset.sum_congr rfl fun r _ => ?_)
  have e : row (8 * (t.val / 8) + s.val) r = ⟨s.val * 512 + r.val, by omega⟩ := Fin.ext (by simp only [row]; omega)
  refine Finset.sum_congr rfl fun k _ => ?_
  show err m c (row (8 * (t.val / 8) + s.val) r) k * err m c (row (8 * (t.val / 8) + s.val) r) k = _
  rw [e]

theorem place_3 (t : Fin cfg0.N) (b : Fin 128) : ((cfg0.win 3).blk t).view.emb (ix2 0 b) = ix2 0 b := by
  obtain ⟨h0, h1⟩ := index_3 t
  funext d
  match d with
  | ⟨0, _⟩ => exact Fin.ext (show win0_3.index t (0 : Fin 2) * 1 + 1 * ((ix2 (0 : Fin 1) b) (0 : Fin 2)).val = _ by rw [h0]; simp)
  | ⟨1, _⟩ => exact Fin.ext (show win0_3.index t (1 : Fin 2) * 128 + 1 * ((ix2 (0 : Fin 1) b) (1 : Fin 2)).val = _ by rw [h1]; simp)

set_option backward.isDefEq.respectTransparency.types false in
/-- The row of the loss that the call leaves is the reference's. -/
theorem final_loss : (dats m 0 c).arrAt 3 cfg0.N = val_main_v15 (F := Ideal) (a0 m c) (a1 m c) := by
  refine (dats m 0 c).arrAt_eq_of_covers 3 _ (by decide +kernel) fun t hf y => ?_
  obtain ⟨b, rfl⟩ : ∃ b : Fin 128, y = ix2 (0 : Fin 1) b := one_row y
  rw [place_3]
  show (dats m 0 c).after 3 t (ix2 0 b) = _
  rw [after0_3]
  exact loss m c t ((flush0_3 t).mp hf) b

end Cert.LossHeadCall

end
-- ==== Proof.LossHead.Claim.lean ====
/- The claims about the loss head: the reference's run, and the equality of the call's two results with the reference's. -/
module

public import proofs.«01_k».proof.Defs
public import proofs.«01_k».proof.Proof.LossHead.Value
public import proofs.«01_k».proof.Proof.Gen.LossHeadRefIdeal.Run
public import Idealize.ShloMosaic.Lib.Quiescent

@[expose] public section

set_option maxRecDepth 16384

noncomputable section

namespace Cert.LossHeadCall

open Idealize.ShloMosaic Idealize.ShloMosaic.TcCoe Idealize.SL.Sem

/-- The run of the reference keeps the arguments; it has no semaphores. -/
theorem reference_frame : Cert.quiescent_LossHeadRefIdeal := fun m ρ _ =>
  (θ_run Cert.LossHeadRefIdeal.defs _ _).mono
    (fun r h => ⟨fun c => (h c).2.2, sem_eq_zero_of_no_sems (by decide) r.2⟩) (Cert.LossHeadRefIdeal.Value.run m ρ)

/-- The call and the reference agree on every entry of the gradient and on the loss. -/
theorem agree : Cert.algebraic_LossHeadIdeal_LossHeadRefIdeal := by
  intro m g m' g' _ hm
  refine ⟨fun c => Cert.LossHeadRefIdeal.Read.val_main_v14 (F := Ideal) (a0 m c) (a1 m c),
    fun c => Cert.LossHeadRefIdeal.Read.val_main_v15 (F := Ideal) (a0 m c) (a1 m c), ?_, ?_⟩
  · refine (θ_run Cert.LossHeadIdeal.defs _ _).mono (fun r h c => ?_) (Cert.LossHeadIdeal.Value.run_blocks m g)
    obtain ⟨r0, r1, hk⟩ := h c
    exact ⟨r0.trans (final_grad m c), r1.trans (final_loss m c), hk⟩
  · refine (θ_run Cert.LossHeadRefIdeal.defs _ _).mono (fun r h c => ?_) (Cert.LossHeadRefIdeal.Value.run m' g')
    obtain ⟨h0, h1⟩ := hm c
    obtain ⟨r0, r1, hk⟩ := h c
    have q0 := r0.trans (Cert.LossHeadRefIdeal.Read.val_main_v14_eq _ _)
    have q1 := r1.trans (Cert.LossHeadRefIdeal.Read.val_main_v15_eq _ _)
    exact ⟨q0.trans (congrArg₂ _ h0 h1), q1.trans (congrArg₂ _ h0 h1), hk⟩

end Cert.LossHeadCall

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_gate_columns
public import proofs.«01_k».proof.Proof.Gen.ReferenceIdeal.Run
public import proofs.«01_k».proof.Proof.Gen.ReferenceIdeal.Read
public import proofs.«01_k».proof.Proof.MixOut.Claim
public import proofs.«01_k».proof.Proof.Gen.FfnBwd
public import proofs.«01_k».proof.Proof.Gen.FfnBwdIdeal
public import proofs.«01_k».proof.Proof.Gen.FfnBwdRefIdeal
public import proofs.«01_k».proof.Proof.Gen.InBwd
public import proofs.«01_k».proof.Proof.Gen.InBwdIdeal
public import proofs.«01_k».proof.Proof.Gen.InBwdRefIdeal
public import proofs.«01_k».proof.Proof.Gen.InBwd.Frame
public import proofs.«01_k».proof.Proof.Gen.InBwdIdeal.Frame
public import proofs.«01_k».proof.Proof.Gen.WFf2
public import proofs.«01_k».proof.Proof.Gen.WFf2Ideal
public import proofs.«01_k».proof.Proof.Gen.WFf2RefIdeal
public import proofs.«01_k».proof.Proof.Gen.WFf2.Frame
public import proofs.«01_k».proof.Proof.Gen.WFf2Ideal.Frame
public import proofs.«01_k».proof.Proof.Gen.WFf1
public import proofs.«01_k».proof.Proof.Gen.WFf1Ideal
public import proofs.«01_k».proof.Proof.Gen.WFf1RefIdeal
public import proofs.«01_k».proof.Proof.Gen.WFf1.Frame
public import proofs.«01_k».proof.Proof.Gen.WFf1Ideal.Frame
public import proofs.«01_k».proof.Proof.Gen.WOut
public import proofs.«01_k».proof.Proof.Gen.WOutIdeal
public import proofs.«01_k».proof.Proof.Gen.WOutRefIdeal
public import proofs.«01_k».proof.Proof.Gen.WOut.Frame
public import proofs.«01_k».proof.Proof.Gen.WOutIdeal.Frame
public import proofs.«01_k».proof.Proof.Gen.WBranch
public import proofs.«01_k».proof.Proof.Gen.WBranchIdeal
public import proofs.«01_k».proof.Proof.Gen.WBranchRefIdeal
public import proofs.«01_k».proof.Proof.Gen.WBranch.Frame
public import proofs.«01_k».proof.Proof.Gen.WBranchIdeal.Frame
public import proofs.«01_k».proof.Proof.Gen.WIn
public import proofs.«01_k».proof.Proof.Gen.WInIdeal
public import proofs.«01_k».proof.Proof.Gen.WInRefIdeal
public import proofs.«01_k».proof.Proof.Gen.WIn.Frame
public import proofs.«01_k».proof.Proof.Gen.WInIdeal.Frame
public import proofs.«01_k».proof.Proof.Gen.InFwd
public import proofs.«01_k».proof.Proof.Gen.InFwdIdeal
public import proofs.«01_k».proof.Proof.Gen.InFwdRefIdeal
public import proofs.«01_k».proof.Proof.Gen.FfnFwd
public import proofs.«01_k».proof.Proof.Gen.FfnFwdIdeal
public import proofs.«01_k».proof.Proof.Gen.FfnFwdRefIdeal
public import proofs.«01_k».proof.Proof.Gen.MixOutFwd
public import proofs.«01_k».proof.Proof.Gen.MixOutFwdIdeal
public import proofs.«01_k».proof.Proof.Gen.MixOutFwdRefIdeal
public import proofs.«01_k».proof.Proof.Gen.MixOutFwd.Frame
public import proofs.«01_k».proof.Proof.Gen.MixOutFwdIdeal.Frame
public import proofs.«01_k».proof.Proof.Gen.LossHead
public import proofs.«01_k».proof.Proof.Gen.LossHeadIdeal
public import proofs.«01_k».proof.Proof.Gen.LossHeadRefIdeal
public import proofs.«01_k».proof.Proof.Gen.LossHead.Frame
public import proofs.«01_k».proof.Proof.Gen.LossHeadIdeal.Frame
public import proofs.«01_k».proof.Proof.Wgrad.Claims
public import proofs.«01_k».proof.Proof.FfnBwd.Claim
public import proofs.«01_k».proof.Proof.InProj.Claim
public import proofs.«01_k».proof.Proof.InFwd.Claim
public import proofs.«01_k».proof.Proof.FfnFwd.Claim
public import proofs.«01_k».proof.Proof.MixFwd.Claim
public import proofs.«01_k».proof.Proof.LossHead.Claim
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts,
  Cert.KernelIdeal.Gen.facts,
  Cert.ReferenceIdeal.Gen.facts,
  Cert.FfnBwd.Gen.facts,
  Cert.FfnBwdIdeal.Gen.facts,
  Cert.FfnBwdRefIdeal.Gen.facts,
  Cert.InBwd.Gen.facts,
  Cert.InBwdIdeal.Gen.facts,
  Cert.InBwdRefIdeal.Gen.facts,
  Cert.WFf2.Gen.facts,
  Cert.WFf2Ideal.Gen.facts,
  Cert.WFf2RefIdeal.Gen.facts,
  Cert.WFf1.Gen.facts,
  Cert.WFf1Ideal.Gen.facts,
  Cert.WFf1RefIdeal.Gen.facts,
  Cert.WOut.Gen.facts,
  Cert.WOutIdeal.Gen.facts,
  Cert.WOutRefIdeal.Gen.facts,
  Cert.WBranch.Gen.facts,
  Cert.WBranchIdeal.Gen.facts,
  Cert.WBranchRefIdeal.Gen.facts,
  Cert.WIn.Gen.facts,
  Cert.WInIdeal.Gen.facts,
  Cert.WInRefIdeal.Gen.facts,
  Cert.InFwd.Gen.facts,
  Cert.InFwdIdeal.Gen.facts,
  Cert.InFwdRefIdeal.Gen.facts,
  Cert.FfnFwd.Gen.facts,
  Cert.FfnFwdIdeal.Gen.facts,
  Cert.FfnFwdRefIdeal.Gen.facts,
  Cert.MixOutFwd.Gen.facts,
  Cert.MixOutFwdIdeal.Gen.facts,
  Cert.MixOutFwdRefIdeal.Gen.facts,
  Cert.LossHead.Gen.facts,
  Cert.LossHeadIdeal.Gen.facts,
  Cert.LossHeadRefIdeal.Gen.facts,
  Cert.On_gate_columns.Gen.facts,
  Cert.MixOut.printed_frame,
  Cert.MixOut.kernel_frame,
  Cert.MixOut.reference_frame,
  Cert.FfnBwdCall.printed_frame,
  Cert.FfnBwdCall.kernel_frame,
  Cert.FfnBwdCall.reference_frame,
  (fun m ρ _ => Cert.InBwd.Gen.frame m ρ),
  (fun m ρ _ => Cert.InBwdIdeal.Gen.frame m ρ),
  Cert.InProj.reference_frame,
  (fun m ρ _ => Cert.WFf2.Gen.frame m ρ),
  (fun m ρ _ => Cert.WFf2Ideal.Gen.frame m ρ),
  Cert.Wgrad.Ff2.reference_frame,
  (fun m ρ _ => Cert.WFf1.Gen.frame m ρ),
  (fun m ρ _ => Cert.WFf1Ideal.Gen.frame m ρ),
  Cert.Wgrad.Ff1.reference_frame,
  (fun m ρ _ => Cert.WOut.Gen.frame m ρ),
  (fun m ρ _ => Cert.WOutIdeal.Gen.frame m ρ),
  Cert.Wgrad.Out.reference_frame,
  (fun m ρ _ => Cert.WBranch.Gen.frame m ρ),
  (fun m ρ _ => Cert.WBranchIdeal.Gen.frame m ρ),
  Cert.Wgrad.Branch.reference_frame,
  (fun m ρ _ => Cert.WIn.Gen.frame m ρ),
  (fun m ρ _ => Cert.WInIdeal.Gen.frame m ρ),
  Cert.Wgrad.In.reference_frame,
  Cert.InFwdCall.printed_frame,
  Cert.InFwdCall.kernel_frame,
  Cert.InFwdCall.reference_frame,
  Cert.FfnFwdCall.printed_frame,
  Cert.FfnFwdCall.kernel_frame,
  Cert.FfnFwdCall.reference_frame,
  (fun m ρ _ => Cert.MixOutFwd.Gen.frame m ρ),
  (fun m ρ _ => Cert.MixOutFwdIdeal.Gen.frame m ρ),
  Cert.MixFwd.reference_frame,
  (fun m ρ _ => Cert.LossHead.Gen.frame m ρ),
  (fun m ρ _ => Cert.LossHeadIdeal.Gen.frame m ρ),
  Cert.LossHeadCall.reference_frame,
  trivial,
  Cert.MixOut.agree,
  trivial,
  Cert.FfnBwdCall.agree,
  trivial,
  Cert.InProj.agree,
  trivial,
  Cert.Wgrad.Ff2.agree,
  trivial,
  Cert.Wgrad.Ff1.agree,
  trivial,
  Cert.Wgrad.Out.agree,
  trivial,
  Cert.Wgrad.Branch.agree,
  trivial,
  Cert.Wgrad.In.agree,
  trivial,
  Cert.InFwdCall.agree,
  trivial,
  Cert.FfnFwdCall.agree,
  trivial,
  Cert.MixFwd.agree,
  trivial,
  Cert.LossHeadCall.agree⟩

end Cert.Proof

end
